-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_QkvSRefIdeal (m : (ℓ : Loc Cert.QkvSRefIdeal.nD Cert.QkvSRefIdeal.τ Cert.QkvSRefIdeal.sig) → Buf (Elt Ideal) ℓ) : Prop :=
  True

def Pre_Hg (m : (ℓ : Loc Cert.Hg.nD Cert.Hg.τ Cert.Hg.sig) → Buf (Elt Bits) ℓ) : Prop :=
  True

def Pre_HgIdeal (m : (ℓ : Loc Cert.HgIdeal.nD Cert.HgIdeal.τ Cert.HgIdeal.sig) → Buf (Elt Ideal) ℓ) : Prop :=
  True

def Pre_HgRefIdeal (m : (ℓ : Loc Cert.HgRefIdeal.nD Cert.HgRefIdeal.τ Cert.HgRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_HgP (m : (ℓ : Loc Cert.HgP.nD Cert.HgP.τ Cert.HgP.sig) → Buf (Elt Bits) ℓ) : Prop :=
  True

def Pre_HgPIdeal (m : (ℓ : Loc Cert.HgPIdeal.nD Cert.HgPIdeal.τ Cert.HgPIdeal.sig) → Buf (Elt Ideal) ℓ) : Prop :=
  True

def Pre_HgPRefIdeal (m : (ℓ : Loc Cert.HgPRefIdeal.nD Cert.HgPRefIdeal.τ Cert.HgPRefIdeal.sig) → Buf (Elt Ideal) ℓ) : Prop :=
  True

def Pre_GlaP (m : (ℓ : Loc Cert.GlaP.nD Cert.GlaP.τ Cert.GlaP.sig) → Buf (Elt Bits) ℓ) : Prop :=
  True

def Pre_GlaPIdeal (m : (ℓ : Loc Cert.GlaPIdeal.nD Cert.GlaPIdeal.τ Cert.GlaPIdeal.sig) → Buf (Elt Ideal) ℓ) : Prop :=
  True

def Pre_GlaPRefIdeal (m : (ℓ : Loc Cert.GlaPRefIdeal.nD Cert.GlaPRefIdeal.τ Cert.GlaPRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3)
      ∧ r.2.mem ((c.tc : Thread Cert.Gated.nD Cert.Gated.τ).loc Cert.Gated.main_arg4) = m ((c.tc : Thread Cert.Gated.nD Cert.Gated.τ).loc Cert.Gated.main_arg4)
      ∧ r.2.mem ((c.tc : Thread Cert.Gated.nD Cert.Gated.τ).loc Cert.Gated.main_arg5) = m ((c.tc : Thread Cert.Gated.nD Cert.Gated.τ).loc Cert.Gated.main_arg5))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4)
      ∧ r.2.mem ((c.tc : Thread Cert.GatedIdeal.nD Cert.GatedIdeal.τ).loc Cert.GatedIdeal.main_arg5) = m ((c.tc : Thread Cert.GatedIdeal.nD Cert.GatedIdeal.τ).loc Cert.GatedIdeal.main_arg5))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3)
      ∧ r.2.mem ((c.tc : Thread Cert.GatedRefIdeal.nD Cert.GatedRefIdeal.τ).loc Cert.GatedRefIdeal.main_arg4) = m ((c.tc : Thread Cert.GatedRefIdeal.nD Cert.GatedRefIdeal.τ).loc Cert.GatedRefIdeal.main_arg4)
      ∧ r.2.mem ((c.tc : Thread Cert.GatedRefIdeal.nD Cert.GatedRefIdeal.τ).loc Cert.GatedRefIdeal.main_arg5) = m ((c.tc : Thread Cert.GatedRefIdeal.nD Cert.GatedRefIdeal.τ).loc Cert.GatedRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5)
      ∧ r.2.mem ((c.tc : Thread Cert.ConvS.nD Cert.ConvS.τ).loc Cert.ConvS.main_arg6) = m ((c.tc : Thread Cert.ConvS.nD Cert.ConvS.τ).loc Cert.ConvS.main_arg6))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
      ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5)
      ∧ r.2.mem ((c.tc : Thread Cert.ConvSRefIdeal.nD Cert.ConvSRefIdeal.τ).loc Cert.ConvSRefIdeal.main_arg6) = m ((c.tc : Thread Cert.ConvSRefIdeal.nD Cert.ConvSRefIdeal.τ).loc Cert.ConvSRefIdeal.main_arg6))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1))
      ∧ r.2.sem = fun _ => 0)

def quiescent_QkvSRefIdeal [hQkvSRefIdeal : Cert.QkvSRefIdeal.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1))
      ∧ r.2.sem = fun _ => 0)

def quiescent_Hg [hHg : Cert.Hg.Facts] : Prop :=
  ∀ (m : (ℓ : Loc Cert.Hg.nD Cert.Hg.τ Cert.Hg.sig) → Buf (Elt Bits) ℓ) (g : Dev Cert.Hg.nD → PrngReg), Pre_Hg m →
    θ_run (Cert.Hg.defs (F := Bits)) (onTc (τ := Cert.Hg.τ) (Cert.Hg.main (F := Bits))) ⟨m, fun _ => 0, g⟩ (fun r => (∀ c : Dev Cert.Hg.nD,
      r.2.mem ((c.tc : Thread Cert.Hg.nD Cert.Hg.τ).loc Cert.Hg.main_arg0) = m ((c.tc : Thread Cert.Hg.nD Cert.Hg.τ).loc Cert.Hg.main_arg0)
      ∧ r.2.mem ((c.tc : Thread Cert.Hg.nD Cert.Hg.τ).loc Cert.Hg.main_arg1) = m ((c.tc : Thread Cert.Hg.nD Cert.Hg.τ).loc Cert.Hg.main_arg1)
      ∧ r.2.mem ((c.tc : Thread Cert.Hg.nD Cert.Hg.τ).loc Cert.Hg.main_arg2) = m ((c.tc : Thread Cert.Hg.nD Cert.Hg.τ).loc Cert.Hg.main_arg2)
      ∧ r.2.mem ((c.tc : Thread Cert.Hg.nD Cert.Hg.τ).loc Cert.Hg.main_arg3) = m ((c.tc : Thread Cert.Hg.nD Cert.Hg.τ).loc Cert.Hg.main_arg3)
      ∧ r.2.mem ((c.tc : Thread Cert.Hg.nD Cert.Hg.τ).loc Cert.Hg.main_arg4) = m ((c.tc : Thread Cert.Hg.nD Cert.Hg.τ).loc Cert.Hg.main_arg4)
      ∧ r.2.mem ((c.tc : Thread Cert.Hg.nD Cert.Hg.τ).loc Cert.Hg.main_arg5) = m ((c.tc : Thread Cert.Hg.nD Cert.Hg.τ).loc Cert.Hg.main_arg5))
      ∧ r.2.sem = fun _ => 0)

def quiescent_HgIdeal [hHgIdeal : Cert.HgIdeal.Facts] : Prop :=
  ∀ (m : (ℓ : Loc Cert.HgIdeal.nD Cert.HgIdeal.τ Cert.HgIdeal.sig) → Buf (Elt Ideal) ℓ) (g : Dev Cert.HgIdeal.nD → PrngReg), Pre_HgIdeal m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1)
      ∧ r.2.mem ((c.tc : Thread Cert.HgIdeal.nD Cert.HgIdeal.τ).loc Cert.HgIdeal.main_arg2) = m ((c.tc : Thread Cert.HgIdeal.nD Cert.HgIdeal.τ).loc Cert.HgIdeal.main_arg2)
      ∧ r.2.mem ((c.tc : Thread Cert.HgIdeal.nD Cert.HgIdeal.τ).loc Cert.HgIdeal.main_arg3) = m ((c.tc : Thread Cert.HgIdeal.nD Cert.HgIdeal.τ).loc Cert.HgIdeal.main_arg3)
      ∧ r.2.mem ((c.tc : Thread Cert.HgIdeal.nD Cert.HgIdeal.τ).loc Cert.HgIdeal.main_arg4) = m ((c.tc : Thread Cert.HgIdeal.nD Cert.HgIdeal.τ).loc Cert.HgIdeal.main_arg4)
      ∧ r.2.mem ((c.tc : Thread Cert.HgIdeal.nD Cert.HgIdeal.τ).loc Cert.HgIdeal.main_arg5) = m ((c.tc : Thread Cert.HgIdeal.nD Cert.HgIdeal.τ).loc Cert.HgIdeal.main_arg5))
      ∧ r.2.sem = fun _ => 0)

def quiescent_HgRefIdeal [hHgRefIdeal : Cert.HgRefIdeal.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1)
      ∧ r.2.mem ((c.tc : Thread Cert.HgRefIdeal.nD Cert.HgRefIdeal.τ).loc Cert.HgRefIdeal.main_arg2) = m ((c.tc : Thread Cert.HgRefIdeal.nD Cert.HgRefIdeal.τ).loc Cert.HgRefIdeal.main_arg2)
      ∧ r.2.mem ((c.tc : Thread Cert.HgRefIdeal.nD Cert.HgRefIdeal.τ).loc Cert.HgRefIdeal.main_arg3) = m ((c.tc : Thread Cert.HgRefIdeal.nD Cert.HgRefIdeal.τ).loc Cert.HgRefIdeal.main_arg3)
      ∧ r.2.mem ((c.tc : Thread Cert.HgRefIdeal.nD Cert.HgRefIdeal.τ).loc Cert.HgRefIdeal.main_arg4) = m ((c.tc : Thread Cert.HgRefIdeal.nD Cert.HgRefIdeal.τ).loc Cert.HgRefIdeal.main_arg4)
      ∧ r.2.mem ((c.tc : Thread Cert.HgRefIdeal.nD Cert.HgRefIdeal.τ).loc Cert.HgRefIdeal.main_arg5) = m ((c.tc : Thread Cert.HgRefIdeal.nD Cert.HgRefIdeal.τ).loc Cert.HgRefIdeal.main_arg5))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5))
      ∧ r.2.sem = fun _ => 0)

def quiescent_HgP [hHgP : Cert.HgP.Facts] : Prop :=
  ∀ (m : (ℓ : Loc Cert.HgP.nD Cert.HgP.τ Cert.HgP.sig) → Buf (Elt Bits) ℓ) (g : Dev Cert.HgP.nD → PrngReg), Pre_HgP m →
    θ_run (Cert.HgP.defs (F := Bits)) (onTc (τ := Cert.HgP.τ) (Cert.HgP.main (F := Bits))) ⟨m, fun _ => 0, g⟩ (fun r => (∀ c : Dev Cert.HgP.nD,
      r.2.mem ((c.tc : Thread Cert.HgP.nD Cert.HgP.τ).loc Cert.HgP.main_arg0) = m ((c.tc : Thread Cert.HgP.nD Cert.HgP.τ).loc Cert.HgP.main_arg0)
      ∧ r.2.mem ((c.tc : Thread Cert.HgP.nD Cert.HgP.τ).loc Cert.HgP.main_arg1) = m ((c.tc : Thread Cert.HgP.nD Cert.HgP.τ).loc Cert.HgP.main_arg1)
      ∧ r.2.mem ((c.tc : Thread Cert.HgP.nD Cert.HgP.τ).loc Cert.HgP.main_arg2) = m ((c.tc : Thread Cert.HgP.nD Cert.HgP.τ).loc Cert.HgP.main_arg2))
      ∧ r.2.sem = fun _ => 0)

def quiescent_HgPIdeal [hHgPIdeal : Cert.HgPIdeal.Facts] : Prop :=
  ∀ (m : (ℓ : Loc Cert.HgPIdeal.nD Cert.HgPIdeal.τ Cert.HgPIdeal.sig) → Buf (Elt Ideal) ℓ) (g : Dev Cert.HgPIdeal.nD → PrngReg), Pre_HgPIdeal m →
    θ_run (Cert.HgPIdeal.defs (F := Ideal)) (onTc (τ := Cert.HgPIdeal.τ) (Cert.HgPIdeal.main (F := Ideal))) ⟨m, fun _ => 0, g⟩ (fun r => (∀ c : Dev Cert.HgPIdeal.nD,
      r.2.mem ((c.tc : Thread Cert.HgPIdeal.nD Cert.HgPIdeal.τ).loc Cert.HgPIdeal.main_arg0) = m ((c.tc : Thread Cert.HgPIdeal.nD Cert.HgPIdeal.τ).loc Cert.HgPIdeal.main_arg0)
      ∧ r.2.mem ((c.tc : Thread Cert.HgPIdeal.nD Cert.HgPIdeal.τ).loc Cert.HgPIdeal.main_arg1) = m ((c.tc : Thread Cert.HgPIdeal.nD Cert.HgPIdeal.τ).loc Cert.HgPIdeal.main_arg1)
      ∧ r.2.mem ((c.tc : Thread Cert.HgPIdeal.nD Cert.HgPIdeal.τ).loc Cert.HgPIdeal.main_arg2) = m ((c.tc : Thread Cert.HgPIdeal.nD Cert.HgPIdeal.τ).loc Cert.HgPIdeal.main_arg2))
      ∧ r.2.sem = fun _ => 0)

def quiescent_HgPRefIdeal [hHgPRefIdeal : Cert.HgPRefIdeal.Facts] : Prop :=
  ∀ (m : (ℓ : Loc Cert.HgPRefIdeal.nD Cert.HgPRefIdeal.τ Cert.HgPRefIdeal.sig) → Buf (Elt Ideal) ℓ) (g : Dev Cert.HgPRefIdeal.nD → PrngReg), Pre_HgPRefIdeal m →
    θ_run (Cert.HgPRefIdeal.defs (F := Ideal)) (onTc (τ := Cert.HgPRefIdeal.τ) (Cert.HgPRefIdeal.main (F := Ideal))) ⟨m, fun _ => 0, g⟩ (fun r => (∀ c : Dev Cert.HgPRefIdeal.nD,
      r.2.mem ((c.tc : Thread Cert.HgPRefIdeal.nD Cert.HgPRefIdeal.τ).loc Cert.HgPRefIdeal.main_arg0) = m ((c.tc : Thread Cert.HgPRefIdeal.nD Cert.HgPRefIdeal.τ).loc Cert.HgPRefIdeal.main_arg0)
      ∧ r.2.mem ((c.tc : Thread Cert.HgPRefIdeal.nD Cert.HgPRefIdeal.τ).loc Cert.HgPRefIdeal.main_arg1) = m ((c.tc : Thread Cert.HgPRefIdeal.nD Cert.HgPRefIdeal.τ).loc Cert.HgPRefIdeal.main_arg1)
      ∧ r.2.mem ((c.tc : Thread Cert.HgPRefIdeal.nD Cert.HgPRefIdeal.τ).loc Cert.HgPRefIdeal.main_arg2) = m ((c.tc : Thread Cert.HgPRefIdeal.nD Cert.HgPRefIdeal.τ).loc Cert.HgPRefIdeal.main_arg2))
      ∧ r.2.sem = fun _ => 0)

def quiescent_GlaP [hGlaP : Cert.GlaP.Facts] : Prop :=
  ∀ (m : (ℓ : Loc Cert.GlaP.nD Cert.GlaP.τ Cert.GlaP.sig) → Buf (Elt Bits) ℓ) (g : Dev Cert.GlaP.nD → PrngReg), Pre_GlaP m →
    θ_run (Cert.GlaP.defs (F := Bits)) (onTc (τ := Cert.GlaP.τ) (Cert.GlaP.main (F := Bits))) ⟨m, fun _ => 0, g⟩ (fun r => (∀ c : Dev Cert.GlaP.nD,
      r.2.mem ((c.tc : Thread Cert.GlaP.nD Cert.GlaP.τ).loc Cert.GlaP.main_arg0) = m ((c.tc : Thread Cert.GlaP.nD Cert.GlaP.τ).loc Cert.GlaP.main_arg0)
      ∧ r.2.mem ((c.tc : Thread Cert.GlaP.nD Cert.GlaP.τ).loc Cert.GlaP.main_arg1) = m ((c.tc : Thread Cert.GlaP.nD Cert.GlaP.τ).loc Cert.GlaP.main_arg1)
      ∧ r.2.mem ((c.tc : Thread Cert.GlaP.nD Cert.GlaP.τ).loc Cert.GlaP.main_arg2) = m ((c.tc : Thread Cert.GlaP.nD Cert.GlaP.τ).loc Cert.GlaP.main_arg2)
      ∧ r.2.mem ((c.tc : Thread Cert.GlaP.nD Cert.GlaP.τ).loc Cert.GlaP.main_arg3) = m ((c.tc : Thread Cert.GlaP.nD Cert.GlaP.τ).loc Cert.GlaP.main_arg3))
      ∧ r.2.sem = fun _ => 0)

def quiescent_GlaPIdeal [hGlaPIdeal : Cert.GlaPIdeal.Facts] : Prop :=
  ∀ (m : (ℓ : Loc Cert.GlaPIdeal.nD Cert.GlaPIdeal.τ Cert.GlaPIdeal.sig) → Buf (Elt Ideal) ℓ) (g : Dev Cert.GlaPIdeal.nD → PrngReg), Pre_GlaPIdeal m →
    θ_run (Cert.GlaPIdeal.defs (F := Ideal)) (onTc (τ := Cert.GlaPIdeal.τ) (Cert.GlaPIdeal.main (F := Ideal))) ⟨m, fun _ => 0, g⟩ (fun r => (∀ c : Dev Cert.GlaPIdeal.nD,
      r.2.mem ((c.tc : Thread Cert.GlaPIdeal.nD Cert.GlaPIdeal.τ).loc Cert.GlaPIdeal.main_arg0) = m ((c.tc : Thread Cert.GlaPIdeal.nD Cert.GlaPIdeal.τ).loc Cert.GlaPIdeal.main_arg0)
      ∧ r.2.mem ((c.tc : Thread Cert.GlaPIdeal.nD Cert.GlaPIdeal.τ).loc Cert.GlaPIdeal.main_arg1) = m ((c.tc : Thread Cert.GlaPIdeal.nD Cert.GlaPIdeal.τ).loc Cert.GlaPIdeal.main_arg1)
      ∧ r.2.mem ((c.tc : Thread Cert.GlaPIdeal.nD Cert.GlaPIdeal.τ).loc Cert.GlaPIdeal.main_arg2) = m ((c.tc : Thread Cert.GlaPIdeal.nD Cert.GlaPIdeal.τ).loc Cert.GlaPIdeal.main_arg2)
      ∧ r.2.mem ((c.tc : Thread Cert.GlaPIdeal.nD Cert.GlaPIdeal.τ).loc Cert.GlaPIdeal.main_arg3) = m ((c.tc : Thread Cert.GlaPIdeal.nD Cert.GlaPIdeal.τ).loc Cert.GlaPIdeal.main_arg3))
      ∧ r.2.sem = fun _ => 0)

def quiescent_GlaPRefIdeal [hGlaPRefIdeal : Cert.GlaPRefIdeal.Facts] : Prop :=
  ∀ (m : (ℓ : Loc Cert.GlaPRefIdeal.nD Cert.GlaPRefIdeal.τ Cert.GlaPRefIdeal.sig) → Buf (Elt Ideal) ℓ) (g : Dev Cert.GlaPRefIdeal.nD → PrngReg), Pre_GlaPRefIdeal m →
    θ_run (Cert.GlaPRefIdeal.defs (F := Ideal)) (onTc (τ := Cert.GlaPRefIdeal.τ) (Cert.GlaPRefIdeal.main (F := Ideal))) ⟨m, fun _ => 0, g⟩ (fun r => (∀ c : Dev Cert.GlaPRefIdeal.nD,
      r.2.mem ((c.tc : Thread Cert.GlaPRefIdeal.nD Cert.GlaPRefIdeal.τ).loc Cert.GlaPRefIdeal.main_arg0) = m ((c.tc : Thread Cert.GlaPRefIdeal.nD Cert.GlaPRefIdeal.τ).loc Cert.GlaPRefIdeal.main_arg0)
      ∧ r.2.mem ((c.tc : Thread Cert.GlaPRefIdeal.nD Cert.GlaPRefIdeal.τ).loc Cert.GlaPRefIdeal.main_arg1) = m ((c.tc : Thread Cert.GlaPRefIdeal.nD Cert.GlaPRefIdeal.τ).loc Cert.GlaPRefIdeal.main_arg1)
      ∧ r.2.mem ((c.tc : Thread Cert.GlaPRefIdeal.nD Cert.GlaPRefIdeal.τ).loc Cert.GlaPRefIdeal.main_arg2) = m ((c.tc : Thread Cert.GlaPRefIdeal.nD Cert.GlaPRefIdeal.τ).loc Cert.GlaPRefIdeal.main_arg2)
      ∧ r.2.mem ((c.tc : Thread Cert.GlaPRefIdeal.nD Cert.GlaPRefIdeal.τ).loc Cert.GlaPRefIdeal.main_arg3) = m ((c.tc : Thread Cert.GlaPRefIdeal.nD Cert.GlaPRefIdeal.τ).loc Cert.GlaPRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v11)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v11) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v60) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v28) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)
      ∧ m' ((c.tc : Thread Cert.GatedRefIdeal.nD Cert.GatedRefIdeal.τ).loc Cert.GatedRefIdeal.main_arg4) = m ((c.tc : Thread Cert.GatedIdeal.nD Cert.GatedIdeal.τ).loc Cert.GatedIdeal.main_arg4)
      ∧ m' ((c.tc : Thread Cert.GatedRefIdeal.nD Cert.GatedRefIdeal.τ).loc Cert.GatedRefIdeal.main_arg5) = m ((c.tc : Thread Cert.GatedIdeal.nD Cert.GatedIdeal.τ).loc Cert.GatedIdeal.main_arg5)) →
    ∃ (v0 : (c : Dev Cert.GatedIdeal.nD) → Buf (Elt Ideal) ((c.tc : Thread Cert.GatedIdeal.nD Cert.GatedIdeal.τ).loc Cert.GatedIdeal.main_v3)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v3) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
          ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4)
          ∧ r.2.mem ((c.tc : Thread Cert.GatedIdeal.nD Cert.GatedIdeal.τ).loc Cert.GatedIdeal.main_arg5) = m ((c.tc : Thread Cert.GatedIdeal.nD Cert.GatedIdeal.τ).loc Cert.GatedIdeal.main_arg5))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v30) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3)
          ∧ r.2.mem ((c.tc : Thread Cert.GatedRefIdeal.nD Cert.GatedRefIdeal.τ).loc Cert.GatedRefIdeal.main_arg4) = m' ((c.tc : Thread Cert.GatedRefIdeal.nD Cert.GatedRefIdeal.τ).loc Cert.GatedRefIdeal.main_arg4)
          ∧ r.2.mem ((c.tc : Thread Cert.GatedRefIdeal.nD Cert.GatedRefIdeal.τ).loc Cert.GatedRefIdeal.main_arg5) = m' ((c.tc : Thread Cert.GatedRefIdeal.nD Cert.GatedRefIdeal.τ).loc Cert.GatedRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v37_0)) (v1 : (c : Dev Cert.QkvIdeal.nD) → Buf (Elt Ideal) ((c.tc : Thread Cert.QkvIdeal.nD Cert.QkvIdeal.τ).loc Cert.QkvIdeal.main_v37_1)) (v2 : (c : Dev Cert.QkvIdeal.nD) → Buf (Elt Ideal) ((c.tc : Thread Cert.QkvIdeal.nD Cert.QkvIdeal.τ).loc Cert.QkvIdeal.main_v37_2)) (v3 : (c : Dev Cert.QkvIdeal.nD) → Buf (Elt Ideal) ((c.tc : Thread Cert.QkvIdeal.nD Cert.QkvIdeal.τ).loc Cert.QkvIdeal.main_v37_3)) (v4 : (c : Dev Cert.QkvIdeal.nD) → Buf (Elt Ideal) ((c.tc : Thread Cert.QkvIdeal.nD Cert.QkvIdeal.τ).loc Cert.QkvIdeal.main_v37_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v37_0) = v0 c
          ∧ r.2.mem ((c.tc : Thread Cert.QkvIdeal.nD Cert.QkvIdeal.τ).loc Cert.QkvIdeal.main_v37_1) = v1 c
          ∧ r.2.mem ((c.tc : Thread Cert.QkvIdeal.nD Cert.QkvIdeal.τ).loc Cert.QkvIdeal.main_v37_2) = v2 c
          ∧ r.2.mem ((c.tc : Thread Cert.QkvIdeal.nD Cert.QkvIdeal.τ).loc Cert.QkvIdeal.main_v37_3) = v3 c
          ∧ r.2.mem ((c.tc : Thread Cert.QkvIdeal.nD Cert.QkvIdeal.τ).loc Cert.QkvIdeal.main_v37_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v57) = v0 c
          ∧ r.2.mem ((c.tc : Thread Cert.QkvRefIdeal.nD Cert.QkvRefIdeal.τ).loc Cert.QkvRefIdeal.main_v25) = v1 c
          ∧ r.2.mem ((c.tc : Thread Cert.QkvRefIdeal.nD Cert.QkvRefIdeal.τ).loc Cert.QkvRefIdeal.main_v60) = v2 c
          ∧ r.2.mem ((c.tc : Thread Cert.QkvRefIdeal.nD Cert.QkvRefIdeal.τ).loc Cert.QkvRefIdeal.main_v61) = v3 c
          ∧ r.2.mem ((c.tc : Thread Cert.QkvRefIdeal.nD Cert.QkvRefIdeal.τ).loc Cert.QkvRefIdeal.main_v62) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)
      ∧ m' ((c.tc : Thread Cert.ConvSRefIdeal.nD Cert.ConvSRefIdeal.τ).loc Cert.ConvSRefIdeal.main_arg6) = m ((c.tc : Thread Cert.ConvSIdeal.nD Cert.ConvSIdeal.τ).loc Cert.ConvSIdeal.main_arg6)) →
    ∃ (v0 : (c : Dev Cert.ConvSIdeal.nD) → Buf (Elt Ideal) ((c.tc : Thread Cert.ConvSIdeal.nD Cert.ConvSIdeal.τ).loc Cert.ConvSIdeal.main_v8_0)) (v1 : (c : Dev Cert.ConvSIdeal.nD) → Buf (Elt Ideal) ((c.tc : Thread Cert.ConvSIdeal.nD Cert.ConvSIdeal.τ).loc Cert.ConvSIdeal.main_v8_1)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v8_0) = v0 c
          ∧ r.2.mem ((c.tc : Thread Cert.ConvSIdeal.nD Cert.ConvSIdeal.τ).loc Cert.ConvSIdeal.main_v8_1) = v1 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
          ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v60) = v0 c
          ∧ r.2.mem ((c.tc : Thread Cert.ConvSRefIdeal.nD Cert.ConvSRefIdeal.τ).loc Cert.ConvSRefIdeal.main_v4) = v1 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5)
          ∧ r.2.mem ((c.tc : Thread Cert.ConvSRefIdeal.nD Cert.ConvSRefIdeal.τ).loc Cert.ConvSRefIdeal.main_arg6) = m' ((c.tc : Thread Cert.ConvSRefIdeal.nD Cert.ConvSRefIdeal.τ).loc Cert.ConvSRefIdeal.main_arg6))

def preserves_QkvS_QkvSIdeal : Prop :=
  True

def algebraic_QkvSIdeal_QkvSRefIdeal [hQkvSIdeal : Cert.QkvSIdeal.Facts] [hQkvSRefIdeal : Cert.QkvSRefIdeal.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.QkvSRefIdeal.nD Cert.QkvSRefIdeal.τ Cert.QkvSRefIdeal.sig) → Buf (Elt Ideal) ℓ) (g' : Dev Cert.QkvSRefIdeal.nD → PrngReg), Pre_QkvSIdeal m →
    (∀ c : Dev Cert.QkvSIdeal.nD,
      m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)
      ∧ m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)) →
    ∃ (v0 : (c : Dev Cert.QkvSIdeal.nD) → Buf (Elt Ideal) ((c.tc : Thread Cert.QkvSIdeal.nD Cert.QkvSIdeal.τ).loc Cert.QkvSIdeal.main_v38_0)) (v1 : (c : Dev Cert.QkvSIdeal.nD) → Buf (Elt Ideal) ((c.tc : Thread Cert.QkvSIdeal.nD Cert.QkvSIdeal.τ).loc Cert.QkvSIdeal.main_v38_1)) (v2 : (c : Dev Cert.QkvSIdeal.nD) → Buf (Elt Ideal) ((c.tc : Thread Cert.QkvSIdeal.nD Cert.QkvSIdeal.τ).loc Cert.QkvSIdeal.main_v38_2)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v38_0) = v0 c
          ∧ r.2.mem ((c.tc : Thread Cert.QkvSIdeal.nD Cert.QkvSIdeal.τ).loc Cert.QkvSIdeal.main_v38_1) = v1 c
          ∧ r.2.mem ((c.tc : Thread Cert.QkvSIdeal.nD Cert.QkvSIdeal.τ).loc Cert.QkvSIdeal.main_v38_2) = v2 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1))
      ∧ θ_run (Cert.QkvSRefIdeal.defs (F := Ideal)) (onTc (τ := Cert.QkvSRefIdeal.τ) (Cert.QkvSRefIdeal.main (F := Ideal))) ⟨m', fun _ => 0, g'⟩ (fun r => ∀ c : Dev Cert.QkvSRefIdeal.nD,
          r.2.mem ((c.tc : Thread Cert.QkvSRefIdeal.nD Cert.QkvSRefIdeal.τ).loc Cert.QkvSRefIdeal.main_v60) = v0 c
          ∧ r.2.mem ((c.tc : Thread Cert.QkvSRefIdeal.nD Cert.QkvSRefIdeal.τ).loc Cert.QkvSRefIdeal.main_v58) = v1 c
          ∧ r.2.mem ((c.tc : Thread Cert.QkvSRefIdeal.nD Cert.QkvSRefIdeal.τ).loc Cert.QkvSRefIdeal.main_v26) = v2 c
          ∧ r.2.mem ((c.tc : Thread Cert.QkvSRefIdeal.nD Cert.QkvSRefIdeal.τ).loc Cert.QkvSRefIdeal.main_arg0) = m' ((c.tc : Thread Cert.QkvSRefIdeal.nD Cert.QkvSRefIdeal.τ).loc Cert.QkvSRefIdeal.main_arg0)
          ∧ r.2.mem ((c.tc : Thread Cert.QkvSRefIdeal.nD Cert.QkvSRefIdeal.τ).loc Cert.QkvSRefIdeal.main_arg1) = m' ((c.tc : Thread Cert.QkvSRefIdeal.nD Cert.QkvSRefIdeal.τ).loc Cert.QkvSRefIdeal.main_arg1))

def preserves_Hg_HgIdeal : Prop :=
  True

def algebraic_HgIdeal_HgRefIdeal [hHgIdeal : Cert.HgIdeal.Facts] [hHgRefIdeal : Cert.HgRefIdeal.Facts] : Prop :=
  ∀ (m : (ℓ : Loc Cert.HgIdeal.nD Cert.HgIdeal.τ Cert.HgIdeal.sig) → Buf (Elt Ideal) ℓ) (g : Dev Cert.HgIdeal.nD → PrngReg)
    (m' : (ℓ : Loc Cert.HgRefIdeal.nD Cert.HgRefIdeal.τ Cert.HgRefIdeal.sig) → Buf (Elt Ideal) ℓ) (g' : Dev Cert.HgRefIdeal.nD → PrngReg), Pre_HgIdeal m →
    (∀ c : Dev Cert.HgIdeal.nD,
      m' ((c.tc : Thread Cert.HgRefIdeal.nD Cert.HgRefIdeal.τ).loc Cert.HgRefIdeal.main_arg0) = m ((c.tc : Thread Cert.HgIdeal.nD Cert.HgIdeal.τ).loc Cert.HgIdeal.main_arg0)
      ∧ m' ((c.tc : Thread Cert.HgRefIdeal.nD Cert.HgRefIdeal.τ).loc Cert.HgRefIdeal.main_arg1) = m ((c.tc : Thread Cert.HgIdeal.nD Cert.HgIdeal.τ).loc Cert.HgIdeal.main_arg1)
      ∧ m' ((c.tc : Thread Cert.HgRefIdeal.nD Cert.HgRefIdeal.τ).loc Cert.HgRefIdeal.main_arg2) = m ((c.tc : Thread Cert.HgIdeal.nD Cert.HgIdeal.τ).loc Cert.HgIdeal.main_arg2)
      ∧ m' ((c.tc : Thread Cert.HgRefIdeal.nD Cert.HgRefIdeal.τ).loc Cert.HgRefIdeal.main_arg3) = m ((c.tc : Thread Cert.HgIdeal.nD Cert.HgIdeal.τ).loc Cert.HgIdeal.main_arg3)
      ∧ m' ((c.tc : Thread Cert.HgRefIdeal.nD Cert.HgRefIdeal.τ).loc Cert.HgRefIdeal.main_arg4) = m ((c.tc : Thread Cert.HgIdeal.nD Cert.HgIdeal.τ).loc Cert.HgIdeal.main_arg4)
      ∧ m' ((c.tc : Thread Cert.HgRefIdeal.nD Cert.HgRefIdeal.τ).loc Cert.HgRefIdeal.main_arg5) = m ((c.tc : Thread Cert.HgIdeal.nD Cert.HgIdeal.τ).loc Cert.HgIdeal.main_arg5)) →
    ∃ (v0 : (c : Dev Cert.HgIdeal.nD) → Buf (Elt Ideal) ((c.tc : Thread Cert.HgIdeal.nD Cert.HgIdeal.τ).loc Cert.HgIdeal.main_v5_0)) (v1 : (c : Dev Cert.HgIdeal.nD) → Buf (Elt Ideal) ((c.tc : Thread Cert.HgIdeal.nD Cert.HgIdeal.τ).loc Cert.HgIdeal.main_v5_1)),
      θ_run (Cert.HgIdeal.defs (F := Ideal)) (onTc (τ := Cert.HgIdeal.τ) (Cert.HgIdeal.main (F := Ideal))) ⟨m, fun _ => 0, g⟩ (fun r => ∀ c : Dev Cert.HgIdeal.nD,
          r.2.mem ((c.tc : Thread Cert.HgIdeal.nD Cert.HgIdeal.τ).loc Cert.HgIdeal.main_v5_0) = v0 c
          ∧ r.2.mem ((c.tc : Thread Cert.HgIdeal.nD Cert.HgIdeal.τ).loc Cert.HgIdeal.main_v5_1) = v1 c
          ∧ r.2.mem ((c.tc : Thread Cert.HgIdeal.nD Cert.HgIdeal.τ).loc Cert.HgIdeal.main_arg0) = m ((c.tc : Thread Cert.HgIdeal.nD Cert.HgIdeal.τ).loc Cert.HgIdeal.main_arg0)
          ∧ r.2.mem ((c.tc : Thread Cert.HgIdeal.nD Cert.HgIdeal.τ).loc Cert.HgIdeal.main_arg1) = m ((c.tc : Thread Cert.HgIdeal.nD Cert.HgIdeal.τ).loc Cert.HgIdeal.main_arg1)
          ∧ r.2.mem ((c.tc : Thread Cert.HgIdeal.nD Cert.HgIdeal.τ).loc Cert.HgIdeal.main_arg2) = m ((c.tc : Thread Cert.HgIdeal.nD Cert.HgIdeal.τ).loc Cert.HgIdeal.main_arg2)
          ∧ r.2.mem ((c.tc : Thread Cert.HgIdeal.nD Cert.HgIdeal.τ).loc Cert.HgIdeal.main_arg3) = m ((c.tc : Thread Cert.HgIdeal.nD Cert.HgIdeal.τ).loc Cert.HgIdeal.main_arg3)
          ∧ r.2.mem ((c.tc : Thread Cert.HgIdeal.nD Cert.HgIdeal.τ).loc Cert.HgIdeal.main_arg4) = m ((c.tc : Thread Cert.HgIdeal.nD Cert.HgIdeal.τ).loc Cert.HgIdeal.main_arg4)
          ∧ r.2.mem ((c.tc : Thread Cert.HgIdeal.nD Cert.HgIdeal.τ).loc Cert.HgIdeal.main_arg5) = m ((c.tc : Thread Cert.HgIdeal.nD Cert.HgIdeal.τ).loc Cert.HgIdeal.main_arg5))
      ∧ θ_run (Cert.HgRefIdeal.defs (F := Ideal)) (onTc (τ := Cert.HgRefIdeal.τ) (Cert.HgRefIdeal.main (F := Ideal))) ⟨m', fun _ => 0, g'⟩ (fun r => ∀ c : Dev Cert.HgRefIdeal.nD,
          r.2.mem ((c.tc : Thread Cert.HgRefIdeal.nD Cert.HgRefIdeal.τ).loc Cert.HgRefIdeal.main_v29) = v0 c
          ∧ r.2.mem ((c.tc : Thread Cert.HgRefIdeal.nD Cert.HgRefIdeal.τ).loc Cert.HgRefIdeal.main_v13) = v1 c
          ∧ r.2.mem ((c.tc : Thread Cert.HgRefIdeal.nD Cert.HgRefIdeal.τ).loc Cert.HgRefIdeal.main_arg0) = m' ((c.tc : Thread Cert.HgRefIdeal.nD Cert.HgRefIdeal.τ).loc Cert.HgRefIdeal.main_arg0)
          ∧ r.2.mem ((c.tc : Thread Cert.HgRefIdeal.nD Cert.HgRefIdeal.τ).loc Cert.HgRefIdeal.main_arg1) = m' ((c.tc : Thread Cert.HgRefIdeal.nD Cert.HgRefIdeal.τ).loc Cert.HgRefIdeal.main_arg1)
          ∧ r.2.mem ((c.tc : Thread Cert.HgRefIdeal.nD Cert.HgRefIdeal.τ).loc Cert.HgRefIdeal.main_arg2) = m' ((c.tc : Thread Cert.HgRefIdeal.nD Cert.HgRefIdeal.τ).loc Cert.HgRefIdeal.main_arg2)
          ∧ r.2.mem ((c.tc : Thread Cert.HgRefIdeal.nD Cert.HgRefIdeal.τ).loc Cert.HgRefIdeal.main_arg3) = m' ((c.tc : Thread Cert.HgRefIdeal.nD Cert.HgRefIdeal.τ).loc Cert.HgRefIdeal.main_arg3)
          ∧ r.2.mem ((c.tc : Thread Cert.HgRefIdeal.nD Cert.HgRefIdeal.τ).loc Cert.HgRefIdeal.main_arg4) = m' ((c.tc : Thread Cert.HgRefIdeal.nD Cert.HgRefIdeal.τ).loc Cert.HgRefIdeal.main_arg4)
          ∧ r.2.mem ((c.tc : Thread Cert.HgRefIdeal.nD Cert.HgRefIdeal.τ).loc Cert.HgRefIdeal.main_arg5) = m' ((c.tc : Thread Cert.HgRefIdeal.nD Cert.HgRefIdeal.τ).loc Cert.HgRefIdeal.main_arg5))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)) →
    ∃ (v0 : (c : Dev Cert.GlaIdeal.nD) → Buf (Elt Ideal) ((c.tc : Thread Cert.GlaIdeal.nD Cert.GlaIdeal.τ).loc Cert.GlaIdeal.main_v5_0)) (v1 : (c : Dev Cert.GlaIdeal.nD) → Buf (Elt Ideal) ((c.tc : Thread Cert.GlaIdeal.nD Cert.GlaIdeal.τ).loc Cert.GlaIdeal.main_v5_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v5_0) = v0 c
          ∧ r.2.mem ((c.tc : Thread Cert.GlaIdeal.nD Cert.GlaIdeal.τ).loc Cert.GlaIdeal.main_v5_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v29) = v0 c
          ∧ r.2.mem ((c.tc : Thread Cert.GlaRefIdeal.nD Cert.GlaRefIdeal.τ).loc Cert.GlaRefIdeal.main_v13) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5))

def preserves_HgP_HgPIdeal : Prop :=
  True

def algebraic_HgPIdeal_HgPRefIdeal [hHgPIdeal : Cert.HgPIdeal.Facts] [hHgPRefIdeal : Cert.HgPRefIdeal.Facts] : Prop :=
  ∀ (m : (ℓ : Loc Cert.HgPIdeal.nD Cert.HgPIdeal.τ Cert.HgPIdeal.sig) → Buf (Elt Ideal) ℓ) (g : Dev Cert.HgPIdeal.nD → PrngReg)
    (m' : (ℓ : Loc Cert.HgPRefIdeal.nD Cert.HgPRefIdeal.τ Cert.HgPRefIdeal.sig) → Buf (Elt Ideal) ℓ) (g' : Dev Cert.HgPRefIdeal.nD → PrngReg), Pre_HgPIdeal m →
    (∀ c : Dev Cert.HgPIdeal.nD,
      m' ((c.tc : Thread Cert.HgPRefIdeal.nD Cert.HgPRefIdeal.τ).loc Cert.HgPRefIdeal.main_arg0) = m ((c.tc : Thread Cert.HgPIdeal.nD Cert.HgPIdeal.τ).loc Cert.HgPIdeal.main_arg0)
      ∧ m' ((c.tc : Thread Cert.HgPRefIdeal.nD Cert.HgPRefIdeal.τ).loc Cert.HgPRefIdeal.main_arg1) = m ((c.tc : Thread Cert.HgPIdeal.nD Cert.HgPIdeal.τ).loc Cert.HgPIdeal.main_arg1)
      ∧ m' ((c.tc : Thread Cert.HgPRefIdeal.nD Cert.HgPRefIdeal.τ).loc Cert.HgPRefIdeal.main_arg2) = m ((c.tc : Thread Cert.HgPIdeal.nD Cert.HgPIdeal.τ).loc Cert.HgPIdeal.main_arg2)) →
    ∃ (v0 : (c : Dev Cert.HgPIdeal.nD) → Buf (Elt Ideal) ((c.tc : Thread Cert.HgPIdeal.nD Cert.HgPIdeal.τ).loc Cert.HgPIdeal.main_v2_0)) (v1 : (c : Dev Cert.HgPIdeal.nD) → Buf (Elt Ideal) ((c.tc : Thread Cert.HgPIdeal.nD Cert.HgPIdeal.τ).loc Cert.HgPIdeal.main_v2_1)) (v2 : (c : Dev Cert.HgPIdeal.nD) → Buf (Elt Ideal) ((c.tc : Thread Cert.HgPIdeal.nD Cert.HgPIdeal.τ).loc Cert.HgPIdeal.main_v2_2)) (v3 : (c : Dev Cert.HgPIdeal.nD) → Buf (Elt Ideal) ((c.tc : Thread Cert.HgPIdeal.nD Cert.HgPIdeal.τ).loc Cert.HgPIdeal.main_v2_3)),
      θ_run (Cert.HgPIdeal.defs (F := Ideal)) (onTc (τ := Cert.HgPIdeal.τ) (Cert.HgPIdeal.main (F := Ideal))) ⟨m, fun _ => 0, g⟩ (fun r => ∀ c : Dev Cert.HgPIdeal.nD,
          r.2.mem ((c.tc : Thread Cert.HgPIdeal.nD Cert.HgPIdeal.τ).loc Cert.HgPIdeal.main_v2_0) = v0 c
          ∧ r.2.mem ((c.tc : Thread Cert.HgPIdeal.nD Cert.HgPIdeal.τ).loc Cert.HgPIdeal.main_v2_1) = v1 c
          ∧ r.2.mem ((c.tc : Thread Cert.HgPIdeal.nD Cert.HgPIdeal.τ).loc Cert.HgPIdeal.main_v2_2) = v2 c
          ∧ r.2.mem ((c.tc : Thread Cert.HgPIdeal.nD Cert.HgPIdeal.τ).loc Cert.HgPIdeal.main_v2_3) = v3 c
          ∧ r.2.mem ((c.tc : Thread Cert.HgPIdeal.nD Cert.HgPIdeal.τ).loc Cert.HgPIdeal.main_arg0) = m ((c.tc : Thread Cert.HgPIdeal.nD Cert.HgPIdeal.τ).loc Cert.HgPIdeal.main_arg0)
          ∧ r.2.mem ((c.tc : Thread Cert.HgPIdeal.nD Cert.HgPIdeal.τ).loc Cert.HgPIdeal.main_arg1) = m ((c.tc : Thread Cert.HgPIdeal.nD Cert.HgPIdeal.τ).loc Cert.HgPIdeal.main_arg1)
          ∧ r.2.mem ((c.tc : Thread Cert.HgPIdeal.nD Cert.HgPIdeal.τ).loc Cert.HgPIdeal.main_arg2) = m ((c.tc : Thread Cert.HgPIdeal.nD Cert.HgPIdeal.τ).loc Cert.HgPIdeal.main_arg2))
      ∧ θ_run (Cert.HgPRefIdeal.defs (F := Ideal)) (onTc (τ := Cert.HgPRefIdeal.τ) (Cert.HgPRefIdeal.main (F := Ideal))) ⟨m', fun _ => 0, g'⟩ (fun r => ∀ c : Dev Cert.HgPRefIdeal.nD,
          r.2.mem ((c.tc : Thread Cert.HgPRefIdeal.nD Cert.HgPRefIdeal.τ).loc Cert.HgPRefIdeal.main_v18) = v0 c
          ∧ r.2.mem ((c.tc : Thread Cert.HgPRefIdeal.nD Cert.HgPRefIdeal.τ).loc Cert.HgPRefIdeal.main_v20) = v1 c
          ∧ r.2.mem ((c.tc : Thread Cert.HgPRefIdeal.nD Cert.HgPRefIdeal.τ).loc Cert.HgPRefIdeal.main_v3) = v2 c
          ∧ r.2.mem ((c.tc : Thread Cert.HgPRefIdeal.nD Cert.HgPRefIdeal.τ).loc Cert.HgPRefIdeal.main_v21) = v3 c
          ∧ r.2.mem ((c.tc : Thread Cert.HgPRefIdeal.nD Cert.HgPRefIdeal.τ).loc Cert.HgPRefIdeal.main_arg0) = m' ((c.tc : Thread Cert.HgPRefIdeal.nD Cert.HgPRefIdeal.τ).loc Cert.HgPRefIdeal.main_arg0)
          ∧ r.2.mem ((c.tc : Thread Cert.HgPRefIdeal.nD Cert.HgPRefIdeal.τ).loc Cert.HgPRefIdeal.main_arg1) = m' ((c.tc : Thread Cert.HgPRefIdeal.nD Cert.HgPRefIdeal.τ).loc Cert.HgPRefIdeal.main_arg1)
          ∧ r.2.mem ((c.tc : Thread Cert.HgPRefIdeal.nD Cert.HgPRefIdeal.τ).loc Cert.HgPRefIdeal.main_arg2) = m' ((c.tc : Thread Cert.HgPRefIdeal.nD Cert.HgPRefIdeal.τ).loc Cert.HgPRefIdeal.main_arg2))

def preserves_GlaP_GlaPIdeal : Prop :=
  True

def algebraic_GlaPIdeal_GlaPRefIdeal [hGlaPIdeal : Cert.GlaPIdeal.Facts] [hGlaPRefIdeal : Cert.GlaPRefIdeal.Facts] : Prop :=
  ∀ (m : (ℓ : Loc Cert.GlaPIdeal.nD Cert.GlaPIdeal.τ Cert.GlaPIdeal.sig) → Buf (Elt Ideal) ℓ) (g : Dev Cert.GlaPIdeal.nD → PrngReg)
    (m' : (ℓ : Loc Cert.GlaPRefIdeal.nD Cert.GlaPRefIdeal.τ Cert.GlaPRefIdeal.sig) → Buf (Elt Ideal) ℓ) (g' : Dev Cert.GlaPRefIdeal.nD → PrngReg), Pre_GlaPIdeal m →
    (∀ c : Dev Cert.GlaPIdeal.nD,
      m' ((c.tc : Thread Cert.GlaPRefIdeal.nD Cert.GlaPRefIdeal.τ).loc Cert.GlaPRefIdeal.main_arg0) = m ((c.tc : Thread Cert.GlaPIdeal.nD Cert.GlaPIdeal.τ).loc Cert.GlaPIdeal.main_arg0)
      ∧ m' ((c.tc : Thread Cert.GlaPRefIdeal.nD Cert.GlaPRefIdeal.τ).loc Cert.GlaPRefIdeal.main_arg1) = m ((c.tc : Thread Cert.GlaPIdeal.nD Cert.GlaPIdeal.τ).loc Cert.GlaPIdeal.main_arg1)
      ∧ m' ((c.tc : Thread Cert.GlaPRefIdeal.nD Cert.GlaPRefIdeal.τ).loc Cert.GlaPRefIdeal.main_arg2) = m ((c.tc : Thread Cert.GlaPIdeal.nD Cert.GlaPIdeal.τ).loc Cert.GlaPIdeal.main_arg2)
      ∧ m' ((c.tc : Thread Cert.GlaPRefIdeal.nD Cert.GlaPRefIdeal.τ).loc Cert.GlaPRefIdeal.main_arg3) = m ((c.tc : Thread Cert.GlaPIdeal.nD Cert.GlaPIdeal.τ).loc Cert.GlaPIdeal.main_arg3)) →
    ∃ (v0 : (c : Dev Cert.GlaPIdeal.nD) → Buf (Elt Ideal) ((c.tc : Thread Cert.GlaPIdeal.nD Cert.GlaPIdeal.τ).loc Cert.GlaPIdeal.main_v8_0)) (v1 : (c : Dev Cert.GlaPIdeal.nD) → Buf (Elt Ideal) ((c.tc : Thread Cert.GlaPIdeal.nD Cert.GlaPIdeal.τ).loc Cert.GlaPIdeal.main_v8_1)) (v2 : (c : Dev Cert.GlaPIdeal.nD) → Buf (Elt Ideal) ((c.tc : Thread Cert.GlaPIdeal.nD Cert.GlaPIdeal.τ).loc Cert.GlaPIdeal.main_v8_2)) (v3 : (c : Dev Cert.GlaPIdeal.nD) → Buf (Elt Ideal) ((c.tc : Thread Cert.GlaPIdeal.nD Cert.GlaPIdeal.τ).loc Cert.GlaPIdeal.main_v8_3)) (v4 : (c : Dev Cert.GlaPIdeal.nD) → Buf (Elt Ideal) ((c.tc : Thread Cert.GlaPIdeal.nD Cert.GlaPIdeal.τ).loc Cert.GlaPIdeal.main_v8_4)),
      θ_run (Cert.GlaPIdeal.defs (F := Ideal)) (onTc (τ := Cert.GlaPIdeal.τ) (Cert.GlaPIdeal.main (F := Ideal))) ⟨m, fun _ => 0, g⟩ (fun r => ∀ c : Dev Cert.GlaPIdeal.nD,
          r.2.mem ((c.tc : Thread Cert.GlaPIdeal.nD Cert.GlaPIdeal.τ).loc Cert.GlaPIdeal.main_v8_0) = v0 c
          ∧ r.2.mem ((c.tc : Thread Cert.GlaPIdeal.nD Cert.GlaPIdeal.τ).loc Cert.GlaPIdeal.main_v8_1) = v1 c
          ∧ r.2.mem ((c.tc : Thread Cert.GlaPIdeal.nD Cert.GlaPIdeal.τ).loc Cert.GlaPIdeal.main_v8_2) = v2 c
          ∧ r.2.mem ((c.tc : Thread Cert.GlaPIdeal.nD Cert.GlaPIdeal.τ).loc Cert.GlaPIdeal.main_v8_3) = v3 c
          ∧ r.2.mem ((c.tc : Thread Cert.GlaPIdeal.nD Cert.GlaPIdeal.τ).loc Cert.GlaPIdeal.main_v8_4) = v4 c
          ∧ r.2.mem ((c.tc : Thread Cert.GlaPIdeal.nD Cert.GlaPIdeal.τ).loc Cert.GlaPIdeal.main_arg0) = m ((c.tc : Thread Cert.GlaPIdeal.nD Cert.GlaPIdeal.τ).loc Cert.GlaPIdeal.main_arg0)
          ∧ r.2.mem ((c.tc : Thread Cert.GlaPIdeal.nD Cert.GlaPIdeal.τ).loc Cert.GlaPIdeal.main_arg1) = m ((c.tc : Thread Cert.GlaPIdeal.nD Cert.GlaPIdeal.τ).loc Cert.GlaPIdeal.main_arg1)
          ∧ r.2.mem ((c.tc : Thread Cert.GlaPIdeal.nD Cert.GlaPIdeal.τ).loc Cert.GlaPIdeal.main_arg2) = m ((c.tc : Thread Cert.GlaPIdeal.nD Cert.GlaPIdeal.τ).loc Cert.GlaPIdeal.main_arg2)
          ∧ r.2.mem ((c.tc : Thread Cert.GlaPIdeal.nD Cert.GlaPIdeal.τ).loc Cert.GlaPIdeal.main_arg3) = m ((c.tc : Thread Cert.GlaPIdeal.nD Cert.GlaPIdeal.τ).loc Cert.GlaPIdeal.main_arg3))
      ∧ θ_run (Cert.GlaPRefIdeal.defs (F := Ideal)) (onTc (τ := Cert.GlaPRefIdeal.τ) (Cert.GlaPRefIdeal.main (F := Ideal))) ⟨m', fun _ => 0, g'⟩ (fun r => ∀ c : Dev Cert.GlaPRefIdeal.nD,
          r.2.mem ((c.tc : Thread Cert.GlaPRefIdeal.nD Cert.GlaPRefIdeal.τ).loc Cert.GlaPRefIdeal.main_v14) = v0 c
          ∧ r.2.mem ((c.tc : Thread Cert.GlaPRefIdeal.nD Cert.GlaPRefIdeal.τ).loc Cert.GlaPRefIdeal.main_v2) = v1 c
          ∧ r.2.mem ((c.tc : Thread Cert.GlaPRefIdeal.nD Cert.GlaPRefIdeal.τ).loc Cert.GlaPRefIdeal.main_v3) = v2 c
          ∧ r.2.mem ((c.tc : Thread Cert.GlaPRefIdeal.nD Cert.GlaPRefIdeal.τ).loc Cert.GlaPRefIdeal.main_v16) = v3 c
          ∧ r.2.mem ((c.tc : Thread Cert.GlaPRefIdeal.nD Cert.GlaPRefIdeal.τ).loc Cert.GlaPRefIdeal.main_v12) = v4 c
          ∧ r.2.mem ((c.tc : Thread Cert.GlaPRefIdeal.nD Cert.GlaPRefIdeal.τ).loc Cert.GlaPRefIdeal.main_arg0) = m' ((c.tc : Thread Cert.GlaPRefIdeal.nD Cert.GlaPRefIdeal.τ).loc Cert.GlaPRefIdeal.main_arg0)
          ∧ r.2.mem ((c.tc : Thread Cert.GlaPRefIdeal.nD Cert.GlaPRefIdeal.τ).loc Cert.GlaPRefIdeal.main_arg1) = m' ((c.tc : Thread Cert.GlaPRefIdeal.nD Cert.GlaPRefIdeal.τ).loc Cert.GlaPRefIdeal.main_arg1)
          ∧ r.2.mem ((c.tc : Thread Cert.GlaPRefIdeal.nD Cert.GlaPRefIdeal.τ).loc Cert.GlaPRefIdeal.main_arg2) = m' ((c.tc : Thread Cert.GlaPRefIdeal.nD Cert.GlaPRefIdeal.τ).loc Cert.GlaPRefIdeal.main_arg2)
          ∧ r.2.mem ((c.tc : Thread Cert.GlaPRefIdeal.nD Cert.GlaPRefIdeal.τ).loc Cert.GlaPRefIdeal.main_arg3) = m' ((c.tc : Thread Cert.GlaPRefIdeal.nD Cert.GlaPRefIdeal.τ).loc Cert.GlaPRefIdeal.main_arg3))

def Claim : Prop :=
  ∃ (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hOut : Cert.Out.Facts) (hOutIdeal : Cert.OutIdeal.Facts) (hOutRefIdeal : Cert.OutRefIdeal.Facts) (hGated : Cert.Gated.Facts) (hGatedIdeal : Cert.GatedIdeal.Facts) (hGatedRefIdeal : Cert.GatedRefIdeal.Facts) (hQkv : Cert.Qkv.Facts) (hQkvIdeal : Cert.QkvIdeal.Facts) (hQkvRefIdeal : Cert.QkvRefIdeal.Facts) (hConvS : Cert.ConvS.Facts) (hConvSIdeal : Cert.ConvSIdeal.Facts) (hConvSRefIdeal : Cert.ConvSRefIdeal.Facts) (hQkvS : Cert.QkvS.Facts) (hQkvSIdeal : Cert.QkvSIdeal.Facts) (hQkvSRefIdeal : Cert.QkvSRefIdeal.Facts) (hHg : Cert.Hg.Facts) (hHgIdeal : Cert.HgIdeal.Facts) (hHgRefIdeal : Cert.HgRefIdeal.Facts) (hGla : Cert.Gla.Facts) (hGlaIdeal : Cert.GlaIdeal.Facts) (hGlaRefIdeal : Cert.GlaRefIdeal.Facts) (hHgP : Cert.HgP.Facts) (hHgPIdeal : Cert.HgPIdeal.Facts) (hHgPRefIdeal : Cert.HgPRefIdeal.Facts) (hGlaP : Cert.GlaP.Facts) (hGlaPIdeal : Cert.GlaPIdeal.Facts) (hGlaPRefIdeal : Cert.GlaPRefIdeal.Facts) (hPre_finite : Cert.Pre_finite.Facts),
    quiescent_Ffn (hFfn := hFfn)
    ∧ quiescent_FfnIdeal (hFfnIdeal := hFfnIdeal)
    ∧ quiescent_FfnRefIdeal (hFfnRefIdeal := hFfnRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Out (hOut := hOut)
    ∧ quiescent_OutIdeal (hOutIdeal := hOutIdeal)
    ∧ quiescent_OutRefIdeal (hOutRefIdeal := hOutRefIdeal)
    ∧ quiescent_Gated (hGated := hGated)
    ∧ quiescent_GatedIdeal (hGatedIdeal := hGatedIdeal)
    ∧ quiescent_GatedRefIdeal (hGatedRefIdeal := hGatedRefIdeal)
    ∧ quiescent_Qkv (hQkv := hQkv)
    ∧ quiescent_QkvIdeal (hQkvIdeal := hQkvIdeal)
    ∧ quiescent_QkvRefIdeal (hQkvRefIdeal := hQkvRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_QkvS (hQkvS := hQkvS)
    ∧ quiescent_QkvSIdeal (hQkvSIdeal := hQkvSIdeal)
    ∧ quiescent_QkvSRefIdeal (hQkvSRefIdeal := hQkvSRefIdeal)
    ∧ quiescent_Hg (hHg := hHg)
    ∧ quiescent_HgIdeal (hHgIdeal := hHgIdeal)
    ∧ quiescent_HgRefIdeal (hHgRefIdeal := hHgRefIdeal)
    ∧ quiescent_Gla (hGla := hGla)
    ∧ quiescent_GlaIdeal (hGlaIdeal := hGlaIdeal)
    ∧ quiescent_GlaRefIdeal (hGlaRefIdeal := hGlaRefIdeal)
    ∧ quiescent_HgP (hHgP := hHgP)
    ∧ quiescent_HgPIdeal (hHgPIdeal := hHgPIdeal)
    ∧ quiescent_HgPRefIdeal (hHgPRefIdeal := hHgPRefIdeal)
    ∧ quiescent_GlaP (hGlaP := hGlaP)
    ∧ quiescent_GlaPIdeal (hGlaPIdeal := hGlaPIdeal)
    ∧ quiescent_GlaPRefIdeal (hGlaPRefIdeal := hGlaPRefIdeal)
    ∧ preserves_Ffn_FfnIdeal
    ∧ algebraic_FfnIdeal_FfnRefIdeal (hFfnIdeal := hFfnIdeal) (hFfnRefIdeal := hFfnRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Out_OutIdeal
    ∧ algebraic_OutIdeal_OutRefIdeal (hOutIdeal := hOutIdeal) (hOutRefIdeal := hOutRefIdeal)
    ∧ preserves_Gated_GatedIdeal
    ∧ algebraic_GatedIdeal_GatedRefIdeal (hGatedIdeal := hGatedIdeal) (hGatedRefIdeal := hGatedRefIdeal)
    ∧ preserves_Qkv_QkvIdeal
    ∧ algebraic_QkvIdeal_QkvRefIdeal (hQkvIdeal := hQkvIdeal) (hQkvRefIdeal := hQkvRefIdeal)
    ∧ preserves_ConvS_ConvSIdeal
    ∧ algebraic_ConvSIdeal_ConvSRefIdeal (hConvSIdeal := hConvSIdeal) (hConvSRefIdeal := hConvSRefIdeal)
    ∧ preserves_QkvS_QkvSIdeal
    ∧ algebraic_QkvSIdeal_QkvSRefIdeal (hQkvSIdeal := hQkvSIdeal) (hQkvSRefIdeal := hQkvSRefIdeal)
    ∧ preserves_Hg_HgIdeal
    ∧ algebraic_HgIdeal_HgRefIdeal (hHgIdeal := hHgIdeal) (hHgRefIdeal := hHgRefIdeal)
    ∧ preserves_Gla_GlaIdeal
    ∧ algebraic_GlaIdeal_GlaRefIdeal (hGlaIdeal := hGlaIdeal) (hGlaRefIdeal := hGlaRefIdeal)
    ∧ preserves_HgP_HgPIdeal
    ∧ algebraic_HgPIdeal_HgPRefIdeal (hHgPIdeal := hHgPIdeal) (hHgPRefIdeal := hHgPRefIdeal)
    ∧ preserves_GlaP_GlaPIdeal
    ∧ algebraic_GlaPIdeal_GlaPRefIdeal (hGlaPIdeal := hGlaPIdeal) (hGlaPRefIdeal := hGlaPRefIdeal)
-- ==== Pre_finite.lean ====
abbrev S4x4096x1024 : Shape := ⟨3, ![4, 4096, 1024]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S4x4096x1024 : S_.BroadcastsInDim S4x4096x1024 (![] : Fin 0 → Fin S4x4096x1024.rank)
  bcast_S_S64 : S_.BroadcastsInDim S64 (![] : Fin 0 → Fin S64.rank)

variable [Facts]

def fn_part1 {F : FTy → Type} [FloatOps F] (main_arg5 : FVec F S64 .f32) (main_arg6 : FVec F S64 .f32) (main_v13 : IVec S4x4096x1024 1) (main_v16 : IVec S64 1) (main_v17 : FVec F S64 .f32) (main_v18 : FVec F S64 .f32) : IVec S4x4096x1024 1 × IVec S64 1 :=
  let main_v19 : IVec S64 1 := cmpf .olt main_v17 main_v18
  let main_v20 : IVec S64 1 := andi main_v16 main_v19
  let main_v21 : FVec F S64 .f32 := Host.absf main_arg5
  let main_cst_4 : FVec F S_ .f32 := constant S_ .f32 0x7F800000#32
  let main_v22 : FVec F S64 .f32 := broadcastInDim S64 ![] bcast_S_S64 main_cst_4
  let main_v23 : IVec S64 1 := cmpf .olt main_v21 main_v22
  let main_v24 : IVec S64 1 := andi main_v20 main_v23
  let main_v25 : FVec F S64 .f32 := Host.absf main_arg6
  let main_cst_5 : FVec F S_ .f32 := constant S_ .f32 0x7F800000#32
  let main_v26 : FVec F S64 .f32 := broadcastInDim S64 ![] bcast_S_S64 main_cst_5
  let main_v27 : IVec S64 1 := cmpf .olt main_v25 main_v26
  let main_v28 : IVec S64 1 := andi main_v24 main_v27
  (main_v13, main_v28)

def fn {F : FTy → Type} [FloatOps F] (main_arg0 : FVec F S4x4096x1024 .bf16) (main_arg1 : FVec F S4x4096x1024 .bf16) (main_arg2 : FVec F S4x4096x1024 .bf16) (main_arg3 : FVec F S64 .f32) (main_arg4 : FVec F S64 .f32) (main_arg5 : FVec F S64 .f32) (main_arg6 : FVec F S64 .f32) (main_arg7 : FVec F S128 .f32) : IVec S4x4096x1024 1 × IVec S64 1 :=
  let main_v0 : FVec F S4x4096x1024 .f32 := (extf .f32 · bitsLt_bf16_f32) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_v4 : FVec F S4x4096x1024 .f32 := (extf .f32 · bitsLt_bf16_f32) main_arg1
  let main_v5 : FVec F S4x4096x1024 .f32 := Host.absf main_v4
  let main_cst_0 : FVec F S_ .f32 := constant S_ .f32 0x7F800000#32
  let main_v6 : FVec F S4x4096x1024 .f32 := broadcastInDim S4x4096x1024 ![] bcast_S_S4x4096x1024 main_cst_0
  let main_v7 : IVec S4x4096x1024 1 := cmpf .olt main_v5 main_v6
  let main_v8 : IVec S4x4096x1024 1 := andi main_v3 main_v7
  let main_v9 : FVec F S4x4096x1024 .f32 := (extf .f32 · bitsLt_bf16_f32) main_arg2
  let main_v10 : FVec F S4x4096x1024 .f32 := Host.absf main_v9
  let main_cst_1 : FVec F S_ .f32 := constant S_ .f32 0x7F800000#32
  let main_v11 : FVec F S4x4096x1024 .f32 := broadcastInDim S4x4096x1024 ![] bcast_S_S4x4096x1024 main_cst_1
  let main_v12 : IVec S4x4096x1024 1 := cmpf .olt main_v10 main_v11
  let main_v13 : IVec S4x4096x1024 1 := andi main_v8 main_v12
  let main_v14 : FVec F S64 .f32 := Host.absf main_arg3
  let main_cst_2 : FVec F S_ .f32 := constant S_ .f32 0x7F800000#32
  let main_v15 : FVec F S64 .f32 := broadcastInDim S64 ![] bcast_S_S64 main_cst_2
  let main_v16 : IVec S64 1 := cmpf .olt main_v14 main_v15
  let main_v17 : FVec F S64 .f32 := Host.absf main_arg4
  let main_cst_3 : FVec F S_ .f32 := constant S_ .f32 0x7F800000#32
  let main_v18 : FVec F S64 .f32 := broadcastInDim S64 ![] bcast_S_S64 main_cst_3
  fn_part1 (F := F) main_arg5 main_arg6 main_v13 main_v16 main_v17 main_v18
-- ==== Ffn.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S16384x5632 : Shape := ⟨2, ![16384, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S16384x5632, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Attn.lean ====
abbrev S4x4096x1024 : Shape := ⟨3, ![4, 4096, 1024]⟩
abbrev S64 : Shape := ⟨1, ![64]⟩
abbrev S128 : Shape := ⟨1, ![128]⟩
abbrev S1x64 : Shape := ⟨2, ![1, 64]⟩
abbrev S16384x1024 : Shape := ⟨2, ![16384, 1024]⟩
abbrev S1x128 : Shape := ⟨2, ![1, 128]⟩
abbrev S1x512x128 : Shape := ⟨3, ![1, 512, 128]⟩
abbrev S1x4096x128 : Shape := ⟨3, ![1, 4096, 128]⟩
abbrev S1024x128 : Shape := ⟨2, ![1024, 128]⟩
abbrev S1024x1 : Shape := ⟨2, ![1024, 1]⟩
abbrev S512x128 : Shape := ⟨2, ![512, 128]⟩
abbrev S1024x512 : Shape := ⟨2, ![1024, 512]⟩
abbrev S1024 : Shape := ⟨1, ![1024]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S1x128, .f32⟩
  | .hbm, ⟨16, _⟩ => ⟨S4x4096x1024, .bf16⟩
  | .hbm, ⟨17, _⟩ => ⟨S4x4096x1024, .bf16⟩
  | .hbm, ⟨18, _⟩ => ⟨S4x4096x1024, .bf16⟩
  | .hbm, ⟨19, _⟩ => ⟨S4x4096x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x512x128, .bf16⟩
  | .local _ .vmem, ⟨12, _⟩ => ⟨S1x512x128, .bf16⟩
  | .local _ .vmem, ⟨13, _⟩ => ⟨S1024x128, .bf16⟩
  | .local _ .vmem, ⟨14, _⟩ => ⟨S1024x1, .f32⟩
  | .local _ .vmem, ⟨15, _⟩ => ⟨S1024x1, .f32⟩
  | .local _ .vmem, ⟨16, _⟩ => ⟨S1024x128, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 8, 8], ![false, false, false]⟩

@[reducible] def k0_t1_loop (i : grid0.Coords) : Scf.Loop 32 :=
  let c0_i32_15 : BitVec 32 := 0#32
  let arg2 : BitVec 32 := BitVec.ofNat 32 (i 2).val
  let v28 : BitVec 32 := Scalar.subi arg2 c0_i32_15
  let c1_i32 : BitVec 32 := 1#32
  let v30 : BitVec 32 := Scalar.divsi v28 c1_i32
  let v31 : BitVec 32 := Scalar.muli v30 c1_i32
  let v32 : BitVec 32 := Scalar.addi c0_i32_15 v31
  let c1_i32_16 : BitVec 32 := 1#32
  ⟨c0_i32_15, v32, c1_i32_16⟩
def k0_mult1 (i : grid0.Coords) (k0_t1 : Fin (k0_t1_loop i).trips) : BitVec 32 :=
  let c0_i32_15 : BitVec 32 := 0#32
  let c1_i32_16 : BitVec 32 := 1#32
  let arg16 : BitVec 32 := Scf.iv c0_i32_15 c1_i32_16 k0_t1
  let c512_i32_67 : BitVec 32 := 512#32
  let v130 : BitVec 32 := Scalar.muli arg16 c512_i32_67
  v130
def k0_off1 (i : grid0.Coords) (k0_t1 : Fin (k0_t1_loop i).trips) : Fin 3 → Nat :=
  let c0_68 : Index := 0#32
  let c0_i32_15 : BitVec 32 := 0#32
  let c1_i32_16 : BitVec 32 := 1#32
  let arg16 : BitVec 32 := Scf.iv c0_i32_15 c1_i32_16 k0_t1
  let c512_i32_67 : BitVec 32 := 512#32
  let v130 : BitVec 32 := Scalar.muli arg16 c512_i32_67
  let v131 : BitVec 32 := v130
  let v132 : Index := Scalar.indexCast v131
  let c0_69 : Index := 0#32
  ![0, v132.toNat, 0]
@[reducible] def k0_t2_loop (i : grid0.Coords) : Scf.Loop 32 :=
  let c0_i32_15 : BitVec 32 := 0#32
  let arg2 : BitVec 32 := BitVec.ofNat 32 (i 2).val
  let v28 : BitVec 32 := Scalar.subi arg2 c0_i32_15
  let c1_i32 : BitVec 32 := 1#32
  let v30 : BitVec 32 := Scalar.divsi v28 c1_i32
  let v31 : BitVec 32 := Scalar.muli v30 c1_i32
  let v32 : BitVec 32 := Scalar.addi c0_i32_15 v31
  let v29 : BitVec 32 := Scalar.addi c0_i32_15 v28
  let c1_i32_17 : BitVec 32 := 1#32
  ⟨v32, v29, c1_i32_17⟩
def k0_mult2 (i : grid0.Coords) (k0_t2 : Fin (k0_t2_loop i).trips) : BitVec 32 :=
  let c0_i32_15 : BitVec 32 := 0#32
  let arg2 : BitVec 32 := BitVec.ofNat 32 (i 2).val
  let v28 : BitVec 32 := Scalar.subi arg2 c0_i32_15
  let c1_i32 : BitVec 32 := 1#32
  let v30 : BitVec 32 := Scalar.divsi v28 c1_i32
  let v31 : BitVec 32 := Scalar.muli v30 c1_i32
  let v32 : BitVec 32 := Scalar.addi c0_i32_15 v31
  let c1_i32_17 : BitVec 32 := 1#32
  let arg16 : BitVec 32 := Scf.iv v32 c1_i32_17 k0_t2
  let c512_i32_67 : BitVec 32 := 512#32
  let v130 : BitVec 32 := Scalar.muli arg16 c512_i32_67
  v130
def k0_off2 (i : grid0.Coords) (k0_t2 : Fin (k0_t2_loop i).trips) : Fin 3 → Nat :=
  let c0_68 : Index := 0#32
  let c0_i32_15 : BitVec 32 := 0#32
  let arg2 : BitVec 32 := BitVec.ofNat 32 (i 2).val
  let v28 : BitVec 32 := Scalar.subi arg2 c0_i32_15
  let c1_i32 : BitVec 32 := 1#32
  let v30 : BitVec 32 := Scalar.divsi v28 c1_i32
  let v31 : BitVec 32 := Scalar.muli v30 c1_i32
  let v32 : BitVec 32 := Scalar.addi c0_i32_15 v31
  let c1_i32_17 : BitVec 32 := 1#32
  let arg16 : BitVec 32 := Scf.iv v32 c1_i32_17 k0_t2
  let c512_i32_67 : BitVec 32 := 512#32
  let v130 : BitVec 32 := Scalar.muli arg16 c512_i32_67
  let v131 : BitVec 32 := v130
  let v132 : Index := Scalar.indexCast v131
  let c0_69 : Index := 0#32
  ![0, v132.toNat, 0]
def k0_mult3 (i : grid0.Coords) : BitVec 32 :=
  let arg2 : BitVec 32 := BitVec.ofNat 32 (i 2).val
  let c512_i32 : BitVec 32 := 512#32
  let v33 : BitVec 32 := Scalar.muli arg2 c512_i32
  v33
def k0_off3 (i : grid0.Coords) : Fin 3 → Nat :=
  let c0_18 : Index := 0#32
  let arg2 : BitVec 32 := BitVec.ofNat 32 (i 2).val
  let c512_i32 : BitVec 32 := 512#32
  let v33 : BitVec 32 := Scalar.muli arg2 c512_i32
  let v34 : BitVec 32 := v33
  let v35 : Index := Scalar.indexCast v34
  let c0_19 : Index := 0#32
  ![0, v35.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S4x4096x1024 : Shape := ⟨3, ![4, 4096, 1024]⟩
abbrev S64 : Shape := ⟨1, ![64]⟩
abbrev S128 : Shape := ⟨1, ![128]⟩
abbrev S4x4096x16x64 : Shape := ⟨4, ![4, 4096, 16, 64]⟩
abbrev S4x4096x8x128 : Shape := ⟨4, ![4, 4096, 8, 128]⟩
abbrev S_ : Shape := ⟨0, ![]⟩
abbrev S4096 : Shape := ⟨1, ![4096]⟩
abbrev S4x16x4096x4096 : Shape := ⟨4, ![4, 16, 4096, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x8x2x4096x4096 : Shape := ⟨5, ![4, 8, 2, 4096, 4096]⟩
abbrev S4x8x1x4096x4096 : Shape := ⟨5, ![4, 8, 1, 4096, 4096]⟩
abbrev S4x8x4096x4096 : Shape := ⟨4, ![4, 8, 4096, 4096]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4x4096x1024, .f32⟩
  | .hbm, ⟨9, _⟩ => ⟨S4x4096x16x64, .f32⟩
  | .hbm, ⟨10, _⟩ => ⟨S4x4096x1024, .f32⟩
  | .hbm, ⟨11, _⟩ => ⟨S4x4096x16x64, .f32⟩
  | .hbm, ⟨12, _⟩ => ⟨S4x4096x1024, .f32⟩
  | .hbm, ⟨13, _⟩ => ⟨S4x4096x8x128, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .i32⟩
  | .hbm, ⟨26, _⟩ => ⟨S4x16x4096x4096, .f32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S1x1x4096x4096, .i1⟩
  | .hbm, ⟨33, _⟩ => ⟨S_, .f32⟩
  | .hbm, ⟨34, _⟩ => ⟨S_, .f32⟩
  | .hbm, ⟨35, _⟩ => ⟨S4x16x4096x4096, .i1⟩
  | .hbm, ⟨36, _⟩ => ⟨S4x16x4096x4096, .f32⟩
  | .hbm, ⟨37, _⟩ => ⟨S4x16x4096x4096, .f32⟩
  | .hbm, ⟨38, _⟩ => ⟨S_, .f32⟩
  | .hbm, ⟨39, _⟩ => ⟨S4x16x4096, .f32⟩
  | .hbm, ⟨40, _⟩ => ⟨S_, .f32⟩
  | .hbm, ⟨41, _⟩ => ⟨S4x16x4096, .f32⟩
  | .hbm, ⟨42, _⟩ => ⟨S4x16x4096, .f32⟩
  | .hbm, ⟨43, _⟩ => ⟨S4x16x4096x1, .f32⟩
  | .hbm, ⟨44, _⟩ => ⟨S4x16x4096x4096, .f32⟩
  | .hbm, ⟨45, _⟩ => ⟨S4x16x4096x4096, .f32⟩
  | .hbm, ⟨46, _⟩ => ⟨S4x16x4096x4096, .f32⟩
  | .hbm, ⟨47, _⟩ => ⟨S_, .f32⟩
  | .hbm, ⟨48, _⟩ => ⟨S4x16x4096, .f32⟩
  | .hbm, ⟨49, _⟩ => ⟨S4x16x4096x1, .f32⟩
  | .hbm, ⟨50, _⟩ => ⟨S4x16x4096x4096, .f32⟩
  | .hbm, ⟨51, _⟩ => ⟨S4x16x4096x4096, .f32⟩
  | .hbm, ⟨52, _⟩ => ⟨S4x8x2x4096x4096, .f32⟩
  | .hbm, ⟨53, _⟩ => ⟨S4x8x1x4096x4096, .f32⟩
  | .hbm, ⟨54, _⟩ => ⟨S4x8x4096x4096, .f32⟩
  | .hbm, ⟨55, _⟩ => ⟨S4x8x1x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x128x4096, .f32⟩
  | .hbm, ⟨61, _⟩ => ⟨S4x4096x8x128, .f32⟩
  | .hbm, ⟨62, _⟩ => ⟨S4x4096x8x128, .f32⟩
  | .hbm, ⟨63, _⟩ => ⟨S_, .f32⟩
  | .hbm, ⟨64, _⟩ => ⟨S4x4096x8, .f32⟩
  | .hbm, ⟨65, _⟩ => ⟨S4x4096x8x1, .f32⟩
  | .hbm, ⟨66, _⟩ => ⟨S_, .f32⟩
  | .hbm, ⟨67, _⟩ => ⟨S4x4096x8x1, .f32⟩
  | .hbm, ⟨68, _⟩ => ⟨S4x4096x8x1, .f32⟩
  | .hbm, ⟨69, _⟩ => ⟨S_, .f32⟩
  | .hbm, ⟨70, _⟩ => ⟨S4x4096x8x1, .f32⟩
  | .hbm, ⟨71, _⟩ => ⟨S4x4096x8x1, .f32⟩
  | .hbm, ⟨72, _⟩ => ⟨S4x4096x8x1, .f32⟩
  | .hbm, ⟨73, _⟩ => ⟨S4x4096x8x128, .f32⟩
  | .hbm, ⟨74, _⟩ => ⟨S4x4096x8x128, .f32⟩
  | .hbm, ⟨75, _⟩ => ⟨S1x1x1x128, .f32⟩
  | .hbm, ⟨76, _⟩ => ⟨S4x4096x8x128, .f32⟩
  | .hbm, ⟨77, _⟩ => ⟨S4x4096x8x128, .f32⟩
  | .hbm, ⟨78, _⟩ => ⟨S_, .f32⟩
  | .hbm, ⟨79, _⟩ => ⟨S4x4096x8x128, .f32⟩
  | .hbm, ⟨80, _⟩ => ⟨S4x4096x8x128, .f32⟩
  | .hbm, ⟨81, _⟩ => ⟨S4x4096x1024, .f32⟩
  | .hbm, ⟨82, _⟩ => ⟨S4x4096x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Gated.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatedRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Qkv.lean ====
abbrev S16384x1024 : Shape := ⟨2, ![16384, 1024]⟩
abbrev S1024x3072 : Shape := ⟨2, ![1024, 3072]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S512x1024 : Shape := ⟨2, ![512, 1024]⟩
abbrev S512x128 : Shape := ⟨2, ![512, 128]⟩
abbrev S1024x1024 : Shape := ⟨2, ![1024, 1024]⟩
abbrev S1024x128 : Shape := ⟨2, ![1024, 128]⟩

abbrev nBuf : Space → Nat
  | .hbm => 52
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S4096, .i32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4096, .f32⟩
  | .hbm, ⟨20, _⟩ => ⟨S4096x1, .f32⟩
  | .hbm, ⟨21, _⟩ => ⟨S1x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S4096x48, .f32⟩
  | .hbm, ⟨29, _⟩ => ⟨S_, .f32⟩
  | .hbm, ⟨30, _⟩ => ⟨S4096x8, .f32⟩
  | .hbm, ⟨31, _⟩ => ⟨S_, .f32⟩
  | .hbm, ⟨32, _⟩ => ⟨S4096x48, .f32⟩
  | .hbm, ⟨33, _⟩ => ⟨S4096x64, .f32⟩
  | .hbm, ⟨34, _⟩ => ⟨S4096x8, .f32⟩
  | .hbm, ⟨35, _⟩ => ⟨S4096x64, .f32⟩
  | .hbm, ⟨36, _⟩ => ⟨S4096x64, .f32⟩
  | .hbm, ⟨37, _⟩ => ⟨S1x4096x1x64, .f32⟩
  | .hbm, ⟨38, _⟩ => ⟨S1x4096x2x64, .f32⟩
  | .hbm, ⟨39, _⟩ => ⟨S4096x128, .f32⟩
  | .hbm, ⟨40, _⟩ => ⟨S1x4096x1x64, .f32⟩
  | .hbm, ⟨41, _⟩ => ⟨S1x4096x2x64, .f32⟩
  | .hbm, ⟨42, _⟩ => ⟨S4096x128, .f32⟩
  | .hbm, ⟨43, _⟩ => ⟨S1x4096x1x64, .f32⟩
  | .hbm, ⟨44, _⟩ => ⟨S1x4096x2x64, .f32⟩
  | .hbm, ⟨45, _⟩ => ⟨S4096x128, .f32⟩
  | .hbm, ⟨46, _⟩ => ⟨S1024x3072, .bf16⟩
  | .hbm, ⟨47, _⟩ => ⟨S16384x1024, .f32⟩
  | .hbm, ⟨48, _⟩ => ⟨S16384x1024, .f32⟩
  | .hbm, ⟨49, _⟩ => ⟨S16384x1024, .bf16⟩
  | .hbm, ⟨50, _⟩ => ⟨S16384x1024, .bf16⟩
  | .hbm, ⟨51, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37_0 : Ref sig .tc := ⟨.hbm, 47, rfl⟩
abbrev main_v37_1 : Ref sig .tc := ⟨.hbm, 48, rfl⟩
abbrev main_v37_2 : Ref sig .tc := ⟨.hbm, 49, rfl⟩
abbrev main_v37_3 : Ref sig .tc := ⟨.hbm, 50, rfl⟩
abbrev main_v37_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvRefIdeal.lean ====
abbrev S16384x1024 : Shape := ⟨2, ![16384, 1024]⟩
abbrev S1024x3072 : Shape := ⟨2, ![1024, 3072]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S16384x3072 : Shape := ⟨2, ![16384, 3072]⟩
abbrev S4x4096x16x64 : Shape := ⟨4, ![4, 4096, 16, 64]⟩
abbrev S4x4096x16x8 : Shape := ⟨4, ![4, 4096, 16, 8]⟩
abbrev S4x4096x16x48 : Shape := ⟨4, ![4, 4096, 16, 48]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S4096, .i32⟩
  | .hbm, ⟨19, _⟩ => ⟨S4096, .f32⟩
  | .hbm, ⟨20, _⟩ => ⟨S4096x1, .f32⟩
  | .hbm, ⟨21, _⟩ => ⟨S1x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S1x4096x1x8, .f32⟩
  | .hbm, ⟨27, _⟩ => ⟨S4096x8, .f32⟩
  | .hbm, ⟨28, _⟩ => ⟨S1x4096x1x8, .f32⟩
  | .hbm, ⟨29, _⟩ => ⟨S16384x3072, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S4x4096x16x64, .f32⟩
  | .hbm, ⟨34, _⟩ => ⟨S4x4096x16x8, .f32⟩
  | .hbm, ⟨35, _⟩ => ⟨S4x4096x16x8, .f32⟩
  | .hbm, ⟨36, _⟩ => ⟨S4x4096x16x8, .f32⟩
  | .hbm, ⟨37, _⟩ => ⟨S4x4096x16x8, .f32⟩
  | .hbm, ⟨38, _⟩ => ⟨S4x4096x16x8, .f32⟩
  | .hbm, ⟨39, _⟩ => ⟨S4x4096x16x8, .f32⟩
  | .hbm, ⟨40, _⟩ => ⟨S4x4096x16x8, .f32⟩
  | .hbm, ⟨41, _⟩ => ⟨S4x4096x16x8, .f32⟩
  | .hbm, ⟨42, _⟩ => ⟨S4x4096x16x8, .f32⟩
  | .hbm, ⟨43, _⟩ => ⟨S4x4096x16x8, .f32⟩
  | .hbm, ⟨44, _⟩ => ⟨S4x4096x16x8, .f32⟩
  | .hbm, ⟨45, _⟩ => ⟨S4x4096x16x8, .f32⟩
  | .hbm, ⟨46, _⟩ => ⟨S4x4096x16x48, .f32⟩
  | .hbm, ⟨47, _⟩ => ⟨S4x4096x16x64, .f32⟩
  | .hbm, ⟨48, _⟩ => ⟨S16384x1024, .f32⟩
  | .hbm, ⟨49, _⟩ => ⟨S4x4096x16x64, .f32⟩
  | .hbm, ⟨50, _⟩ => ⟨S4x4096x16x8, .f32⟩
  | .hbm, ⟨51, _⟩ => ⟨S4x4096x16x8, .f32⟩
  | .hbm, ⟨52, _⟩ => ⟨S4x4096x16x8, .f32⟩
  | .hbm, ⟨53, _⟩ => ⟨S4x4096x16x8, .f32⟩
  | .hbm, ⟨54, _⟩ => ⟨S4x4096x16x8, .f32⟩
  | .hbm, ⟨55, _⟩ => ⟨S4x4096x16x8, .f32⟩
  | .hbm, ⟨56, _⟩ => ⟨S4x4096x16x8, .f32⟩
  | .hbm, ⟨57, _⟩ => ⟨S4x4096x16x8, .f32⟩
  | .hbm, ⟨58, _⟩ => ⟨S4x4096x16x8, .f32⟩
  | .hbm, ⟨59, _⟩ => ⟨S4x4096x16x8, .f32⟩
  | .hbm, ⟨60, _⟩ => ⟨S4x4096x16x8, .f32⟩
  | .hbm, ⟨61, _⟩ => ⟨S4x4096x16x8, .f32⟩
  | .hbm, ⟨62, _⟩ => ⟨S4x4096x16x48, .f32⟩
  | .hbm, ⟨63, _⟩ => ⟨S4x4096x16x64, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x1024, .bf16⟩
  | .hbm, ⟨69, _⟩ => ⟨S16384x1024, .bf16⟩
  | .hbm, ⟨70, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_cst_4 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩

abbrev nD : Nat := 1
abbrev τ : Topo := Topo.v7x

variable {F : FTy → Type} [FloatOps F]
-- ==== ConvS.lean ====
abbrev S32x1024 : Shape := ⟨2, ![32, 1024]⟩
abbrev S32x2x1024 : Shape := ⟨3, ![32, 2, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S32x1x1024 : Shape := ⟨3, ![32, 1, 1024]⟩
abbrev S1x1024 : Shape := ⟨2, ![1, 1024]⟩
abbrev S32 : Shape := ⟨1, ![32]⟩
abbrev S32x1 : Shape := ⟨2, ![32, 1]⟩

abbrev nBuf : Space → Nat
  | .hbm => 17
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S32x2x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1024, .f32⟩
  | .hbm, ⟨11, _⟩ => ⟨S1024x3072, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S32x1024, .f32⟩
  | .hbm, ⟨16, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S32x1024, .f32⟩
  | .local _ .vmem, ⟨9, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvSRefIdeal.lean ====
abbrev S32x1024 : Shape := ⟨2, ![32, 1024]⟩
abbrev S32x2x1024 : Shape := ⟨3, ![32, 2, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S32x3072 : Shape := ⟨2, ![32, 3072]⟩
abbrev S32x1x1024 : Shape := ⟨3, ![32, 1, 1024]⟩
abbrev S32x3x1024 : Shape := ⟨3, ![32, 3, 1024]⟩
abbrev S1x1024 : Shape := ⟨2, ![1, 1024]⟩
abbrev S_ : Shape := ⟨0, ![]⟩
abbrev S32 : Shape := ⟨1, ![32]⟩
abbrev S32x1 : Shape := ⟨2, ![32, 1]⟩

abbrev nBuf : Space → Nat
  | .hbm => 75
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x2x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S32x3072, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1x1024, .f32⟩
  | .hbm, ⟨13, _⟩ => ⟨S32x3x1024, .f32⟩
  | .hbm, ⟨14, _⟩ => ⟨S1x1024, .f32⟩
  | .hbm, ⟨15, _⟩ => ⟨S1024, .f32⟩
  | .hbm, ⟨16, _⟩ => ⟨S32x1x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S_, .f32⟩
  | .hbm, ⟨22, _⟩ => ⟨S32x1024, .f32⟩
  | .hbm, ⟨23, _⟩ => ⟨S32x1024, .f32⟩
  | .hbm, ⟨24, _⟩ => ⟨S1x1024, .f32⟩
  | .hbm, ⟨25, _⟩ => ⟨S1024, .f32⟩
  | .hbm, ⟨26, _⟩ => ⟨S32x1x1024, .f32⟩
  | .hbm, ⟨27, _⟩ => ⟨S32x1024, .f32⟩
  | .hbm, ⟨28, _⟩ => ⟨S1x1024, .f32⟩
  | .hbm, ⟨29, _⟩ => ⟨S32x1024, .f32⟩
  | .hbm, ⟨30, _⟩ => ⟨S32x1024, .f32⟩
  | .hbm, ⟨31, _⟩ => ⟨S32x1024, .f32⟩
  | .hbm, ⟨32, _⟩ => ⟨S1x1024, .f32⟩
  | .hbm, ⟨33, _⟩ => ⟨S1024, .f32⟩
  | .hbm, ⟨34, _⟩ => ⟨S32x1x1024, .f32⟩
  | .hbm, ⟨35, _⟩ => ⟨S32x1024, .f32⟩
  | .hbm, ⟨36, _⟩ => ⟨S1x1024, .f32⟩
  | .hbm, ⟨37, _⟩ => ⟨S32x1024, .f32⟩
  | .hbm, ⟨38, _⟩ => ⟨S32x1024, .f32⟩
  | .hbm, ⟨39, _⟩ => ⟨S32x1024, .f32⟩
  | .hbm, ⟨40, _⟩ => ⟨S_, .f32⟩
  | .hbm, ⟨41, _⟩ => ⟨S32x1024, .f32⟩
  | .hbm, ⟨42, _⟩ => ⟨S32x1024, .f32⟩
  | .hbm, ⟨43, _⟩ => ⟨S32x1024, .f32⟩
  | .hbm, ⟨44, _⟩ => ⟨S32x1024, .f32⟩
  | .hbm, ⟨45, _⟩ => ⟨S32x1024, .f32⟩
  | .hbm, ⟨46, _⟩ => ⟨S_, .f32⟩
  | .hbm, ⟨47, _⟩ => ⟨S32, .f32⟩
  | .hbm, ⟨48, _⟩ => ⟨S32x1, .f32⟩
  | .hbm, ⟨49, _⟩ => ⟨S_, .f32⟩
  | .hbm, ⟨50, _⟩ => ⟨S32x1, .f32⟩
  | .hbm, ⟨51, _⟩ => ⟨S32x1, .f32⟩
  | .hbm, ⟨52, _⟩ => ⟨S32x1024, .f32⟩
  | .hbm, ⟨53, _⟩ => ⟨S32x1024, .f32⟩
  | .hbm, ⟨54, _⟩ => ⟨S32x1024, .f32⟩
  | .hbm, ⟨55, _⟩ => ⟨S_, .f32⟩
  | .hbm, ⟨56, _⟩ => ⟨S32, .f32⟩
  | .hbm, ⟨57, _⟩ => ⟨S32x1, .f32⟩
  | .hbm, ⟨58, _⟩ => ⟨S_, .f32⟩
  | .hbm, ⟨59, _⟩ => ⟨S32x1, .f32⟩
  | .hbm, ⟨60, _⟩ => ⟨S32x1, .f32⟩
  | .hbm, ⟨61, _⟩ => ⟨S32x1024, .f32⟩
  | .hbm, ⟨62, _⟩ => ⟨S32x1024, .f32⟩
  | .hbm, ⟨63, _⟩ => ⟨S_, .f32⟩
  | .hbm, ⟨64, _⟩ => ⟨S32x1, .f32⟩
  | .hbm, ⟨65, _⟩ => ⟨S32x1, .f32⟩
  | .hbm, ⟨66, _⟩ => ⟨S32x1, .f32⟩
  | .hbm, ⟨67, _⟩ => ⟨S32x1024, .f32⟩
  | .hbm, ⟨68, _⟩ => ⟨S32x1024, .f32⟩
  | .hbm, ⟨69, _⟩ => ⟨S1x1024, .f32⟩
  | .hbm, ⟨70, _⟩ => ⟨S32x1024, .f32⟩
  | .hbm, ⟨71, _⟩ => ⟨S32x1024, .f32⟩
  | .hbm, ⟨72, _⟩ => ⟨S1x1024, .f32⟩
  | .hbm, ⟨73, _⟩ => ⟨S32x1024, .f32⟩
  | .hbm, ⟨74, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== QkvS.lean ====
abbrev S32x1024 : Shape := ⟨2, ![32, 1024]⟩
abbrev S1024x3072 : Shape := ⟨2, ![1024, 3072]⟩
abbrev S1 : Shape := ⟨1, ![1]⟩
abbrev S_ : Shape := ⟨0, ![]⟩
abbrev S8 : Shape := ⟨1, ![8]⟩
abbrev S1x1 : Shape := ⟨2, ![1, 1]⟩
abbrev S1x8 : Shape := ⟨2, ![1, 8]⟩
abbrev S1x48 : Shape := ⟨2, ![1, 48]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1024x1024 : Shape := ⟨2, ![1024, 1024]⟩
abbrev S1024x128 : Shape := ⟨2, ![1024, 128]⟩
abbrev S32x128 : Shape := ⟨2, ![32, 128]⟩

abbrev nBuf : Space → Nat
  | .hbm => 52
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S1024x3072, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i32⟩
  | .hbm, ⟨6, _⟩ => ⟨S1024x3072, .bf16⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S1, .f32⟩
  | .hbm, ⟨24, _⟩ => ⟨S1x1, .f32⟩
  | .hbm, ⟨25, _⟩ => ⟨S1x8, .f32⟩
  | .hbm, ⟨26, _⟩ => ⟨S1x8, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x48, .f32⟩
  | .hbm, ⟨32, _⟩ => ⟨S_, .f32⟩
  | .hbm, ⟨33, _⟩ => ⟨S1x8, .f32⟩
  | .hbm, ⟨34, _⟩ => ⟨S_, .f32⟩
  | .hbm, ⟨35, _⟩ => ⟨S1x48, .f32⟩
  | .hbm, ⟨36, _⟩ => ⟨S1x64, .f32⟩
  | .hbm, ⟨37, _⟩ => ⟨S1x8, .f32⟩
  | .hbm, ⟨38, _⟩ => ⟨S1x64, .f32⟩
  | .hbm, ⟨39, _⟩ => ⟨S1x64, .f32⟩
  | .hbm, ⟨40, _⟩ => ⟨S1x1x1x64, .f32⟩
  | .hbm, ⟨41, _⟩ => ⟨S1x1x2x64, .f32⟩
  | .hbm, ⟨42, _⟩ => ⟨S1x128, .f32⟩
  | .hbm, ⟨43, _⟩ => ⟨S1x1x1x64, .f32⟩
  | .hbm, ⟨44, _⟩ => ⟨S1x1x2x64, .f32⟩
  | .hbm, ⟨45, _⟩ => ⟨S1x128, .f32⟩
  | .hbm, ⟨46, _⟩ => ⟨S1x1x1x64, .f32⟩
  | .hbm, ⟨47, _⟩ => ⟨S1x1x2x64, .f32⟩
  | .hbm, ⟨48, _⟩ => ⟨S1x128, .f32⟩
  | .hbm, ⟨49, _⟩ => ⟨S32x1024, .f32⟩
  | .hbm, ⟨50, _⟩ => ⟨S32x1024, .f32⟩
  | .hbm, ⟨51, _⟩ => ⟨S32x1024, .f32⟩
  | .local _ .vmem, ⟨0, _⟩ => ⟨S32x1024, .f32⟩
  | .local _ .vmem, ⟨1, _⟩ => ⟨S1024x3072, .bf16⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QkvSRefIdeal.lean ====
abbrev S32x1024 : Shape := ⟨2, ![32, 1024]⟩
abbrev S1024x3072 : Shape := ⟨2, ![1024, 3072]⟩
abbrev S1 : Shape := ⟨1, ![1]⟩
abbrev S_ : Shape := ⟨0, ![]⟩
abbrev S8 : Shape := ⟨1, ![8]⟩
abbrev S1x1 : Shape := ⟨2, ![1, 1]⟩
abbrev S1x8 : Shape := ⟨2, ![1, 8]⟩
abbrev S1x1x1x8 : Shape := ⟨4, ![1, 1, 1, 8]⟩
abbrev S32x3072 : Shape := ⟨2, ![32, 3072]⟩
abbrev S32x1x16x64 : Shape := ⟨4, ![32, 1, 16, 64]⟩
abbrev S32x1x16x8 : Shape := ⟨4, ![32, 1, 16, 8]⟩
abbrev S32x1x16x48 : Shape := ⟨4, ![32, 1, 16, 48]⟩

abbrev nBuf : Space → Nat
  | .hbm => 70
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x3072, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S1, .f32⟩
  | .hbm, ⟨23, _⟩ => ⟨S1x1, .f32⟩
  | .hbm, ⟨24, _⟩ => ⟨S1x8, .f32⟩
  | .hbm, ⟨25, _⟩ => ⟨S1x8, .f32⟩
  | .hbm, ⟨26, _⟩ => ⟨S1x8, .f32⟩
  | .hbm, ⟨27, _⟩ => ⟨S1x8, .f32⟩
  | .hbm, ⟨28, _⟩ => ⟨S1x1x1x8, .f32⟩
  | .hbm, ⟨29, _⟩ => ⟨S1x8, .f32⟩
  | .hbm, ⟨30, _⟩ => ⟨S1x1x1x8, .f32⟩
  | .hbm, ⟨31, _⟩ => ⟨S32x3072, .f32⟩
  | .hbm, ⟨32, _⟩ => ⟨S32x1024, .f32⟩
  | .hbm, ⟨33, _⟩ => ⟨S32x1024, .f32⟩
  | .hbm, ⟨34, _⟩ => ⟨S32x1024, .f32⟩
  | .hbm, ⟨35, _⟩ => ⟨S32x1x16x64, .f32⟩
  | .hbm, ⟨36, _⟩ => ⟨S32x1x16x8, .f32⟩
  | .hbm, ⟨37, _⟩ => ⟨S32x1x16x8, .f32⟩
  | .hbm, ⟨38, _⟩ => ⟨S32x1x16x8, .f32⟩
  | .hbm, ⟨39, _⟩ => ⟨S32x1x16x8, .f32⟩
  | .hbm, ⟨40, _⟩ => ⟨S32x1x16x8, .f32⟩
  | .hbm, ⟨41, _⟩ => ⟨S32x1x16x8, .f32⟩
  | .hbm, ⟨42, _⟩ => ⟨S32x1x16x8, .f32⟩
  | .hbm, ⟨43, _⟩ => ⟨S32x1x16x8, .f32⟩
  | .hbm, ⟨44, _⟩ => ⟨S32x1x16x8, .f32⟩
  | .hbm, ⟨45, _⟩ => ⟨S32x1x16x8, .f32⟩
  | .hbm, ⟨46, _⟩ => ⟨S32x1x16x8, .f32⟩
  | .hbm, ⟨47, _⟩ => ⟨S32x1x16x8, .f32⟩
  | .hbm, ⟨48, _⟩ => ⟨S32x1x16x48, .f32⟩
  | .hbm, ⟨49, _⟩ => ⟨S32x1x16x64, .f32⟩
  | .hbm, ⟨50, _⟩ => ⟨S32x1024, .f32⟩
  | .hbm, ⟨51, _⟩ => ⟨S32x1x16x64, .f32⟩
  | .hbm, ⟨52, _⟩ => ⟨S32x1x16x8, .f32⟩
  | .hbm, ⟨53, _⟩ => ⟨S32x1x16x8, .f32⟩
  | .hbm, ⟨54, _⟩ => ⟨S32x1x16x8, .f32⟩
  | .hbm, ⟨55, _⟩ => ⟨S32x1x16x8, .f32⟩
  | .hbm, ⟨56, _⟩ => ⟨S32x1x16x8, .f32⟩
  | .hbm, ⟨57, _⟩ => ⟨S32x1x16x8, .f32⟩
  | .hbm, ⟨58, _⟩ => ⟨S32x1x16x8, .f32⟩
  | .hbm, ⟨59, _⟩ => ⟨S32x1x16x8, .f32⟩
  | .hbm, ⟨60, _⟩ => ⟨S32x1x16x8, .f32⟩
  | .hbm, ⟨61, _⟩ => ⟨S32x1x16x8, .f32⟩
  | .hbm, ⟨62, _⟩ => ⟨S32x1x16x8, .f32⟩
  | .hbm, ⟨63, _⟩ => ⟨S32x1x16x8, .f32⟩
  | .hbm, ⟨64, _⟩ => ⟨S32x1x16x48, .f32⟩
  | .hbm, ⟨65, _⟩ => ⟨S32x1x16x64, .f32⟩
  | .hbm, ⟨66, _⟩ => ⟨S32x1024, .f32⟩
  | .hbm, ⟨67, _⟩ => ⟨S_, .f32⟩
  | .hbm, ⟨68, _⟩ => ⟨S32x1024, .f32⟩
  | .hbm, ⟨69, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_4 : Ref sig .tc := ⟨.hbm, 67, rfl⟩
abbrev main_v59 : Ref sig .tc := ⟨.hbm, 68, rfl⟩
abbrev main_v60 : Ref sig .tc := ⟨.hbm, 69, rfl⟩

abbrev nD : Nat := 1
abbrev τ : Topo := Topo.v7x

variable {F : FTy → Type} [FloatOps F]
-- ==== Hg.lean ====
abbrev S32x1024 : Shape := ⟨2, ![32, 1024]⟩
abbrev S32x8x128x128 : Shape := ⟨4, ![32, 8, 128, 128]⟩
abbrev S128 : Shape := ⟨1, ![128]⟩
abbrev S1x128 : Shape := ⟨2, ![1, 128]⟩
abbrev S32x1x1024 : Shape := ⟨3, ![32, 1, 1024]⟩
abbrev S1x1x1024 : Shape := ⟨3, ![1, 1, 1024]⟩
abbrev S1x8x128x128 : Shape := ⟨4, ![1, 8, 128, 128]⟩
abbrev S128x128 : Shape := ⟨2, ![128, 128]⟩
abbrev S1x1x128 : Shape := ⟨3, ![1, 1, 128]⟩
abbrev S128x1 : Shape := ⟨2, ![128, 1]⟩
abbrev S1x1x128x128 : Shape := ⟨4, ![1, 1, 128, 128]⟩
abbrev S1 : Shape := ⟨1, ![1]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x8x128x128, .f32⟩
  | .hbm, ⟨5, _⟩ => ⟨S128, .f32⟩
  | .hbm, ⟨6, _⟩ => ⟨S1x128, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .bf16⟩
  | .hbm, ⟨12, _⟩ => ⟨S32x8x128x128, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x8x128x128, .f32⟩
  | .local _ .vmem, ⟨9, _⟩ => ⟨S1x8x128x128, .f32⟩
  | .local _ .vmem, ⟨10, _⟩ => ⟨S1x128, .f32⟩
  | .local _ .vmem, ⟨11, _⟩ => ⟨S1x1x1024, .bf16⟩
  | .local _ .vmem, ⟨12, _⟩ => ⟨S1x1x1024, .bf16⟩
  | .local _ .vmem, ⟨13, _⟩ => ⟨S1x8x128x128, .f32⟩
  | .local _ .vmem, ⟨14, _⟩ => ⟨S1x8x128x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HgRefIdeal.lean ====
abbrev S32x1024 : Shape := ⟨2, ![32, 1024]⟩
abbrev S32x8x128x128 : Shape := ⟨4, ![32, 8, 128, 128]⟩
abbrev S128 : Shape := ⟨1, ![128]⟩
abbrev S32x8x128 : Shape := ⟨3, ![32, 8, 128]⟩
abbrev S32x8x128x1 : Shape := ⟨4, ![32, 8, 128, 1]⟩
abbrev S32x8x1x128 : Shape := ⟨4, ![32, 8, 1, 128]⟩
abbrev S_ : Shape := ⟨0, ![]⟩
abbrev S32x8 : Shape := ⟨2, ![32, 8]⟩
abbrev S32x8x1 : Shape := ⟨3, ![32, 8, 1]⟩
abbrev S1x1x128 : Shape := ⟨3, ![1, 1, 128]⟩
abbrev S32x1x1024 : Shape := ⟨3, ![32, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x8x128x128, .f32⟩
  | .hbm, ⟨5, _⟩ => ⟨S128, .f32⟩
  | .hbm, ⟨6, _⟩ => ⟨S32x8x128, .f32⟩
  | .hbm, ⟨7, _⟩ => ⟨S32x8x128, .f32⟩
  | .hbm, ⟨8, _⟩ => ⟨S32x8x128, .f32⟩
  | .hbm, ⟨9, _⟩ => ⟨S32x8x128, .f32⟩
  | .hbm, ⟨10, _⟩ => ⟨S32x8x128, .f32⟩
  | .hbm, ⟨11, _⟩ => ⟨S32x8x128x1, .f32⟩
  | .hbm, ⟨12, _⟩ => ⟨S32x8x128x128, .f32⟩
  | .hbm, ⟨13, _⟩ => ⟨S32x8x128x128, .f32⟩
  | .hbm, ⟨14, _⟩ => ⟨S32x8x128x1, .f32⟩
  | .hbm, ⟨15, _⟩ => ⟨S32x8x1x128, .f32⟩
  | .hbm, ⟨16, _⟩ => ⟨S32x8x128x128, .f32⟩
  | .hbm, ⟨17, _⟩ => ⟨S32x8x128x128, .f32⟩
  | .hbm, ⟨18, _⟩ => ⟨S32x8x128x128, .f32⟩
  | .hbm, ⟨19, _⟩ => ⟨S32x8x128x128, .f32⟩
  | .hbm, ⟨20, _⟩ => ⟨S32x8x128, .f32⟩
  | .hbm, ⟨21, _⟩ => ⟨S32x8x128, .f32⟩
  | .hbm, ⟨22, _⟩ => ⟨S_, .f32⟩
  | .hbm, ⟨23, _⟩ => ⟨S32x8, .f32⟩
  | .hbm, ⟨24, _⟩ => ⟨S32x8x1, .f32⟩
  | .hbm, ⟨25, _⟩ => ⟨S_, .f32⟩
  | .hbm, ⟨26, _⟩ => ⟨S32x8x1, .f32⟩
  | .hbm, ⟨27, _⟩ => ⟨S32x8x1, .f32⟩
  | .hbm, ⟨28, _⟩ => ⟨S_, .f32⟩
  | .hbm, ⟨29, _⟩ => ⟨S32x8x1, .f32⟩
  | .hbm, ⟨30, _⟩ => ⟨S32x8x1, .f32⟩
  | .hbm, ⟨31, _⟩ => ⟨S32x8x1, .f32⟩
  | .hbm, ⟨32, _⟩ => ⟨S32x8x128, .f32⟩
  | .hbm, ⟨33, _⟩ => ⟨S32x8x128, .f32⟩
  | .hbm, ⟨34, _⟩ => ⟨S1x1x128, .f32⟩
  | .hbm, ⟨35, _⟩ => ⟨S32x8x128, .f32⟩
  | .hbm, ⟨36, _⟩ => ⟨S32x8x128, .f32⟩
  | .hbm, ⟨37, _⟩ => ⟨S32x1x1024, .f32⟩
  | .hbm, ⟨38, _⟩ => ⟨S32x1x1024, .bf16⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Gla.lean ====
abbrev S32x512 : Shape := ⟨2, ![32, 512]⟩
abbrev S32x1024 : Shape := ⟨2, ![32, 1024]⟩
abbrev S32x4x128x256 : Shape := ⟨4, ![32, 4, 128, 256]⟩
abbrev S256 : Shape := ⟨1, ![256]⟩
abbrev S1x256 : Shape := ⟨2, ![1, 256]⟩
abbrev S32x1x512 : Shape := ⟨3, ![32, 1, 512]⟩
abbrev S32x1x1024 : Shape := ⟨3, ![32, 1, 1024]⟩
abbrev S1x1x512 : Shape := ⟨3, ![1, 1, 512]⟩
abbrev S1x1x1024 : Shape := ⟨3, ![1, 1, 1024]⟩
abbrev S1x4x128x256 : Shape := ⟨4, ![1, 4, 128, 256]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩
abbrev S1x1x128x256 : Shape := ⟨4, ![1, 1, 128, 256]⟩
abbrev S128x256 : Shape := ⟨2, ![128, 256]⟩
abbrev S1x1x256 : Shape := ⟨3, ![1, 1, 256]⟩
abbrev S1 : Shape := ⟨1, ![1]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x1024, .f32⟩
  | .hbm, ⟨3, _⟩ => ⟨S32x512, .f32⟩
  | .hbm, ⟨4, _⟩ => ⟨S32x4x128x256, .f32⟩
  | .hbm, ⟨5, _⟩ => ⟨S256, .f32⟩
  | .hbm, ⟨6, _⟩ => ⟨S1x256, .f32⟩
  | .hbm, ⟨7, _⟩ => ⟨S32x1x512, .f32⟩
  | .hbm, ⟨8, _⟩ => ⟨S32x1x512, .f32⟩
  | .hbm, ⟨9, _⟩ => ⟨S32x1x1024, .f32⟩
  | .hbm, ⟨10, _⟩ => ⟨S32x1x512, .f32⟩
  | .hbm, ⟨11, _⟩ => ⟨S32x1x1024, .bf16⟩
  | .hbm, ⟨12, _⟩ => ⟨S32x4x128x256, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x1024, .f32⟩
  | .local _ .vmem, ⟨5, _⟩ => ⟨S1x1x1024, .f32⟩
  | .local _ .vmem, ⟨6, _⟩ => ⟨S1x1x512, .f32⟩
  | .local _ .vmem, ⟨7, _⟩ => ⟨S1x1x512, .f32⟩
  | .local _ .vmem, ⟨8, _⟩ => ⟨S1x4x128x256, .f32⟩
  | .local _ .vmem, ⟨9, _⟩ => ⟨S1x4x128x256, .f32⟩
  | .local _ .vmem, ⟨10, _⟩ => ⟨S1x256, .f32⟩
  | .local _ .vmem, ⟨11, _⟩ => ⟨S1x1x1024, .bf16⟩
  | .local _ .vmem, ⟨12, _⟩ => ⟨S1x1x1024, .bf16⟩
  | .local _ .vmem, ⟨13, _⟩ => ⟨S1x4x128x256, .f32⟩
  | .local _ .vmem, ⟨14, _⟩ => ⟨S1x4x128x256, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GlaRefIdeal.lean ====
abbrev S32x512 : Shape := ⟨2, ![32, 512]⟩
abbrev S32x1024 : Shape := ⟨2, ![32, 1024]⟩
abbrev S32x4x128x256 : Shape := ⟨4, ![32, 4, 128, 256]⟩
abbrev S256 : Shape := ⟨1, ![256]⟩
abbrev S32x4x128 : Shape := ⟨3, ![32, 4, 128]⟩
abbrev S32x4x256 : Shape := ⟨3, ![32, 4, 256]⟩
abbrev S32x4x128x1 : Shape := ⟨4, ![32, 4, 128, 1]⟩
abbrev S32x4x1x256 : Shape := ⟨4, ![32, 4, 1, 256]⟩
abbrev S_ : Shape := ⟨0, ![]⟩
abbrev S32x4 : Shape := ⟨2, ![32, 4]⟩
abbrev S32x4x1 : Shape := ⟨3, ![32, 4, 1]⟩
abbrev S1x1x256 : Shape := ⟨3, ![1, 1, 256]⟩
abbrev S32x1x1024 : Shape := ⟨3, ![32, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x1024, .f32⟩
  | .hbm, ⟨3, _⟩ => ⟨S32x512, .f32⟩
  | .hbm, ⟨4, _⟩ => ⟨S32x4x128x256, .f32⟩
  | .hbm, ⟨5, _⟩ => ⟨S256, .f32⟩
  | .hbm, ⟨6, _⟩ => ⟨S32x4x128, .f32⟩
  | .hbm, ⟨7, _⟩ => ⟨S32x4x128, .f32⟩
  | .hbm, ⟨8, _⟩ => ⟨S32x4x256, .f32⟩
  | .hbm, ⟨9, _⟩ => ⟨S32x4x128, .f32⟩
  | .hbm, ⟨10, _⟩ => ⟨S32x4x128, .f32⟩
  | .hbm, ⟨11, _⟩ => ⟨S32x4x128x1, .f32⟩
  | .hbm, ⟨12, _⟩ => ⟨S32x4x128x256, .f32⟩
  | .hbm, ⟨13, _⟩ => ⟨S32x4x128x256, .f32⟩
  | .hbm, ⟨14, _⟩ => ⟨S32x4x128x1, .f32⟩
  | .hbm, ⟨15, _⟩ => ⟨S32x4x1x256, .f32⟩
  | .hbm, ⟨16, _⟩ => ⟨S32x4x128x256, .f32⟩
  | .hbm, ⟨17, _⟩ => ⟨S32x4x128x256, .f32⟩
  | .hbm, ⟨18, _⟩ => ⟨S32x4x128x256, .f32⟩
  | .hbm, ⟨19, _⟩ => ⟨S32x4x128x256, .f32⟩
  | .hbm, ⟨20, _⟩ => ⟨S32x4x256, .f32⟩
  | .hbm, ⟨21, _⟩ => ⟨S32x4x256, .f32⟩
  | .hbm, ⟨22, _⟩ => ⟨S_, .f32⟩
  | .hbm, ⟨23, _⟩ => ⟨S32x4, .f32⟩
  | .hbm, ⟨24, _⟩ => ⟨S32x4x1, .f32⟩
  | .hbm, ⟨25, _⟩ => ⟨S_, .f32⟩
  | .hbm, ⟨26, _⟩ => ⟨S32x4x1, .f32⟩
  | .hbm, ⟨27, _⟩ => ⟨S32x4x1, .f32⟩
  | .hbm, ⟨28, _⟩ => ⟨S_, .f32⟩
  | .hbm, ⟨29, _⟩ => ⟨S32x4x1, .f32⟩
  | .hbm, ⟨30, _⟩ => ⟨S32x4x1, .f32⟩
  | .hbm, ⟨31, _⟩ => ⟨S32x4x1, .f32⟩
  | .hbm, ⟨32, _⟩ => ⟨S32x4x256, .f32⟩
  | .hbm, ⟨33, _⟩ => ⟨S32x4x256, .f32⟩
  | .hbm, ⟨34, _⟩ => ⟨S1x1x256, .f32⟩
  | .hbm, ⟨35, _⟩ => ⟨S32x4x256, .f32⟩
  | .hbm, ⟨36, _⟩ => ⟨S32x4x256, .f32⟩
  | .hbm, ⟨37, _⟩ => ⟨S32x1x1024, .f32⟩
  | .hbm, ⟨38, _⟩ => ⟨S32x1x1024, .bf16⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== HgP.lean ====
abbrev S32x1024 : Shape := ⟨2, ![32, 1024]⟩
abbrev S1024x3072 : Shape := ⟨2, ![1024, 3072]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024x3072, .f32⟩
  | .hbm, ⟨2, _⟩ => ⟨S1024, .f32⟩
  | .hbm, ⟨3, _⟩ => ⟨S1024x3072, .bf16⟩
  | .hbm, ⟨4, _⟩ => ⟨S1x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .local _ .vmem, ⟨0, _⟩ => ⟨S32x1024, .f32⟩
  | .local _ .vmem, ⟨1, _⟩ => ⟨S1024x3072, .bf16⟩
  | .local _ .vmem, ⟨2, _⟩ => ⟨S1x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== HgPRefIdeal.lean ====
abbrev S32x1024 : Shape := ⟨2, ![32, 1024]⟩
abbrev S1024x3072 : Shape := ⟨2, ![1024, 3072]⟩
abbrev S1024 : Shape := ⟨1, ![1024]⟩
abbrev S32x3072 : Shape := ⟨2, ![32, 3072]⟩
abbrev S_ : Shape := ⟨0, ![]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x3072, .f32⟩
  | .hbm, ⟨2, _⟩ => ⟨S1024, .f32⟩
  | .hbm, ⟨3, _⟩ => ⟨S32x3072, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S_, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S1x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S32x1024, .f32⟩
  | .hbm, ⟨32, _⟩ => ⟨S32x1024, .f32⟩
  | .hbm, ⟨33, _⟩ => ⟨S_, .f32⟩
  | .hbm, ⟨34, _⟩ => ⟨S32x1024, .f32⟩
  | .hbm, ⟨35, _⟩ => ⟨S32x1024, .f32⟩
  | .hbm, ⟨36, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== GlaP.lean ====
abbrev S32x1024 : Shape := ⟨2, ![32, 1024]⟩
abbrev S1024x3088 : Shape := ⟨2, ![1024, 3088]⟩
abbrev S16x512 : Shape := ⟨2, ![16, 512]⟩
abbrev S512 : Shape := ⟨1, ![512]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S128x512 : Shape := ⟨2, ![128, 512]⟩
abbrev S1x512 : Shape := ⟨2, ![1, 512]⟩
abbrev S32x512 : Shape := ⟨2, ![32, 512]⟩
abbrev S1024x512 : Shape := ⟨2, ![1024, 512]⟩
abbrev S1024x1024 : Shape := ⟨2, ![1024, 1024]⟩
abbrev S32x128 : Shape := ⟨2, ![32, 128]⟩

abbrev nBuf : Space → Nat
  | .hbm => 21
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S1024x3088, .f32⟩
  | .hbm, ⟨2, _⟩ => ⟨S16x512, .f32⟩
  | .hbm, ⟨3, _⟩ => ⟨S512, .f32⟩
  | .hbm, ⟨4, _⟩ => ⟨S1024x3072, .f32⟩
  | .hbm, ⟨5, _⟩ => ⟨S1024x3072, .bf16⟩
  | .hbm, ⟨6, _⟩ => ⟨S1024x16, .f32⟩
  | .hbm, ⟨7, _⟩ => ⟨S1024x16, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S16x512, .bf16⟩
  | .hbm, ⟨12, _⟩ => ⟨S_, .i32⟩
  | .hbm, ⟨13, _⟩ => ⟨S_, .bf16⟩
  | .hbm, ⟨14, _⟩ => ⟨S128x512, .bf16⟩
  | .hbm, ⟨15, _⟩ => ⟨S1x512, .f32⟩
  | .hbm, ⟨16, _⟩ => ⟨S32x512, .f32⟩
  | .hbm, ⟨17, _⟩ => ⟨S32x512, .f32⟩
  | .hbm, ⟨18, _⟩ => ⟨S32x1024, .f32⟩
  | .hbm, ⟨19, _⟩ => ⟨S32x1024, .bf16⟩
  | .hbm, ⟨20, _⟩ => ⟨S32x512, .f32⟩
  | .local _ .vmem, ⟨0, _⟩ => ⟨S32x1024, .f32⟩
  | .local _ .vmem, ⟨1, _⟩ => ⟨S1024x3072, .bf16⟩
  | .local _ .vmem, ⟨2, _⟩ => ⟨S1024x128, .bf16⟩
  | .local _ .vmem, ⟨3, _⟩ => ⟨S128x512, .bf16⟩
  | .local _ .vmem, ⟨4, _⟩ => ⟨S1x512, .f32⟩
  | .local _ .vmem, ⟨5, _⟩ => ⟨S32x512, .f32⟩
  | .local _ .vmem, ⟨6, _⟩ => ⟨S32x512, .f32⟩
  | .local _ .vmem, ⟨7, _⟩ => ⟨S32x1024, .f32⟩
  | .local _ .vmem, ⟨8, _⟩ => ⟨S32x1024, .bf16⟩
  | .local _ .vmem, ⟨9, _⟩ => ⟨S32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GlaPRefIdeal.lean ====
abbrev S32x1024 : Shape := ⟨2, ![32, 1024]⟩
abbrev S1024x3088 : Shape := ⟨2, ![1024, 3088]⟩
abbrev S16x512 : Shape := ⟨2, ![16, 512]⟩
abbrev S512 : Shape := ⟨1, ![512]⟩
abbrev S32x3088 : Shape := ⟨2, ![32, 3088]⟩
abbrev S32x512 : Shape := ⟨2, ![32, 512]⟩
abbrev S32x16 : Shape := ⟨2, ![32, 16]⟩
abbrev S1x512 : Shape := ⟨2, ![1, 512]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x3088, .f32⟩
  | .hbm, ⟨2, _⟩ => ⟨S16x512, .f32⟩
  | .hbm, ⟨3, _⟩ => ⟨S512, .f32⟩
  | .hbm, ⟨4, _⟩ => ⟨S32x3088, .f32⟩
  | .hbm, ⟨5, _⟩ => ⟨S32x512, .f32⟩
  | .hbm, ⟨6, _⟩ => ⟨S32x512, .f32⟩
  | .hbm, ⟨7, _⟩ => ⟨S32x1024, .f32⟩
  | .hbm, ⟨8, _⟩ => ⟨S32x1024, .f32⟩
  | .hbm, ⟨9, _⟩ => ⟨S32x16, .f32⟩
  | .hbm, ⟨10, _⟩ => ⟨S32x512, .f32⟩
  | .hbm, ⟨11, _⟩ => ⟨S1x512, .f32⟩
  | .hbm, ⟨12, _⟩ => ⟨S32x512, .f32⟩
  | .hbm, ⟨13, _⟩ => ⟨S32x512, .f32⟩
  | .hbm, ⟨14, _⟩ => ⟨S32x512, .f32⟩
  | .hbm, ⟨15, _⟩ => ⟨S_, .f32⟩
  | .hbm, ⟨16, _⟩ => ⟨S32x512, .f32⟩
  | .hbm, ⟨17, _⟩ => ⟨S32x512, .f32⟩
  | .hbm, ⟨18, _⟩ => ⟨S32x512, .f32⟩
  | .hbm, ⟨19, _⟩ => ⟨S32x512, .f32⟩
  | .hbm, ⟨20, _⟩ => ⟨S32x512, .i1⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S32x512, .f32⟩
  | .hbm, ⟨26, _⟩ => ⟨S32x512, .f32⟩
  | .hbm, ⟨27, _⟩ => ⟨S32x512, .f32⟩
  | .hbm, ⟨28, _⟩ => ⟨S32x512, .f32⟩
  | .hbm, ⟨29, _⟩ => ⟨S32x512, .f32⟩
  | .hbm, ⟨30, _⟩ => ⟨S_, .f32⟩
  | .hbm, ⟨31, _⟩ => ⟨S32x512, .f32⟩
  | .hbm, ⟨32, _⟩ => ⟨S32x512, .f32⟩
  | .hbm, ⟨33, _⟩ => ⟨S_, .f32⟩
  | .hbm, ⟨34, _⟩ => ⟨S32x512, .f32⟩
  | .hbm, ⟨35, _⟩ => ⟨S32x512, .f32⟩
  | .hbm, ⟨36, _⟩ => ⟨S32x1024, .f32⟩
  | .hbm, ⟨37, _⟩ => ⟨S32x1024, .f32⟩
  | .hbm, ⟨38, _⟩ => ⟨S_, .f32⟩
  | .hbm, ⟨39, _⟩ => ⟨S32x1024, .f32⟩
  | .hbm, ⟨40, _⟩ => ⟨S32x1024, .f32⟩
  | .hbm, ⟨41, _⟩ => ⟨S_, .f32⟩
  | .hbm, ⟨42, _⟩ => ⟨S32x1024, .f32⟩
  | .hbm, ⟨43, _⟩ => ⟨S32x1024, .f32⟩
  | .hbm, ⟨44, _⟩ => ⟨S32x1024, .f32⟩
  | .hbm, ⟨45, _⟩ => ⟨S32x1024, .bf16⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v15 : Ref sig .tc := ⟨.hbm, 44, rfl⟩
abbrev main_v16 : Ref sig .tc := ⟨.hbm, 45, rfl⟩

abbrev nD : Nat := 1
abbrev τ : Topo := Topo.v7x

variable {F : FTy → Type} [FloatOps F]
-- ==== Proof.FfnMath.lean ====
module

public import Idealize.ShloMosaic.Lib.Pointwise

@[expose] public section

noncomputable section

open Idealize.ShloMosaic

namespace Cert.FfnMath

/-- One hidden unit of the feed-forward step: the gate's pre-activation `a` through `a * logistic a`, times the other half `u`. -/
def glu (a u : EReal) : EReal := a * Ideal.logistic a * u

/-- The hidden unit `j` of one row `x`: column `j` of the up projection gated, times column `2816 + j`. -/
def hidRow (x : Fin 1024 → EReal) (w : Fin 1024 → Fin 5632 → EReal) (j : Fin 2816) : EReal :=
  glu (∑ k, x k * w k ⟨j.val, by omega⟩) (∑ k, x k * w k ⟨2816 + j.val, by omega⟩)

/-- The residual row before the normalisation: `alpha * x + 0.5 * (h @ w_down)`. -/
def resid (x : Fin 1024 → EReal) (h : Fin 2816 → EReal) (wd : Fin 2816 → Fin 1024 → EReal) (l : Fin 1024) : EReal :=
  Ideal.ofBits .f32 0x3FD744FD#32 * x l + Ideal.ofBits .f32 0x3F000000#32 * ∑ k, h k * wd k l

/-- The mean of a row of 1024 elements. -/
def mean (y : Fin 1024 → EReal) : EReal := Ideal.div (∑ k, y k) (Ideal.ofBits .f32 0x44800000#32)

/-- The layer norm of a row, with gain `g` and offset `b`. -/
def layerNorm (y g b : Fin 1024 → EReal) (l : Fin 1024) : EReal :=
  (y l - mean y) * Ideal.rsqrt (mean (fun k => (y k - mean y) * (y k - mean y)) + Ideal.ofBits .f32 0x3727C5AC#32) * g l + b l

/-- One row of the feed-forward half-step. -/
def ffnRow (x : Fin 1024 → EReal) (wu : Fin 1024 → Fin 5632 → EReal) (wd : Fin 2816 → Fin 1024 → EReal) (g b : Fin 1024 → EReal) :
    Fin 1024 → EReal := layerNorm (resid x (hidRow x wu) wd) g b

end Cert.FfnMath

end
-- ==== Proof.FfnBlock.lean ====
module

public import proofs.«01_k».proof.Proof.Gen.FfnIdeal.Value
public import proofs.«01_k».proof.Proof.FfnMath
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.FfnIdeal.Block

open Cert.FfnIdeal Cert.FfnIdeal.Gen Cert.FfnMath

/-- The hidden block of 512 rows: every row's hidden units. -/
def hid (x : Vec Ideal S512x1024 .f32) (w : Vec Ideal S1024x5632 .bf16) : Vec Ideal S512x2816 .bf16 := fun j =>
  hidRow (fun k => x (ix2 (j 0) k)) (fun k c => w (ix2 k c)) (j 1)

/-- What the kernel stores for one chunk of 256 hidden columns, from the chunk's two slices of the up projection. -/
def chunk (x : Vec Ideal S512x1024 .f32) (wa wu : Vec Ideal S1024x256 .bf16) : Vec Ideal S512x256 .bf16 :=
  truncf .bf16 (mulf (mulf (matmul (φ₂ := .bf16) dot_S512x1024_S1024x256_S512x256_1_0_0_1_n_n none (k0_pay1 x) wa (constant S512x256 .f32 0x00000000#32))
    (logistic (matmul (φ₂ := .bf16) dot_S512x1024_S1024x256_S512x256_1_0_0_1_n_n none (k0_pay1 x) wa (constant S512x256 .f32 0x00000000#32))))
    (matmul (φ₂ := .bf16) dot_S512x1024_S1024x256_S512x256_1_0_0_1_n_n none (k0_pay1 x) wu (constant S512x256 .f32 0x00000000#32))) bitsLt_bf16_f32

/-- The stored chunk's operations are `chunk`, by definition. -/
theorem chunk_fold (x : Vec Ideal S512x1024 .f32) (wa wu : Vec Ideal S1024x256 .bf16) :
    truncf .bf16 (mulf (mulf (matmul (φ₂ := .bf16) dot_S512x1024_S1024x256_S512x256_1_0_0_1_n_n none (k0_pay1 x) wa (constant S512x256 .f32 0x00000000#32))
      (logistic (matmul (φ₂ := .bf16) dot_S512x1024_S1024x256_S512x256_1_0_0_1_n_n none (k0_pay1 x) wa (constant S512x256 .f32 0x00000000#32))))
      (matmul (φ₂ := .bf16) dot_S512x1024_S1024x256_S512x256_1_0_0_1_n_n none (k0_pay1 x) wu (constant S512x256 .f32 0x00000000#32))) bitsLt_bf16_f32
      = chunk x wa wu := rfl

/-- A chunk at columns `o …` of the weight is the block of the hidden array at columns `o …`. -/
theorem chunk_block (x : Vec Ideal S512x1024 .f32) (w : Vec Ideal S1024x5632 .bf16) (o o' : ℕ) (ho' : o' = 2816 + o)
    (ha : ∀ a, (![0, o] : Fin 2 → ℕ) a + (![1024, 256] : Fin 2 → ℕ) a ≤ S1024x5632.size a) (hu : ∀ a, (![0, o'] : Fin 2 → ℕ) a + (![1024, 256] : Fin 2 → ℕ) a ≤ S1024x5632.size a)
    (hs : ∀ a, (![0, o] : Fin 2 → ℕ) a + (![512, 256] : Fin 2 → ℕ) a ≤ S512x2816.size a)
    (j : (Rect.unit (s := S512x2816) ![0, o] ![512, 256] hs).shape.Idx) :
    chunk x (View.ld w (Rect.unit (s := S1024x5632) ![0, o] ![1024, 256] ha)) (View.ld w (Rect.unit (s := S1024x5632) ![0, o'] ![1024, 256] hu)) j
      = hid x w ((Rect.unit (s := S512x2816) ![0, o] ![512, 256] hs).emb j) := by
  subst ho'
  obtain ⟨r, l, rfl⟩ : ∃ (r : Fin 512) (l : Fin 256), j = (ix2 r l : (⟨2, ![512, 256]⟩ : Shape).Idx) := ⟨j 0, j 1, eq_ix2 (n0 := 512) (n1 := 256) j⟩
  have hol : o + 256 ≤ 2816 := hs 1
  have he : (Rect.unit (s := S512x2816) ![0, o] ![512, 256] hs).emb (ix2 r l : (⟨2, ![512, 256]⟩ : Shape).Idx)
      = (ix2 r ⟨o + l.val, by omega⟩ : (⟨2, ![512, 2816]⟩ : Shape).Idx) := by
    funext a
    apply Fin.ext
    fin_cases a <;> simp [Rect.emb, Rect.unit, ix2]
  rw [he]
  unfold chunk k0_pay1
  pointwise [hid, hidRow, glu]
  simp only [Nat.add_assoc]

/-- The body's result block: the last payload over the hidden block. -/
theorem out_A (c : Dev nD) (i : grid0.Coords) (a1 : Memref sig .tc .vmem S512x1024 .f32) (h1 : a1.IsWhole) (a2 : Memref sig .tc .vmem S1024x5632 .bf16) (h2 : a2.IsWhole) (a3 : Memref sig .tc .vmem S2816x1024 .bf16) (h3 : a3.IsWhole) (a4 : Memref sig .tc .vmem S1x1024 .f32) (h4 : a4.IsWhole) (a5 : Memref sig .tc .vmem S1x1024 .f32) (h5 : a5.IsWhole) (a6 : Memref sig .tc .vmem S512x1024 .f32) (h6 : a6.IsWhole) (a7 : Memref sig .tc .vmem S512x2816 .bf16) (h7 : a7.IsWhole)
    (x0 : Vec Ideal S512x1024 .f32) (x1 : Vec Ideal S1024x5632 .bf16) (x2 : Vec Ideal S2816x1024 .bf16) (x3 : Vec Ideal S1x1024 .f32) (x4 : Vec Ideal S1x1024 .f32) :
    out0_A_5 c i a1 h1 a2 h2 a3 h3 a4 h4 a5 h5 a6 h6 a7 h7 x0 x1 x2 x3 x4 = k0_pay17 x0 (hid x0 x1) x2 x3 x4 := by
  frame_out
  congr 1
  simp only [k0_pay2, k0_pay3, k0_pay4, k0_pay5, k0_pay6, k0_pay7, k0_pay8, k0_pay9, k0_pay10, k0_pay11, k0_pay12, k0_pay13, k0_pay14,
    k0_pay15, k0_pay16, shapeCast_self]
  simp only [chunk_fold]
  refine (View.readCov_eq_canon_ld _ _ _ (View.cover_of_tiledL _ ![512, 256] (by sl_kernel_rfl))).trans ?_
  rw [View.ld_unit_zero (S := S512x2816) (funext fun a => by fin_cases a <;> rfl)]
  funext y
  refine View.canon_append_of_piecesOf (hid x0 x1) [] [_, _, _, _, _, _, _, _, _, _, _] ⟨?_, ?_, ?_, ?_, ?_, ?_, ?_, ?_, ?_, ?_, ?_, trivial⟩ y
    (View.cover_of_tiledL _ ![512, 256] (by sl_kernel_rfl) y)
  all_goals
    dsimp only
    intro x
    refine chunk_block x0 x1 _ _ ?_ _ _ _ x
    rfl

/-- The body's result block, row by row: the feed-forward half-step of the row. -/
theorem pay17_apply (x0 : Vec Ideal S512x1024 .f32) (h : Vec Ideal S512x2816 .bf16)  (x2 : Vec Ideal S2816x1024 .bf16) (x3 : Vec Ideal S1x1024 .f32) (x4 : Vec Ideal S1x1024 .f32) (r : Fin 512) (l : Fin 1024)  :
  k0_pay17 x0 h x2 x3 x4 (ix2 r l) = layerNorm (resid (fun k => x0 (ix2 r k)) (fun k => h (ix2 r k)) (fun k l => x2 (ix2 k l)))
    (fun k => x3 (ix2 0 k)) (fun k => x4 (ix2 0 k)) l := by
  pointwise [k0_pay17, layerNorm, mean, resid]

end Cert.FfnIdeal.Block

end
-- ==== Proof.FfnRefRow.lean ====
module

public import proofs.«01_k».proof.Proof.Gen.FfnRefIdeal.Run
public import proofs.«01_k».proof.Proof.FfnMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.FfnRefIdeal.Row

open Cert.FfnRefIdeal Cert.FfnRefIdeal.Gen Cert.FfnMath

variable (m : (ℓ : Loc nD τ sig) → Buf (Elt Ideal) ℓ)

/-- The reference's result, row by row: the feed-forward half-step of the row. -/
theorem res_apply (c : Dev nD) (i : Fin 16384) (l : Fin 1024) :
    (Value.res_out0 m c : Vec Ideal S16384x1024 .f32) (ix2 i l) = ffnRow (fun k => (m ((c.tc : Thread nD τ).loc main_arg0) : Vec Ideal S16384x1024 .f32) (ix2 i k))
      (fun k c' => (m ((c.tc : Thread nD τ).loc main_arg1) : Vec Ideal S1024x5632 .f32) (ix2 k c'))
      (fun k c' => (m ((c.tc : Thread nD τ).loc main_arg2) : Vec Ideal S2816x1024 .f32) (ix2 k c'))
      (fun k => (m ((c.tc : Thread nD τ).loc main_arg3) : Vec Ideal S1024 .f32) (ix1 k))
      (fun k => (m ((c.tc : Thread nD τ).loc main_arg4) : Vec Ideal S1024 .f32) (ix1 k)) l := by
  unfold Value.res_out0 Value.res_main_v34
  generalize (m ((c.tc : Thread nD τ).loc main_arg0) : Vec Ideal S16384x1024 .f32) = x0
  generalize (m ((c.tc : Thread nD τ).loc main_arg1) : Vec Ideal S1024x5632 .f32) = x1
  generalize (m ((c.tc : Thread nD τ).loc main_arg2) : Vec Ideal S2816x1024 .f32) = x2
  generalize (m ((c.tc : Thread nD τ).loc main_arg3) : Vec Ideal S1024 .f32) = x3
  generalize (m ((c.tc : Thread nD τ).loc main_arg4) : Vec Ideal S1024 .f32) = x4
  pointwise [ffnRow, layerNorm, mean, resid, hidRow, glu]
  simp only [Ideal.logistic]

end Cert.FfnRefIdeal.Row

end
-- ==== Proof.FfnValue.lean ====
module

public import proofs.«01_k».proof.Proof.FfnBlock
public import proofs.«01_k».proof.Proof.FfnRefRow
public import proofs.«01_k».proof.Defs

@[expose] public section

set_option maxRecDepth 16384

noncomputable section

open Idealize.ShloMosaic Idealize.ShloMosaic.TcCoe Idealize.SL.Sem

namespace Cert.FfnIdeal.Block

open Cert.FfnIdeal Cert.FfnIdeal.Gen Cert.FfnMath

variable (m : (ℓ : Loc nD τ sig) → Buf (Elt Ideal) ℓ)

/-- The kernel's result array: row `i` is the feed-forward half-step of row `i` of the argument. -/
def result (c : Dev nD) : Vec Ideal S16384x1024 .f32 := fun i =>
  ffnRow (fun k => (m ((c.tc : Thread nD τ).loc main_arg0) : Vec Ideal S16384x1024 .f32) (ix2 (i 0) k))
      (fun k c' => (m ((c.tc : Thread nD τ).loc main_arg1) : Vec Ideal S1024x5632 .f32) (ix2 k c'))
      (fun k c' => (m ((c.tc : Thread nD τ).loc main_arg2) : Vec Ideal S2816x1024 .f32) (ix2 k c'))
      (fun k => (m ((c.tc : Thread nD τ).loc main_arg3) : Vec Ideal S1024 .f32) (ix1 k))
      (fun k => (m ((c.tc : Thread nD τ).loc main_arg4) : Vec Ideal S1024 .f32) (ix1 k)) (i 1)

/-- The windows' block indices, decided over the 32 grid points. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0])

/-- Block `t` of the input, row `r`. -/
theorem iblk_x (c : Dev nD) (t : Fin cfg0.N) (r : Fin 512) (k : Fin 1024) (h : t.val * 512 + r.val < 16384) :
    (iblk m c 0 t : Vec Ideal S512x1024 .f32) (ix2 r k) = (m ((c.tc : Thread nD τ).loc main_arg0) : Vec Ideal S16384x1024 .f32) (ix2 ⟨t.val * 512 + r.val, h⟩ k) := by
  blk_ext [iblk, V_main_arg0, idx0 t]

theorem iblk_wu (c : Dev nD) (t : Fin cfg0.N) (r : Fin 1024) (k : Fin 5632) :
    (iblk m c 1 t : Vec Ideal S1024x5632 .bf16) (ix2 r k) = (m ((c.tc : Thread nD τ).loc main_arg1) : Vec Ideal S1024x5632 .f32) (ix2 r k) := by
  blk_ext [iblk, V, idx0 t]

/-- The down projection's block: the whole of it, at every point. -/
theorem iblk_wd (c : Dev nD) (t : Fin cfg0.N) (r : Fin 2816) (k : Fin 1024) :
    (iblk m c 2 t : Vec Ideal S2816x1024 .bf16) (ix2 r k) = (m ((c.tc : Thread nD τ).loc main_arg2) : Vec Ideal S2816x1024 .f32) (ix2 r k) := by
  blk_ext [iblk, V, idx0 t]

/-- The norm's gain as a row: the whole of it, at every point. -/
theorem iblk_g (c : Dev nD) (t : Fin cfg0.N) (k : Fin 1024) :
    (iblk m c 3 t : Vec Ideal S1x1024 .f32) (ix2 0 k) = (m ((c.tc : Thread nD τ).loc main_arg3) : Vec Ideal S1024 .f32) (ix1 k) := by
  blk_ext! [iblk, V, idx0 t]

/-- The norm's bias as a row: the whole of it, at every point. -/
theorem iblk_b (c : Dev nD) (t : Fin cfg0.N) (k : Fin 1024) :
    (iblk m c 4 t : Vec Ideal S1x1024 .f32) (ix2 0 k) = (m ((c.tc : Thread nD τ).loc main_arg4) : Vec Ideal S1024 .f32) (ix1 k) := by
  blk_ext! [iblk, V, idx0 t]

/-- The array the pipeline leaves: every row's feed-forward half-step. -/
theorem final (c : Dev nD) : (dats m 0 c).arrAt 5 cfg0.N = result m c := by
  refine (dats m 0 c).arrAt_eq_of_covers 5 _ (by decide +kernel) fun t hf y => ?_
  blk_simp
  rw [after0_5]
  unfold outsAt0
  rw [out_A]
  obtain ⟨r, l, rfl⟩ : ∃ (r : Fin 512) (l : Fin 1024), y = (ix2 r l : (⟨2, ![512, 1024]⟩ : Shape).Idx) := ⟨y 0, y 1, eq_ix2 (n0 := 512) (n1 := 1024) y⟩
  have ht : t.val < 32 := t.isLt
  have he : (win0_5.blk t).view.emb (ix2 r l : (⟨2, ![512, 1024]⟩ : Shape).Idx)
      = (ix2 ⟨t.val * 512 + r.val, by omega⟩ l : (⟨2, ![16384, 1024]⟩ : Shape).Idx) := by
    blk_ext [idx0 t]
  rw [he]
  refine (pay17_apply _ _ _ _ _ r l).trans ?_
  have hx : ∀ k : Fin 1024, (iblk m c 0 t : Vec Ideal S512x1024 .f32) (ix2 r k) = _ := fun k => iblk_x m c t r k (by omega)
  simp only [hid, ix2_0, ix2_1, hx, iblk_wu, iblk_wd, iblk_g, iblk_b]
  rfl

end Cert.FfnIdeal.Block

end
-- ==== Proof.FfnClaims.lean ====
module

public import proofs.«01_k».proof.Proof.FfnValue
public import proofs.«01_k».proof.Proof.Gen.FfnIdeal.Value
public import proofs.«01_k».proof.Proof.Gen.Ffn.Frame
public import Idealize.ShloMosaic.Lib.Quiescent

@[expose] public section

set_option maxRecDepth 16384

noncomputable section

open Idealize.ShloMosaic Idealize.ShloMosaic.TcCoe Idealize.SL.Sem

namespace Cert.Proof.FfnClaims

/-- The kernel runs, keeps its arguments and leaves every semaphore at zero. -/
theorem frame_k : Cert.quiescent_Ffn := fun m ρ _ => Cert.Ffn.Gen.frame m ρ

/-- The same of the kernel at the extended reals. -/
theorem frame_ki : Cert.quiescent_FfnIdeal := fun m ρ _ => Cert.FfnIdeal.Gen.frame m ρ

/-- The reference at the extended reals runs and keeps its arguments; it has no semaphore. -/
theorem frame_ri : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The kernel and the reference leave the same array: every row's feed-forward half-step. -/
theorem algebraic : Cert.algebraic_FfnIdeal_FfnRefIdeal := by
  intro m ρ m' ρ' _ hagree
  refine ⟨fun c => Cert.FfnIdeal.Block.result m c,
    (θ_run Cert.FfnIdeal.defs _ _).mono (fun _ h c => ⟨(h c).1.trans (Cert.FfnIdeal.Block.final m c), (h c).2⟩) (Cert.FfnIdeal.Value.run_blocks (F := Ideal) m ρ),
    (θ_run Cert.FfnRefIdeal.defs _ _).mono (fun _ h c => ⟨(h c).1.trans ?_, (h c).2⟩) (Cert.FfnRefIdeal.Value.run (F := Ideal) m' ρ')⟩
  obtain ⟨h0, h1, h2, h3, h4⟩ := hagree c
  funext i
  obtain ⟨r, l, rfl⟩ : ∃ (r : Fin 16384) (l : Fin 1024), i = (ix2 r l : (⟨2, ![16384, 1024]⟩ : Shape).Idx) := ⟨i 0, i 1, eq_ix2 (n0 := 16384) (n1 := 1024) i⟩
  refine (Cert.FfnRefIdeal.Row.res_apply m' c r l).trans ?_
  simp only [Cert.FfnIdeal.Block.result, ix2_0, ix2_1, h0, h1, h2, h3, h4]

end Cert.Proof.FfnClaims

end
-- ==== Proof.AttnFrames.lean ====
module

public import proofs.«01_k».proof.Defs
public import proofs.«01_k».proof.Proof.Gen.Attn.Frame
public import proofs.«01_k».proof.Proof.Gen.AttnIdeal.Frame
public import proofs.«01_k».proof.Proof.Gen.AttnRefIdeal.Run
public import Idealize.ShloMosaic.Lib.Quiescent

@[expose] public section

noncomputable section

open Idealize.ShloMosaic Idealize.ShloMosaic.TcCoe Idealize.SL.Sem

namespace Cert.Proof.AttnClaims

/-- The attention kernel runs, keeps its arguments and leaves every semaphore at zero. -/
theorem frame_k : Cert.quiescent_Attn := fun m ρ _ => Cert.Attn.Gen.frame m ρ

/-- The same of the kernel at the extended reals. -/
theorem frame_ki : Cert.quiescent_AttnIdeal := fun m ρ _ => Cert.AttnIdeal.Gen.frame m ρ

/-- The reference at the extended reals runs and keeps its arguments; it has no semaphore. -/
theorem frame_ri : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The one replaced literal: the mask's number is read as negative infinity at the extended reals. -/
theorem preserves : Cert.preserves_Attn_AttnIdeal :=
  IdealRules.named_const.statement Cert.AttnIdeal.κ "mask" .f32 0xF149F2CA#32 ⊥ rfl

end Cert.Proof.AttnClaims

end
-- ==== Proof.AttnMath.lean ====
module

public import Idealize.ShloMosaic.Lib.Pointwise

@[expose] public section

noncomputable section

open Idealize.ShloMosaic

namespace Cert.AttnMath

/-- The differential attention of one row in the reals: the difference of two causal softmax averages of the values, the second times `lam`. -/
def attnRow (s1 s2 : ℕ → ℝ) (v : ℕ → ℝ) (lam : ℝ) (row : ℕ) : ℝ :=
  (∑ j ∈ Finset.range (row + 1), Real.exp (s1 j) * v j) / (∑ j ∈ Finset.range (row + 1), Real.exp (s1 j))
    - lam * ((∑ j ∈ Finset.range (row + 1), Real.exp (s2 j) * v j) / (∑ j ∈ Finset.range (row + 1), Real.exp (s2 j)))

/-- A row over the root of its mean square, times the gain and one minus the initial `lambda`. -/
def normRow (o g : Fin 128 → EReal) (e : Fin 128) : EReal :=
  o e * Ideal.rsqrt (Ideal.div (∑ x, o x * o x) (Ideal.ofBits .f32 1124073472#32) + Ideal.ofBits .f32 897988541#32) * g e * Ideal.ofBits .f32 1059388764#32

/-- A select by a decided proposition. -/
theorem select_decide {α : Type} (p : Prop) [Decidable p] (a b : α) : Scalar.select (BitVec.ofBool (decide p)) a b = if p then a else b := by
  unfold Scalar.select
  by_cases h : p <;> simp [h]

/-- The literal the maxima start from is negative infinity. -/
theorem ninf : Ideal.ofBits .f32 4286578688#32 = (⊥ : EReal) := by simp [Ideal.ofBits, Ideal.ieee]

/-- A finite sum of reals, taken in the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum of finitely many scores, some masked and one not, is a real. -/
theorem fold_max_real {n : ℕ} (p : Fin n → Prop) [DecidablePred p] (s : Fin n → ℝ) (x0 : Fin n) (h0 : p x0) :
    ∃ μ : ℝ, Finset.fold max (⊥ : EReal) (fun x => if p x then (s x : EReal) else ⊥) Finset.univ = (μ : EReal) := by
  have h : Finset.fold max (⊥ : EReal) (fun x => if p x then (s x : EReal) else ⊥) Finset.univ = Finset.univ.sup (fun x => if p x then (s x : EReal) else ⊥) := rfl
  rw [h]
  have hb : Finset.univ.sup (fun x => if p x then (s x : EReal) else ⊥) ≠ ⊥ := by
    intro hc
    have := Finset.le_sup (f := fun x => if p x then (s x : EReal) else ⊥) (Finset.mem_univ x0)
    rw [hc] at this
    simp only [h0, if_true, le_bot_iff] at this
    exact EReal.coe_ne_bot _ this
  have ht : Finset.univ.sup (fun x => if p x then (s x : EReal) else ⊥) ≠ ⊤ := by
    apply ne_of_lt
    rw [Finset.sup_lt_iff (by exact bot_lt_top)]
    intro x _
    split
    · exact EReal.coe_lt_top _
    · exact bot_lt_top
  exact ⟨_, (EReal.coe_toReal ht hb).symm⟩

/-- The weight of a score against a real maximum: a masked score weighs nothing. -/
theorem exp_masked (p : Prop) [Decidable p] (s μ : ℝ) :
    Ideal.exp ((if p then (s : EReal) else ⊥) - (μ : EReal)) = ((Real.exp (-μ) * if p then Real.exp s else 0 : ℝ) : EReal) := by
  by_cases h : p
  · simp only [h, if_true]
    rw [← EReal.coe_sub, Ideal.exp_coe, ← Real.exp_add]
    congr 2
    ring
  · simp only [h, if_false, mul_zero]
    rw [EReal.bot_sub, Ideal.exp_bot, EReal.coe_zero]

/-- The carried row represents the sums `l` of the weights and `a` of the weighted values: nothing yet, or both up to the factor of the carried maximum. -/
def Rep (l a : ℝ) (M L A : EReal) : Prop :=
  (l = 0 ∧ a = 0 ∧ M = ⊥ ∧ L = 0 ∧ A = 0) ∨ ∃ μ : ℝ, M = (μ : EReal) ∧ L = ((Real.exp (-μ) * l : ℝ) : EReal) ∧ A = ((Real.exp (-μ) * a : ℝ) : EReal)

/-- One block of scores, some masked and one not, adds its weights and weighted values. -/
theorem Rep.step {n : ℕ} {l a : ℝ} {M L A : EReal} (h : Rep l a M L A) (p : Fin n → Prop) [DecidablePred p] (s v : Fin n → ℝ) (x0 : Fin n) (h0 : p x0)
    (t w : Fin n → EReal) (ht : ∀ x, t x = if p x then (s x : EReal) else ⊥) (hw : ∀ x, w x = (v x : EReal)) (m : EReal)
    (hm : m = max M (Finset.fold max (Ideal.ofBits .f32 4286578688#32) t Finset.univ)) :
    Rep (l + ∑ x, if p x then Real.exp (s x) else 0) (a + ∑ x, (if p x then Real.exp (s x) else 0) * v x) m
      (Ideal.exp (M - m) * L + ∑ x, Ideal.exp (t x - m)) (Ideal.exp (M - m) * A + ∑ x, Ideal.exp (t x - m) * w x) := by
  obtain rfl : t = fun x => if p x then (s x : EReal) else ⊥ := funext ht
  obtain rfl : w = fun x => (v x : EReal) := funext hw
  obtain ⟨μ', hμ'⟩ := fold_max_real p s x0 h0
  rw [ninf, hμ'] at hm
  have key : ∀ ν : ℝ, ∑ x, Ideal.exp ((if p x then (s x : EReal) else ⊥) - (ν : EReal)) = ((Real.exp (-ν) * ∑ x, (if p x then Real.exp (s x) else 0) : ℝ) : EReal) := fun ν => by
    simp only [exp_masked, coe_sum, Finset.mul_sum]
  have key' : ∀ ν : ℝ, ∑ x, Ideal.exp ((if p x then (s x : EReal) else ⊥) - (ν : EReal)) * (v x : EReal)
      = ((Real.exp (-ν) * ∑ x, (if p x then Real.exp (s x) else 0) * v x : ℝ) : EReal) := fun ν => by
    simp only [exp_masked, ← EReal.coe_mul, coe_sum, Finset.mul_sum, mul_assoc]
  rcases h with ⟨rfl, rfl, rfl, rfl, rfl⟩ | ⟨μ, rfl, rfl, rfl⟩
  · rw [max_eq_right bot_le] at hm
    subst hm
    refine Or.inr ⟨μ', rfl, ?_, ?_⟩
    · rw [key, mul_zero, zero_add, zero_add]
    · rw [key', mul_zero, zero_add, zero_add]
  · have hm' : m = ((max μ μ' : ℝ) : EReal) := by rw [hm, EReal.coe_strictMono.monotone.map_max]
    subst hm'
    generalize max μ μ' = ν
    have hf : Ideal.exp ((μ : EReal) - (ν : EReal)) = ((Real.exp (μ - ν) : ℝ) : EReal) := by rw [← EReal.coe_sub, Ideal.exp_coe]
    have he : ∀ z : ℝ, Real.exp (μ - ν) * (Real.exp (-μ) * z) = Real.exp (-ν) * z := fun z => by
      rw [← mul_assoc, ← Real.exp_add]
      congr 2
      ring
    refine Or.inr ⟨ν, rfl, ?_, ?_⟩
    · rw [key, hf, ← EReal.coe_mul, ← EReal.coe_add, he, mul_add]
    · rw [key', hf, ← EReal.coe_mul, ← EReal.coe_add, he, mul_add]

/-- The weighted sum over the sum of the weights: the carried maximum's factor cancels. -/
theorem Rep.div {l a : ℝ} {M L A : EReal} (h : Rep l a M L A) (hl : 0 < l) : Ideal.div A L = ((a / l : ℝ) : EReal) := by
  rcases h with ⟨rfl, -⟩ | ⟨μ, -, rfl, rfl⟩
  · exact absurd hl (lt_irrefl _)
  · have hne : Real.exp (-μ) * l ≠ 0 := mul_ne_zero (Real.exp_ne_zero _) hl.ne'
    rw [Ideal.div_coe hne, ← EReal.coe_mul]
    congr 1
    have := Real.exp_ne_zero (-μ)
    field_simp

/-- A sum over the entries up to `r` of a block. -/
theorem sum_masked (n r : ℕ) (h : r < n) (f : ℕ → ℝ) : (∑ x : Fin n, if x.val ≤ r then f x.val else 0) = ∑ x ∈ Finset.range (r + 1), f x := by
  rw [Fin.sum_univ_eq_sum_range (fun x => if x ≤ r then f x else 0) n, ← Finset.sum_filter]
  congr 1
  ext x
  simp only [Finset.mem_filter, Finset.mem_range]
  omega

/-- A softmax weight of one row, a score masked past `row`: the exponential over the sum of the exponentials up to `row`. -/
theorem softmax_masked (n row : ℕ) (h : row < n) (s : ℕ → ℝ) (t : Fin n → EReal) (ht : ∀ x, t x = if x.val ≤ row then (s x.val : EReal) else ⊥) (m : EReal)
    (hm : m = max (Ideal.ofBits .f32 4286578688#32) (Finset.fold max (Ideal.ofBits .f32 4286578688#32) t Finset.univ)) (j : Fin n) :
    Ideal.div (Ideal.exp (t j - m)) (∑ x, Ideal.exp (t x - m))
      = (((if j.val ≤ row then Real.exp (s j.val) else 0) / ∑ x ∈ Finset.range (row + 1), Real.exp (s x) : ℝ) : EReal) := by
  obtain rfl : t = fun x => if x.val ≤ row then (s x.val : EReal) else ⊥ := funext ht
  obtain ⟨μ, hμ⟩ := fold_max_real (fun x : Fin n => x.val ≤ row) (fun x => s x.val) ⟨row, h⟩ le_rfl
  rw [ninf, hμ, max_eq_right bot_le] at hm
  subst hm
  simp only [exp_masked, coe_sum, ← Finset.mul_sum]
  rw [sum_masked n row h fun x => Real.exp (s x)]
  have hl : 0 < ∑ x ∈ Finset.range (row + 1), Real.exp (s x) := Finset.sum_pos (fun x _ => Real.exp_pos _) ⟨0, by simp⟩
  exact Rep.div (Or.inr ⟨μ, rfl, rfl, rfl⟩ : Rep _ _ (μ : EReal) _ _) hl

/-- The values against the difference of two softmax rows are the difference of the two averages. -/
theorem sum_softmax (n row : ℕ) (h : row < n) (s1 s2 v : ℕ → ℝ) (lam : ℝ) :
    ∑ j : Fin n, (v j.val : EReal) * ((((if j.val ≤ row then Real.exp (s1 j.val) else 0) / ∑ x ∈ Finset.range (row + 1), Real.exp (s1 x) : ℝ) : EReal)
      - (lam : EReal) * (((if j.val ≤ row then Real.exp (s2 j.val) else 0) / ∑ x ∈ Finset.range (row + 1), Real.exp (s2 x) : ℝ) : EReal))
      = ((attnRow s1 s2 v lam row : ℝ) : EReal) := by
  simp only [← EReal.coe_mul, ← EReal.coe_sub, coe_sum]
  congr 1
  unfold attnRow
  rw [← sum_masked n row h fun x => Real.exp (s1 x) * v x, ← sum_masked n row h fun x => Real.exp (s2 x) * v x, Finset.sum_div, Finset.sum_div, Finset.mul_sum,
    ← Finset.sum_sub_distrib]
  refine Finset.sum_congr rfl fun j _ => ?_
  split
  · ring
  · ring

end Cert.AttnMath

end
-- ==== Proof.AttnRefDef.lean ====
module

public import proofs.«01_k».proof.Proof.Gen.AttnRefIdeal.Run
public import proofs.«01_k».proof.Proof.AttnMath
public import Idealize.ShloMosaic.Lib.Pointwise
public import Idealize.ShloMosaic.Lib.WordCmp
public import Idealize.ShloMosaic.Lib.Tactic

@[expose] public section

set_option maxRecDepth 16384

noncomputable section

open Idealize.ShloMosaic Idealize.ShloMosaic.TcCoe Idealize.SL.Sem

namespace Cert.AttnRefIdeal.Row

open Cert.AttnRefIdeal Cert.AttnRefIdeal.Gen Cert.AttnMath

/-- The causal scores of every query against every key, negative infinity past the query. -/
def scores (x0 x1 : FVec Ideal S4x4096x1024 .bf16) : FVec Ideal S4x16x4096x4096 .f32 :=
  select (broadcastInDim S4x16x4096x4096 ![0, 1, 2, 3] bcast_S1x1x4096x4096_S4x16x4096x4096_0_1_2_3
    (broadcastInDim S1x1x4096x4096 ![2, 3] bcast_S4096x4096_S1x1x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0))))))
    (Host.dotGeneral (F := Ideal) (φ₁ := .f32) (φ₂ := .f32) dot_S4x4096x16x64_S4x4096x16x64_S4x16x4096x4096_3_3_1_1_02_02 none
      (shapeCast S4x4096x16x64 (extf .f32 x0 bitsLt_bf16_f32) shapeCasts_S4x4096x1024_S4x4096x16x64)
      (shapeCast S4x4096x16x64 (extf .f32 x1 bitsLt_bf16_f32) shapeCasts_S4x4096x1024_S4x4096x16x64))
    (broadcastInDim S4x16x4096x4096 ![] bcast_S_S4x16x4096x4096 (id (constant S_ .f32 0xFF800000#32)))

/-- Every row's maximum, from the given initial value. -/
def rowMax (c : FVec Ideal S_ .f32) (t : FVec Ideal S4x16x4096x4096 .f32) : FVec Ideal S4x16x4096 .f32 :=
  Host.reduce FloatOps.maximumf t c reducesTo_S4x16x4096x4096_S4x16x4096_d3 h_S_

/-- The exponentials of the scores against one number of every row. -/
def weightsOf (r : FVec Ideal S4x16x4096 .f32) (t : FVec Ideal S4x16x4096x4096 .f32) : FVec Ideal S4x16x4096x4096 .f32 :=
  Host.exp (subf t (broadcastInDim S4x16x4096x4096 ![0, 1, 2, 3] bcast_S4x16x4096x1_S4x16x4096x4096_0_1_2_3
    (broadcastInDim S4x16x4096x1 ![0, 1, 2] bcast_S4x16x4096_S4x16x4096x1_0_1_2
      (maximumf (broadcastInDim S4x16x4096 ![] bcast_S_S4x16x4096 (constant S_ .f32 0xFF800000#32)) r))))

/-- The weights before the division: the exponentials of the scores against their row's maximum. -/
def weights (t : FVec Ideal S4x16x4096x4096 .f32) : FVec Ideal S4x16x4096x4096 .f32 :=
  weightsOf (rowMax (constant S_ .f32 0xFF800000#32) t) t

/-- The softmax of the rows, from the weights. -/
def softmax (w : FVec Ideal S4x16x4096x4096 .f32) : FVec Ideal S4x16x4096x4096 .f32 :=
  Host.divf w (broadcastInDim S4x16x4096x4096 ![0, 1, 2, 3] bcast_S4x16x4096x1_S4x16x4096x4096_0_1_2_3
    (broadcastInDim S4x16x4096x1 ![0, 1, 2] bcast_S4x16x4096_S4x16x4096x1_0_1_2
      (Host.reduceAdd w (constant S_ .f32 0x00000000#32) reducesTo_S4x16x4096x4096_S4x16x4096_d3 h_S_)))

/-- The factor of the second softmax. -/
def lam (x3 x4 x5 x6 : FVec Ideal S64 .f32) : FVec Ideal S_ .f32 :=
  addf (subf (Host.exp (Host.reduceAdd (mulf x3 x4) (constant S_ .f32 0x00000000#32) reducesTo_S64_S_d0 h_S_))
    (Host.exp (Host.reduceAdd (mulf x5 x6) (constant S_ .f32 0x00000000#32) reducesTo_S64_S_d0 h_S_))) (constant S_ .f32 0x3EB60549#32)

/-- The values averaged by the difference of the two softmaxes. -/
def diff (p : FVec Ideal S4x16x4096x4096 .f32) (l : FVec Ideal S_ .f32) (x2 : FVec Ideal S4x4096x1024 .bf16) : FVec Ideal S4x4096x8x128 .f32 :=
  transpose S4x4096x8x128 [0, 3, 1, 2] (Host.dotGeneral (F := Ideal) (φ₁ := .f32) (φ₂ := .f32) dot_S4x4096x8x128_S4x8x4096x4096_S4x8x128x4096_1_3_3_2_02_01 none
    (shapeCast S4x4096x8x128 (extf .f32 x2 bitsLt_bf16_f32) shapeCasts_S4x4096x1024_S4x4096x8x128)
    (subf (shapeCast S4x8x4096x4096 (extractStridedSlice S4x8x1x4096x4096 ![0, 0, 0, 0, 0] (shapeCast S4x8x2x4096x4096 p shapeCasts_S4x16x4096x4096_S4x8x2x4096x4096) slices_S4x8x2x4096x4096_S4x8x1x4096x4096_0_0_0_0_0) shapeCasts_S4x8x1x4096x4096_S4x8x4096x4096)
      (mulf (broadcastInDim S4x8x4096x4096 ![] bcast_S_S4x8x4096x4096 l)
        (shapeCast S4x8x4096x4096 (extractStridedSlice S4x8x1x4096x4096 ![0, 0, 1, 0, 0] (shapeCast S4x8x2x4096x4096 p shapeCasts_S4x16x4096x4096_S4x8x2x4096x4096) slices_S4x8x2x4096x4096_S4x8x1x4096x4096_0_0_1_0_0) shapeCasts_S4x8x1x4096x4096_S4x8x4096x4096))))
    transposes_S4x8x128x4096_S4x4096x8x128_0_3_1_2

/-- Every head's row over the root of its mean square, times the gain and one minus the initial factor. -/
def normed (o : FVec Ideal S4x4096x8x128 .f32) (x7 : FVec Ideal S128 .f32) : FVec Ideal S4x4096x1024 .bf16 :=
  truncf .bf16 (shapeCast S4x4096x1024 (mulf (mulf (mulf o (broadcastInDim S4x4096x8x128 ![0, 1, 2, 3] bcast_S4x4096x8x1_S4x4096x8x128_0_1_2_3
    (Host.rsqrt (addf (Host.divf (broadcastInDim S4x4096x8x1 ![0, 1, 2] bcast_S4x4096x8_S4x4096x8x1_0_1_2
      (Host.reduceAdd (mulf o o) (constant S_ .f32 0x00000000#32) reducesTo_S4x4096x8x128_S4x4096x8_d3 h_S_))
      (broadcastInDim S4x4096x8x1 ![] bcast_S_S4x4096x8x1 (constant S_ .f32 0x43000000#32)))
      (broadcastInDim S4x4096x8x1 ![] bcast_S_S4x4096x8x1 (constant S_ .f32 0x358637BD#32))))))
    (broadcastInDim S4x4096x8x128 ![0, 1, 2, 3] bcast_S1x1x1x128_S4x4096x8x128_0_1_2_3 (broadcastInDim S1x1x1x128 ![3] bcast_S128_S1x1x1x128_3 x7)))
    (broadcastInDim S4x4096x8x128 ![] bcast_S_S4x4096x8x128 (constant S_ .f32 0x3F24FD5C#32))) shapeCasts_S4x4096x8x128_S4x4096x1024) bitsLt_bf16_f32

/-- The reference's result, in these steps. -/
theorem res_eq (m : (ℓ : Loc nD τ sig) → Buf (Elt Ideal) ℓ) (c : Dev nD) :
    Value.res_out0 m c = normed (diff (softmax (weights (scores (m ((c.tc : Thread nD τ).loc main_arg0) : FVec Ideal S4x4096x1024 .bf16) (m ((c.tc : Thread nD τ).loc main_arg1) : FVec Ideal S4x4096x1024 .bf16)))) (lam (m ((c.tc : Thread nD τ).loc main_arg3) : FVec Ideal S64 .f32) (m ((c.tc : Thread nD τ).loc main_arg4) : FVec Ideal S64 .f32) (m ((c.tc : Thread nD τ).loc main_arg5) : FVec Ideal S64 .f32) (m ((c.tc : Thread nD τ).loc main_arg6) : FVec Ideal S64 .f32)) (m ((c.tc : Thread nD τ).loc main_arg2) : FVec Ideal S4x4096x1024 .bf16)) (m ((c.tc : Thread nD τ).loc main_arg7) : FVec Ideal S128 .f32) := rfl

/-- The factor of the second softmax. -/
def lamE (x3 x4 x5 x6 : FVec Ideal S64 .f32) : EReal :=
  Ideal.exp (∑ x : Fin 64, x3 (ix1 x) * x4 (ix1 x)) - Ideal.exp (∑ x : Fin 64, x5 (ix1 x) * x6 (ix1 x)) + Ideal.ofBits .f32 1052116297#32

/-- The score of query `n` against key `j` in half-head `h`, of the real parts. -/
def halfScore (x0 x1 : FVec Ideal S4x4096x1024 .bf16) (b : Fin 4) (h : Fin 16) (n : Fin 4096) (j : ℕ) : ℝ :=
  ∑ x : Fin 64, (x0 (ix3 b n (⟨h.val * 64 + x.val, by omega⟩ : Fin 1024))).toReal * (x1 (ix3 b (Fin.ofNat 4096 j) (⟨h.val * 64 + x.val, by omega⟩ : Fin 1024))).toReal

/-- Differential attention at batch `b`, query `n`, head `h`, lane `e`, as mathematics over the reals and the head norm after it. -/
def spec (x0 x1 x2 : FVec Ideal S4x4096x1024 .bf16) (x3 x4 x5 x6 : FVec Ideal S64 .f32) (x7 : FVec Ideal S128 .f32) (b : Fin 4) (n : Fin 4096) (h : Fin 8) (e : Fin 128) : EReal :=
  normRow (fun x => ((attnRow (halfScore x0 x1 b (⟨h.val * 2, by omega⟩ : Fin 16) n) (halfScore x0 x1 b (⟨h.val * 2 + 1, by omega⟩ : Fin 16) n)
    (fun j => (x2 (ix3 b (Fin.ofNat 4096 j) (⟨128 * h.val + x.val, by omega⟩ : Fin 1024))).toReal) (lamE x3 x4 x5 x6).toReal n.val : ℝ) : EReal)) (fun x => x7 (ix1 x)) e

end Cert.AttnRefIdeal.Row

end
-- ==== Proof.AttnPre.lean ====
module

public import proofs.«01_k».proof.Defs
public import proofs.«01_k».proof.Proof.Gen.Pre_finite
public import proofs.«01_k».proof.Proof.AttnRefDef
public import Idealize.ShloMosaic.Lib.Pointwise

@[expose] public section

set_option maxRecDepth 16384

noncomputable section

open Idealize.ShloMosaic Idealize.ShloMosaic.TcCoe Idealize.SL.Sem

namespace Cert.AttnPre

open Cert.Pre_finite Cert.Pre_finite.Gen Cert.AttnMath Cert.AttnRefIdeal.Row

/-- The literal of the precondition is positive infinity. -/
theorem pinf : Ideal.ofBits .f32 2139095040#32 = (⊤ : EReal) := by simp [Ideal.ofBits, Ideal.ieee]

/-- An extended real whose magnitude is under positive infinity is real. -/
theorem real_of_abs (x : EReal) (h : max x (-x) < Ideal.ofBits .f32 2139095040#32) : x = (x.toReal : EReal) := by
  rw [pinf, max_lt_iff] at h
  refine (EReal.coe_toReal h.1.ne fun hb => ?_).symm
  rw [hb] at h
  exact absurd h.2 (by simp)

/-- A bit made of a truth value is one just when the value is true. -/
theorem bit_eq_one (b : Bool) : BitVec.ofBool b = 1#1 ↔ b = true := by cases b <;> decide

/-- The first component at an index: the three arrays are real there. -/
theorem fst_real (x0 x1 x2 : FVec Ideal S4x4096x1024 .bf16) (x3 x4 x5 x6 : FVec Ideal S64 .f32) (x7 : FVec Ideal S128 .f32)
    (h : (Cert.Pre_finite.fn (F := Ideal) x0 x1 x2 x3 x4 x5 x6 x7).1 = fun _ => 1#1) (i : S4x4096x1024.Idx) :
    x0 i = ((x0 i).toReal : EReal) ∧ x1 i = ((x1 i).toReal : EReal) ∧ x2 i = ((x2 i).toReal : EReal) := by
  have h' := congrFun h i
  unfold Cert.Pre_finite.fn Cert.Pre_finite.fn_part1 at h'
  have e : IntOp.andi (IntOp.andi (BitVec.ofBool (decide (max (x0 i) (-(x0 i)) < Ideal.ofBits .f32 2139095040#32)))
      (BitVec.ofBool (decide (max (x1 i) (-(x1 i)) < Ideal.ofBits .f32 2139095040#32)))) (BitVec.ofBool (decide (max (x2 i) (-(x2 i)) < Ideal.ofBits .f32 2139095040#32))) = 1#1 := by
    refine Eq.trans ?_ h'
    pointwise
    rfl
  rw [IntOp.andi_eq_one, IntOp.andi_eq_one] at e
  simp only [bit_eq_one, decide_eq_true_eq] at e
  exact ⟨real_of_abs _ e.1.1, real_of_abs _ e.1.2, real_of_abs _ e.2⟩

/-- The second component at an index: the four vectors are real there. -/
theorem snd_real (x0 x1 x2 : FVec Ideal S4x4096x1024 .bf16) (x3 x4 x5 x6 : FVec Ideal S64 .f32) (x7 : FVec Ideal S128 .f32)
    (h : (Cert.Pre_finite.fn (F := Ideal) x0 x1 x2 x3 x4 x5 x6 x7).2 = fun _ => 1#1) (i : S64.Idx) :
    (x3 i = ((x3 i).toReal : EReal) ∧ x4 i = ((x4 i).toReal : EReal)) ∧ x5 i = ((x5 i).toReal : EReal) ∧ x6 i = ((x6 i).toReal : EReal) := by
  have h' := congrFun h i
  unfold Cert.Pre_finite.fn Cert.Pre_finite.fn_part1 at h'
  have e : IntOp.andi (IntOp.andi (IntOp.andi (BitVec.ofBool (decide (max (x3 i) (-(x3 i)) < Ideal.ofBits .f32 2139095040#32)))
      (BitVec.ofBool (decide (max (x4 i) (-(x4 i)) < Ideal.ofBits .f32 2139095040#32)))) (BitVec.ofBool (decide (max (x5 i) (-(x5 i)) < Ideal.ofBits .f32 2139095040#32))))
      (BitVec.ofBool (decide (max (x6 i) (-(x6 i)) < Ideal.ofBits .f32 2139095040#32))) = 1#1 := by
    refine Eq.trans ?_ h'
    pointwise
    rfl
  rw [IntOp.andi_eq_one, IntOp.andi_eq_one, IntOp.andi_eq_one] at e
  simp only [bit_eq_one, decide_eq_true_eq] at e
  exact ⟨⟨real_of_abs _ e.1.1.1, real_of_abs _ e.1.1.2⟩, real_of_abs _ e.1.2, real_of_abs _ e.2⟩

/-- The literal added to the factor is real. -/
theorem lit_real : ∃ r : ℝ, Ideal.ofBits .f32 1052116297#32 = (r : EReal) := by
  simp only [Ideal.ofBits, Ideal.ieee]
  rw [if_neg (by decide), if_neg (by decide)]
  exact ⟨_, rfl⟩

/-- The exponential of a product of two real vectors is real. -/
theorem exp_dot_real (a b : Fin 64 → EReal) (ha : ∀ i, a i = ((a i).toReal : EReal)) (hb : ∀ i, b i = ((b i).toReal : EReal)) :
    ∃ r : ℝ, Ideal.exp (∑ x, a x * b x) = (r : EReal) := by
  refine ⟨Real.exp (∑ x, (a x).toReal * (b x).toReal), ?_⟩
  rw [← Ideal.exp_coe, ← coe_sum]
  congr 1
  refine Finset.sum_congr rfl fun x _ => ?_
  rw [EReal.coe_mul, ← ha, ← hb]

/-- Under the precondition the factor of the second softmax is real. -/
theorem lam_real (x0 x1 x2 : FVec Ideal S4x4096x1024 .bf16) (x3 x4 x5 x6 : FVec Ideal S64 .f32) (x7 : FVec Ideal S128 .f32)
    (h : (Cert.Pre_finite.fn (F := Ideal) x0 x1 x2 x3 x4 x5 x6 x7).2 = fun _ => 1#1) : lamE x3 x4 x5 x6 = ((lamE x3 x4 x5 x6).toReal : EReal) := by
  have hr := snd_real x0 x1 x2 x3 x4 x5 x6 x7 h
  obtain ⟨r, hr1⟩ := exp_dot_real (fun x => x3 (ix1 x)) (fun x => x4 (ix1 x)) (fun x => (hr _).1.1) (fun x => (hr _).1.2)
  obtain ⟨s, hs⟩ := exp_dot_real (fun x => x5 (ix1 x)) (fun x => x6 (ix1 x)) (fun x => (hr _).2.1) (fun x => (hr _).2.2)
  obtain ⟨k, hk⟩ := lit_real
  have e : lamE x3 x4 x5 x6 = ((r - s + k : ℝ) : EReal) := by
    unfold lamE
    rw [hr1, hs, hk, EReal.coe_add, EReal.coe_sub]
  rw [e, EReal.toReal_coe]

end Cert.AttnPre

end
-- ==== Proof.AttnLoop.lean ====
module

public import proofs.«01_k».proof.Proof.Gen.AttnIdeal.Frame
public import Idealize.ShloMosaic.Lib.Pipeline.ValueKit
public import Idealize.ShloMosaic.Lib.Pipeline.ReadBack
public import Idealize.ShloMosaic.Lib.VecWindow
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AttnIdeal.Block

open Cert.AttnIdeal Cert.AttnIdeal.Gen

/-- What the walk over the key blocks carries: every row's running maximum, its running sum of weights and its running weighted sum of the values. -/
structure St where
  /-- the running maximum -/
  M : Vec Ideal S1024x1 .f32
  /-- the running sum -/
  L : Vec Ideal S1024x1 .f32
  /-- the running weighted sum of the values -/
  A : Vec Ideal S1024x128 .f32

/-- Block `k` of 512 rows of the keys or of the values. -/
def blk (x : Vec Ideal S1x4096x128 .bf16) (k : ℕ) : Vec Ideal S1x512x128 .bf16 := fun j =>
  x (ix3 (0 : Fin 1) (Fin.ofNat 4096 (512 * k + (j 1).val)) (j 2 : Fin 128))

/-- What one block of keys and values makes of the carried state. -/
def step (qq : Vec Ideal S1024x128 .bf16) (kb vb : Vec Ideal S1x512x128 .bf16) (s : St) : St :=
  ⟨k0_pay3 kb qq s.M, k0_pay6 kb qq s.M s.L, k0_pay7 kb vb qq s.M s.A⟩

/-- The carried state after the first `k` blocks. -/
def walk (qq : Vec Ideal S1024x128 .bf16) (x1 x2 : Vec Ideal S1x4096x128 .bf16) : ℕ → St
  | 0 => ⟨k0_pay18 (F := Ideal), k0_pay19 (F := Ideal), k0_pay20 (F := Ideal)⟩
  | k + 1 => step qq (blk x1 k) (blk x2 k) (walk qq x1 x2 k)

/-- The loop's offsets at block `k`. -/
theorem off1_eq (i : grid0.Coords) (k : Fin (k0_t1_loop i).trips) (hk : k.val < 8) : k0_off1 i k = ![0, 512 * k.val, 0] := by
  have h : ∀ k : Fin 8, (Scalar.indexCast (Scalar.muli (Scf.iv 0#32 1#32 k.val) 512#32)).toNat = 512 * k.val := by decide +kernel
  funext a
  fin_cases a
  · rfl
  · exact h ⟨k.val, hk⟩
  · rfl

/-- The masked block's offsets. -/
theorem off3_eq (i : grid0.Coords) : k0_off3 i = ![0, 512 * (i 2).val, 0] := by
  have h : ∀ k : Fin 8, (Scalar.indexCast (Scalar.muli (BitVec.ofNat 32 k.val) 512#32)).toNat = 512 * k.val := by decide +kernel
  funext a
  fin_cases a
  · rfl
  · exact h (i 2)
  · rfl

/-- A load of 512 rows from row `512 * k` on is block `k`. -/
theorem ld_blk (x : Vec Ideal S1x4096x128 .bf16) {off : Fin 3 → ℕ} (k : ℕ) (ho : off = ![0, 512 * k, 0])
    (h : ∀ a, off a + S1x512x128.size a ≤ S1x4096x128.size a) :
    (fun j => x ((Rect.unit (s := S1x4096x128) off S1x512x128.size h).toLoadRect.idx j)) = blk x k := by
  subst ho
  funext j
  have h1 : 512 * k + 512 ≤ 4096 := h 1
  have h2 : (j 1).val < 512 := (j 1).isLt
  have h3 : (j 0).val < 1 := (j 0).isLt
  unfold blk
  refine congrArg x (funext fun a => Fin.ext ?_)
  fin_cases a
  · show 0 + 1 * (j 0).val = 0
    omega
  · show 512 * k + 1 * (j 1).val = (512 * k + (j 1).val) % 4096
    omega
  · show 0 + 1 * (j 2).val = (j 2).val
    omega

/-- A load of the whole of a two-axis buffer reads the buffer. -/
theorem readAt_whole {m n : ℕ} {e : EltTy} (v : View sig .tc .vmem (⟨2, ![m, n]⟩ : Shape) e) (f : v.ty.Contents (Elt Ideal))
    (h : ∀ a, (![0, 0] : Fin 2 → ℕ) a + (⟨2, ![m, n]⟩ : Shape).size a ≤ (⟨2, ![m, n]⟩ : Shape).size a) :
    v.readAt (Elt Ideal) (Rect.unit (s := (⟨2, ![m, n]⟩ : Shape)) ![0, 0] (⟨2, ![m, n]⟩ : Shape).size h).toLoadRect f = v.read (Elt Ideal) f := by
  funext j
  rw [View.readAt_apply]
  refine congrArg (v.read (Elt Ideal) f) (funext fun a => Fin.ext ?_)
  fin_cases a
  · show 0 + 1 * (j 0).val = (j 0).val
    omega
  · show 0 + 1 * (j 1).val = (j 1).val
    omega

section
variable (𝒱 : Variants) (c : Dev nD) (bd : Option 𝒱.V) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x512x128 .bf16) (harg11 : arg11.IsWhole) (arg12 : Memref sig .tc .vmem S1024x128 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x128 .f32) (harg15 : arg15.IsWhole) (arg2 : BitVec 32) (c0_i32_15 : BitVec 32) (v28 : BitVec 32) (c1_i32 : BitVec 32)
  (X_arg4 : BufTy.Contents (Elt Ideal) arg4.view.ty) (X_arg5 : BufTy.Contents (Elt Ideal) arg5.view.ty) (X_arg12 : BufTy.Contents (Elt Ideal) arg12.view.ty)

/-- One trip stores the next state of what it loads. -/
theorem trip_eq (k : Fin (k0_t1_loop i).trips) (f_arg13 : BufTy.Contents (Elt Ideal) arg13.view.ty) (f_arg14 : BufTy.Contents (Elt Ideal) arg14.view.ty) (f_arg15 : BufTy.Contents (Elt Ideal) arg15.view.ty)
    (kb vb : Vec Ideal S1x512x128 .bf16) (qq : Vec Ideal S1024x128 .bf16) (s : St)
    (hkb : arg4.view.readAt (Elt Ideal) (Rect.unit (s := S1x4096x128) (k0_off1 i k) S1x512x128.size (Facts₀.k0_off1_inb i k)).toLoadRect X_arg4 = kb)
    (hvb : arg5.view.readAt (Elt Ideal) (Rect.unit (s := S1x4096x128) (k0_off1 i k) S1x512x128.size (Facts₀.k0_off1_inb i k)).toLoadRect X_arg5 = vb)
    (hq : arg12.view.readAt (Elt Ideal) (Rect.unit (s := S1024x128) ![0, 0] S1024x128.size inb_S1024x128_S1024x128_0_0).toLoadRect X_arg12 = qq)
    (hM : arg13.view.readAt (Elt Ideal) (Rect.unit (s := S1024x1) ![0, 0] S1024x1.size inb_S1024x1_S1024x1_0_0).toLoadRect f_arg13 = s.M)
    (hL : arg14.view.readAt (Elt Ideal) (Rect.unit (s := S1024x1) ![0, 0] S1024x1.size inb_S1024x1_S1024x1_0_0).toLoadRect f_arg14 = s.L)
    (hA : arg15.view.readAt (Elt Ideal) (Rect.unit (s := S1024x128) ![0, 0] S1024x128.size inb_S1024x128_S1024x128_0_0).toLoadRect f_arg15 = s.A) :
    tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 c0_i32_15 v28 c1_i32 X_arg4 X_arg5 X_arg12 k f_arg13 f_arg14 f_arg15
      = ([⟨Rect.unit ![0, 0] S1024x1.size inb_S1024x1_S1024x1_0_0, k0_pay21 (F := Ideal) (step qq kb vb s).M⟩],
         [⟨Rect.unit ![0, 0] S1024x1.size inb_S1024x1_S1024x1_0_0, (step qq kb vb s).L⟩],
         [⟨Rect.unit ![0, 0] S1024x128.size inb_S1024x128_S1024x128_0_0, (step qq kb vb s).A⟩]) := by
  subst hkb hvb hq
  unfold step
  simp only [← hM, ← hL, ← hA]
  unfold tripL_k0_t1 trip_k0_t1
  rfl

/-- After `k` trips the three carried buffers hold the state of the first `k` blocks. -/
theorem walk_eq (x1 x2 : Vec Ideal S1x4096x128 .bf16) (qq : Vec Ideal S1024x128 .bf16) (G_arg13 : BufTy.Contents (Elt Ideal) arg13.view.ty) (G_arg14 : BufTy.Contents (Elt Ideal) arg14.view.ty) (G_arg15 : BufTy.Contents (Elt Ideal) arg15.view.ty)
    (hq : arg12.view.read (Elt Ideal) X_arg12 = qq) (hM : arg13.view.read (Elt Ideal) G_arg13 = k0_pay18 (F := Ideal)) (hL : arg14.view.read (Elt Ideal) G_arg14 = k0_pay19 (F := Ideal)) (hA : arg15.view.read (Elt Ideal) G_arg15 = k0_pay20 (F := Ideal)) :
    ∀ k : ℕ, k ≤ (k0_t1_loop i).trips → k ≤ 8 →
      arg13.view.read (Elt Ideal) (arg13.view.writes (Elt Ideal) G_arg13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 c0_i32_15 v28 c1_i32 (harg4.unread x1) (harg5.unread x2) X_arg12 G_arg13 G_arg14 G_arg15 k).1) = (walk qq x1 x2 k).M
      ∧ arg14.view.read (Elt Ideal) (arg14.view.writes (Elt Ideal) G_arg14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 c0_i32_15 v28 c1_i32 (harg4.unread x1) (harg5.unread x2) X_arg12 G_arg13 G_arg14 G_arg15 k).2.1) = (walk qq x1 x2 k).L
      ∧ arg15.view.read (Elt Ideal) (arg15.view.writes (Elt Ideal) G_arg15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 c0_i32_15 v28 c1_i32 (harg4.unread x1) (harg5.unread x2) X_arg12 G_arg13 G_arg14 G_arg15 k).2.2) = (walk qq x1 x2 k).A
  | 0, _, _ => ⟨hM, hL, hA⟩
  | k + 1, hk, h8 => by
    obtain ⟨h13, h14, h15⟩ := walk_eq x1 x2 qq G_arg13 G_arg14 G_arg15 hq hM hL hA k (by omega) (by omega)
    rw [pb_k0_t1_succ 𝒱 c bd i arg3 harg3 arg4 harg4 arg5 harg5 arg6 harg6 arg7 harg7 arg8 harg8 arg9 harg9 arg10 harg10 arg11 harg11 arg12 harg12 arg13 harg13 arg14 harg14 arg15 harg15 arg2 c0_i32_15 v28 c1_i32 _ _ _ _ _ _ ⟨k, hk⟩]
    rw [trip_eq 𝒱 c bd i arg3 harg3 arg4 harg4 arg5 harg5 arg6 harg6 arg7 harg7 arg8 harg8 arg9 harg9 arg10 harg10 arg11 harg11 arg12 harg12 arg13 harg13 arg14 harg14 arg15 harg15 arg2 c0_i32_15 v28 c1_i32 _ _ _ ⟨k, hk⟩ _ _ _ (blk x1 k) (blk x2 k) qq (walk qq x1 x2 k)
      (by rw [← ld_blk x1 k (off1_eq i ⟨k, hk⟩ (show k < 8 by omega))]; funext j; rw [View.readAt_apply, harg4.read_unread])
      (by rw [← ld_blk x2 k (off1_eq i ⟨k, hk⟩ (show k < 8 by omega))]; funext j; rw [View.readAt_apply, harg5.read_unread])
      ((readAt_whole _ _ _).trans hq) ((readAt_whole _ _ _).trans h13) ((readAt_whole _ _ _).trans h14) ((readAt_whole _ _ _).trans h15)]
    refine ⟨?_, ?_, ?_⟩
    · exact (View.read_writes_full _ _ _ _ _).trans (shapeCast_self _ _)
    · exact View.read_writes_full _ _ _ _ _
    · exact View.read_writes_full _ _ _ _ _

end

/-- The queries of one block twice, one above the other: once with the first 64 lanes kept, once with the last 64. -/
def stack (x : Vec Ideal S1x512x128 .bf16) : Vec Ideal S1024x128 .bf16 := fun j =>
  if h : (j 0).val < 512 then k0_pay16 (F := Ideal) x (ix2 (⟨(j 0).val, h⟩ : Fin 512) (j 1 : Fin 128))
  else k0_pay17 (F := Ideal) x (ix2 (⟨(j 0).val - 512, by have := (j 0).isLt; change (j 0).val < 1024 at this; omega⟩ : Fin 512) (j 1 : Fin 128))

/-- The two halves as stored are the stack. -/
theorem canon_stack (x : Vec Ideal S1x512x128 .bf16) :
    View.canon (Val := Elt Ideal) (s := S1024x128) (e := .bf16)
      [⟨Rect.unit ![512, 0] ![512, 128] inb_S1024x128_S512x128_512_0, k0_pay17 (F := Ideal) x⟩,
       ⟨Rect.unit ![0, 0] ![512, 128] inb_S1024x128_S512x128_0_0, k0_pay16 (F := Ideal) x⟩] = stack x := by
  funext y
  refine View.canon_append_of_piecesOf (stack x) [] [_, _] ⟨?_, ?_, trivial⟩ y (View.cover_of_tiledL _ ![512, 128] (by sl_kernel_rfl) y)
  · dsimp only
    intro j
    have h0 : (j 0).val < 512 := (j 0).isLt
    have h1 : ((Rect.unit (s := S1024x128) ![512, 0] ![512, 128] inb_S1024x128_S512x128_512_0).emb j 0).val = 512 + 1 * (j 0).val := rfl
    unfold stack
    rw [dif_neg (by omega)]
    refine congrArg (k0_pay17 (F := Ideal) x) (funext fun a => Fin.ext ?_)
    fin_cases a
    · show (j 0).val = (512 + 1 * (j 0).val) - 512
      omega
    · show (j 1).val = 0 + 1 * (j 1).val
      omega
  · dsimp only
    intro j
    have h0 : (j 0).val < 512 := (j 0).isLt
    have h1 : ((Rect.unit (s := S1024x128) ![0, 0] ![512, 128] inb_S1024x128_S512x128_0_0).emb j 0).val = 0 + 1 * (j 0).val := rfl
    unfold stack
    rw [dif_pos (by omega)]
    refine congrArg (k0_pay16 (F := Ideal) x) (funext fun a => Fin.ext ?_)
    fin_cases a
    · show (j 0).val = 0 + 1 * (j 0).val
      omega
    · show (j 1).val = 0 + 1 * (j 1).val
      omega

/-- A load of the whole buffer after two runs of stores reads the buffer after the one and then the other. -/
theorem readCov_append {m n : ℕ} {e : EltTy} (v : View sig .tc .vmem (⟨2, ![m, n]⟩ : Shape) e) (L L0 : List (View.Piece (Elt Ideal) (⟨2, ![m, n]⟩ : Shape) e))
    (h : ∀ a, (![0, 0] : Fin 2 → ℕ) a + (⟨2, ![m, n]⟩ : Shape).size a ≤ (⟨2, ![m, n]⟩ : Shape).size a) :
    v.readCov (L ++ L0) (Rect.unit (s := (⟨2, ![m, n]⟩ : Shape)) ![0, 0] (⟨2, ![m, n]⟩ : Shape).size h).toLoadRect
      = v.read (Elt Ideal) (v.writes (Elt Ideal) (v.writes (Elt Ideal) v.junk L0) L) :=
  (readAt_whole v _ h).trans (by rw [View.writes_append])

/-- What the body stores for one block of queries: the masked last block after the walk, then the normalised difference. -/
def outBlk (n : ℕ) (x0 : Vec Ideal S1x512x128 .bf16) (x1 : Vec Ideal S1x4096x128 .bf16) (x2 : Vec Ideal S1x4096x128 .bf16) (x3 : Vec Ideal S1x64 .f32) (x4 : Vec Ideal S1x64 .f32) (x5 : Vec Ideal S1x64 .f32) (x6 : Vec Ideal S1x64 .f32) (x7 : Vec Ideal S1x128 .f32) : Vec Ideal S1x512x128 .bf16 :=
  k0_pay1 (F := Ideal) (k0_pay32 x3 x4 x5 x6)
    (k0_pay30 (k0_pay23 (blk x2 n)) (k0_pay26 (blk x1 n) (stack x0) (walk (stack x0) x1 x2 n).M) (k0_pay27 (blk x1 n) (stack x0) (walk (stack x0) x1 x2 n).M) (walk (stack x0) x1 x2 n).A)
    (k0_pay28 (blk x1 n) (stack x0) (walk (stack x0) x1 x2 n).M (walk (stack x0) x1 x2 n).L) x7

/-- The body's output block, from the blocks it reads. -/
theorem out_A (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x512x128 .bf16) (harg11 : arg11.IsWhole) (arg12 : Memref sig .tc .vmem S1024x128 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x128 .f32) (harg15 : arg15.IsWhole)
    (x0 : Vec Ideal S1x512x128 .bf16) (x1 : Vec Ideal S1x4096x128 .bf16) (x2 : Vec Ideal S1x4096x128 .bf16) (x3 : Vec Ideal S1x64 .f32) (x4 : Vec Ideal S1x64 .f32) (x5 : Vec Ideal S1x64 .f32) (x6 : Vec Ideal S1x64 .f32) (x7 : Vec Ideal S1x128 .f32) :
    out0_A_8 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = outBlk (i 2).val x0 x1 x2 x3 x4 x5 x6 x7 := by
  frame_out
  have h2 : ∀ i2 : Fin 8, Scf.trips (Scalar.addi (0#32) (Scalar.muli (Scalar.divsi (Scalar.subi (BitVec.ofNat 32 i2.val) 0#32) 1#32) 1#32)) (Scalar.addi (0#32) (Scalar.subi (BitVec.ofNat 32 i2.val) 0#32)) 1#32 = 0 := by decide +kernel
  have h1 : ∀ i2 : Fin 8, Scf.trips (0#32) (Scalar.addi (0#32) (Scalar.muli (Scalar.divsi (Scalar.subi (BitVec.ofNat 32 i2.val) 0#32) 1#32) 1#32)) 1#32 = i2.val := by decide +kernel
  simp only [h2 (i 2), h1 (i 2), pb_k0_t2, List.nil_append]
  have hq : arg12.view.readCov (Val := Elt Ideal) [⟨Rect.unit ![512, 0] ![512, 128] inb_S1024x128_S512x128_512_0, k0_pay17 (F := Ideal) x0⟩,
       ⟨Rect.unit ![0, 0] ![512, 128] inb_S1024x128_S512x128_0_0, k0_pay16 (F := Ideal) x0⟩] (Rect.unit (s := S1024x128) ![0, 0] ![1024, 128] inb_S1024x128_S1024x128_0_0).toLoadRect = stack x0 :=
    (readAt_whole arg12.view _ _).trans ((View.read_writes_junk_eq_canon _ _).trans (canon_stack x0))
  obtain ⟨h13, h14, h15⟩ := walk_eq Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) 0#32 (Scalar.subi (BitVec.ofNat 32 (i 2).val) 0#32) 1#32
    (arg12.view.writes (Elt Ideal) arg12.view.junk [⟨Rect.unit ![512, 0] ![512, 128] inb_S1024x128_S512x128_512_0, k0_pay17 (F := Ideal) x0⟩,
       ⟨Rect.unit ![0, 0] ![512, 128] inb_S1024x128_S512x128_0_0, k0_pay16 (F := Ideal) x0⟩]) x1 x2 (stack x0)
    (arg13.view.writes (Elt Ideal) arg13.view.junk [⟨Rect.unit ![0, 0] ![1024, 1] inb_S1024x1_S1024x1_0_0, k0_pay18 (F := Ideal)⟩])
    (arg14.view.writes (Elt Ideal) arg14.view.junk [⟨Rect.unit ![0, 0] ![1024, 1] inb_S1024x1_S1024x1_0_0, k0_pay19 (F := Ideal)⟩])
    (arg15.view.writes (Elt Ideal) arg15.view.junk [⟨Rect.unit ![0, 0] ![1024, 128] inb_S1024x128_S1024x128_0_0, k0_pay20 (F := Ideal)⟩])
    ((View.read_writes_junk_eq_canon _ _).trans (canon_stack x0)) (View.read_writes_full _ _ _ _ _) (View.read_writes_full _ _ _ _ _) (View.read_writes_full _ _ _ _ _)
    (i 2).val (le_of_eq (h1 (i 2)).symm) (Nat.le_of_lt (i 2).isLt)
  generalize pb_k0_t1 (F := Ideal) _ _ _ _ _ _ _ _ _ _ _ _ _ _ _ _ _ _ _ _ _ _ _ _ _ _ _ _ _ _ _ _ _ _ _ _ _ _ _ _ _ = P at h13 h14 h15 ⊢
  have e13 : arg13.view.readCov (P.1 ++ [⟨Rect.unit ![0, 0] ![1024, 1] inb_S1024x1_S1024x1_0_0, k0_pay18 (F := Ideal)⟩]) (Rect.unit (s := S1024x1) ![0, 0] ![1024, 1] inb_S1024x1_S1024x1_0_0).toLoadRect = (walk (stack x0) x1 x2 (i 2).val).M :=
    (readCov_append _ _ _ _).trans h13
  have e14 : arg14.view.readCov (P.2.1 ++ [⟨Rect.unit ![0, 0] ![1024, 1] inb_S1024x1_S1024x1_0_0, k0_pay19 (F := Ideal)⟩]) (Rect.unit (s := S1024x1) ![0, 0] ![1024, 1] inb_S1024x1_S1024x1_0_0).toLoadRect = (walk (stack x0) x1 x2 (i 2).val).L :=
    (readCov_append _ _ _ _).trans h14
  have e15 : arg15.view.readCov (P.2.2 ++ [⟨Rect.unit ![0, 0] ![1024, 128] inb_S1024x128_S1024x128_0_0, k0_pay20 (F := Ideal)⟩]) (Rect.unit (s := S1024x128) ![0, 0] ![1024, 128] inb_S1024x128_S1024x128_0_0).toLoadRect = (walk (stack x0) x1 x2 (i 2).val).A :=
    (readCov_append _ _ _ _).trans h15
  have k1 : ∀ (x : Vec Ideal S1x4096x128 .bf16) h, View.ld x (Rect.unit (s := S1x4096x128) (k0_off3 i) ![1, 512, 128] h) = blk x (i 2).val := fun x h =>
    ld_blk x (i 2).val (off3_eq i) h
  rw [e13, e14, e15, hq, k1, k1]
  have k29 : ∀ x : Vec Ideal S1024x1 .f32, k0_pay29 (F := Ideal) x = x := fun x => shapeCast_self _ _
  rw [k29]
  rfl

end Cert.AttnIdeal.Block

end
-- ==== Proof.AttnRow.lean ====
module

public import proofs.«01_k».proof.Proof.AttnLoop
public import proofs.«01_k».proof.Proof.AttnMath
public import Idealize.ShloMosaic.Lib.WordCmp

@[expose] public section

set_option maxRecDepth 16384

noncomputable section

open Idealize.ShloMosaic Idealize.ShloMosaic.TcCoe Idealize.SL.Sem

namespace Cert.AttnIdeal.Block

open Cert.AttnIdeal Cert.AttnIdeal.Gen Cert.AttnMath

/-- The new maximum of a row. -/
theorem pay3_apply (kb : Vec Ideal S1x512x128 .bf16) (qq : Vec Ideal S1024x128 .bf16) (M : Vec Ideal S1024x1 .f32) (r : Fin 1024) :
    k0_pay3 kb qq M (ix2 r 0) = max (M (ix2 r 0)) (Finset.fold max (Ideal.ofBits .f32 4286578688#32) (fun x : Fin 512 => ∑ y : Fin 128, qq (ix2 r y) * kb (ix3 0 x y)) Finset.univ) := by
  pointwise [k0_pay3, k0_pay2]

/-- The new sum of a row's weights. -/
theorem pay6_apply (kb : Vec Ideal S1x512x128 .bf16) (qq : Vec Ideal S1024x128 .bf16) (M L : Vec Ideal S1024x1 .f32) (r : Fin 1024) :
    k0_pay6 kb qq M L (ix2 r 0) = Ideal.exp (M (ix2 r 0) - k0_pay3 kb qq M (ix2 r 0)) * L (ix2 r 0)
      + ∑ x : Fin 512, Ideal.exp (∑ y : Fin 128, qq (ix2 r y) * kb (ix3 0 x y) - k0_pay3 kb qq M (ix2 r 0)) := by
  pointwise [k0_pay6, k0_pay5, k0_pay4, k0_pay2]

/-- The new weighted sum of the values, at one lane of a row. -/
theorem pay7_apply (kb vb : Vec Ideal S1x512x128 .bf16) (qq : Vec Ideal S1024x128 .bf16) (M : Vec Ideal S1024x1 .f32) (A : Vec Ideal S1024x128 .f32) (r : Fin 1024) (e : Fin 128) :
    k0_pay7 kb vb qq M A (ix2 r e) = Ideal.exp (M (ix2 r 0) - k0_pay3 kb qq M (ix2 r 0)) * A (ix2 r e)
      + ∑ x : Fin 512, Ideal.exp (∑ y : Fin 128, qq (ix2 r y) * kb (ix3 0 x y) - k0_pay3 kb qq M (ix2 r 0)) * vb (ix3 0 x e) := by
  pointwise [k0_pay7, k0_pay5, k0_pay4, k0_pay2]

/-- The row's place in its block of 512 queries. -/
def place (r : ℕ) : ℕ := if 512 ≤ r then r - 512 else r

/-- The masked scores of the last block. -/
theorem pay24_apply (kb : Vec Ideal S1x512x128 .bf16) (qq : Vec Ideal S1024x128 .bf16) (r : Fin 1024) (j : Fin 512) :
    k0_pay24 kb qq (ix2 r j) = if j.val ≤ place r.val then ∑ x : Fin 128, qq (ix2 r x) * kb (ix3 0 j x) else ⊥ := by
  have hn : (Named.named κ "mask" 4048155338#32 : Ideal .f32) = (⊥ : EReal) := IdealRules.named_const.ideal_named_scalar _ _ _ _ rfl
  have hr : ∀ r : Fin 1024, Scalar.select (IntOp.cmpi .sge (BitVec.ofNat 32 r.val) 512#32) (IntOp.subi (BitVec.ofNat 32 r.val) 512#32) (BitVec.ofNat 32 r.val)
      = BitVec.ofNat 32 (place r.val) := by decide +kernel
  have hp : place r.val < 2 ^ (32 - 1) := by
    have := r.isLt
    unfold place
    split <;> omega
  pointwise [k0_pay24]
  rw [hr, Idealize.ShloMosaic.WordCmp.cmpi_sle_ofNat (by have := j.isLt; omega) hp, select_decide, hn]

/-- The maximum after the masked block. -/
theorem pay25_apply (kb : Vec Ideal S1x512x128 .bf16) (qq : Vec Ideal S1024x128 .bf16) (M : Vec Ideal S1024x1 .f32) (r : Fin 1024) :
    k0_pay25 kb qq M (ix2 r 0) = max (M (ix2 r 0)) (Finset.fold max (Ideal.ofBits .f32 4286578688#32) (fun x : Fin 512 => k0_pay24 kb qq (ix2 r x)) Finset.univ) := by
  pointwise [k0_pay25]

/-- The sum of a row's weights after the masked block. -/
theorem pay28_apply (kb : Vec Ideal S1x512x128 .bf16) (qq : Vec Ideal S1024x128 .bf16) (M L : Vec Ideal S1024x1 .f32) (r : Fin 1024) :
    k0_pay28 kb qq M L (ix2 r 0) = Ideal.exp (M (ix2 r 0) - k0_pay25 kb qq M (ix2 r 0)) * L (ix2 r 0)
      + ∑ x : Fin 512, Ideal.exp (k0_pay24 kb qq (ix2 r x) - k0_pay25 kb qq M (ix2 r 0)) := by
  pointwise [k0_pay28, k0_pay26, k0_pay27]

/-- The weighted sum of the values after the masked block, at one lane of a row. -/
theorem pay30_apply (kb vb : Vec Ideal S1x512x128 .bf16) (qq : Vec Ideal S1024x128 .bf16) (M : Vec Ideal S1024x1 .f32) (A : Vec Ideal S1024x128 .f32) (r : Fin 1024) (e : Fin 128) :
    k0_pay30 (k0_pay23 vb) (k0_pay26 kb qq M) (k0_pay27 kb qq M) A (ix2 r e) = Ideal.exp (M (ix2 r 0) - k0_pay25 kb qq M (ix2 r 0)) * A (ix2 r e)
      + ∑ x : Fin 512, Ideal.exp (k0_pay24 kb qq (ix2 r x) - k0_pay25 kb qq M (ix2 r 0)) * vb (ix3 0 x e) := by
  pointwise [k0_pay30, k0_pay23, k0_pay26, k0_pay27]

/-- The first half of the stack keeps the first 64 lanes. -/
theorem pay16_apply (x : Vec Ideal S1x512x128 .bf16) (r : Fin 512) (e : Fin 128) :
    k0_pay16 x (ix2 r e) = if e.val < 64 then x (ix3 0 r e) else 0 := by
  pointwise [k0_pay16, k0_pay14, k0_pay15]
  rw [Idealize.ShloMosaic.WordCmp.cmpi_slt_ofNat (by have := e.isLt; omega) (by omega), select_decide]

/-- The second half of the stack keeps the last 64 lanes. -/
theorem pay17_apply (x : Vec Ideal S1x512x128 .bf16) (r : Fin 512) (e : Fin 128) :
    k0_pay17 x (ix2 r e) = if 64 ≤ e.val then x (ix3 0 r e) else 0 := by
  pointwise [k0_pay17, k0_pay14, k0_pay15]
  rw [Idealize.ShloMosaic.WordCmp.cmpi_sge_ofNat (by have := e.isLt; omega) (by omega), select_decide]

/-- The factor of the second average. -/
theorem pay32_apply (a b c d : Vec Ideal S1x64 .f32) :
    k0_pay32 a b c d (ix2 0 0) = Ideal.exp (∑ x : Fin 64, a (ix2 0 x) * b (ix2 0 x)) - Ideal.exp (∑ x : Fin 64, c (ix2 0 x) * d (ix2 0 x))
      + Ideal.ofBits .f32 1052116297#32 := by
  pointwise [k0_pay32]

/-- The stored row: the difference of the two averages, normalised. -/
theorem pay1_apply (l : Vec Ideal S1x1 .f32) (A : Vec Ideal S1024x128 .f32) (L : Vec Ideal S1024x1 .f32) (g : Vec Ideal S1x128 .f32) (r : Fin 512) (e : Fin 128) :
    k0_pay1 l A L g (ix3 0 r e) = normRow (fun x => Ideal.div (A (ix2 (⟨r.val, by omega⟩ : Fin 1024) x)) (L (ix2 (⟨r.val, by omega⟩ : Fin 1024) 0))
      - l (ix2 0 0) * Ideal.div (A (ix2 (⟨512 + r.val, by omega⟩ : Fin 1024) x)) (L (ix2 (⟨512 + r.val, by omega⟩ : Fin 1024) 0))) (fun x => g (ix2 0 x)) e := by
  pointwise [k0_pay1, normRow]

/-- The first state: maxima at negative infinity, sums at zero. -/
theorem pay18_apply (r : Fin 1024) : (k0_pay18 (F := Ideal)) (ix2 r 0) = (⊥ : EReal) := by
  have hn : (Named.named κ "mask" 4048155338#32 : Ideal .f32) = (⊥ : EReal) := IdealRules.named_const.ideal_named_scalar _ _ _ _ rfl
  pointwise [k0_pay18]
  exact hn

/-- The first sums of weights are zero. -/
theorem pay19_apply (r : Fin 1024) : (k0_pay19 (F := Ideal)) (ix2 r 0) = (0 : EReal) := by pointwise [k0_pay19]

/-- The first weighted sums are zero. -/
theorem pay20_apply (r : Fin 1024) (e : Fin 128) : (k0_pay20 (F := Ideal)) (ix2 r e) = (0 : EReal) := by pointwise [k0_pay20]

end Cert.AttnIdeal.Block

end
-- ==== Proof.AttnState.lean ====
module

public import proofs.«01_k».proof.Proof.AttnRow

@[expose] public section

set_option maxRecDepth 16384

noncomputable section

open Idealize.ShloMosaic Idealize.ShloMosaic.TcCoe Idealize.SL.Sem

namespace Cert.AttnIdeal.Block

open Cert.AttnIdeal Cert.AttnIdeal.Gen Cert.AttnMath

/-- The score of one query row `q` against key `j`. -/
def score (q : Fin 128 → ℝ) (kf : ℕ → Fin 128 → ℝ) (j : ℕ) : ℝ := ∑ d, q d * kf j d

/-- A block of the keys or values, read through the reals it holds. -/
theorem blk_apply (x : Vec Ideal S1x4096x128 .bf16) (f : ℕ → Fin 128 → ℝ) (hx : ∀ (n : Fin 4096) d, x (ix3 0 n d) = ((f n.val d : ℝ) : EReal)) (k : ℕ) (hk : k < 8)
    (j : Fin 512) (d : Fin 128) : blk x k (ix3 0 j d) = ((f (512 * k + j.val) d : ℝ) : EReal) := by
  have h : (Fin.ofNat 4096 (512 * k + j.val)).val = 512 * k + j.val := Nat.mod_eq_of_lt (by have := j.isLt; omega)
  have := hx (Fin.ofNat 4096 (512 * k + j.val)) d
  rw [h] at this
  exact this

section
variable (qq : Vec Ideal S1024x128 .bf16) (x1 x2 : Vec Ideal S1x4096x128 .bf16) (r : Fin 1024) (q : Fin 128 → ℝ) (kf vf : ℕ → Fin 128 → ℝ)
  (hq : ∀ d, qq (ix2 r d) = ((q d : ℝ) : EReal)) (h1 : ∀ (n : Fin 4096) d, x1 (ix3 0 n d) = ((kf n.val d : ℝ) : EReal)) (h2 : ∀ (n : Fin 4096) d, x2 (ix3 0 n d) = ((vf n.val d : ℝ) : EReal))

include hq h1 in
/-- A row's scores against one block are real. -/
theorem score_blk (k : ℕ) (hk : k < 8) (x : Fin 512) : ∑ y : Fin 128, qq (ix2 r y) * blk x1 k (ix3 0 x y) = ((score q kf (512 * k + x.val) : ℝ) : EReal) := by
  simp only [hq, blk_apply x1 kf h1 k hk, ← EReal.coe_mul, coe_sum]
  rfl

include hq h1 h2 in
/-- After `k` blocks a row's state represents the sums over the first `512 * k` keys. -/
theorem walk_rep (e : Fin 128) : ∀ k : ℕ, k ≤ 8 →
    Rep (∑ j ∈ Finset.range (512 * k), Real.exp (score q kf j)) (∑ j ∈ Finset.range (512 * k), Real.exp (score q kf j) * vf j e)
      ((walk qq x1 x2 k).M (ix2 r 0)) ((walk qq x1 x2 k).L (ix2 r 0)) ((walk qq x1 x2 k).A (ix2 r e))
  | 0, _ => Or.inl ⟨by simp, by simp, pay18_apply r, pay19_apply r, pay20_apply r e⟩
  | k + 1, hk => by
    have ih := walk_rep e k (by omega)
    have := ih.step (n := 512) (fun _ => True) (fun x => score q kf (512 * k + x.val)) (fun x => vf (512 * k + x.val) e) 0 trivial
      (fun x => ∑ y : Fin 128, qq (ix2 r y) * blk x1 k (ix3 0 x y)) (fun x => blk x2 k (ix3 0 x e))
      (fun x => by rw [score_blk qq x1 r q kf hq h1 k (by omega), if_pos trivial]) (fun x => blk_apply x2 vf h2 k (by omega) x e) _ (pay3_apply (blk x1 k) qq _ r)
    rw [← pay6_apply, ← pay7_apply] at this
    simp only [if_true] at this
    rw [Fin.sum_univ_eq_sum_range (fun x => Real.exp (score q kf (512 * k + x))) 512,
      Fin.sum_univ_eq_sum_range (fun x => Real.exp (score q kf (512 * k + x)) * vf (512 * k + x) e) 512, ← Finset.sum_range_add, ← Finset.sum_range_add] at this
    exact this

include hq h1 h2 in
/-- After the masked block, the weighted sum over the sum of the weights is the causal softmax average of the row. -/
theorem last_div (n : ℕ) (hn : n < 8) (e : Fin 128) :
    Ideal.div (k0_pay30 (k0_pay23 (blk x2 n)) (k0_pay26 (blk x1 n) qq (walk qq x1 x2 n).M) (k0_pay27 (blk x1 n) qq (walk qq x1 x2 n).M) (walk qq x1 x2 n).A (ix2 r e))
      (k0_pay28 (blk x1 n) qq (walk qq x1 x2 n).M (walk qq x1 x2 n).L (ix2 r 0))
      = (((∑ j ∈ Finset.range (512 * n + place r.val + 1), Real.exp (score q kf j) * vf j e) / ∑ j ∈ Finset.range (512 * n + place r.val + 1), Real.exp (score q kf j) : ℝ) : EReal) := by
  have hp : place r.val < 512 := by
    have := r.isLt
    unfold place
    split <;> omega
  have ih := walk_rep qq x1 x2 r q kf vf hq h1 h2 e n (by omega)
  have := ih.step (n := 512) (fun x => x.val ≤ place r.val) (fun x => score q kf (512 * n + x.val)) (fun x => vf (512 * n + x.val) e) 0 (Nat.zero_le _)
    (fun x => k0_pay24 (blk x1 n) qq (ix2 r x)) (fun x => blk x2 n (ix3 0 x e))
    (fun x => by rw [pay24_apply, score_blk qq x1 r q kf hq h1 n hn]) (fun x => blk_apply x2 vf h2 n hn x e) _ (pay25_apply (blk x1 n) qq _ r)
  rw [← pay28_apply, ← pay30_apply] at this
  simp only [ite_mul, zero_mul] at this
  rw [sum_masked 512 _ hp fun x => Real.exp (score q kf (512 * n + x)), sum_masked 512 _ hp fun x => Real.exp (score q kf (512 * n + x)) * vf (512 * n + x) e,
    ← Finset.sum_range_add, ← Finset.sum_range_add] at this
  exact this.div (Finset.sum_pos (fun x _ => Real.exp_pos _) ⟨0, by simp⟩)

end

/-- A row of the stack, read through the reals the queries hold: the first or the last 64 lanes of its query. -/
theorem stack_apply (x0 : Vec Ideal S1x512x128 .bf16) (r : Fin 512) (q : Fin 128 → ℝ) (h0 : ∀ d, x0 (ix3 0 r d) = ((q d : ℝ) : EReal)) (d : Fin 128) :
    stack x0 (ix2 (⟨r.val, by omega⟩ : Fin 1024) d) = ((if d.val < 64 then q d else 0 : ℝ) : EReal)
    ∧ stack x0 (ix2 (⟨512 + r.val, by omega⟩ : Fin 1024) d) = ((if 64 ≤ d.val then q d else 0 : ℝ) : EReal) := by
  constructor
  · unfold stack
    refine (dif_pos (show r.val < 512 from r.isLt)).trans ((pay16_apply x0 r d).trans ?_)
    rw [h0]
    split <;> simp
  · unfold stack
    refine (dif_neg (show ¬ 512 + r.val < 512 by omega)).trans ?_
    have e : (⟨512 + r.val - 512, by omega⟩ : Fin 512) = r := Fin.ext (by simp)
    refine Eq.trans (congrArg (fun z : Fin 512 => k0_pay17 (F := Ideal) x0 (ix2 z d)) e) ((pay17_apply x0 r d).trans ?_)
    rw [h0]
    split <;> simp

/-- One stored row, from the reals its queries, keys and values hold and the real factor. -/
theorem outBlk_apply (n : ℕ) (hn : n < 8) (x0 : Vec Ideal S1x512x128 .bf16) (x1 x2 : Vec Ideal S1x4096x128 .bf16) (x3 x4 x5 x6 : Vec Ideal S1x64 .f32) (x7 : Vec Ideal S1x128 .f32)
    (r : Fin 512) (q : Fin 128 → ℝ) (kf vf : ℕ → Fin 128 → ℝ) (lam : ℝ) (h0 : ∀ d, x0 (ix3 0 r d) = ((q d : ℝ) : EReal))
    (h1 : ∀ (n : Fin 4096) d, x1 (ix3 0 n d) = ((kf n.val d : ℝ) : EReal)) (h2 : ∀ (n : Fin 4096) d, x2 (ix3 0 n d) = ((vf n.val d : ℝ) : EReal))
    (hl : Ideal.exp (∑ x : Fin 64, x3 (ix2 0 x) * x4 (ix2 0 x)) - Ideal.exp (∑ x : Fin 64, x5 (ix2 0 x) * x6 (ix2 0 x)) + Ideal.ofBits .f32 1052116297#32 = (lam : EReal)) (e : Fin 128) :
    outBlk n x0 x1 x2 x3 x4 x5 x6 x7 (ix3 0 r e)
      = normRow (fun x => ((attnRow (score (fun d => if d.val < 64 then q d else 0) kf) (score (fun d => if 64 ≤ d.val then q d else 0) kf) (fun j => vf j x) lam (512 * n + r.val) : ℝ) : EReal))
          (fun x => x7 (ix2 0 x)) e := by
  have hp1 : place r.val = r.val := by unfold place; rw [if_neg (by omega)]
  have hp2 : place (512 + r.val) = r.val := by unfold place; rw [if_pos (by omega)]; omega
  unfold outBlk
  rw [pay1_apply, pay32_apply, hl]
  refine congrArg (fun o => normRow o _ e) (funext fun x => ?_)
  rw [last_div (stack x0) x1 x2 ⟨r.val, by omega⟩ _ kf vf (fun d => (stack_apply x0 r q h0 d).1) h1 h2 n hn x,
    last_div (stack x0) x1 x2 ⟨512 + r.val, by omega⟩ _ kf vf (fun d => (stack_apply x0 r q h0 d).2) h1 h2 n hn x, hp1, hp2]
  rw [← EReal.coe_mul, ← EReal.coe_sub]
  rfl

end Cert.AttnIdeal.Block

end
-- ==== Proof.AttnRef.lean ====
module

public import proofs.«01_k».proof.Proof.Gen.AttnRefIdeal.Run
public import proofs.«01_k».proof.Proof.AttnRefDef
public import Idealize.ShloMosaic.Lib.Pointwise
public import Idealize.ShloMosaic.Lib.WordCmp
public import Idealize.ShloMosaic.Lib.Tactic

@[expose] public section

set_option maxRecDepth 16384

noncomputable section

open Idealize.ShloMosaic Idealize.ShloMosaic.TcCoe Idealize.SL.Sem

namespace Cert.AttnRefIdeal.Row

open Cert.AttnRefIdeal Cert.AttnRefIdeal.Gen Cert.AttnMath

/-- The scores at an index: the products over the head's 64 lanes, negative infinity past the query. -/
theorem scores_apply (x0 x1 : FVec Ideal S4x4096x1024 .bf16) (b : Fin 4) (h : Fin 16) (n j : Fin 4096) :
    scores x0 x1 (ix4 b h n j) = if j.val ≤ n.val then ∑ x : Fin 64, x0 (ix3 b n (⟨h.val * 64 + x.val, by omega⟩ : Fin 1024)) * x1 (ix3 b j (⟨h.val * 64 + x.val, by omega⟩ : Fin 1024)) else ⊥ := by
  pointwise [scores]
  rw [Idealize.ShloMosaic.WordCmp.cmpi_sle_ofNat (by omega) (by omega), select_decide, ← ninf]
  rfl

/-- A row's maximum at an index. -/
theorem rowMax_apply (c : FVec Ideal S_ .f32) (t : FVec Ideal S4x16x4096x4096 .f32) (b : Fin 4) (h : Fin 16) (n : Fin 4096) :
    rowMax c t (ix3 b h n) = Finset.univ.fold max (c (Shape.Idx.first h_S_)) (fun k : Fin 4096 => t (ix4 b h n k)) := by
  pointwise [rowMax]

/-- The exponentials at an index. -/
theorem weightsOf_apply (r : FVec Ideal S4x16x4096 .f32) (t : FVec Ideal S4x16x4096x4096 .f32) (b : Fin 4) (h : Fin 16) (n j : Fin 4096) :
    weightsOf r t (ix4 b h n j) = Ideal.exp (t (ix4 b h n j) - max (Ideal.ofBits .f32 4286578688#32) (r (ix3 b h n))) := by
  pointwise [weightsOf]

/-- The weights at an index: the exponential of the score against the maximum of its row. -/
theorem weights_apply (t : FVec Ideal S4x16x4096x4096 .f32) (b : Fin 4) (h : Fin 16) (n j : Fin 4096) :
    weights t (ix4 b h n j) = Ideal.exp (t (ix4 b h n j) - max (Ideal.ofBits .f32 4286578688#32)
      (Finset.univ.fold max (Ideal.ofBits .f32 4286578688#32) (fun k : Fin 4096 => t (ix4 b h n k)))) := by
  unfold weights
  rw [weightsOf_apply, rowMax_apply]
  rfl

/-- The softmax at an index: the weight over the sum of its row's weights. -/
theorem softmax_apply (t : FVec Ideal S4x16x4096x4096 .f32) (b : Fin 4) (h : Fin 16) (n j : Fin 4096) :
    softmax t (ix4 b h n j) = Ideal.div (t (ix4 b h n j)) (∑ x : Fin 4096, t (ix4 b h n x)) := by
  pointwise [softmax]

/-- The factor of the second softmax, from the four vectors. -/
theorem lam_apply (x3 x4 x5 x6 : FVec Ideal S64 .f32) (i : S_.Idx) : lam x3 x4 x5 x6 i = lamE x3 x4 x5 x6 := by
  pointwise [lam, lamE]

/-- The averaged values at an index: head `h` takes the softmaxes of the half-heads `2 h` and `2 h + 1`. -/
theorem diff_apply (p : FVec Ideal S4x16x4096x4096 .f32) (l : FVec Ideal S_ .f32) (x2 : FVec Ideal S4x4096x1024 .bf16) (b : Fin 4) (n : Fin 4096) (h : Fin 8) (e : Fin 128) :
    diff p l x2 (ix4 b n h e) = ∑ x : Fin 4096, x2 (ix3 b x (⟨h.val * 128 + e.val, by omega⟩ : Fin 1024))
      * (p (ix4 b (⟨h.val * 2, by omega⟩ : Fin 16) n x) - l ix0 * p (ix4 b (⟨h.val * 2 + 1, by omega⟩ : Fin 16) n x)) := by
  pointwise [diff]

/-- The result at an index: the head's normalised row. -/
theorem normed_apply (o : FVec Ideal S4x4096x8x128 .f32) (x7 : FVec Ideal S128 .f32) (b : Fin 4) (n : Fin 4096) (h : Fin 8) (e : Fin 128) :
    normed o x7 (ix3 b n (⟨128 * h.val + e.val, by omega⟩ : Fin 1024)) = normRow (fun x => o (ix4 b n h x)) (fun x => x7 (ix1 x)) e := by
  pointwise [normed, normRow]

/-- The softmax of a half-head's row, when its queries and keys are real. -/
theorem prob_apply (x0 x1 : FVec Ideal S4x4096x1024 .bf16) (h0 : ∀ i, x0 i = ((x0 i).toReal : EReal)) (h1 : ∀ i, x1 i = ((x1 i).toReal : EReal)) (b : Fin 4) (h : Fin 16) (n j : Fin 4096) :
    softmax (weights (scores x0 x1)) (ix4 b h n j)
      = (((if j.val ≤ n.val then Real.exp (halfScore x0 x1 b h n j.val) else 0) / ∑ x ∈ Finset.range (n.val + 1), Real.exp (halfScore x0 x1 b h n x) : ℝ) : EReal) := by
  rw [softmax_apply]
  simp only [weights_apply]
  refine softmax_masked 4096 n.val n.isLt (halfScore x0 x1 b h n) (fun k => scores x0 x1 (ix4 b h n k)) (fun k => ?_) _ rfl j
  rw [scores_apply]
  congr 1
  unfold halfScore
  rw [← coe_sum]
  refine Finset.sum_congr rfl fun x _ => ?_
  rw [EReal.coe_mul, ← h0, Fin.ofNat_val_eq_self, ← h1]

/-- The reference's result on real queries, keys, values and a real factor: every head's row by the causal softmaxes over the keys up to it. -/
theorem normed_spec (x0 x1 x2 : FVec Ideal S4x4096x1024 .bf16) (x3 x4 x5 x6 : FVec Ideal S64 .f32) (x7 : FVec Ideal S128 .f32) (h0 : ∀ i, x0 i = ((x0 i).toReal : EReal))
    (h1 : ∀ i, x1 i = ((x1 i).toReal : EReal)) (h2 : ∀ i, x2 i = ((x2 i).toReal : EReal)) (hl : lamE x3 x4 x5 x6 = ((lamE x3 x4 x5 x6).toReal : EReal))
    (b : Fin 4) (n : Fin 4096) (h : Fin 8) (e : Fin 128) :
    normed (diff (softmax (weights (scores x0 x1))) (lam x3 x4 x5 x6) x2) x7 (ix3 b n (⟨128 * h.val + e.val, by omega⟩ : Fin 1024)) = spec x0 x1 x2 x3 x4 x5 x6 x7 b n h e := by
  rw [normed_apply]
  unfold spec
  congr 1
  funext x
  rw [diff_apply, lam_apply, hl]
  simp only [prob_apply x0 x1 h0 h1, EReal.toReal_coe]
  refine Eq.trans ?_ (sum_softmax 4096 n.val n.isLt _ _ (fun j => (x2 (ix3 b (Fin.ofNat 4096 j) (⟨128 * h.val + x.val, by omega⟩ : Fin 1024))).toReal) _)
  refine Finset.sum_congr rfl fun k _ => ?_
  rw [Fin.ofNat_val_eq_self, ← h2]
  simp only [Nat.mul_comm h.val 128]

end Cert.AttnRefIdeal.Row

end
-- ==== Proof.AttnValue.lean ====
module

public import proofs.«01_k».proof.Proof.AttnState
public import proofs.«01_k».proof.Proof.AttnRef
public import proofs.«01_k».proof.Defs

@[expose] public section

set_option maxRecDepth 16384

noncomputable section

open Idealize.ShloMosaic Idealize.ShloMosaic.TcCoe Idealize.SL.Sem

namespace Cert.AttnIdeal.Block

open Cert.AttnIdeal Cert.AttnIdeal.Gen Cert.AttnMath

variable (m : (ℓ : Loc nD τ sig) → Buf (Elt Ideal) ℓ)

/-- The region finds the queries as launched: the two reshapes of the host undo each other. -/
theorem V_main_v8 (c : Dev nD) : (V m c main_v8 : Vec Ideal S4x4096x1024 .bf16) = (m ((c.tc : Thread nD τ).loc main_arg0) : Vec Ideal S4x4096x1024 .bf16) := by
  entry_read
  exact shapeCast_shapeCast _ _ _

/-- The region finds the keys as launched: the two reshapes of the host undo each other. -/
theorem V_main_v9 (c : Dev nD) : (V m c main_v9 : Vec Ideal S4x4096x1024 .bf16) = (m ((c.tc : Thread nD τ).loc main_arg1) : Vec Ideal S4x4096x1024 .bf16) := by
  entry_read
  exact shapeCast_shapeCast _ _ _

/-- The region finds the values as launched: the two reshapes of the host undo each other. -/
theorem V_main_v10 (c : Dev nD) : (V m c main_v10 : Vec Ideal S4x4096x1024 .bf16) = (m ((c.tc : Thread nD τ).loc main_arg2) : Vec Ideal S4x4096x1024 .bf16) := by
  entry_read
  exact shapeCast_shapeCast _ _ _

/-- The windows' block indices, decided over the 256 grid points: batch, then block of queries, then head. -/
theorem idx0 : ∀ t : Fin cfg0.N, win0_0.index t = ![t.val / 64, t.val % 8, t.val / 8 % 8] ∧ win0_1.index t = ![t.val / 64, 0, t.val / 8 % 8] ∧ win0_2.index t = ![t.val / 64, 0, t.val / 8 % 8]
    ∧ win0_3.index t = ![0, 0] ∧ win0_4.index t = ![0, 0] ∧ win0_5.index t = ![0, 0] ∧ win0_6.index t = ![0, 0] ∧ win0_7.index t = ![0, 0]
    ∧ win0_8.index t = ![t.val / 64, t.val % 8, t.val / 8 % 8] ∧ (grid0.coords t 2).val = t.val % 8 :=
  (by decide +kernel : ∀ t : Fin grid0.N, win0_0.index t = ![t.val / 64, t.val % 8, t.val / 8 % 8] ∧ win0_1.index t = ![t.val / 64, 0, t.val / 8 % 8] ∧ win0_2.index t = ![t.val / 64, 0, t.val / 8 % 8]
    ∧ win0_3.index t = ![0, 0] ∧ win0_4.index t = ![0, 0] ∧ win0_5.index t = ![0, 0] ∧ win0_6.index t = ![0, 0] ∧ win0_7.index t = ![0, 0]
    ∧ win0_8.index t = ![t.val / 64, t.val % 8, t.val / 8 % 8] ∧ (grid0.coords t 2).val = t.val % 8)

/-- Window 0 reads its array at the block's placement, whatever the array holds. -/
theorem read_q (c : Dev nD) (W : (b : Ref sig .tc) → Buf (Elt Ideal) ((c : Thread nD τ).loc b)) (t : Fin cfg0.N) (y : S1x512x128.Idx) :
    ((cfg0.win 0).blk t).view.read (Elt Ideal) (W (Pipeline.arrRef spec0 0)) y = (W main_v8 : Vec Ideal S4x4096x1024 .bf16) ((win0_0.blk t).view.emb y) := rfl

/-- The query block at a grid point. -/
theorem iblk_q (c : Dev nD) (t : Fin cfg0.N) (r : Fin 512) (d : Fin 128) (h0 : t.val / 64 < 4) (h1 : 512 * (t.val % 8) + r.val < 4096) (h2 : 128 * (t.val / 8 % 8) + d.val < 1024) :
    (iblk m c 0 t : Vec Ideal S1x512x128 .bf16) (ix3 0 r d)
      = (m ((c.tc : Thread nD τ).loc main_arg0) : Vec Ideal S4x4096x1024 .bf16) (ix3 ⟨t.val / 64, h0⟩ ⟨512 * (t.val % 8) + r.val, h1⟩ ⟨128 * (t.val / 8 % 8) + d.val, h2⟩) := by
  have he : ((win0_0.blk t).view.emb (ix3 0 r d : S1x512x128.Idx) : S4x4096x1024.Idx) = ix3 ⟨t.val / 64, h0⟩ ⟨512 * (t.val % 8) + r.val, h1⟩ ⟨128 * (t.val / 8 % 8) + d.val, h2⟩ := by
    blk_ext [idx0 t]
  unfold iblk
  exact (read_q c (V m c) t _).trans ((congrArg _ he).trans (congrFun (V_main_v8 m c) _))

/-- Window 1 reads its array at the block's placement, whatever the array holds. -/
theorem read_k (c : Dev nD) (W : (b : Ref sig .tc) → Buf (Elt Ideal) ((c : Thread nD τ).loc b)) (t : Fin cfg0.N) (y : S1x4096x128.Idx) :
    ((cfg0.win 1).blk t).view.read (Elt Ideal) (W (Pipeline.arrRef spec0 1)) y = (W main_v9 : Vec Ideal S4x4096x1024 .bf16) ((win0_1.blk t).view.emb y) := rfl

/-- The keys of a head. -/
theorem iblk_k (c : Dev nD) (t : Fin cfg0.N) (n : Fin 4096) (d : Fin 128) (h0 : t.val / 64 < 4) (h2 : 128 * (t.val / 8 % 8) + d.val < 1024) :
    (iblk m c 1 t : Vec Ideal S1x4096x128 .bf16) (ix3 0 n d)
      = (m ((c.tc : Thread nD τ).loc main_arg1) : Vec Ideal S4x4096x1024 .bf16) (ix3 ⟨t.val / 64, h0⟩ n ⟨128 * (t.val / 8 % 8) + d.val, h2⟩) := by
  have he : ((win0_1.blk t).view.emb (ix3 0 n d : S1x4096x128.Idx) : S4x4096x1024.Idx) = ix3 ⟨t.val / 64, h0⟩ n ⟨128 * (t.val / 8 % 8) + d.val, h2⟩ := by
    blk_ext [idx0 t]
  unfold iblk
  exact (read_k c (V m c) t _).trans ((congrArg _ he).trans (congrFun (V_main_v9 m c) _))

/-- Window 2 reads its array at the block's placement, whatever the array holds. -/
theorem read_v (c : Dev nD) (W : (b : Ref sig .tc) → Buf (Elt Ideal) ((c : Thread nD τ).loc b)) (t : Fin cfg0.N) (y : S1x4096x128.Idx) :
    ((cfg0.win 2).blk t).view.read (Elt Ideal) (W (Pipeline.arrRef spec0 2)) y = (W main_v10 : Vec Ideal S4x4096x1024 .bf16) ((win0_2.blk t).view.emb y) := rfl

/-- The values of a head. -/
theorem iblk_v (c : Dev nD) (t : Fin cfg0.N) (n : Fin 4096) (d : Fin 128) (h0 : t.val / 64 < 4) (h2 : 128 * (t.val / 8 % 8) + d.val < 1024) :
    (iblk m c 2 t : Vec Ideal S1x4096x128 .bf16) (ix3 0 n d)
      = (m ((c.tc : Thread nD τ).loc main_arg2) : Vec Ideal S4x4096x1024 .bf16) (ix3 ⟨t.val / 64, h0⟩ n ⟨128 * (t.val / 8 % 8) + d.val, h2⟩) := by
  have he : ((win0_2.blk t).view.emb (ix3 0 n d : S1x4096x128.Idx) : S4x4096x1024.Idx) = ix3 ⟨t.val / 64, h0⟩ n ⟨128 * (t.val / 8 % 8) + d.val, h2⟩ := by
    blk_ext [idx0 t]
  unfold iblk
  exact (read_v c (V m c) t _).trans ((congrArg _ he).trans (congrFun (V_main_v10 m c) _))

/-- The first of the four vectors, as a row. -/
theorem iblk_3 (c : Dev nD) (t : Fin cfg0.N) (x : Fin 64) :
    (iblk m c 3 t : Vec Ideal S1x64 .f32) (ix2 0 x) = (m ((c.tc : Thread nD τ).loc main_arg3) : Vec Ideal S64 .f32) (ix1 x) := by
  blk_ext! [iblk, V, idx0 t]

/-- The second of the four vectors, as a row. -/
theorem iblk_4 (c : Dev nD) (t : Fin cfg0.N) (x : Fin 64) :
    (iblk m c 4 t : Vec Ideal S1x64 .f32) (ix2 0 x) = (m ((c.tc : Thread nD τ).loc main_arg4) : Vec Ideal S64 .f32) (ix1 x) := by
  blk_ext! [iblk, V, idx0 t]

/-- The third of the four vectors, as a row. -/
theorem iblk_5 (c : Dev nD) (t : Fin cfg0.N) (x : Fin 64) :
    (iblk m c 5 t : Vec Ideal S1x64 .f32) (ix2 0 x) = (m ((c.tc : Thread nD τ).loc main_arg5) : Vec Ideal S64 .f32) (ix1 x) := by
  blk_ext! [iblk, V, idx0 t]

/-- The fourth of the four vectors, as a row. -/
theorem iblk_6 (c : Dev nD) (t : Fin cfg0.N) (x : Fin 64) :
    (iblk m c 6 t : Vec Ideal S1x64 .f32) (ix2 0 x) = (m ((c.tc : Thread nD τ).loc main_arg6) : Vec Ideal S64 .f32) (ix1 x) := by
  blk_ext! [iblk, V, idx0 t]

/-- The gain, as a row. -/
theorem iblk_7 (c : Dev nD) (t : Fin cfg0.N) (x : Fin 128) :
    (iblk m c 7 t : Vec Ideal S1x128 .f32) (ix2 0 x) = (m ((c.tc : Thread nD τ).loc main_arg7) : Vec Ideal S128 .f32) (ix1 x) := by
  blk_ext! [iblk, V, idx0 t]

/-- A product over 128 lanes, the upper half of one factor cleared: the product over the lower 64. -/
theorem half_lo (q k : Fin 128 → ℝ) : ∑ d, (if d.val < 64 then q d else 0) * k d = ∑ x : Fin 64, q ⟨x.val, by omega⟩ * k ⟨x.val, by omega⟩ := by
  refine (Fin.sum_univ_add (a := 64) (b := 64) fun d : Fin (64 + 64) => (if d.val < 64 then q d else 0) * k d).trans ?_
  rw [Finset.sum_eq_zero (s := Finset.univ) (f := fun x : Fin 64 => (if (Fin.natAdd 64 x).val < 64 then q (Fin.natAdd 64 x) else 0) * k (Fin.natAdd 64 x))
    (fun x _ => by rw [if_neg (by rw [Fin.val_natAdd]; omega), zero_mul]), add_zero]
  refine Finset.sum_congr rfl fun x _ => ?_
  rw [if_pos (show (Fin.castAdd 64 x).val < 64 from x.isLt)]
  rfl

/-- The same, the lower half cleared. -/
theorem half_hi (q k : Fin 128 → ℝ) : ∑ d, (if 64 ≤ d.val then q d else 0) * k d = ∑ x : Fin 64, q ⟨64 + x.val, by omega⟩ * k ⟨64 + x.val, by omega⟩ := by
  refine (Fin.sum_univ_add (a := 64) (b := 64) fun d : Fin (64 + 64) => (if 64 ≤ d.val then q d else 0) * k d).trans ?_
  rw [Finset.sum_eq_zero (s := Finset.univ) (f := fun x : Fin 64 => (if 64 ≤ (Fin.castAdd 64 x).val then q (Fin.castAdd 64 x) else 0) * k (Fin.castAdd 64 x))
    (fun x _ => by rw [if_neg (by rw [Fin.val_castAdd]; omega), zero_mul]), zero_add]
  refine Finset.sum_congr rfl fun x _ => ?_
  rw [if_pos (show 64 ≤ (Fin.natAdd 64 x).val by rw [Fin.val_natAdd]; omega)]
  rfl

open Cert.AttnRefIdeal.Row (spec halfScore lamE)

/-- The kernel's result array: differential attention at every index. -/
def result (c : Dev nD) : Vec Ideal S4x4096x1024 .bf16 := fun i =>
  spec (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (i 0) (i 1) ⟨(i 2).val / 128, by have : (i 2).val < 1024 := (i 2).isLt; omega⟩ ⟨(i 2).val % 128, Nat.mod_lt _ (by omega)⟩

/-- The result at a head's lane. -/
theorem result_apply (c : Dev nD) (b : Fin 4) (n : Fin 4096) (h : Fin 8) (e : Fin 128) (l : Fin 1024) (hl : l.val = 128 * h.val + e.val) :
    result m c (ix3 b n l)
      = spec (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) b n h e := by
  have h1 : (⟨l.val / 128, by omega⟩ : Fin 8) = h := Fin.ext (show l.val / 128 = h.val by omega)
  have h2 : (⟨l.val % 128, Nat.mod_lt _ (by omega)⟩ : Fin 128) = e := Fin.ext (show l.val % 128 = e.val by omega)
  unfold result
  simp only [ix3_0, ix3_1, ix3_2]
  rw [h1, h2]

/-- The body's block at a grid point, an index of it: the differential attention there. -/
theorem point (c : Dev nD) (a0 a1 a2 : Vec Ideal S4x4096x1024 .bf16) (a3 a4 a5 a6 : Vec Ideal S64 .f32) (a7 : Vec Ideal S128 .f32)
    (h0 : ∀ i, a0 i = ((a0 i).toReal : EReal)) (h1 : ∀ i, a1 i = ((a1 i).toReal : EReal)) (h2 : ∀ i, a2 i = ((a2 i).toReal : EReal)) (hl : lamE a3 a4 a5 a6 = ((lamE a3 a4 a5 a6).toReal : EReal))
    (b : Fin 4) (h : Fin 8) (n : ℕ) (hn : n < 8)
    (x0 : Vec Ideal S1x512x128 .bf16) (x1 x2 : Vec Ideal S1x4096x128 .bf16) (x3 x4 x5 x6 : Vec Ideal S1x64 .f32) (x7 : Vec Ideal S1x128 .f32)
    (e0 : ∀ (r : Fin 512) (d : Fin 128), x0 (ix3 0 r d) = a0 (ix3 b (⟨512 * n + r.val, by omega⟩ : Fin 4096) (⟨128 * h.val + d.val, by omega⟩ : Fin 1024)))
    (e1 : ∀ (k : Fin 4096) (d : Fin 128), x1 (ix3 0 k d) = a1 (ix3 b k (⟨128 * h.val + d.val, by omega⟩ : Fin 1024)))
    (e2 : ∀ (k : Fin 4096) (d : Fin 128), x2 (ix3 0 k d) = a2 (ix3 b k (⟨128 * h.val + d.val, by omega⟩ : Fin 1024)))
    (e3 : ∀ x, x3 (ix2 0 x) = a3 (ix1 x)) (e4 : ∀ x, x4 (ix2 0 x) = a4 (ix1 x)) (e5 : ∀ x, x5 (ix2 0 x) = a5 (ix1 x)) (e6 : ∀ x, x6 (ix2 0 x) = a6 (ix1 x)) (e7 : ∀ x, x7 (ix2 0 x) = a7 (ix1 x))
    (r : Fin 512) (e : Fin 128) :
    outBlk n x0 x1 x2 x3 x4 x5 x6 x7 (ix3 0 r e) = spec a0 a1 a2 a3 a4 a5 a6 a7 b (⟨512 * n + r.val, by omega⟩ : Fin 4096) h e := by
  refine (outBlk_apply n hn x0 x1 x2 x3 x4 x5 x6 x7 r
    (fun d => (a0 (ix3 b (⟨512 * n + r.val, by omega⟩ : Fin 4096) (⟨128 * h.val + d.val, by omega⟩ : Fin 1024))).toReal)
    (fun j d => (a1 (ix3 b (Fin.ofNat 4096 j) (⟨128 * h.val + d.val, by omega⟩ : Fin 1024))).toReal)
    (fun j d => (a2 (ix3 b (Fin.ofNat 4096 j) (⟨128 * h.val + d.val, by omega⟩ : Fin 1024))).toReal)
    (lamE a3 a4 a5 a6).toReal (fun d => (e0 r d).trans (h0 _)) (fun k d => ?_) (fun k d => ?_) ?_ e).trans ?_
  · rw [Fin.ofNat_val_eq_self, ← h1, e1]
  · rw [Fin.ofNat_val_eq_self, ← h2, e2]
  · rw [← hl]
    simp only [e3, e4, e5, e6]
    rfl
  · unfold spec
    simp only [e7]
    refine congrArg (fun o => normRow o _ e) (funext fun x => ?_)
    have hs1 : score (fun d => if d.val < 64 then (a0 (ix3 b (⟨512 * n + r.val, by omega⟩ : Fin 4096) (⟨128 * h.val + d.val, by omega⟩ : Fin 1024))).toReal else 0)
        (fun j d => (a1 (ix3 b (Fin.ofNat 4096 j) (⟨128 * h.val + d.val, by omega⟩ : Fin 1024))).toReal)
        = halfScore a0 a1 b (⟨h.val * 2, by omega⟩ : Fin 16) (⟨512 * n + r.val, by omega⟩ : Fin 4096) := by
      funext j
      unfold score halfScore
      refine (half_lo _ _).trans (Finset.sum_congr rfl fun d _ => ?_)
      simp only [show 128 * h.val + d.val = h.val * 2 * 64 + d.val by omega]
    have hs2 : score (fun d => if 64 ≤ d.val then (a0 (ix3 b (⟨512 * n + r.val, by omega⟩ : Fin 4096) (⟨128 * h.val + d.val, by omega⟩ : Fin 1024))).toReal else 0)
        (fun j d => (a1 (ix3 b (Fin.ofNat 4096 j) (⟨128 * h.val + d.val, by omega⟩ : Fin 1024))).toReal)
        = halfScore a0 a1 b (⟨h.val * 2 + 1, by omega⟩ : Fin 16) (⟨512 * n + r.val, by omega⟩ : Fin 4096) := by
      funext j
      unfold score halfScore
      refine (half_hi _ _).trans (Finset.sum_congr rfl fun d _ => ?_)
      simp only [show 128 * h.val + (64 + d.val) = (h.val * 2 + 1) * 64 + d.val by omega]
    rw [hs1, hs2]

/-- The array the pipeline leaves, on real queries, keys, values and a real factor. -/
theorem final (c : Dev nD) (h0 : ∀ i, (m ((c.tc : Thread nD τ).loc main_arg0) : Vec Ideal S4x4096x1024 .bf16) i = ((((m ((c.tc : Thread nD τ).loc main_arg0) : Vec Ideal S4x4096x1024 .bf16) i : EReal)).toReal : EReal))
    (h1 : ∀ i, (m ((c.tc : Thread nD τ).loc main_arg1) : Vec Ideal S4x4096x1024 .bf16) i = ((((m ((c.tc : Thread nD τ).loc main_arg1) : Vec Ideal S4x4096x1024 .bf16) i : EReal)).toReal : EReal))
    (h2 : ∀ i, (m ((c.tc : Thread nD τ).loc main_arg2) : Vec Ideal S4x4096x1024 .bf16) i = ((((m ((c.tc : Thread nD τ).loc main_arg2) : Vec Ideal S4x4096x1024 .bf16) i : EReal)).toReal : EReal))
    (hl : lamE (m ((c.tc : Thread nD τ).loc main_arg3)) (m ((c.tc : Thread nD τ).loc main_arg4)) (m ((c.tc : Thread nD τ).loc main_arg5)) (m ((c.tc : Thread nD τ).loc main_arg6))
      = ((lamE (m ((c.tc : Thread nD τ).loc main_arg3)) (m ((c.tc : Thread nD τ).loc main_arg4)) (m ((c.tc : Thread nD τ).loc main_arg5)) (m ((c.tc : Thread nD τ).loc main_arg6))).toReal : EReal)) :
    (dats m 0 c).arrAt 8 cfg0.N = result m c := by
  refine (dats m 0 c).arrAt_eq_of_covers 8 _ (by decide +kernel) fun t hf y => ?_
  blk_simp
  rw [after0_8]
  unfold outsAt0
  rw [out_A]
  obtain ⟨r, e, rfl⟩ : ∃ (r : Fin 512) (e : Fin 128), y = (ix3 0 r e : S1x512x128.Idx) :=
    ⟨y 1, y 2, (eq_ix3 (n0 := 1) (n1 := 512) (n2 := 128) y).trans (by congr 1; exact Subsingleton.elim _ _)⟩
  have ht : t.val < 256 := t.isLt
  have he : ((win0_8.blk t).view.emb (ix3 0 r e : S1x512x128.Idx) : S4x4096x1024.Idx)
      = ix3 ⟨t.val / 64, by omega⟩ ⟨512 * (t.val % 8) + r.val, by omega⟩ ⟨128 * (t.val / 8 % 8) + e.val, by omega⟩ := by
    blk_ext [idx0 t]
  rw [he, (idx0 t).2.2.2.2.2.2.2.2.2]
  refine Eq.trans ?_ (result_apply m c ⟨t.val / 64, by omega⟩ ⟨512 * (t.val % 8) + r.val, by omega⟩ ⟨t.val / 8 % 8, by omega⟩ e _ rfl).symm
  exact point c _ _ _ _ _ _ _ _ h0 h1 h2 hl ⟨t.val / 64, by omega⟩ ⟨t.val / 8 % 8, by omega⟩ (t.val % 8) (by omega) _ _ _ _ _ _ _ _
    (fun r d => iblk_q m c t r d _ _ _) (fun k d => iblk_k m c t k d _ _) (fun k d => iblk_v m c t k d _ _) (iblk_3 m c t) (iblk_4 m c t) (iblk_5 m c t) (iblk_6 m c t) (iblk_7 m c t) r e

end Cert.AttnIdeal.Block

end
-- ==== Proof.AttnClaims.lean ====
module

public import proofs.«01_k».proof.Proof.AttnPre
public import proofs.«01_k».proof.Proof.AttnFrames
public import proofs.«01_k».proof.Proof.AttnValue
public import proofs.«01_k».proof.Proof.Gen.AttnIdeal.Value

@[expose] public section

set_option maxRecDepth 16384

noncomputable section

open Idealize.ShloMosaic Idealize.ShloMosaic.TcCoe Idealize.SL.Sem

namespace Cert.Proof.AttnClaims

/-- The kernel's frame, where the queries, keys, values and factor vectors are finite. -/
theorem frame_ki_finite : Cert.quiescent_AttnIdeal_pre_finite := fun m ρ _ => Cert.AttnIdeal.Gen.frame m ρ

/-- The reference's frame, there too. -/
theorem frame_ri_finite : Cert.quiescent_AttnRefIdeal_pre_finite := fun m ρ _ => frame_ri m ρ trivial

/-- On finite queries, keys, values and factor vectors the kernel and the reference leave the same array: differential attention. -/
theorem algebraic : Cert.algebraic_AttnIdeal_AttnRefIdeal_pre_finite := by
  intro m ρ m' ρ' hpre hagree
  have hr := fun c => Cert.AttnPre.fst_real _ _ _ _ _ _ _ _ (hpre c).1
  have hl := fun c => Cert.AttnPre.lam_real _ _ _ _ _ _ _ _ (hpre c).2
  refine ⟨fun c => Cert.AttnIdeal.Block.result m c,
    (θ_run Cert.AttnIdeal.defs _ _).mono (fun _ h c => ⟨(h c).1.trans
      (Cert.AttnIdeal.Block.final m c (fun i => (hr c i).1) (fun i => (hr c i).2.1) (fun i => (hr c i).2.2) (hl c)), (h c).2⟩) (Cert.AttnIdeal.Value.run_blocks (F := Ideal) m ρ),
    (θ_run Cert.AttnRefIdeal.defs _ _).mono (fun _ h c => ⟨(h c).1.trans ?_, (h c).2⟩) (Cert.AttnRefIdeal.Value.run (F := Ideal) m' ρ')⟩
  obtain ⟨h0, h1, h2, h3, h4, h5, h6, h7⟩ := hagree c
  refine (Cert.AttnRefIdeal.Row.res_eq m' c).trans ?_
  rw [h0, h1, h2, h3, h4, h5, h6, h7]
  funext i
  obtain ⟨b, n, l, rfl⟩ : ∃ (b : Fin 4) (n : Fin 4096) (l : Fin 1024), i = (ix3 b n l : (⟨3, ![4, 4096, 1024]⟩ : Shape).Idx) :=
    ⟨i 0, i 1, i 2, eq_ix3 (n0 := 4) (n1 := 4096) (n2 := 1024) i⟩
  obtain ⟨h, e, rfl⟩ : ∃ (h : Fin 8) (e : Fin 128), l = (⟨128 * h.val + e.val, by omega⟩ : Fin 1024) :=
    ⟨⟨l.val / 128, by omega⟩, ⟨l.val % 128, by omega⟩, Fin.ext (by show l.val = 128 * (l.val / 128) + l.val % 128; omega)⟩
  refine (Cert.AttnRefIdeal.Row.normed_spec _ _ _ _ _ _ _ _ (fun i => (hr c i).1) (fun i => (hr c i).2.1) (fun i => (hr c i).2.2) (hl c) b n h e).trans ?_
  exact (Cert.AttnIdeal.Block.result_apply m c b n h e _ rfl).symm

end Cert.Proof.AttnClaims

end
-- ==== Proof.OutMath.lean ====
module

public import proofs.«01_k».proof.Proof.FfnMath

@[expose] public section

noncomputable section

open Idealize.ShloMosaic

namespace Cert.OutMath

/-- One row of the post-norm: the layer norm of `alpha * x` plus the sublayer's row `y`. -/
def postRow (x y g b : Fin 1024 → EReal) : Fin 1024 → EReal :=
  FfnMath.layerNorm (fun l => Ideal.ofBits .f32 0x3FD744FD#32 * x l + y l) g b

/-- One row times a square weight. -/
def projRow (o : Fin 1024 → EReal) (w : Fin 1024 → Fin 1024 → EReal) (l : Fin 1024) : EReal := ∑ k, o k * w k l

/-- A row times its gate. -/
def gateRow (o g : Fin 1024 → EReal) (k : Fin 1024) : EReal := o k * g k

end Cert.OutMath

end
-- ==== Proof.OutValue.lean ====
module

public import proofs.«01_k».proof.Proof.Gen.OutIdeal.Value
public import proofs.«01_k».proof.Proof.OutMath
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OutIdeal.Block

open Cert.OutIdeal Cert.OutIdeal.Gen Cert.FfnMath Cert.OutMath

variable (m : (ℓ : Loc nD τ sig) → Buf (Elt Ideal) ℓ)

/-- The kernel's result array: row `i` is the post-norm of the output projection of row `i`. -/
def result (c : Dev nD) : Vec Ideal S16384x1024 .f32 := fun i =>
  postRow (fun k => (m ((c.tc : Thread nD τ).loc main_arg1) : Vec Ideal S16384x1024 .f32) (ix2 (i 0) k))
      (projRow (fun k => (m ((c.tc : Thread nD τ).loc main_arg0) : Vec Ideal S16384x1024 .bf16) (ix2 (i 0) k)) (fun k c' => (m ((c.tc : Thread nD τ).loc main_arg2) : Vec Ideal S1024x1024 .f32) (ix2 k c')))
      (fun k => (m ((c.tc : Thread nD τ).loc main_arg3) : Vec Ideal S1024 .f32) (ix1 k)) (fun k => (m ((c.tc : Thread nD τ).loc main_arg4) : Vec Ideal S1024 .f32) (ix1 k)) (i 1)

/-- The body's result block, row by row: the post-norm of the output projection of the row. -/
theorem out_apply (x0 : Vec Ideal S512x1024 .bf16) (x1 : Vec Ideal S512x1024 .f32) (x2 : Vec Ideal S1024x1024 .bf16) (x3 : Vec Ideal S1x1024 .f32) (x4 : Vec Ideal S1x1024 .f32) (r : Fin 512) (l : Fin 1024) :
    out0_5 x0 x1 x2 x3 x4 (ix2 r l) = postRow (fun k => x1 (ix2 r k)) (projRow (fun k => x0 (ix2 r k)) (fun k c' => x2 (ix2 k c')))
      (fun k => x3 (ix2 0 k)) (fun k => x4 (ix2 0 k)) l := by
  have he : out0_5 x0 x1 x2 x3 x4 = k0_pay1 x0 x2 x1 x3 x4 := by
    frame_out
  rw [he]
  pointwise [k0_pay1, postRow, projRow, layerNorm, mean]

/-- The windows' block indices, decided over the 32 grid points. -/
theorem idx0 : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![0, 0] ∧ win0_5.index t = ![t.val, 0])

/-- Block `t` of operand 0, row `r`. -/
theorem iblk_0 (c : Dev nD) (t : Fin cfg0.N) (r : Fin 512) (k : Fin 1024) (h : t.val * 512 + r.val < 16384) :
    (iblk m c 0 t : Vec Ideal S512x1024 .bf16) (ix2 r k) = (m ((c.tc : Thread nD τ).loc main_arg0) : Vec Ideal S16384x1024 .bf16) (ix2 ⟨t.val * 512 + r.val, h⟩ k) := by
  blk_ext [iblk, V_main_arg0, idx0 t]

/-- Block `t` of operand 1, row `r`. -/
theorem iblk_1 (c : Dev nD) (t : Fin cfg0.N) (r : Fin 512) (k : Fin 1024) (h : t.val * 512 + r.val < 16384) :
    (iblk m c 1 t : Vec Ideal S512x1024 .f32) (ix2 r k) = (m ((c.tc : Thread nD τ).loc main_arg1) : Vec Ideal S16384x1024 .f32) (ix2 ⟨t.val * 512 + r.val, h⟩ k) := by
  blk_ext [iblk, V_main_arg1, idx0 t]

/-- The weight's block: the whole of it, at every point. -/
theorem iblk_2 (c : Dev nD) (t : Fin cfg0.N) (r : Fin 1024) (k : Fin 1024) :
    (iblk m c 2 t : Vec Ideal S1024x1024 .bf16) (ix2 r k) = (m ((c.tc : Thread nD τ).loc main_arg2) : Vec Ideal S1024x1024 .f32) (ix2 r k) := by
  blk_ext [iblk, V, idx0 t]

/-- The norm's gain as a row: the whole of it, at every point. -/
theorem iblk_3 (c : Dev nD) (t : Fin cfg0.N) (k : Fin 1024) :
    (iblk m c 3 t : Vec Ideal S1x1024 .f32) (ix2 0 k) = (m ((c.tc : Thread nD τ).loc main_arg3) : Vec Ideal S1024 .f32) (ix1 k) := by
  blk_ext! [iblk, V, idx0 t]

/-- The norm's bias as a row: the whole of it, at every point. -/
theorem iblk_4 (c : Dev nD) (t : Fin cfg0.N) (k : Fin 1024) :
    (iblk m c 4 t : Vec Ideal S1x1024 .f32) (ix2 0 k) = (m ((c.tc : Thread nD τ).loc main_arg4) : Vec Ideal S1024 .f32) (ix1 k) := by
  blk_ext! [iblk, V, idx0 t]

/-- The array the pipeline leaves: every row's post-norm of its output projection. -/
theorem final (c : Dev nD) : (dats m 0 c).arrAt 5 cfg0.N = result m c := by
  refine (dats m 0 c).arrAt_eq_of_covers 5 _ (by decide +kernel) fun t hf y => ?_
  blk_simp
  rw [after0_5]
  obtain ⟨r, l, rfl⟩ : ∃ (r : Fin 512) (l : Fin 1024), y = (ix2 r l : (⟨2, ![512, 1024]⟩ : Shape).Idx) := ⟨y 0, y 1, eq_ix2 (n0 := 512) (n1 := 1024) y⟩
  have ht : t.val < 32 := t.isLt
  have he : (win0_5.blk t).view.emb (ix2 r l : (⟨2, ![512, 1024]⟩ : Shape).Idx)
      = (ix2 ⟨t.val * 512 + r.val, by omega⟩ l : (⟨2, ![16384, 1024]⟩ : Shape).Idx) := by
    blk_ext [idx0 t]
  rw [he]
  refine (out_apply _ _ _ _ _ r l).trans ?_
  have h0 : ∀ k : Fin 1024, (iblk m c 0 t : Vec Ideal S512x1024 .bf16) (ix2 r k) = _ := fun k => iblk_0 m c t r k (by omega)
  have h1 : ∀ k : Fin 1024, (iblk m c 1 t : Vec Ideal S512x1024 .f32) (ix2 r k) = _ := fun k => iblk_1 m c t r k (by omega)
  simp only [h0, h1, iblk_2, iblk_3, iblk_4]
  rfl

end Cert.OutIdeal.Block

end
-- ==== Proof.OutRef.lean ====
module

public import proofs.«01_k».proof.Proof.Gen.OutRefIdeal.Run
public import proofs.«01_k».proof.Proof.OutMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OutRefIdeal.Row

open Cert.OutRefIdeal Cert.OutRefIdeal.Gen Cert.FfnMath Cert.OutMath

variable (m : (ℓ : Loc nD τ sig) → Buf (Elt Ideal) ℓ)

/-- The reference's run with its result stated row by row: the post-norm of the output projection of the row. -/
theorem run_rows (ρ : Dev nD → PrngReg) :
    θ_run defs (onTc (τ := τ) (main (F := Ideal))) ⟨m, fun _ => 0, ρ⟩ fun r => ∀ c : Dev nD,
      (∀ (i : Fin 16384) (l : Fin 1024), (r.2.mem ((c.tc : Thread nD τ).loc main_v28) : Vec Ideal S16384x1024 .f32) (ix2 i l) = postRow (fun k => (m ((c.tc : Thread nD τ).loc main_arg1) : Vec Ideal S16384x1024 .f32) (ix2 i k))
      (projRow (fun k => (m ((c.tc : Thread nD τ).loc main_arg0) : Vec Ideal S16384x1024 .bf16) (ix2 i k)) (fun k c' => (m ((c.tc : Thread nD τ).loc main_arg2) : Vec Ideal S1024x1024 .f32) (ix2 k c')))
      (fun k => (m ((c.tc : Thread nD τ).loc main_arg3) : Vec Ideal S1024 .f32) (ix1 k)) (fun k => (m ((c.tc : Thread nD τ).loc main_arg4) : Vec Ideal S1024 .f32) (ix1 k)) l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨fun i l => (congrFun (h c).1 (ix2 i l)).trans ?_, (h c).2⟩) (Value.run (F := Ideal) m ρ)
  generalize (m ((c.tc : Thread nD τ).loc main_arg0) : Vec Ideal S16384x1024 .bf16) = x0
  generalize (m ((c.tc : Thread nD τ).loc main_arg1) : Vec Ideal S16384x1024 .f32) = x1
  generalize (m ((c.tc : Thread nD τ).loc main_arg2) : Vec Ideal S1024x1024 .f32) = x2
  generalize (m ((c.tc : Thread nD τ).loc main_arg3) : Vec Ideal S1024 .f32) = x3
  generalize (m ((c.tc : Thread nD τ).loc main_arg4) : Vec Ideal S1024 .f32) = x4
  pointwise [postRow, projRow, layerNorm, mean]

end Cert.OutRefIdeal.Row

end
-- ==== Proof.OutClaims.lean ====
module

public import proofs.«01_k».proof.Proof.OutValue
public import proofs.«01_k».proof.Proof.OutRef
public import proofs.«01_k».proof.Proof.Gen.Out.Frame
public import Idealize.ShloMosaic.Lib.Quiescent

@[expose] public section

set_option maxRecDepth 16384

noncomputable section

open Idealize.ShloMosaic Idealize.ShloMosaic.TcCoe Idealize.SL.Sem

namespace Cert.Proof.OutClaims

/-- The kernel runs, keeps its arguments and leaves every semaphore at zero. -/
theorem frame_k : Cert.quiescent_Out := fun m ρ _ => Cert.Out.Gen.frame m ρ

/-- The same of the kernel at the extended reals. -/
theorem frame_ki : Cert.quiescent_OutIdeal := fun m ρ _ => Cert.OutIdeal.Gen.frame m ρ

/-- The reference at the extended reals runs and keeps its arguments; it has no semaphore. -/
theorem frame_ri : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The kernel and the reference leave the same array: every row's post-norm of its output projection. -/
theorem algebraic : Cert.algebraic_OutIdeal_OutRefIdeal := by
  intro m ρ m' ρ' _ hagree
  refine ⟨fun c => Cert.OutIdeal.Block.result m c,
    (θ_run Cert.OutIdeal.defs _ _).mono (fun _ h c => ⟨(h c).1.trans (Cert.OutIdeal.Block.final m c), (h c).2⟩) (Cert.OutIdeal.Value.run_blocks (F := Ideal) m ρ),
    (θ_run Cert.OutRefIdeal.defs _ _).mono (fun _ h c => ⟨?_, (h c).2⟩) (Cert.OutRefIdeal.Row.run_rows m' ρ')⟩
  obtain ⟨h0, h1, h2, h3, h4⟩ := hagree c
  funext i
  obtain ⟨r, l, rfl⟩ : ∃ (r : Fin 16384) (l : Fin 1024), i = (ix2 r l : (⟨2, ![16384, 1024]⟩ : Shape).Idx) := ⟨i 0, i 1, eq_ix2 (n0 := 16384) (n1 := 1024) i⟩
  refine ((h c).1 r l).trans ?_
  simp only [Cert.OutIdeal.Block.result, ix2_0, ix2_1, h0, h1, h2, h3, h4]

end Cert.Proof.OutClaims

end
-- ==== Proof.GatedValue.lean ====
module

public import proofs.«01_k».proof.Proof.Gen.GatedIdeal.Value
public import proofs.«01_k».proof.Proof.OutMath
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GatedIdeal.Block

open Cert.GatedIdeal Cert.GatedIdeal.Gen Cert.FfnMath Cert.OutMath

variable (m : (ℓ : Loc nD τ sig) → Buf (Elt Ideal) ℓ)

/-- The kernel's result array: row `i` is the post-norm of the gated output projection of row `i`. -/
def result (c : Dev nD) : Vec Ideal S16384x1024 .f32 := fun i =>
  postRow (fun k => (m ((c.tc : Thread nD τ).loc main_arg2) : Vec Ideal S16384x1024 .f32) (ix2 (i 0) k))
      (projRow (gateRow (fun k => (m ((c.tc : Thread nD τ).loc main_arg0) : Vec Ideal S16384x1024 .bf16) (ix2 (i 0) k)) (fun k => (m ((c.tc : Thread nD τ).loc main_arg1) : Vec Ideal S16384x1024 .bf16) (ix2 (i 0) k))) (fun k c' => (m ((c.tc : Thread nD τ).loc main_arg3) : Vec Ideal S1024x1024 .f32) (ix2 k c')))
      (fun k => (m ((c.tc : Thread nD τ).loc main_arg4) : Vec Ideal S1024 .f32) (ix1 k)) (fun k => (m ((c.tc : Thread nD τ).loc main_arg5) : Vec Ideal S1024 .f32) (ix1 k)) (i 1)

/-- The body's result block, row by row: the post-norm of the gated output projection of the row. -/
theorem out_apply (x0 : Vec Ideal S512x1024 .bf16) (x1 : Vec Ideal S512x1024 .bf16) (x2 : Vec Ideal S512x1024 .f32) (x3 : Vec Ideal S1024x1024 .bf16) (x4 : Vec Ideal S1x1024 .f32) (x5 : Vec Ideal S1x1024 .f32) (r : Fin 512) (l : Fin 1024) :
    out0_6 x0 x1 x2 x3 x4 x5 (ix2 r l) = postRow (fun k => x2 (ix2 r k)) (projRow (gateRow (fun k => x0 (ix2 r k)) (fun k => x1 (ix2 r k))) (fun k c' => x3 (ix2 k c')))
      (fun k => x4 (ix2 0 k)) (fun k => x5 (ix2 0 k)) l := by
  have he : out0_6 x0 x1 x2 x3 x4 x5 = k0_pay1 x0 x1 x3 x2 x4 x5 := by
    frame_out
  rw [he]
  pointwise [k0_pay1, postRow, projRow, gateRow, layerNorm, mean]

/-- The windows' block indices, decided over the 32 grid points. -/
theorem idx0 : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0])

/-- Block `t` of operand 0, row `r`. -/
theorem iblk_0 (c : Dev nD) (t : Fin cfg0.N) (r : Fin 512) (k : Fin 1024) (h : t.val * 512 + r.val < 16384) :
    (iblk m c 0 t : Vec Ideal S512x1024 .bf16) (ix2 r k) = (m ((c.tc : Thread nD τ).loc main_arg0) : Vec Ideal S16384x1024 .bf16) (ix2 ⟨t.val * 512 + r.val, h⟩ k) := by
  blk_ext [iblk, V_main_arg0, idx0 t]

/-- Block `t` of operand 1, row `r`. -/
theorem iblk_1 (c : Dev nD) (t : Fin cfg0.N) (r : Fin 512) (k : Fin 1024) (h : t.val * 512 + r.val < 16384) :
    (iblk m c 1 t : Vec Ideal S512x1024 .bf16) (ix2 r k) = (m ((c.tc : Thread nD τ).loc main_arg1) : Vec Ideal S16384x1024 .bf16) (ix2 ⟨t.val * 512 + r.val, h⟩ k) := by
  blk_ext [iblk, V_main_arg1, idx0 t]

/-- Block `t` of operand 2, row `r`. -/
theorem iblk_2 (c : Dev nD) (t : Fin cfg0.N) (r : Fin 512) (k : Fin 1024) (h : t.val * 512 + r.val < 16384) :
    (iblk m c 2 t : Vec Ideal S512x1024 .f32) (ix2 r k) = (m ((c.tc : Thread nD τ).loc main_arg2) : Vec Ideal S16384x1024 .f32) (ix2 ⟨t.val * 512 + r.val, h⟩ k) := by
  blk_ext [iblk, V_main_arg2, idx0 t]

/-- The weight's block: the whole of it, at every point. -/
theorem iblk_3 (c : Dev nD) (t : Fin cfg0.N) (r : Fin 1024) (k : Fin 1024) :
    (iblk m c 3 t : Vec Ideal S1024x1024 .bf16) (ix2 r k) = (m ((c.tc : Thread nD τ).loc main_arg3) : Vec Ideal S1024x1024 .f32) (ix2 r k) := by
  blk_ext [iblk, V, idx0 t]

/-- The norm's gain as a row: the whole of it, at every point. -/
theorem iblk_4 (c : Dev nD) (t : Fin cfg0.N) (k : Fin 1024) :
    (iblk m c 4 t : Vec Ideal S1x1024 .f32) (ix2 0 k) = (m ((c.tc : Thread nD τ).loc main_arg4) : Vec Ideal S1024 .f32) (ix1 k) := by
  blk_ext! [iblk, V, idx0 t]

/-- The norm's bias as a row: the whole of it, at every point. -/
theorem iblk_5 (c : Dev nD) (t : Fin cfg0.N) (k : Fin 1024) :
    (iblk m c 5 t : Vec Ideal S1x1024 .f32) (ix2 0 k) = (m ((c.tc : Thread nD τ).loc main_arg5) : Vec Ideal S1024 .f32) (ix1 k) := by
  blk_ext! [iblk, V, idx0 t]

/-- The array the pipeline leaves: every row's post-norm of its gated output projection. -/
theorem final (c : Dev nD) : (dats m 0 c).arrAt 6 cfg0.N = result m c := by
  refine (dats m 0 c).arrAt_eq_of_covers 6 _ (by decide +kernel) fun t hf y => ?_
  blk_simp
  rw [after0_6]
  obtain ⟨r, l, rfl⟩ : ∃ (r : Fin 512) (l : Fin 1024), y = (ix2 r l : (⟨2, ![512, 1024]⟩ : Shape).Idx) := ⟨y 0, y 1, eq_ix2 (n0 := 512) (n1 := 1024) y⟩
  have ht : t.val < 32 := t.isLt
  have he : (win0_6.blk t).view.emb (ix2 r l : (⟨2, ![512, 1024]⟩ : Shape).Idx)
      = (ix2 ⟨t.val * 512 + r.val, by omega⟩ l : (⟨2, ![16384, 1024]⟩ : Shape).Idx) := by
    blk_ext [idx0 t]
  rw [he]
  refine (out_apply _ _ _ _ _ _ r l).trans ?_
  have h0 : ∀ k : Fin 1024, (iblk m c 0 t : Vec Ideal S512x1024 .bf16) (ix2 r k) = _ := fun k => iblk_0 m c t r k (by omega)
  have h1 : ∀ k : Fin 1024, (iblk m c 1 t : Vec Ideal S512x1024 .bf16) (ix2 r k) = _ := fun k => iblk_1 m c t r k (by omega)
  have h2 : ∀ k : Fin 1024, (iblk m c 2 t : Vec Ideal S512x1024 .f32) (ix2 r k) = _ := fun k => iblk_2 m c t r k (by omega)
  simp only [h0, h1, h2, iblk_3, iblk_4, iblk_5]
  rfl

end Cert.GatedIdeal.Block

end
-- ==== Proof.GatedRef.lean ====
module

public import proofs.«01_k».proof.Proof.Gen.GatedRefIdeal.Run
public import proofs.«01_k».proof.Proof.OutMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GatedRefIdeal.Row

open Cert.GatedRefIdeal Cert.GatedRefIdeal.Gen Cert.FfnMath Cert.OutMath

variable (m : (ℓ : Loc nD τ sig) → Buf (Elt Ideal) ℓ)

/-- The reference's result, row by row: the post-norm of the gated output projection of the row. -/
theorem res_apply (c : Dev nD) (i : Fin 16384) (l : Fin 1024) :
    (Value.res_out0 m c : Vec Ideal S16384x1024 .f32) (ix2 i l) = postRow (fun k => (m ((c.tc : Thread nD τ).loc main_arg2) : Vec Ideal S16384x1024 .f32) (ix2 i k))
      (projRow (gateRow (fun k => (m ((c.tc : Thread nD τ).loc main_arg0) : Vec Ideal S16384x1024 .bf16) (ix2 i k)) (fun k => (m ((c.tc : Thread nD τ).loc main_arg1) : Vec Ideal S16384x1024 .bf16) (ix2 i k))) (fun k c' => (m ((c.tc : Thread nD τ).loc main_arg3) : Vec Ideal S1024x1024 .f32) (ix2 k c')))
      (fun k => (m ((c.tc : Thread nD τ).loc main_arg4) : Vec Ideal S1024 .f32) (ix1 k)) (fun k => (m ((c.tc : Thread nD τ).loc main_arg5) : Vec Ideal S1024 .f32) (ix1 k)) l := by
  unfold Value.res_out0 Value.res_main_v30
  generalize (m ((c.tc : Thread nD τ).loc main_arg0) : Vec Ideal S16384x1024 .bf16) = x0
  generalize (m ((c.tc : Thread nD τ).loc main_arg1) : Vec Ideal S16384x1024 .bf16) = x1
  generalize (m ((c.tc : Thread nD τ).loc main_arg2) : Vec Ideal S16384x1024 .f32) = x2
  generalize (m ((c.tc : Thread nD τ).loc main_arg3) : Vec Ideal S1024x1024 .f32) = x3
  generalize (m ((c.tc : Thread nD τ).loc main_arg4) : Vec Ideal S1024 .f32) = x4
  generalize (m ((c.tc : Thread nD τ).loc main_arg5) : Vec Ideal S1024 .f32) = x5
  pointwise [postRow, projRow, gateRow, layerNorm, mean]

end Cert.GatedRefIdeal.Row

end
-- ==== Proof.GatedClaims.lean ====
module

public import proofs.«01_k».proof.Proof.GatedValue
public import proofs.«01_k».proof.Proof.GatedRef
public import proofs.«01_k».proof.Proof.Gen.Gated.Frame
public import Idealize.ShloMosaic.Lib.Quiescent

@[expose] public section

set_option maxRecDepth 16384

noncomputable section

open Idealize.ShloMosaic Idealize.ShloMosaic.TcCoe Idealize.SL.Sem

namespace Cert.Proof.GatedClaims

/-- The kernel runs, keeps its arguments and leaves every semaphore at zero. -/
theorem frame_k : Cert.quiescent_Gated := fun m ρ _ => Cert.Gated.Gen.frame m ρ

/-- The same of the kernel at the extended reals. -/
theorem frame_ki : Cert.quiescent_GatedIdeal := fun m ρ _ => Cert.GatedIdeal.Gen.frame m ρ

/-- The reference at the extended reals runs and keeps its arguments; it has no semaphore. -/
theorem frame_ri : Cert.quiescent_GatedRefIdeal := fun m ρ _ =>
  (θ_run Cert.GatedRefIdeal.defs _ _).mono (fun r h => ⟨fun c => (h c).2, sem_eq_zero_of_no_sems (by decide) r.2⟩)
    (Cert.GatedRefIdeal.Value.run (F := Ideal) m ρ)

/-- The kernel and the reference leave the same array: every row's post-norm of its gated output projection. -/
theorem algebraic : Cert.algebraic_GatedIdeal_GatedRefIdeal := by
  intro m ρ m' ρ' _ hagree
  refine ⟨fun c => Cert.GatedIdeal.Block.result m c,
    (θ_run Cert.GatedIdeal.defs _ _).mono (fun _ h c => ⟨(h c).1.trans (Cert.GatedIdeal.Block.final m c), (h c).2⟩) (Cert.GatedIdeal.Value.run_blocks (F := Ideal) m ρ),
    (θ_run Cert.GatedRefIdeal.defs _ _).mono (fun _ h c => ⟨(h c).1.trans ?_, (h c).2⟩) (Cert.GatedRefIdeal.Value.run (F := Ideal) m' ρ')⟩
  obtain ⟨h0, h1, h2, h3, h4, h5⟩ := hagree c
  funext i
  obtain ⟨r, l, rfl⟩ : ∃ (r : Fin 16384) (l : Fin 1024), i = (ix2 r l : (⟨2, ![16384, 1024]⟩ : Shape).Idx) := ⟨i 0, i 1, eq_ix2 (n0 := 16384) (n1 := 1024) i⟩
  refine (Cert.GatedRefIdeal.Row.res_apply m' c r l).trans ?_
  simp only [Cert.GatedIdeal.Block.result, ix2_0, ix2_1, h0, h1, h2, h3, h4, h5]

end Cert.Proof.GatedClaims

end
-- ==== Proof.QkvMath.lean ====
module

public import Idealize.ShloMosaic.Lib.Pointwise

@[expose] public section

noncomputable section

open Idealize.ShloMosaic

namespace Cert.QkvMath

/-- The angle of position `p` at frequency `e`: the position over the rotary base to the power `2 e / 16`. -/
def ang (p : Fin 4096) (e : Fin 8) : EReal :=
  FloatOps.sitofp (F := Ideal) .f32 (BitVec.ofNat 32 p.val) * Ideal.div 1 (Ideal.pow (Ideal.ofBits .f32 1223959552#32)
    (Ideal.div (Ideal.ofBits .f32 1073741824#32 * FloatOps.sitofp (F := Ideal) .f32 (BitVec.ofNat 32 e.val)) (Ideal.ofBits .f32 1098907648#32)))

/-- The partial rotary embedding of a row of 16 heads of 64 lanes at position `p`: in each head the first 16 lanes turn in pairs eight apart, the others stay. -/
def rope (y : Fin 1024 → EReal) (p : Fin 4096) (l : Fin 1024) : EReal :=
  if h : l.val % 64 < 8 then y l * Ideal.cos (ang p ⟨l.val % 64, h⟩) - y ⟨l.val + 8, by omega⟩ * Ideal.sin (ang p ⟨l.val % 64, h⟩)
  else if h' : l.val % 64 < 16 then y l * Ideal.cos (ang p ⟨l.val % 64 - 8, by omega⟩) + y ⟨l.val - 8, by omega⟩ * Ideal.sin (ang p ⟨l.val % 64 - 8, by omega⟩)
  else y l

/-- Columns `off …` of one row of the projection. -/
def projRow (x : Fin 1024 → EReal) (w : Fin 1024 → Fin 3072 → EReal) (off : Fin 2049) (l : Fin 1024) : EReal := ∑ k, x k * w k ⟨off.val + l.val, by omega⟩

end Cert.QkvMath

end
-- ==== Proof.QkvTables.lean ====
module

public import proofs.«01_k».proof.Proof.Gen.QkvIdeal.Value
public import proofs.«01_k».proof.Proof.QkvMath
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.QkvIdeal.Block

open Cert.QkvIdeal Cert.QkvIdeal.Gen Cert.QkvMath

variable {F : FTy → Type} [FloatOps F]

/-- Three tables side by side: 8, 8 and 48 lanes. -/
def cat3 (u0 u1 : (⟨S4096x8, .f32⟩ : BufTy).Contents (Elt F)) (u2 : (⟨S4096x48, .f32⟩ : BufTy).Contents (Elt F)) : (⟨S4096x64, .f32⟩ : BufTy).Contents (Elt F) :=
  concatenate S4096x64 1 [⟨S4096x8, u0⟩, ⟨S4096x8, u1⟩, ⟨S4096x48, u2⟩] concatenates_S4096x8_S4096x8_S4096x48_S4096x64_d1

/-- The host operations before the region, the concatenations by name. -/
abbrev line : List (HloOp τ sig (Elt F)) :=
  ( StableHlo.nullary main_v0 (iotaInDim S4096 32 0)
  :: StableHlo.nullary main_v1 (sitofp .f32 (iotaInDim S8 32 0))
  :: StableHlo.nullary main_cst (constant S_ .f32 0x40000000#32)
  :: StableHlo.unary main_cst main_v2 (broadcastInDim S8 ![] bcast_S_S8 : (⟨S_, .f32⟩ : BufTy).Contents (Elt F) → (⟨S8, .f32⟩ : BufTy).Contents (Elt F))
  :: StableHlo.binary main_v2 main_v1 main_v3 (mulf : (⟨S8, .f32⟩ : BufTy).Contents (Elt F) → (⟨S8, .f32⟩ : BufTy).Contents (Elt F) → (⟨S8, .f32⟩ : BufTy).Contents (Elt F))
  :: StableHlo.nullary main_cst_0 (constant S_ .f32 0x00000000#32)
  :: StableHlo.unary main_cst_0 main_v4 (broadcastInDim S8 ![] bcast_S_S8 : (⟨S_, .f32⟩ : BufTy).Contents (Elt F) → (⟨S8, .f32⟩ : BufTy).Contents (Elt F))
  :: StableHlo.binary main_v4 main_v3 main_v5 (addf : (⟨S8, .f32⟩ : BufTy).Contents (Elt F) → (⟨S8, .f32⟩ : BufTy).Contents (Elt F) → (⟨S8, .f32⟩ : BufTy).Contents (Elt F))
  :: StableHlo.nullary main_cst_1 (constant S_ .f32 0x41800000#32)
  :: StableHlo.unary main_cst_1 main_v6 (broadcastInDim S8 ![] bcast_S_S8 : (⟨S_, .f32⟩ : BufTy).Contents (Elt F) → (⟨S8, .f32⟩ : BufTy).Contents (Elt F))
  :: StableHlo.binary main_v5 main_v6 main_v7 (Host.divf : (⟨S8, .f32⟩ : BufTy).Contents (Elt F) → (⟨S8, .f32⟩ : BufTy).Contents (Elt F) → (⟨S8, .f32⟩ : BufTy).Contents (Elt F))
  :: StableHlo.nullary main_cst_2 (constant S_ .f32 0x48F42400#32)
  :: StableHlo.unary main_cst_2 main_v8 (broadcastInDim S8 ![] bcast_S_S8 : (⟨S_, .f32⟩ : BufTy).Contents (Elt F) → (⟨S8, .f32⟩ : BufTy).Contents (Elt F))
  :: StableHlo.binary main_v8 main_v7 main_v9 (Host.powf : (⟨S8, .f32⟩ : BufTy).Contents (Elt F) → (⟨S8, .f32⟩ : BufTy).Contents (Elt F) → (⟨S8, .f32⟩ : BufTy).Contents (Elt F))
  :: StableHlo.nullary main_cst_3 (constant S_ .f32 0x3F800000#32)
  :: StableHlo.unary main_cst_3 main_v10 (broadcastInDim S8 ![] bcast_S_S8 : (⟨S_, .f32⟩ : BufTy).Contents (Elt F) → (⟨S8, .f32⟩ : BufTy).Contents (Elt F))
  :: StableHlo.binary main_v10 main_v9 main_v11 (Host.divf : (⟨S8, .f32⟩ : BufTy).Contents (Elt F) → (⟨S8, .f32⟩ : BufTy).Contents (Elt F) → (⟨S8, .f32⟩ : BufTy).Contents (Elt F))
  :: StableHlo.unary main_v0 main_v12 (sitofp .f32 : (⟨S4096, .i32⟩ : BufTy).Contents (Elt F) → (⟨S4096, .f32⟩ : BufTy).Contents (Elt F))
  :: StableHlo.unary main_v12 main_v13 (broadcastInDim S4096x1 ![0] bcast_S4096_S4096x1_0 : (⟨S4096, .f32⟩ : BufTy).Contents (Elt F) → (⟨S4096x1, .f32⟩ : BufTy).Contents (Elt F))
  :: StableHlo.unary main_v11 main_v14 (broadcastInDim S1x8 ![1] bcast_S8_S1x8_1 : (⟨S8, .f32⟩ : BufTy).Contents (Elt F) → (⟨S1x8, .f32⟩ : BufTy).Contents (Elt F))
  :: StableHlo.unary main_v13 main_v15 (broadcastInDim S4096x8 ![0, 1] bcast_S4096x1_S4096x8_0_1 : (⟨S4096x1, .f32⟩ : BufTy).Contents (Elt F) → (⟨S4096x8, .f32⟩ : BufTy).Contents (Elt F))
  :: StableHlo.unary main_v14 main_v16 (broadcastInDim S4096x8 ![0, 1] bcast_S1x8_S4096x8_0_1 : (⟨S1x8, .f32⟩ : BufTy).Contents (Elt F) → (⟨S4096x8, .f32⟩ : BufTy).Contents (Elt F))
  :: StableHlo.binary main_v15 main_v16 main_v17 (mulf : (⟨S4096x8, .f32⟩ : BufTy).Contents (Elt F) → (⟨S4096x8, .f32⟩ : BufTy).Contents (Elt F) → (⟨S4096x8, .f32⟩ : BufTy).Contents (Elt F))
  :: StableHlo.unary main_v17 main_v18 (Host.cos : (⟨S4096x8, .f32⟩ : BufTy).Contents (Elt F) → (⟨S4096x8, .f32⟩ : BufTy).Contents (Elt F))
  :: StableHlo.unary main_v17 main_v19 (Host.sin : (⟨S4096x8, .f32⟩ : BufTy).Contents (Elt F) → (⟨S4096x8, .f32⟩ : BufTy).Contents (Elt F))
  :: StableHlo.nullary main_cst_4 (constant S_ .f32 0x3F800000#32)
  :: StableHlo.unary main_cst_4 main_v20 (broadcastInDim S4096x48 ![] bcast_S_S4096x48 : (⟨S_, .f32⟩ : BufTy).Contents (Elt F) → (⟨S4096x48, .f32⟩ : BufTy).Contents (Elt F))
  :: StableHlo.nullary main_cst_5 (constant S_ .f32 0x00000000#32)
  :: StableHlo.unary main_cst_5 main_v21 (broadcastInDim S4096x8 ![] bcast_S_S4096x8 : (⟨S_, .f32⟩ : BufTy).Contents (Elt F) → (⟨S4096x8, .f32⟩ : BufTy).Contents (Elt F))
  :: StableHlo.nullary main_cst_6 (constant S_ .f32 0x00000000#32)
  :: StableHlo.unary main_cst_6 main_v22 (broadcastInDim S4096x48 ![] bcast_S_S4096x48 : (⟨S_, .f32⟩ : BufTy).Contents (Elt F) → (⟨S4096x48, .f32⟩ : BufTy).Contents (Elt F))
  :: StableHlo.nary ![main_v18, main_v18, main_v20] main_v23 (fun u => cat3 (F := F) (u 0) (u 1) (u 2))
  :: StableHlo.unary main_v19 main_v24 (Host.negf : (⟨S4096x8, .f32⟩ : BufTy).Contents (Elt F) → (⟨S4096x8, .f32⟩ : BufTy).Contents (Elt F))
  :: StableHlo.nary ![main_v24, main_v21, main_v22] main_v25 (fun u => cat3 (F := F) (u 0) (u 1) (u 2))
  :: StableHlo.nary ![main_v21, main_v19, main_v22] main_v26 (fun u => cat3 (F := F) (u 0) (u 1) (u 2))
  :: StableHlo.reshape main_v23 main_v27 (rfl : (.f32 : EltTy) = .f32) shapeCasts_S4096x64_S1x4096x1x64
  :: StableHlo.unary main_v27 main_v28 (broadcastInDim S1x4096x2x64 ![0, 1, 2, 3] bcast_S1x4096x1x64_S1x4096x2x64_0_1_2_3 : (⟨S1x4096x1x64, .f32⟩ : BufTy).Contents (Elt F) → (⟨S1x4096x2x64, .f32⟩ : BufTy).Contents (Elt F))
  :: StableHlo.reshape main_v28 main_v29 (rfl : (.f32 : EltTy) = .f32) shapeCasts_S1x4096x2x64_S4096x128
  :: StableHlo.reshape main_v25 main_v30 (rfl : (.f32 : EltTy) = .f32) shapeCasts_S4096x64_S1x4096x1x64
  :: StableHlo.unary main_v30 main_v31 (broadcastInDim S1x4096x2x64 ![0, 1, 2, 3] bcast_S1x4096x1x64_S1x4096x2x64_0_1_2_3 : (⟨S1x4096x1x64, .f32⟩ : BufTy).Contents (Elt F) → (⟨S1x4096x2x64, .f32⟩ : BufTy).Contents (Elt F))
  :: StableHlo.reshape main_v31 main_v32 (rfl : (.f32 : EltTy) = .f32) shapeCasts_S1x4096x2x64_S4096x128
  :: StableHlo.reshape main_v26 main_v33 (rfl : (.f32 : EltTy) = .f32) shapeCasts_S4096x64_S1x4096x1x64
  :: StableHlo.unary main_v33 main_v34 (broadcastInDim S1x4096x2x64 ![0, 1, 2, 3] bcast_S1x4096x1x64_S1x4096x2x64_0_1_2_3 : (⟨S1x4096x1x64, .f32⟩ : BufTy).Contents (Elt F) → (⟨S1x4096x2x64, .f32⟩ : BufTy).Contents (Elt F))
  :: StableHlo.reshape main_v34 main_v35 (rfl : (.f32 : EltTy) = .f32) shapeCasts_S1x4096x2x64_S4096x128
  :: StableHlo.unary main_arg1 main_v36 ((truncf .bf16 · bitsLt_bf16_f32) : (⟨S1024x3072, .f32⟩ : BufTy).Contents (Elt F) → (⟨S1024x3072, .bf16⟩ : BufTy).Contents (Elt F))
  :: [] )

variable (m : (ℓ : Loc nD τ sig) → Buf (Elt Ideal) ℓ)

/-- The region's arrays, read off the named list: it is the program's own. -/
theorem V_line (c : Dev nD) (b : Ref sig .tc) : V m c b = StableHlo.after line (fun b => m (c, b)) b := rfl

/-- The angles, every position by every frequency. -/
def angT : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1 (Host.divf (broadcastInDim S8 ![] bcast_S_S8 (constant S_ .f32 0x3F800000#32))
      (Host.powf (broadcastInDim S8 ![] bcast_S_S8 (constant S_ .f32 0x48F42400#32)) (Host.divf (addf (broadcastInDim S8 ![] bcast_S_S8 (constant S_ .f32 0x00000000#32))
        (mulf (broadcastInDim S8 ![] bcast_S_S8 (constant S_ .f32 0x40000000#32)) (sitofp .f32 (iotaInDim S8 32 0)))) (broadcastInDim S8 ![] bcast_S_S8 (constant S_ .f32 0x41800000#32)))))))

/-- The angle table at an index. -/
theorem angT_apply (p : Fin 4096) (e : Fin 8) : angT (ix2 p e) = ang p e := by
  pointwise [angT, ang]

/-- A table of 64 lanes, written twice side by side. -/
def twice (t : FVec Ideal S4096x64 .f32) : FVec Ideal S4096x128 .f32 :=
  shapeCast _ (broadcastInDim S1x4096x2x64 ![0, 1, 2, 3] bcast_S1x4096x1x64_S1x4096x2x64_0_1_2_3 (shapeCast _ t shapeCasts_S4096x64_S1x4096x1x64)) shapeCasts_S1x4096x2x64_S4096x128

/-- The doubled table at an index. -/
theorem twice_apply (t : FVec Ideal S4096x64 .f32) (p : Fin 4096) (l : Fin 128) : twice t (ix2 p l) = t (ix2 p ⟨l.val % 64, by omega⟩) := by
  pointwise [twice]

/-- Three tables side by side, at an index. -/
theorem cat3_apply (u0 u1 : FVec Ideal S4096x8 .f32) (u2 : FVec Ideal S4096x48 .f32) (p : Fin 4096) (e : Fin 64) :
    (cat3 (F := Ideal) u0 u1 u2 : FVec Ideal S4096x64 .f32) (ix2 p e) = if h : e.val < 8 then u0 (ix2 p ⟨e.val, h⟩) else if h' : e.val < 16 then u1 (ix2 p ⟨e.val - 8, by omega⟩) else u2 (ix2 p ⟨e.val - 16, by omega⟩) := by
  pointwise [cat3]
  by_cases h : e.val < 8
  · simp only [dif_pos h]
  by_cases h' : e.val < 16
  · simp only [dif_neg h, dif_pos h', dif_pos (show e.val - 8 < 8 by omega)]
  · simp only [dif_neg h, dif_neg h', dif_neg (show ¬ e.val - 8 < 8 by omega), Nat.sub_sub]

/-- Eight lanes of zeros. -/
def zero8 : FVec Ideal S4096x8 .f32 := broadcastInDim S4096x8 ![] bcast_S_S4096x8 (constant S_ .f32 0x00000000#32)

/-- A constant on 48 lanes. -/
def fill48 (b : BitVec 32) : FVec Ideal S4096x48 .f32 := broadcastInDim S4096x48 ![] bcast_S_S4096x48 (constant S_ .f32 b)

set_option maxHeartbeats 1600000 in
/-- The region finds the table of cosines. -/
theorem V_c (c : Dev nD) : (V m c main_v29 : Vec Ideal S4096x128 .f32) = twice (cat3 (Host.cos angT) (Host.cos angT) (fill48 0x3F800000#32)) := by
  rw [V_line]
  after_reads_simp
  dsimp only [Matrix.cons_val]
  after_reads_simp
  rfl

set_option maxHeartbeats 1600000 in
/-- The region finds the table of negated sines. -/
theorem V_lo (c : Dev nD) : (V m c main_v32 : Vec Ideal S4096x128 .f32) = twice (cat3 (Host.negf (Host.sin angT)) zero8 (fill48 0x00000000#32)) := by
  rw [V_line]
  after_reads_simp
  dsimp only [Matrix.cons_val]
  after_reads_simp
  rfl

set_option maxHeartbeats 1600000 in
/-- The region finds the table of sines. -/
theorem V_hi (c : Dev nD) : (V m c main_v35 : Vec Ideal S4096x128 .f32) = twice (cat3 zero8 (Host.sin angT) (fill48 0x00000000#32)) := by
  rw [V_line]
  after_reads_simp
  dsimp only [Matrix.cons_val]
  after_reads_simp
  rfl

set_option maxHeartbeats 1600000 in
/-- The region finds the weight rounded. -/
theorem V_w (c : Dev nD) : (V m c main_v36 : Vec Ideal S1024x3072 .bf16) = (truncf .bf16 (m ((c.tc : Thread nD τ).loc main_arg1) : FVec Ideal S1024x3072 .f32) bitsLt_bf16_f32 : FVec Ideal S1024x3072 .bf16) := by
  rw [V_line]
  after_reads_simp

/-- The cosine table at an index. -/
def tabC (p : Fin 4096) (l : Fin 128) : EReal :=
  if h : l.val % 64 < 8 then Ideal.cos (ang p ⟨l.val % 64, h⟩) else if h' : l.val % 64 < 16 then Ideal.cos (ang p ⟨l.val % 64 - 8, by omega⟩) else 1

/-- The negated sine table at an index: nonzero on the first eight lanes of a head. -/
def tabLo (p : Fin 4096) (l : Fin 128) : EReal := if h : l.val % 64 < 8 then -Ideal.sin (ang p ⟨l.val % 64, h⟩) else 0

/-- The sine table at an index: nonzero on the second eight lanes of a head. -/
def tabHi (p : Fin 4096) (l : Fin 128) : EReal := if h : l.val % 64 < 8 then 0 else if h' : l.val % 64 < 16 then Ideal.sin (ang p ⟨l.val % 64 - 8, by omega⟩) else 0

/-- The table of cosines the region finds, at an index. -/
theorem V_c_apply (c : Dev nD) (p : Fin 4096) (l : Fin 128) : (V m c main_v29 : Vec Ideal S4096x128 .f32) (ix2 p l) = tabC p l := by
  refine (congrFun (V_c m c) _).trans ((twice_apply _ p l).trans ((cat3_apply _ _ _ p _).trans ?_))
  unfold tabC
  split <;> rename_i h
  · pointwise [angT_apply]
  split <;> rename_i h'
  · pointwise [angT_apply]
  · pointwise [fill48]

/-- The table of negated sines the region finds, at an index. -/
theorem V_lo_apply (c : Dev nD) (p : Fin 4096) (l : Fin 128) : (V m c main_v32 : Vec Ideal S4096x128 .f32) (ix2 p l) = tabLo p l := by
  refine (congrFun (V_lo m c) _).trans ((twice_apply _ p l).trans ((cat3_apply _ _ _ p _).trans ?_))
  unfold tabLo
  split <;> rename_i h
  · pointwise [angT_apply]
  split <;> rename_i h'
  · pointwise [zero8]
  · pointwise [fill48]

/-- The table of sines the region finds, at an index. -/
theorem V_hi_apply (c : Dev nD) (p : Fin 4096) (l : Fin 128) : (V m c main_v35 : Vec Ideal S4096x128 .f32) (ix2 p l) = tabHi p l := by
  refine (congrFun (V_hi m c) _).trans ((twice_apply _ p l).trans ((cat3_apply _ _ _ p _).trans ?_))
  unfold tabHi
  split <;> rename_i h
  · pointwise [zero8]
  split <;> rename_i h'
  · pointwise [angT_apply]
  · pointwise [fill48]

end Cert.QkvIdeal.Block

end
-- ==== Proof.QkvBlock.lean ====
module

public import proofs.«01_k».proof.Proof.Gen.QkvIdeal.Value
public import proofs.«01_k».proof.Proof.QkvMath
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.QkvIdeal.Block

open Cert.QkvIdeal Cert.QkvIdeal.Gen Cert.QkvMath

/-- The kernel's rotary embedding of two heads: the product with 128 columns of the weight, and its lanes turned by 120 and by 8, against the three tables. -/
def chunk (x : FVec Ideal S512x1024 .bf16) (c lo hi : FVec Ideal S512x128 .f32) (w : Vec Ideal S1024x128 .bf16) : FVec Ideal S512x128 .f32 :=
  addf (addf (mulf (matmul (φ₂ := .bf16) dot_S512x1024_S1024x128_S512x128_1_0_0_1_n_n none x w (constant S512x128 .f32 0x00000000#32)) c)
    (mulf (dynamicRotate 1 120#32 none (matmul (φ₂ := .bf16) dot_S512x1024_S1024x128_S512x128_1_0_0_1_n_n none x w (constant S512x128 .f32 0x00000000#32)) rotates_S512x128_d1) lo))
    (mulf (dynamicRotate 1 8#32 none (matmul (φ₂ := .bf16) dot_S512x1024_S1024x128_S512x128_1_0_0_1_n_n none x w (constant S512x128 .f32 0x00000000#32)) rotates_S512x128_d1) hi)

/-- One lane of the kernel's rotary embedding of a row `y`, from the tables' rows. -/
def ropeLane (y : Fin 1024 → EReal) (c lo hi : Fin 128 → EReal) (l : Fin 1024) : EReal :=
  y l * c ⟨l.val % 128, by omega⟩ + y ⟨128 * (l.val / 128) + (l.val % 128 + 8) % 128, by omega⟩ * lo ⟨l.val % 128, by omega⟩
    + y ⟨128 * (l.val / 128) + (l.val % 128 + 120) % 128, by omega⟩ * hi ⟨l.val % 128, by omega⟩

/-- The block of rotated columns starting at column `off` of the weight. -/
def ropeBlk (x : Vec Ideal S512x1024 .f32) (w : Vec Ideal S1024x3072 .bf16) (c lo hi : Vec Ideal S512x128 .f32) (off : Fin 2049) : Vec Ideal S512x1024 .f32 := fun j =>
  ropeLane (projRow (fun k => x (ix2 (j 0) k)) (fun k l => w (ix2 k l)) off) (fun k => c (ix2 (j 0) k)) (fun k => lo (ix2 (j 0) k)) (fun k => hi (ix2 (j 0) k)) (j 1)

/-- The rotated block scaled by an eighth. -/
def qBlk (x : Vec Ideal S512x1024 .f32) (w : Vec Ideal S1024x3072 .bf16) (c lo hi : Vec Ideal S512x128 .f32) : Vec Ideal S512x1024 .bf16 := fun j =>
  ropeBlk x w c lo hi 0 j * Ideal.ofBits .f32 0x3E000000#32

/-- The kernel's two heads at an index of the chunk. -/
theorem chunk_apply (x : FVec Ideal S512x1024 .bf16) (c lo hi : FVec Ideal S512x128 .f32) (w : Vec Ideal S1024x128 .bf16) (r : Fin 512) (l : Fin 128) :
    chunk x c lo hi w (ix2 r l) = (∑ k : Fin 1024, x (ix2 r k) * w (ix2 k l)) * c (ix2 r l)
      + (∑ k : Fin 1024, x (ix2 r k) * w (ix2 k ⟨(l.val + 8) % 128, by omega⟩)) * lo (ix2 r l)
      + (∑ k : Fin 1024, x (ix2 r k) * w (ix2 k ⟨(l.val + 120) % 128, by omega⟩)) * hi (ix2 r l) := by
  pointwise [chunk]
  simp only [show ∀ n : ℕ, n + 128 - 120 = n + 8 from fun n => by omega, show ∀ n : ℕ, n + 128 - 8 = n + 120 from fun n => by omega]

/-- A chunk of the weight's columns `off + o …`, for `o` a multiple of 128, is the rotated block at columns `o …`. -/
theorem chunk_block (x : Vec Ideal S512x1024 .f32) (w : Vec Ideal S1024x3072 .bf16) (c lo hi : Vec Ideal S512x128 .f32) (off : Fin 2049) (o o' : ℕ) (ho : o % 128 = 0) (ho' : o' = off.val + o)
    (ha : ∀ a, (![0, o'] : Fin 2 → ℕ) a + (![1024, 128] : Fin 2 → ℕ) a ≤ S1024x3072.size a)
    (hs : ∀ a, (![0, o] : Fin 2 → ℕ) a + (![512, 128] : Fin 2 → ℕ) a ≤ S512x1024.size a)
    (j : (Rect.unit (s := S512x1024) ![0, o] ![512, 128] hs).shape.Idx) :
    chunk (truncf .bf16 (x : FVec Ideal S512x1024 .f32) bitsLt_bf16_f32) c lo hi (View.ld w (Rect.unit (s := S1024x3072) ![0, o'] ![1024, 128] ha)) j
      = ropeBlk x w c lo hi off ((Rect.unit (s := S512x1024) ![0, o] ![512, 128] hs).emb j) := by
  subst ho'
  obtain ⟨q, rfl⟩ : ∃ q, o = 128 * q := ⟨o / 128, by omega⟩
  obtain ⟨r, l, rfl⟩ : ∃ (r : Fin 512) (l : Fin 128), j = (ix2 r l : (⟨2, ![512, 128]⟩ : Shape).Idx) := ⟨j 0, j 1, eq_ix2 (n0 := 512) (n1 := 128) j⟩
  have hol : 128 * q + 128 ≤ 1024 := hs 1
  have he : (Rect.unit (s := S512x1024) ![0, 128 * q] ![512, 128] hs).emb (ix2 r l : (⟨2, ![512, 128]⟩ : Shape).Idx)
      = (ix2 r ⟨128 * q + l.val, by omega⟩ : (⟨2, ![512, 1024]⟩ : Shape).Idx) := by
    funext a
    apply Fin.ext
    fin_cases a <;> simp [Rect.emb, Rect.unit, ix2]
  rw [he]
  refine (chunk_apply _ _ _ _ _ r l).trans ?_
  have h1 : (128 * q + l.val) % 128 = l.val := by omega
  have h2 : (128 * q + l.val) / 128 = q := by omega
  pointwise [ropeBlk, ropeLane, projRow]
  simp only [h1, h2, Nat.add_assoc]

/-- A whole load of the rows' block. -/
theorem ld_x (x : Vec Ideal S512x1024 .f32) : View.ld x r0_0 = x := View.ld_unit_zero (funext fun a => by fin_cases a <;> rfl) _ x

/-- A whole load of a table's block. -/
theorem ld_t (x : Vec Ideal S512x128 .f32) : View.ld x r0_1 = x := View.ld_unit_zero (funext fun a => by fin_cases a <;> rfl) _ x

/-- The block of keys. -/
theorem out_k (x0 : Vec Ideal S512x1024 .f32) (x1 : Vec Ideal S1024x3072 .bf16) (x2 x3 x4 : Vec Ideal S512x128 .f32) :
    out0_5 x0 x1 x2 x3 x4 = ropeBlk x0 x1 x2 x3 x4 1024 := by
  unfold_out out0_5
  simp only [k0_pay2, k0_pay4, k0_pay5, k0_pay6, k0_pay7, k0_pay11, k0_pay12, k0_pay15, k0_pay18, k0_pay23, k0_pay26, k0_pay29, k0_pay30, k0_pay31, k0_pay32, k0_pay35, shapeCast_self]
  simp only [ld_x, ld_t]
  funext y
  refine View.canon_append_of_piecesOf (ropeBlk x0 x1 x2 x3 x4 1024) [] [_, _, _, _, _, _, _, _] ⟨?_, ?_, ?_, ?_, ?_, ?_, ?_, ?_, trivial⟩ y
    (View.cover_of_tiledL _ ![512, 128] (by sl_kernel_rfl) y)
  all_goals
    dsimp only
    intro x
    refine chunk_block x0 x1 x2 x3 x4 1024 _ _ ?_ ?_ _ _ x <;> rfl

/-- The block of rounded keys: the same at the extended reals. -/
theorem out_kb (x0 : Vec Ideal S512x1024 .f32) (x1 : Vec Ideal S1024x3072 .bf16) (x2 x3 x4 : Vec Ideal S512x128 .f32) :
    out0_8 x0 x1 x2 x3 x4 = fun j => ropeBlk x0 x1 x2 x3 x4 1024 j := by
  unfold_out out0_8
  simp only [k0_pay3, k0_pay2, k0_pay4, k0_pay5, k0_pay6, k0_pay7, k0_pay11, k0_pay12, k0_pay13, k0_pay15, k0_pay16, k0_pay18, k0_pay19, k0_pay23, k0_pay24, k0_pay26, k0_pay27, k0_pay29, k0_pay30, k0_pay31, k0_pay32, k0_pay33, k0_pay35, k0_pay36, shapeCast_self]
  simp only [ld_x, ld_t]
  funext y
  refine View.canon_append_of_piecesOf (fun j => ropeBlk x0 x1 x2 x3 x4 1024 j) [] [_, _, _, _, _, _, _, _] ⟨?_, ?_, ?_, ?_, ?_, ?_, ?_, ?_, trivial⟩ y
    (View.cover_of_tiledL _ ![512, 128] (by sl_kernel_rfl) y)
  all_goals
    dsimp only
    intro x
    refine chunk_block x0 x1 x2 x3 x4 1024 _ _ ?_ ?_ _ _ x <;> rfl

/-- A scaled chunk is the scaled block at its columns. -/
theorem q_block (x : Vec Ideal S512x1024 .f32) (w : Vec Ideal S1024x3072 .bf16) (c lo hi : Vec Ideal S512x128 .f32) (o o' : ℕ) (ho : o % 128 = 0) (ho' : o' = (0 : Fin 2049).val + o)
    (ha : ∀ a, (![0, o'] : Fin 2 → ℕ) a + (![1024, 128] : Fin 2 → ℕ) a ≤ S1024x3072.size a)
    (hs : ∀ a, (![0, o] : Fin 2 → ℕ) a + (![512, 128] : Fin 2 → ℕ) a ≤ S512x1024.size a)
    (j : (Rect.unit (s := S512x1024) ![0, o] ![512, 128] hs).shape.Idx) :
    (truncf .bf16 (mulf (chunk (truncf .bf16 (x : FVec Ideal S512x1024 .f32) bitsLt_bf16_f32) c lo hi (View.ld w (Rect.unit (s := S1024x3072) ![0, o'] ![1024, 128] ha)))
        (broadcast S512x128 (Scalar.ofBits .f32 0x3E000000#32))) bitsLt_bf16_f32 : FVec Ideal S512x128 .bf16) j
      = qBlk x w c lo hi ((Rect.unit (s := S512x1024) ![0, o] ![512, 128] hs).emb j) :=
  congrArg (fun z : EReal => z * Ideal.ofBits .f32 0x3E000000#32) (chunk_block x w c lo hi 0 o o' ho ho' ha hs j)

/-- The block of scaled, rounded queries. -/
theorem out_q (x0 : Vec Ideal S512x1024 .f32) (x1 : Vec Ideal S1024x3072 .bf16) (x2 x3 x4 : Vec Ideal S512x128 .f32) :
    out0_7 x0 x1 x2 x3 x4 = qBlk x0 x1 x2 x3 x4 := by
  unfold_out out0_7
  simp only [k0_pay1, k0_pay4, k0_pay5, k0_pay6, k0_pay7, k0_pay10, k0_pay14, k0_pay17, k0_pay20, k0_pay21, k0_pay22, k0_pay25, k0_pay28, k0_pay34, shapeCast_self]
  simp only [ld_x, ld_t]
  funext y
  refine View.canon_append_of_piecesOf (qBlk x0 x1 x2 x3 x4) [] [_, _, _, _, _, _, _, _] ⟨?_, ?_, ?_, ?_, ?_, ?_, ?_, ?_, trivial⟩ y
    (View.cover_of_tiledL _ ![512, 128] (by sl_kernel_rfl) y)
  all_goals
    dsimp only
    intro x
    refine q_block x0 x1 x2 x3 x4 _ _ ?_ ?_ _ _ x <;> rfl

/-- The block of values at an index. -/
theorem out_v (x0 : Vec Ideal S512x1024 .f32) (x1 : Vec Ideal S1024x3072 .bf16) (x2 x3 x4 : Vec Ideal S512x128 .f32) (r : Fin 512) (l : Fin 1024) :
    out0_6 x0 x1 x2 x3 x4 (ix2 r l) = projRow (fun k => x0 (ix2 r k)) (fun k l => x1 (ix2 k l)) 2048 l := by
  have he : out0_6 x0 x1 x2 x3 x4 = k0_pay8 x0 (View.ld x1 r0_2) := by
    frame_out
  rw [he]
  pointwise [k0_pay8, k0_pay4, projRow]

/-- The block of rounded values at an index. -/
theorem out_vb (x0 : Vec Ideal S512x1024 .f32) (x1 : Vec Ideal S1024x3072 .bf16) (x2 x3 x4 : Vec Ideal S512x128 .f32) (r : Fin 512) (l : Fin 1024) :
    out0_9 x0 x1 x2 x3 x4 (ix2 r l) = projRow (fun k => x0 (ix2 r k)) (fun k l => x1 (ix2 k l)) 2048 l := by
  have he : out0_9 x0 x1 x2 x3 x4 = k0_pay9 x0 (View.ld x1 r0_2) := by
    frame_out
  rw [he]
  pointwise [k0_pay9, k0_pay8, k0_pay4, projRow]

end Cert.QkvIdeal.Block

end
-- ==== Proof.QkvValue.lean ====
module

public import proofs.«01_k».proof.Proof.QkvTables
public import proofs.«01_k».proof.Proof.QkvBlock
public import proofs.«01_k».proof.Defs

@[expose] public section

set_option maxRecDepth 16384

noncomputable section

open Idealize.ShloMosaic Idealize.ShloMosaic.TcCoe Idealize.SL.Sem

namespace Cert.QkvIdeal.Block

open Cert.QkvIdeal Cert.QkvIdeal.Gen Cert.QkvMath

variable (m : (ℓ : Loc nD τ sig) → Buf (Elt Ideal) ℓ)

/-- The tables' form of the rotary embedding is the embedding: a lane the tables leave alone meets ones and zeros, and adding a product with a negated sine subtracts. -/
theorem ropeLane_eq (y : Fin 1024 → EReal) (p : Fin 4096) (l : Fin 1024) : ropeLane y (tabC p) (tabLo p) (tabHi p) l = rope y p l := by
  have hm : l.val % 128 % 64 = l.val % 64 := by omega
  unfold ropeLane rope tabC tabLo tabHi
  simp only [hm]
  by_cases h0 : l.val % 64 < 8
  · simp only [dif_pos h0, mul_zero, add_zero]
    have hl : (⟨128 * (l.val / 128) + (l.val % 128 + 8) % 128, by omega⟩ : Fin 1024) = ⟨l.val + 8, by omega⟩ := Fin.ext (by show 128 * (l.val / 128) + (l.val % 128 + 8) % 128 = l.val + 8; omega)
    rw [hl, mul_neg, sub_eq_add_neg]
  by_cases h1 : l.val % 64 < 16
  · simp only [dif_neg h0, dif_pos h1, mul_zero, add_zero]
    have hl : (⟨128 * (l.val / 128) + (l.val % 128 + 120) % 128, by omega⟩ : Fin 1024) = ⟨l.val - 8, by omega⟩ := Fin.ext (by show 128 * (l.val / 128) + (l.val % 128 + 120) % 128 = l.val - 8; omega)
    rw [hl]
  · simp only [dif_neg h0, dif_neg h1, mul_zero, add_zero, mul_one]

/-- A row of the kernel's input. -/
def xRow (c : Dev nD) (i : Fin 16384) (k : Fin 1024) : EReal := (m ((c.tc : Thread nD τ).loc main_arg0) : Vec Ideal S16384x1024 .f32) (ix2 i k)

/-- The weight. -/
def wMat (c : Dev nD) (k : Fin 1024) (l : Fin 3072) : EReal := (m ((c.tc : Thread nD τ).loc main_arg1) : Vec Ideal S1024x3072 .f32) (ix2 k l)

/-- The position of a row in its sequence. -/
def pos (i : Fin 16384) : Fin 4096 := ⟨i.val % 4096, by omega⟩

/-- The keys: every row's projection at columns 1024 on, rotated by its position. -/
def resK (c : Dev nD) : Vec Ideal S16384x1024 .f32 := fun i => rope (projRow (xRow m c (i 0)) (wMat m c) 1024) (pos (i 0)) (i 1)

/-- The values: every row's projection at columns 2048 on. -/
def resV (c : Dev nD) : Vec Ideal S16384x1024 .f32 := fun i => projRow (xRow m c (i 0)) (wMat m c) 2048 (i 1)

/-- The queries: every row's projection at the first 1024 columns, rotated by its position and scaled by an eighth. -/
def resQ (c : Dev nD) : Vec Ideal S16384x1024 .bf16 := fun i => rope (projRow (xRow m c (i 0)) (wMat m c) 0) (pos (i 0)) (i 1) * Ideal.ofBits .f32 0x3E000000#32

/-- The rounded keys. -/
def resKb (c : Dev nD) : Vec Ideal S16384x1024 .bf16 := fun i => rope (projRow (xRow m c (i 0)) (wMat m c) 1024) (pos (i 0)) (i 1)

/-- The rounded values. -/
def resVb (c : Dev nD) : Vec Ideal S16384x1024 .bf16 := fun i => projRow (xRow m c (i 0)) (wMat m c) 2048 (i 1)

/-- The windows' block indices, decided over the 32 grid points. -/
theorem idx0 : ∀ t : Fin cfg0.N, win0_0.index t = ![t.val, 0] ∧ win0_1.index t = ![0, 0] ∧ win0_2.index t = ![t.val % 8, 0] ∧ win0_3.index t = ![t.val % 8, 0] ∧ win0_4.index t = ![t.val % 8, 0]
    ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, win0_0.index t = ![t.val, 0] ∧ win0_1.index t = ![0, 0] ∧ win0_2.index t = ![t.val % 8, 0] ∧ win0_3.index t = ![t.val % 8, 0] ∧ win0_4.index t = ![t.val % 8, 0]
    ∧ win0_5.index t = ![t.val, 0] ∧ win0_6.index t = ![t.val, 0] ∧ win0_7.index t = ![t.val, 0] ∧ win0_8.index t = ![t.val, 0] ∧ win0_9.index t = ![t.val, 0])

/-- Block `t` of the rows, row `r`. -/
theorem iblk_0 (c : Dev nD) (t : Fin cfg0.N) (r : Fin 512) (k : Fin 1024) (h : t.val * 512 + r.val < 16384) :
    (iblk m c 0 t : Vec Ideal S512x1024 .f32) (ix2 r k) = xRow m c ⟨t.val * 512 + r.val, h⟩ k := by
  unfold xRow
  blk_ext [iblk, V_main_arg0, idx0 t]

/-- Window 1 reads its array at the block's placement, whatever the array holds. -/
theorem read_1 (c : Dev nD) (W : (b : Ref sig .tc) → Buf (Elt Ideal) ((c : Thread nD τ).loc b)) (t : Fin cfg0.N) (y : S1024x3072.Idx) :
    ((cfg0.win 1).blk t).view.read (Elt Ideal) (W (Pipeline.arrRef spec0 1)) y = (W main_v36 : Vec Ideal S1024x3072 .bf16) ((win0_1.blk t).view.emb y) := rfl

/-- The weight's block: the whole of it, at every point. -/
theorem iblk_1 (c : Dev nD) (t : Fin cfg0.N) (r : Fin 1024) (k : Fin 3072) :
    (iblk m c 1 t : Vec Ideal S1024x3072 .bf16) (ix2 r k) = wMat m c r k := by
  have he : ((win0_1.blk t).view.emb (ix2 r k : S1024x3072.Idx) : S1024x3072.Idx) = ix2 r k := by
    blk_ext [idx0 t]
  unfold iblk
  exact (read_1 c (V m c) t _).trans ((congrArg _ he).trans (congrFun (V_w m c) _))

/-- Window 2 reads its array at the block's placement, whatever the array holds. -/
theorem read_2 (c : Dev nD) (W : (b : Ref sig .tc) → Buf (Elt Ideal) ((c : Thread nD τ).loc b)) (t : Fin cfg0.N) (y : S512x128.Idx) :
    ((cfg0.win 2).blk t).view.read (Elt Ideal) (W (Pipeline.arrRef spec0 2)) y = (W main_v29 : Vec Ideal S4096x128 .f32) ((win0_2.blk t).view.emb y) := rfl

/-- The block of cosines. -/
theorem iblk_2 (c : Dev nD) (t : Fin cfg0.N) (r : Fin 512) (k : Fin 128) (h : t.val * 512 + r.val < 16384) :
    (iblk m c 2 t : Vec Ideal S512x128 .f32) (ix2 r k) = tabC (pos ⟨t.val * 512 + r.val, h⟩) k := by
  have he : ((win0_2.blk t).view.emb (ix2 r k : S512x128.Idx) : S4096x128.Idx) = ix2 (pos ⟨t.val * 512 + r.val, h⟩) k := by
    unfold pos
    blk_ext [idx0 t]
  unfold iblk
  exact (read_2 c (V m c) t _).trans ((congrArg _ he).trans (V_c_apply m c _ _))

/-- Window 3 reads its array at the block's placement, whatever the array holds. -/
theorem read_3 (c : Dev nD) (W : (b : Ref sig .tc) → Buf (Elt Ideal) ((c : Thread nD τ).loc b)) (t : Fin cfg0.N) (y : S512x128.Idx) :
    ((cfg0.win 3).blk t).view.read (Elt Ideal) (W (Pipeline.arrRef spec0 3)) y = (W main_v32 : Vec Ideal S4096x128 .f32) ((win0_3.blk t).view.emb y) := rfl

/-- The block of negated sines. -/
theorem iblk_3 (c : Dev nD) (t : Fin cfg0.N) (r : Fin 512) (k : Fin 128) (h : t.val * 512 + r.val < 16384) :
    (iblk m c 3 t : Vec Ideal S512x128 .f32) (ix2 r k) = tabLo (pos ⟨t.val * 512 + r.val, h⟩) k := by
  have he : ((win0_3.blk t).view.emb (ix2 r k : S512x128.Idx) : S4096x128.Idx) = ix2 (pos ⟨t.val * 512 + r.val, h⟩) k := by
    unfold pos
    blk_ext [idx0 t]
  unfold iblk
  exact (read_3 c (V m c) t _).trans ((congrArg _ he).trans (V_lo_apply m c _ _))

/-- Window 4 reads its array at the block's placement, whatever the array holds. -/
theorem read_4 (c : Dev nD) (W : (b : Ref sig .tc) → Buf (Elt Ideal) ((c : Thread nD τ).loc b)) (t : Fin cfg0.N) (y : S512x128.Idx) :
    ((cfg0.win 4).blk t).view.read (Elt Ideal) (W (Pipeline.arrRef spec0 4)) y = (W main_v35 : Vec Ideal S4096x128 .f32) ((win0_4.blk t).view.emb y) := rfl

/-- The block of sines. -/
theorem iblk_4 (c : Dev nD) (t : Fin cfg0.N) (r : Fin 512) (k : Fin 128) (h : t.val * 512 + r.val < 16384) :
    (iblk m c 4 t : Vec Ideal S512x128 .f32) (ix2 r k) = tabHi (pos ⟨t.val * 512 + r.val, h⟩) k := by
  have he : ((win0_4.blk t).view.emb (ix2 r k : S512x128.Idx) : S4096x128.Idx) = ix2 (pos ⟨t.val * 512 + r.val, h⟩) k := by
    unfold pos
    blk_ext [idx0 t]
  unfold iblk
  exact (read_4 c (V m c) t _).trans ((congrArg _ he).trans (V_hi_apply m c _ _))

/-- The rotated block at a grid point, a row of it: the rotary embedding of the row's projection. -/
theorem point_rope (c : Dev nD) (t : Fin cfg0.N) (off : Fin 2049) (r : Fin 512) (l : Fin 1024) (h : t.val * 512 + r.val < 16384) :
    ropeBlk (iblk m c 0 t) (iblk m c 1 t) (iblk m c 2 t) (iblk m c 3 t) (iblk m c 4 t) off (ix2 r l)
      = rope (projRow (xRow m c ⟨t.val * 512 + r.val, h⟩) (wMat m c) off) (pos ⟨t.val * 512 + r.val, h⟩) l := by
  unfold ropeBlk
  have h0 : ∀ k : Fin 1024, (iblk m c 0 t : Vec Ideal S512x1024 .f32) (ix2 r k) = _ := fun k => iblk_0 m c t r k h
  have h2 : ∀ k : Fin 128, (iblk m c 2 t : Vec Ideal S512x128 .f32) (ix2 r k) = _ := fun k => iblk_2 m c t r k h
  have h3 : ∀ k : Fin 128, (iblk m c 3 t : Vec Ideal S512x128 .f32) (ix2 r k) = _ := fun k => iblk_3 m c t r k h
  have h4 : ∀ k : Fin 128, (iblk m c 4 t : Vec Ideal S512x128 .f32) (ix2 r k) = _ := fun k => iblk_4 m c t r k h
  simp only [ix2_0, ix2_1, h0, h2, h3, h4, iblk_1]
  exact ropeLane_eq _ _ _

/-- The projected block at a grid point. -/
theorem point_proj (c : Dev nD) (t : Fin cfg0.N) (off : Fin 2049) (r : Fin 512) (l : Fin 1024) (h : t.val * 512 + r.val < 16384) :
    projRow (fun k => (iblk m c 0 t : Vec Ideal S512x1024 .f32) (ix2 r k)) (fun k l => (iblk m c 1 t : Vec Ideal S1024x3072 .bf16) (ix2 k l)) off l
      = projRow (xRow m c ⟨t.val * 512 + r.val, h⟩) (wMat m c) off l := by
  have h0 : ∀ k : Fin 1024, (iblk m c 0 t : Vec Ideal S512x1024 .f32) (ix2 r k) = _ := fun k => iblk_0 m c t r k h
  simp only [h0, iblk_1]

/-- The array of keys the pipeline leaves. -/
theorem finalK (c : Dev nD) : (dats m 0 c).arrAt 5 cfg0.N = resK m c := by
  refine (dats m 0 c).arrAt_eq_of_covers 5 _ (by decide +kernel) fun t hf y => ?_
  blk_simp
  rw [after0_5]
  obtain ⟨r, l, rfl⟩ : ∃ (r : Fin 512) (l : Fin 1024), y = (ix2 r l : (⟨2, ![512, 1024]⟩ : Shape).Idx) := ⟨y 0, y 1, eq_ix2 (n0 := 512) (n1 := 1024) y⟩
  have ht : t.val < 32 := t.isLt
  have he : (win0_5.blk t).view.emb (ix2 r l : (⟨2, ![512, 1024]⟩ : Shape).Idx)
      = (ix2 ⟨t.val * 512 + r.val, by omega⟩ l : (⟨2, ![16384, 1024]⟩ : Shape).Idx) := by
    blk_ext [idx0 t]
  rw [he]
  refine (congrFun (out_k _ _ _ _ _) _).trans ((point_rope m c t 1024 r l (by omega)).trans ?_)
  rfl

/-- The array of values the pipeline leaves. -/
theorem finalV (c : Dev nD) : (dats m 0 c).arrAt 6 cfg0.N = resV m c := by
  refine (dats m 0 c).arrAt_eq_of_covers 6 _ (by decide +kernel) fun t hf y => ?_
  blk_simp
  rw [after0_6]
  obtain ⟨r, l, rfl⟩ : ∃ (r : Fin 512) (l : Fin 1024), y = (ix2 r l : (⟨2, ![512, 1024]⟩ : Shape).Idx) := ⟨y 0, y 1, eq_ix2 (n0 := 512) (n1 := 1024) y⟩
  have ht : t.val < 32 := t.isLt
  have he : (win0_6.blk t).view.emb (ix2 r l : (⟨2, ![512, 1024]⟩ : Shape).Idx)
      = (ix2 ⟨t.val * 512 + r.val, by omega⟩ l : (⟨2, ![16384, 1024]⟩ : Shape).Idx) := by
    blk_ext [idx0 t]
  rw [he]
  refine (out_v _ _ _ _ _ r l).trans ((point_proj m c t 2048 r l (by omega)).trans ?_)
  rfl

/-- The array of queries the pipeline leaves. -/
theorem finalQ (c : Dev nD) : (dats m 0 c).arrAt 7 cfg0.N = resQ m c := by
  refine (dats m 0 c).arrAt_eq_of_covers 7 _ (by decide +kernel) fun t hf y => ?_
  blk_simp
  rw [after0_7]
  obtain ⟨r, l, rfl⟩ : ∃ (r : Fin 512) (l : Fin 1024), y = (ix2 r l : (⟨2, ![512, 1024]⟩ : Shape).Idx) := ⟨y 0, y 1, eq_ix2 (n0 := 512) (n1 := 1024) y⟩
  have ht : t.val < 32 := t.isLt
  have he : (win0_7.blk t).view.emb (ix2 r l : (⟨2, ![512, 1024]⟩ : Shape).Idx)
      = (ix2 ⟨t.val * 512 + r.val, by omega⟩ l : (⟨2, ![16384, 1024]⟩ : Shape).Idx) := by
    blk_ext [idx0 t]
  rw [he]
  refine (congrFun (out_q _ _ _ _ _) _).trans ((congrArg (fun z : EReal => z * Ideal.ofBits .f32 0x3E000000#32) (point_rope m c t 0 r l (by omega))).trans ?_)
  rfl

/-- The array of rounded keys the pipeline leaves. -/
theorem finalKb (c : Dev nD) : (dats m 0 c).arrAt 8 cfg0.N = resKb m c := by
  refine (dats m 0 c).arrAt_eq_of_covers 8 _ (by decide +kernel) fun t hf y => ?_
  blk_simp
  rw [after0_8]
  obtain ⟨r, l, rfl⟩ : ∃ (r : Fin 512) (l : Fin 1024), y = (ix2 r l : (⟨2, ![512, 1024]⟩ : Shape).Idx) := ⟨y 0, y 1, eq_ix2 (n0 := 512) (n1 := 1024) y⟩
  have ht : t.val < 32 := t.isLt
  have he : (win0_8.blk t).view.emb (ix2 r l : (⟨2, ![512, 1024]⟩ : Shape).Idx)
      = (ix2 ⟨t.val * 512 + r.val, by omega⟩ l : (⟨2, ![16384, 1024]⟩ : Shape).Idx) := by
    blk_ext [idx0 t]
  rw [he]
  refine (congrFun (out_kb _ _ _ _ _) _).trans ((point_rope m c t 1024 r l (by omega)).trans ?_)
  rfl

/-- The array of rounded values the pipeline leaves. -/
theorem finalVb (c : Dev nD) : (dats m 0 c).arrAt 9 cfg0.N = resVb m c := by
  refine (dats m 0 c).arrAt_eq_of_covers 9 _ (by decide +kernel) fun t hf y => ?_
  blk_simp
  rw [after0_9]
  obtain ⟨r, l, rfl⟩ : ∃ (r : Fin 512) (l : Fin 1024), y = (ix2 r l : (⟨2, ![512, 1024]⟩ : Shape).Idx) := ⟨y 0, y 1, eq_ix2 (n0 := 512) (n1 := 1024) y⟩
  have ht : t.val < 32 := t.isLt
  have he : (win0_9.blk t).view.emb (ix2 r l : (⟨2, ![512, 1024]⟩ : Shape).Idx)
      = (ix2 ⟨t.val * 512 + r.val, by omega⟩ l : (⟨2, ![16384, 1024]⟩ : Shape).Idx) := by
    blk_ext [idx0 t]
  rw [he]
  refine (out_vb _ _ _ _ _ r l).trans ((point_proj m c t 2048 r l (by omega)).trans ?_)
  rfl

end Cert.QkvIdeal.Block

end
-- ==== Proof.QkvRef.lean ====
module

public import proofs.«01_k».proof.Proof.Gen.QkvRefIdeal.Run
public import proofs.«01_k».proof.Proof.QkvMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.QkvRefIdeal.Row

open Cert.QkvRefIdeal Cert.QkvRefIdeal.Gen Cert.QkvMath

variable (m : (ℓ : Loc nD τ sig) → Buf (Elt Ideal) ℓ)

/-- The angles, every position by every frequency. -/
def angT : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1 (Host.divf (broadcastInDim S8 ![] bcast_S_S8 (constant S_ .f32 0x3F800000#32))
      (Host.powf (broadcastInDim S8 ![] bcast_S_S8 (constant S_ .f32 0x48F42400#32)) (Host.divf (addf (broadcastInDim S8 ![] bcast_S_S8 (constant S_ .f32 0x00000000#32))
        (mulf (broadcastInDim S8 ![] bcast_S_S8 (constant S_ .f32 0x40000000#32)) (sitofp .f32 (iotaInDim S8 32 0)))) (broadcastInDim S8 ![] bcast_S_S8 (constant S_ .f32 0x41800000#32)))))))

/-- The angle table at an index. -/
theorem angT_apply (p : Fin 4096) (e : Fin 8) : angT (ix2 p e) = ang p e := by
  pointwise [angT, ang]

/-- A table of positions by frequencies, over batches and heads. -/
def tab (t : FVec Ideal S4096x8 .f32) : FVec Ideal S4x4096x16x8 .f32 :=
  broadcastInDim S4x4096x16x8 ![0, 1, 2, 3] bcast_S1x4096x1x8_S4x4096x16x8_0_1_2_3 (broadcastInDim S1x4096x1x8 ![1, 3] bcast_S4096x8_S1x4096x1x8_1_3 t)

/-- The rows as batches, positions, heads and lanes. -/
def heads (y : FVec Ideal S16384x1024 .f32) : FVec Ideal S4x4096x16x64 .f32 := shapeCast _ y shapeCasts_S16384x1024_S4x4096x16x64

/-- The rotary embedding of all heads, as the reference writes it. -/
def rotT (y : FVec Ideal S4x4096x16x64 .f32) (co si : FVec Ideal S4x4096x16x8 .f32) : FVec Ideal S4x4096x16x64 .f32 :=
  concatenate S4x4096x16x64 3 [⟨S4x4096x16x8, subf (mulf (extractStridedSlice S4x4096x16x8 ![0, 0, 0, 0] y slices_S4x4096x16x64_S4x4096x16x8_0_0_0_0) co)
      (mulf (extractStridedSlice S4x4096x16x8 ![0, 0, 0, 8] y slices_S4x4096x16x64_S4x4096x16x8_0_0_0_8) si)⟩,
    ⟨S4x4096x16x8, addf (mulf (extractStridedSlice S4x4096x16x8 ![0, 0, 0, 8] y slices_S4x4096x16x64_S4x4096x16x8_0_0_0_8) co)
      (mulf (extractStridedSlice S4x4096x16x8 ![0, 0, 0, 0] y slices_S4x4096x16x64_S4x4096x16x8_0_0_0_0) si)⟩,
    ⟨S4x4096x16x48, extractStridedSlice S4x4096x16x48 ![0, 0, 0, 16] y slices_S4x4096x16x64_S4x4096x16x48_0_0_0_16⟩]
    concatenates_S4x4096x16x8_S4x4096x16x8_S4x4096x16x48_S4x4096x16x64_d3

/-- The rotary embedding of rows. -/
def rotRows (y : FVec Ideal S16384x1024 .f32) : FVec Ideal S16384x1024 .f32 :=
  shapeCast _ (rotT (heads y) (tab (Host.cos angT)) (tab (Host.sin angT))) shapeCasts_S4x4096x16x64_S16384x1024

/-- The projection of every row, all 3072 columns. -/
def proj (x : FVec Ideal S16384x1024 .f32) (w : FVec Ideal S1024x3072 .f32) : FVec Ideal S16384x3072 .f32 :=
  Host.dotGeneral dot_S16384x1024_S1024x3072_S16384x3072_1_0_0_1_n_n none x w

/-- The keys the reference returns, by name. -/
theorem res0_eq (c : Dev nD) : Value.res_out0 m c = rotRows (extractStridedSlice S16384x1024 ![0, 1024] (proj (m ((c.tc : Thread nD τ).loc main_arg0)) (m ((c.tc : Thread nD τ).loc main_arg1))) slices_S16384x3072_S16384x1024_0_1024) := rfl

/-- The scaled queries the reference returns, by name. -/
theorem res2_eq (c : Dev nD) : Value.res_out2 m c = truncf .bf16 (mulf (rotRows (extractStridedSlice S16384x1024 ![0, 0] (proj (m ((c.tc : Thread nD τ).loc main_arg0)) (m ((c.tc : Thread nD τ).loc main_arg1))) slices_S16384x3072_S16384x1024_0_0))
    (broadcastInDim S16384x1024 ![] bcast_S_S16384x1024 (constant S_ .f32 0x3E000000#32))) bitsLt_bf16_f32 := rfl

/-- The rounded keys the reference returns, by name. -/
theorem res3_eq (c : Dev nD) : Value.res_out3 m c = truncf .bf16 (rotRows (extractStridedSlice S16384x1024 ![0, 1024] (proj (m ((c.tc : Thread nD τ).loc main_arg0)) (m ((c.tc : Thread nD τ).loc main_arg1))) slices_S16384x3072_S16384x1024_0_1024)) bitsLt_bf16_f32 := rfl

/-- The projection at an index. -/
theorem proj_apply (x : FVec Ideal S16384x1024 .f32) (w : FVec Ideal S1024x3072 .f32) (i : Fin 16384) (l : Fin 3072) :
    proj x w (ix2 i l) = ∑ k : Fin 1024, x (ix2 i k) * w (ix2 k l) := by
  pointwise [proj]

/-- The rotary embedding of all heads at an index, by the lane. -/
theorem rotT_apply (y : FVec Ideal S4x4096x16x64 .f32) (co si : FVec Ideal S4x4096x16x8 .f32) (b : Fin 4) (n : Fin 4096) (h : Fin 16) (e : Fin 64) :
    rotT y co si (ix4 b n h e) = if h0 : e.val < 8 then y (ix4 b n h e) * co (ix4 b n h ⟨e.val, h0⟩) - y (ix4 b n h ⟨e.val + 8, by omega⟩) * si (ix4 b n h ⟨e.val, h0⟩)
      else if h1 : e.val < 16 then y (ix4 b n h e) * co (ix4 b n h ⟨e.val - 8, by omega⟩) + y (ix4 b n h ⟨e.val - 8, by omega⟩) * si (ix4 b n h ⟨e.val - 8, by omega⟩)
      else y (ix4 b n h e) := by
  pointwise [rotT]
  by_cases h0 : e.val < 8
  · simp only [dif_pos h0, Nat.add_comm 8]
  by_cases h1 : e.val < 16
  · simp only [dif_neg h0, dif_pos h1, dif_pos (show e.val - 8 < 8 by omega)]
    have he : (⟨8 + (e.val - 8), by omega⟩ : Fin 64) = e := Fin.ext (by show 8 + (e.val - 8) = e.val; omega)
    rw [he]
  · simp only [dif_neg h0, dif_neg h1, dif_neg (show ¬ e.val - 8 < 8 by omega)]
    have he : (⟨16 + (e.val - 8 - 8), by omega⟩ : Fin 64) = e := Fin.ext (by show 16 + (e.val - 8 - 8) = e.val; omega)
    rw [he]

/-- A head's lane of a row. -/
theorem heads_apply (y : FVec Ideal S16384x1024 .f32) (b : Fin 4) (n : Fin 4096) (h : Fin 16) (e : Fin 64) :
    heads y (ix4 b n h e) = y (ix2 ⟨4096 * b.val + n.val, by omega⟩ ⟨64 * h.val + e.val, by omega⟩) := by
  pointwise [heads]
  simp only [Nat.mul_comm]

/-- A spread table at an index. -/
theorem tab_apply (t : FVec Ideal S4096x8 .f32) (b : Fin 4) (n : Fin 4096) (h : Fin 16) (e : Fin 8) : tab t (ix4 b n h e) = t (ix2 n e) := by
  pointwise [tab]

/-- The rotary embedding of rows at an index. -/
theorem rotRows_apply (y : FVec Ideal S16384x1024 .f32) (i : Fin 16384) (l : Fin 1024) :
    rotRows y (ix2 i l) = rope (fun k => y (ix2 i k)) ⟨i.val % 4096, by omega⟩ l := by
  pointwise [rotRows]
  refine (rotT_apply _ _ _ _ _ _ _).trans ?_
  have hi : (⟨4096 * (i.val / 4096) + i.val % 4096, by omega⟩ : Fin 16384) = i := Fin.ext (by show 4096 * (i.val / 4096) + i.val % 4096 = i.val; omega)
  have hl : ∀ a : ℕ, ∀ h : 64 * (l.val / 64) + (l.val % 64 + a) < 1024, ∀ h' : l.val + a < 1024, (⟨64 * (l.val / 64) + (l.val % 64 + a), h⟩ : Fin 1024) = ⟨l.val + a, h'⟩ := fun a h h' => Fin.ext (by show 64 * (l.val / 64) + (l.val % 64 + a) = l.val + a; omega)
  have hl0 : (⟨64 * (l.val / 64) + l.val % 64, by omega⟩ : Fin 1024) = l := Fin.ext (by show 64 * (l.val / 64) + l.val % 64 = l.val; omega)
  unfold rope
  split <;> rename_i h0
  · replace h0 : l.val % 64 < 8 := h0
    simp only [heads_apply, tab_apply, hi, hl0]
    rw [hl 8 (by omega) (by omega)]
    pointwise [angT_apply]
  replace h0 : ¬ l.val % 64 < 8 := h0
  split <;> rename_i h1
  · replace h1 : l.val % 64 < 16 := h1
    simp only [heads_apply, tab_apply, hi, hl0]
    have hm : (⟨64 * (l.val / 64) + (l.val % 64 - 8), by omega⟩ : Fin 1024) = ⟨l.val - 8, by omega⟩ := Fin.ext (by show 64 * (l.val / 64) + (l.val % 64 - 8) = l.val - 8; omega)
    rw [hm]
    pointwise [angT_apply]
  · simp only [heads_apply, hi, hl0]

/-- A row of the projection, 1024 columns from an offset on. -/
theorem slice_apply (x : FVec Ideal S16384x1024 .f32) (w : FVec Ideal S1024x3072 .f32) (off : Fin 2049) (h : S16384x3072.Slices ![0, off.val] S16384x1024) (i : Fin 16384) (l : Fin 1024) :
    extractStridedSlice S16384x1024 ![0, off.val] (proj x w) h (ix2 i l) = projRow (fun k => x (ix2 i k)) (fun k l => w (ix2 k l)) off l := by
  refine Eq.trans ?_ (proj_apply x w i ⟨off.val + l.val, by omega⟩)
  pointwise

/-- A rotated row of the projection. -/
theorem rot_apply (x : FVec Ideal S16384x1024 .f32) (w : FVec Ideal S1024x3072 .f32) (off : Fin 2049) (h : S16384x3072.Slices ![0, off.val] S16384x1024) (i : Fin 16384) (l : Fin 1024) :
    rotRows (extractStridedSlice S16384x1024 ![0, off.val] (proj x w) h) (ix2 i l)
      = rope (projRow (fun k => x (ix2 i k)) (fun k l => w (ix2 k l)) off) ⟨i.val % 4096, by omega⟩ l := by
  refine (rotRows_apply _ i l).trans ?_
  exact congrArg (fun y => rope y ⟨i.val % 4096, by omega⟩ l) (funext fun k => slice_apply x w off h i k)

/-- The reference's rows. -/
def xRow (c : Dev nD) (i : Fin 16384) (k : Fin 1024) : EReal := (m ((c.tc : Thread nD τ).loc main_arg0) : Vec Ideal S16384x1024 .f32) (ix2 i k)

/-- The reference's weight. -/
def wMat (c : Dev nD) (k : Fin 1024) (l : Fin 3072) : EReal := (m ((c.tc : Thread nD τ).loc main_arg1) : Vec Ideal S1024x3072 .f32) (ix2 k l)

/-- The keys at an index. -/
theorem res0_apply (c : Dev nD) (i : Fin 16384) (l : Fin 1024) :
    (Value.res_out0 m c : Vec Ideal S16384x1024 .f32) (ix2 i l) = rope (projRow (xRow m c i) (wMat m c) 1024) ⟨i.val % 4096, by omega⟩ l :=
  (congrFun (res0_eq m c) _).trans (rot_apply _ _ 1024 _ i l)

/-- The scaled queries at an index. -/
theorem res2_apply (c : Dev nD) (i : Fin 16384) (l : Fin 1024) :
    (Value.res_out2 m c : Vec Ideal S16384x1024 .bf16) (ix2 i l) = rope (projRow (xRow m c i) (wMat m c) 0) ⟨i.val % 4096, by omega⟩ l * Ideal.ofBits .f32 0x3E000000#32 :=
  (congrFun (res2_eq m c) _).trans (congrArg (fun z : EReal => z * Ideal.ofBits .f32 0x3E000000#32) (rot_apply _ _ 0 _ i l))

/-- The rounded keys at an index. -/
theorem res3_apply (c : Dev nD) (i : Fin 16384) (l : Fin 1024) :
    (Value.res_out3 m c : Vec Ideal S16384x1024 .bf16) (ix2 i l) = rope (projRow (xRow m c i) (wMat m c) 1024) ⟨i.val % 4096, by omega⟩ l :=
  (congrFun (res3_eq m c) _).trans (rot_apply _ _ 1024 _ i l)

end Cert.QkvRefIdeal.Row

end
-- ==== Proof.QkvClaims.lean ====
module

public import proofs.«01_k».proof.Proof.QkvValue
public import proofs.«01_k».proof.Proof.QkvRef
public import proofs.«01_k».proof.Proof.Gen.Qkv.Frame
public import Idealize.ShloMosaic.Lib.Quiescent

@[expose] public section

set_option maxRecDepth 16384

noncomputable section

open Idealize.ShloMosaic Idealize.ShloMosaic.TcCoe Idealize.SL.Sem

namespace Cert.Proof.QkvClaims

/-- The kernel runs, keeps its arguments and leaves every semaphore at zero. -/
theorem frame_k : Cert.quiescent_Qkv := fun m ρ _ => Cert.Qkv.Gen.frame m ρ

/-- The same of the kernel at the extended reals. -/
theorem frame_ki : Cert.quiescent_QkvIdeal := fun m ρ _ => Cert.QkvIdeal.Gen.frame m ρ

/-- The reference at the extended reals runs and keeps its arguments; it has no semaphore. -/
theorem frame_ri : Cert.quiescent_QkvRefIdeal := fun m ρ _ =>
  (θ_run Cert.QkvRefIdeal.defs _ _).mono (fun r h => ⟨fun c => (h c).2.2.2.2.2, sem_eq_zero_of_no_sems (by decide) r.2⟩)
    (Cert.QkvRefIdeal.Value.run (F := Ideal) m ρ)

/-- Kernel and reference that agree on the rows have the same rows. -/
theorem x_eq (m : (ℓ : Loc Cert.QkvIdeal.nD Cert.QkvIdeal.τ Cert.QkvIdeal.sig) → Buf (Elt Ideal) ℓ) (m' : (ℓ : Loc Cert.QkvRefIdeal.nD Cert.QkvRefIdeal.τ Cert.QkvRefIdeal.sig) → Buf (Elt Ideal) ℓ) (c : Dev Cert.QkvIdeal.nD)
    (h : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)) :
    Cert.QkvRefIdeal.Row.xRow m' c = Cert.QkvIdeal.Block.xRow m c := by
  funext i k
  exact congrFun h (ix2 i k)

/-- Kernel and reference that agree on the weight have the same weight. -/
theorem w_eq (m : (ℓ : Loc Cert.QkvIdeal.nD Cert.QkvIdeal.τ Cert.QkvIdeal.sig) → Buf (Elt Ideal) ℓ) (m' : (ℓ : Loc Cert.QkvRefIdeal.nD Cert.QkvRefIdeal.τ Cert.QkvRefIdeal.sig) → Buf (Elt Ideal) ℓ) (c : Dev Cert.QkvIdeal.nD)
    (h : m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) :
    Cert.QkvRefIdeal.Row.wMat m' c = Cert.QkvIdeal.Block.wMat m c := by
  funext k l
  exact congrFun h (ix2 k l)

/-- The kernel and the reference leave the same five arrays: the rotated keys, the values, the rotated and scaled queries, and keys and values rounded. -/
theorem algebraic : Cert.algebraic_QkvIdeal_QkvRefIdeal := by
  intro m ρ m' ρ' _ hagree
  refine ⟨Cert.QkvIdeal.Block.resK m, Cert.QkvIdeal.Block.resV m, Cert.QkvIdeal.Block.resQ m, Cert.QkvIdeal.Block.resKb m, Cert.QkvIdeal.Block.resVb m,
    (θ_run Cert.QkvIdeal.defs _ _).mono (fun _ h c => ?_) (Cert.QkvIdeal.Value.run_blocks (F := Ideal) m ρ),
    (θ_run Cert.QkvRefIdeal.defs _ _).mono (fun _ h c => ?_) (Cert.QkvRefIdeal.Value.run (F := Ideal) m' ρ')⟩
  · obtain ⟨h5, h6, h7, h8, h9, ha⟩ := h c
    exact ⟨h5.trans (Cert.QkvIdeal.Block.finalK m c), h6.trans (Cert.QkvIdeal.Block.finalV m c), h7.trans (Cert.QkvIdeal.Block.finalQ m c), h8.trans (Cert.QkvIdeal.Block.finalKb m c),
      h9.trans (Cert.QkvIdeal.Block.finalVb m c), ha⟩
  · obtain ⟨h0, h1, h2, h3, h4, ha⟩ := h c
    refine ⟨h0.trans ?_, h1.trans ?_, h2.trans ?_, h3.trans ?_, h4.trans ?_, ha⟩
    all_goals
      funext i
      obtain ⟨r, l, rfl⟩ : ∃ (r : Fin 16384) (l : Fin 1024), i = (ix2 r l : (⟨2, ![16384, 1024]⟩ : Shape).Idx) := ⟨i 0, i 1, eq_ix2 (n0 := 16384) (n1 := 1024) i⟩
    · refine (Cert.QkvRefIdeal.Row.res0_apply m' c r l).trans ?_
      rw [x_eq m m' c (hagree c).1, w_eq m m' c (hagree c).2]
      rfl
    · refine (Cert.QkvRefIdeal.Row.slice_apply _ _ 2048 Cert.QkvRefIdeal.Gen.slices_S16384x3072_S16384x1024_0_2048 r l).trans ?_
      refine Eq.trans (b := Cert.QkvMath.projRow (Cert.QkvRefIdeal.Row.xRow m' c r) (Cert.QkvRefIdeal.Row.wMat m' c) 2048 l) rfl ?_
      rw [x_eq m m' c (hagree c).1, w_eq m m' c (hagree c).2]
      rfl
    · refine (Cert.QkvRefIdeal.Row.res2_apply m' c r l).trans ?_
      rw [x_eq m m' c (hagree c).1, w_eq m m' c (hagree c).2]
      rfl
    · refine (Cert.QkvRefIdeal.Row.res3_apply m' c r l).trans ?_
      rw [x_eq m m' c (hagree c).1, w_eq m m' c (hagree c).2]
      rfl
    · refine (Cert.QkvRefIdeal.Row.slice_apply _ _ 2048 Cert.QkvRefIdeal.Gen.slices_S16384x3072_S16384x1024_0_2048 r l).trans ?_
      refine Eq.trans (b := Cert.QkvMath.projRow (Cert.QkvRefIdeal.Row.xRow m' c r) (Cert.QkvRefIdeal.Row.wMat m' c) 2048 l) rfl ?_
      rw [x_eq m m' c (hagree c).1, w_eq m m' c (hagree c).2]
      rfl

end Cert.Proof.QkvClaims

end
-- ==== Proof.ConvSMath.lean ====
module

public import proofs.«01_k».proof.Proof.OutMath
public import proofs.«01_k».proof.Proof.QkvMath

@[expose] public section

noncomputable section

open Idealize.ShloMosaic

namespace Cert.ConvSMath

open Cert.QkvMath

/-- The gated input of the convolution: the second third of the projection times the last. -/
def uRow (x : Fin 1024 → EReal) (w : Fin 1024 → Fin 3072 → EReal) (l : Fin 1024) : EReal := projRow x w 1024 l * projRow x w 2048 l

/-- The convolution of width three over two earlier gated inputs and the present one, times the gate. -/
def mixRow (x s t : Fin 1024 → EReal) (w : Fin 1024 → Fin 3072 → EReal) (cw : Fin 3 → Fin 1024 → EReal) (l : Fin 1024) : EReal :=
  projRow x w 0 l * (cw 0 l * s l + cw 1 l * t l + cw 2 l * uRow x w l)

end Cert.ConvSMath

end
-- ==== Proof.ConvSValue.lean ====
module

public import proofs.«01_k».proof.Proof.Gen.ConvSIdeal.Value
public import proofs.«01_k».proof.Proof.ConvSMath
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ConvSIdeal.Block

open Cert.ConvSIdeal Cert.ConvSIdeal.Gen Cert.FfnMath Cert.OutMath Cert.ConvSMath

variable (m : (ℓ : Loc nD τ sig) → Buf (Elt Ideal) ℓ)

/-- The kernel's first result: every row's post-norm of its gated convolution's output projection. -/
def result (c : Dev nD) : Vec Ideal S32x1024 .f32 := fun i =>
  postRow (fun k => (m ((c.tc : Thread nD τ).loc main_arg0) : Vec Ideal S32x1024 .f32) (ix2 (i 0) k)) (projRow (mixRow (fun k => (m ((c.tc : Thread nD τ).loc main_arg0) : Vec Ideal S32x1024 .f32) (ix2 (i 0) k)) (fun k => (m ((c.tc : Thread nD τ).loc main_arg1) : Vec Ideal S32x2x1024 .f32) (ix3 (i 0) 0 k)) (fun k => (m ((c.tc : Thread nD τ).loc main_arg1) : Vec Ideal S32x2x1024 .f32) (ix3 (i 0) 1 k)) (fun k l => (m ((c.tc : Thread nD τ).loc main_arg2) : Vec Ideal S1024x3072 .f32) (ix2 k l)) (fun j l => (m ((c.tc : Thread nD τ).loc main_arg3) : Vec Ideal S3x1024 .f32) (ix2 j l))) (fun k l => (m ((c.tc : Thread nD τ).loc main_arg4) : Vec Ideal S1024x1024 .f32) (ix2 k l)))
      (fun k => (m ((c.tc : Thread nD τ).loc main_arg5) : Vec Ideal S1024 .f32) (ix1 k)) (fun k => (m ((c.tc : Thread nD τ).loc main_arg6) : Vec Ideal S1024 .f32) (ix1 k)) (i 1)

/-- The kernel's second result: every row's gated input of the convolution. -/
def resultU (c : Dev nD) : Vec Ideal S32x1024 .f32 := fun i => uRow (fun k => (m ((c.tc : Thread nD τ).loc main_arg0) : Vec Ideal S32x1024 .f32) (ix2 (i 0) k)) (fun k l => (m ((c.tc : Thread nD τ).loc main_arg2) : Vec Ideal S1024x3072 .f32) (ix2 k l)) (i 1)

/-- The body's first block, row by row. -/
theorem out_apply (x0 x1 x2 : Vec Ideal S32x1024 .f32) (x3 : Vec Ideal S1024x3072 .bf16) (x4 : Vec Ideal S3x1024 .f32) (x5 : Vec Ideal S1024x1024 .bf16) (x6 x7 : Vec Ideal S1x1024 .f32) (r : Fin 32) (l : Fin 1024) :
    out0_8 x0 x1 x2 x3 x4 x5 x6 x7 (ix2 r l) = postRow (fun k => x0 (ix2 r k)) (projRow (mixRow (fun k => x0 (ix2 r k)) (fun k => x1 (ix2 r k)) (fun k => x2 (ix2 r k)) (fun k l => x3 (ix2 k l)) (fun j l => x4 (ix2 j l))) (fun k l => x5 (ix2 k l)))
      (fun k => x6 (ix2 0 k)) (fun k => x7 (ix2 0 k)) l := by
  have he : out0_8 x0 x1 x2 x3 x4 x5 x6 x7 = k0_pay1 (k0_pay4 x0 (View.ld x3 r0_1) (View.ld x3 r0_2) (View.ld x3 r0_3) (View.ld x4 r0_4) x1 (View.ld x4 r0_5) x2 (View.ld x4 r0_6) x5) (k0_pay5 x0) x6 x7 := by
    frame_out
  rw [he]
  pointwise [k0_pay1, k0_pay2, k0_pay3, k0_pay4, k0_pay5, postRow, Cert.OutMath.projRow, mixRow, uRow, Cert.QkvMath.projRow, layerNorm, mean]

/-- The body's second block, row by row. -/
theorem out_u (x0 x1 x2 : Vec Ideal S32x1024 .f32) (x3 : Vec Ideal S1024x3072 .bf16) (x4 : Vec Ideal S3x1024 .f32) (x5 : Vec Ideal S1024x1024 .bf16) (x6 x7 : Vec Ideal S1x1024 .f32) (r : Fin 32) (l : Fin 1024) :
    out0_9 x0 x1 x2 x3 x4 x5 x6 x7 (ix2 r l) = uRow (fun k => x0 (ix2 r k)) (fun k l => x3 (ix2 k l)) l := by
  have he : out0_9 x0 x1 x2 x3 x4 x5 x6 x7 = k0_pay3 x0 (View.ld x3 r0_2) (View.ld x3 r0_3) := by
    frame_out
  rw [he]
  pointwise [k0_pay2, k0_pay3, uRow, Cert.QkvMath.projRow]

/-- The windows' block indices at the one grid point. -/
theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0])

/-- The rows. -/
theorem iblk_0 (c : Dev nD) (t : Fin cfg0.N) (r : Fin 32) (k : Fin 1024) : (iblk m c 0 t : Vec Ideal S32x1024 .f32) (ix2 r k) = (m ((c.tc : Thread nD τ).loc main_arg0) : Vec Ideal S32x1024 .f32) (ix2 r k) := by
  blk_ext [iblk, V_main_arg0, idx0 t]

/-- The earlier of the two kept inputs. -/
theorem iblk_1 (c : Dev nD) (t : Fin cfg0.N) (r : Fin 32) (k : Fin 1024) : (iblk m c 1 t : Vec Ideal S32x1024 .f32) (ix2 r k) = (m ((c.tc : Thread nD τ).loc main_arg1) : Vec Ideal S32x2x1024 .f32) (ix3 r 0 k) := by
  blk_ext! [iblk, V, idx0 t]

/-- The later of the two kept inputs. -/
theorem iblk_2 (c : Dev nD) (t : Fin cfg0.N) (r : Fin 32) (k : Fin 1024) : (iblk m c 2 t : Vec Ideal S32x1024 .f32) (ix2 r k) = (m ((c.tc : Thread nD τ).loc main_arg1) : Vec Ideal S32x2x1024 .f32) (ix3 r 1 k) := by
  blk_ext! [iblk, V, idx0 t]

/-- The projection's weight. -/
theorem iblk_3 (c : Dev nD) (t : Fin cfg0.N) (r : Fin 1024) (k : Fin 3072) : (iblk m c 3 t : Vec Ideal S1024x3072 .bf16) (ix2 r k) = (m ((c.tc : Thread nD τ).loc main_arg2) : Vec Ideal S1024x3072 .f32) (ix2 r k) := by
  blk_ext [iblk, V, idx0 t]

/-- The convolution's weight. -/
theorem iblk_4 (c : Dev nD) (t : Fin cfg0.N) (r : Fin 3) (k : Fin 1024) : (iblk m c 4 t : Vec Ideal S3x1024 .f32) (ix2 r k) = (m ((c.tc : Thread nD τ).loc main_arg3) : Vec Ideal S3x1024 .f32) (ix2 r k) := by
  blk_ext [iblk, V_main_arg3, idx0 t]

/-- The output projection's weight. -/
theorem iblk_5 (c : Dev nD) (t : Fin cfg0.N) (r : Fin 1024) (k : Fin 1024) : (iblk m c 5 t : Vec Ideal S1024x1024 .bf16) (ix2 r k) = (m ((c.tc : Thread nD τ).loc main_arg4) : Vec Ideal S1024x1024 .f32) (ix2 r k) := by
  blk_ext [iblk, V, idx0 t]

/-- The norm's gain as a row. -/
theorem iblk_6 (c : Dev nD) (t : Fin cfg0.N) (k : Fin 1024) : (iblk m c 6 t : Vec Ideal S1x1024 .f32) (ix2 0 k) = (m ((c.tc : Thread nD τ).loc main_arg5) : Vec Ideal S1024 .f32) (ix1 k) := by
  blk_ext! [iblk, V, idx0 t]

/-- The norm's bias as a row. -/
theorem iblk_7 (c : Dev nD) (t : Fin cfg0.N) (k : Fin 1024) : (iblk m c 7 t : Vec Ideal S1x1024 .f32) (ix2 0 k) = (m ((c.tc : Thread nD τ).loc main_arg6) : Vec Ideal S1024 .f32) (ix1 k) := by
  blk_ext! [iblk, V, idx0 t]

/-- The array of normed rows the pipeline leaves. -/
theorem final (c : Dev nD) : (dats m 0 c).arrAt 8 cfg0.N = result m c := by
  refine (dats m 0 c).arrAt_eq_of_covers 8 _ (by decide +kernel) fun t hf y => ?_
  blk_simp
  rw [after0_8]
  obtain ⟨r, l, rfl⟩ : ∃ (r : Fin 32) (l : Fin 1024), y = (ix2 r l : (⟨2, ![32, 1024]⟩ : Shape).Idx) := ⟨y 0, y 1, eq_ix2 (n0 := 32) (n1 := 1024) y⟩
  have he : (win0_8.blk t).view.emb (ix2 r l : (⟨2, ![32, 1024]⟩ : Shape).Idx) = (ix2 r l : (⟨2, ![32, 1024]⟩ : Shape).Idx) := by
    blk_ext [idx0 t]
  rw [he]
  refine (out_apply _ _ _ _ _ _ _ _ r l).trans ?_
  simp only [iblk_0, iblk_1, iblk_2, iblk_3, iblk_4, iblk_5, iblk_6, iblk_7]
  rfl

/-- The array of gated inputs the pipeline leaves. -/
theorem finalU (c : Dev nD) : (dats m 0 c).arrAt 9 cfg0.N = resultU m c := by
  refine (dats m 0 c).arrAt_eq_of_covers 9 _ (by decide +kernel) fun t hf y => ?_
  blk_simp
  rw [after0_9]
  obtain ⟨r, l, rfl⟩ : ∃ (r : Fin 32) (l : Fin 1024), y = (ix2 r l : (⟨2, ![32, 1024]⟩ : Shape).Idx) := ⟨y 0, y 1, eq_ix2 (n0 := 32) (n1 := 1024) y⟩
  have he : (win0_9.blk t).view.emb (ix2 r l : (⟨2, ![32, 1024]⟩ : Shape).Idx) = (ix2 r l : (⟨2, ![32, 1024]⟩ : Shape).Idx) := by
    blk_ext [idx0 t]
  rw [he]
  refine (out_u _ _ _ _ _ _ _ _ r l).trans ?_
  simp only [iblk_0, iblk_1, iblk_2, iblk_3, iblk_4, iblk_5, iblk_6, iblk_7]
  rfl

end Cert.ConvSIdeal.Block

end
-- ==== Proof.ConvSRef.lean ====
module

public import proofs.«01_k».proof.Proof.Gen.ConvSRefIdeal.Run
public import proofs.«01_k».proof.Proof.ConvSMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ConvSRefIdeal.Row

open Cert.ConvSRefIdeal Cert.ConvSRefIdeal.Gen Cert.FfnMath Cert.OutMath Cert.ConvSMath

variable (m : (ℓ : Loc nD τ sig) → Buf (Elt Ideal) ℓ)

/-- The reference's first result, row by row: the post-norm of the gated convolution's output projection. -/
theorem res_apply (c : Dev nD) (i : Fin 32) (l : Fin 1024) :
    (Value.res_out0 m c : Vec Ideal S32x1024 .f32) (ix2 i l) = postRow (fun k => (m ((c.tc : Thread nD τ).loc main_arg0) : Vec Ideal S32x1024 .f32) (ix2 i k)) (projRow (mixRow (fun k => (m ((c.tc : Thread nD τ).loc main_arg0) : Vec Ideal S32x1024 .f32) (ix2 i k)) (fun k => (m ((c.tc : Thread nD τ).loc main_arg1) : Vec Ideal S32x2x1024 .f32) (ix3 i 0 k)) (fun k => (m ((c.tc : Thread nD τ).loc main_arg1) : Vec Ideal S32x2x1024 .f32) (ix3 i 1 k)) (fun k l => (m ((c.tc : Thread nD τ).loc main_arg2) : Vec Ideal S1024x3072 .f32) (ix2 k l)) (fun j l => (m ((c.tc : Thread nD τ).loc main_arg3) : Vec Ideal S3x1024 .f32) (ix2 j l))) (fun k l => (m ((c.tc : Thread nD τ).loc main_arg4) : Vec Ideal S1024x1024 .f32) (ix2 k l)))
      (fun k => (m ((c.tc : Thread nD τ).loc main_arg5) : Vec Ideal S1024 .f32) (ix1 k)) (fun k => (m ((c.tc : Thread nD τ).loc main_arg6) : Vec Ideal S1024 .f32) (ix1 k)) l := by
  unfold Value.res_out0 Value.res_main_v60
  generalize (m ((c.tc : Thread nD τ).loc main_arg0) : Vec Ideal S32x1024 .f32) = x0
  generalize (m ((c.tc : Thread nD τ).loc main_arg1) : Vec Ideal S32x2x1024 .f32) = x1
  generalize (m ((c.tc : Thread nD τ).loc main_arg2) : Vec Ideal S1024x3072 .f32) = x2
  generalize (m ((c.tc : Thread nD τ).loc main_arg3) : Vec Ideal S3x1024 .f32) = x3
  generalize (m ((c.tc : Thread nD τ).loc main_arg4) : Vec Ideal S1024x1024 .f32) = x4
  generalize (m ((c.tc : Thread nD τ).loc main_arg5) : Vec Ideal S1024 .f32) = x5
  generalize (m ((c.tc : Thread nD τ).loc main_arg6) : Vec Ideal S1024 .f32) = x6
  pointwise [postRow, Cert.OutMath.projRow, mixRow, uRow, Cert.QkvMath.projRow, layerNorm, mean]

/-- The gated inputs the reference returns, at an index. -/
theorem u_apply (x : FVec Ideal S32x1024 .f32) (w : FVec Ideal S1024x3072 .f32) (i : Fin 32) (l : Fin 1024) :
    mulf (extractStridedSlice S32x1024 ![0, 1024] (Host.dotGeneral dot_S32x1024_S1024x3072_S32x3072_1_0_0_1_n_n none x w) slices_S32x3072_S32x1024_0_1024)
      (extractStridedSlice S32x1024 ![0, 2048] (Host.dotGeneral dot_S32x1024_S1024x3072_S32x3072_1_0_0_1_n_n none x w) slices_S32x3072_S32x1024_0_2048) (ix2 i l)
      = uRow (fun k => x (ix2 i k)) (fun k l => w (ix2 k l)) l := by
  pointwise [uRow, Cert.QkvMath.projRow]

end Cert.ConvSRefIdeal.Row

end
-- ==== Proof.ConvSClaims.lean ====
module

public import proofs.«01_k».proof.Proof.ConvSValue
public import proofs.«01_k».proof.Proof.ConvSRef
public import proofs.«01_k».proof.Proof.Gen.ConvS.Frame
public import Idealize.ShloMosaic.Lib.Quiescent

@[expose] public section

set_option maxRecDepth 16384

noncomputable section

open Idealize.ShloMosaic Idealize.ShloMosaic.TcCoe Idealize.SL.Sem

namespace Cert.Proof.ConvSClaims

/-- The kernel runs, keeps its arguments and leaves every semaphore at zero. -/
theorem frame_k : Cert.quiescent_ConvS := fun m ρ _ => Cert.ConvS.Gen.frame m ρ

/-- The same of the kernel at the extended reals. -/
theorem frame_ki : Cert.quiescent_ConvSIdeal := fun m ρ _ => Cert.ConvSIdeal.Gen.frame m ρ

/-- The reference at the extended reals runs and keeps its arguments; it has no semaphore. -/
theorem frame_ri : Cert.quiescent_ConvSRefIdeal := fun m ρ _ =>
  (θ_run Cert.ConvSRefIdeal.defs _ _).mono (fun r h => ⟨fun c => (h c).2.2, sem_eq_zero_of_no_sems (by decide) r.2⟩)
    (Cert.ConvSRefIdeal.Value.run (F := Ideal) m ρ)

/-- The kernel and the reference leave the same two arrays: the normed rows and the gated inputs. -/
theorem algebraic : Cert.algebraic_ConvSIdeal_ConvSRefIdeal := by
  intro m ρ m' ρ' _ hagree
  refine ⟨Cert.ConvSIdeal.Block.result m, Cert.ConvSIdeal.Block.resultU m,
    (θ_run Cert.ConvSIdeal.defs _ _).mono (fun _ h c => ?_) (Cert.ConvSIdeal.Value.run_blocks (F := Ideal) m ρ),
    (θ_run Cert.ConvSRefIdeal.defs _ _).mono (fun _ h c => ?_) (Cert.ConvSRefIdeal.Value.run (F := Ideal) m' ρ')⟩
  · obtain ⟨h0, h1, ha⟩ := h c
    exact ⟨h0.trans (Cert.ConvSIdeal.Block.final m c), h1.trans (Cert.ConvSIdeal.Block.finalU m c), ha⟩
  · obtain ⟨h0, h1, ha⟩ := h c
    obtain ⟨e0, e1, e2, e3, e4, e5, e6⟩ := hagree c
    refine ⟨h0.trans ?_, h1.trans ?_, ha⟩
    · funext i
      obtain ⟨r, l, rfl⟩ : ∃ (r : Fin 32) (l : Fin 1024), i = (ix2 r l : (⟨2, ![32, 1024]⟩ : Shape).Idx) := ⟨i 0, i 1, eq_ix2 (n0 := 32) (n1 := 1024) i⟩
      refine (Cert.ConvSRefIdeal.Row.res_apply m' c r l).trans ?_
      simp only [Cert.ConvSIdeal.Block.result, ix2_0, ix2_1, e0, e1, e2, e3, e4, e5, e6]
    · funext i
      obtain ⟨r, l, rfl⟩ : ∃ (r : Fin 32) (l : Fin 1024), i = (ix2 r l : (⟨2, ![32, 1024]⟩ : Shape).Idx) := ⟨i 0, i 1, eq_ix2 (n0 := 32) (n1 := 1024) i⟩
      refine (Cert.ConvSRefIdeal.Row.u_apply _ _ r l).trans ?_
      simp only [Cert.ConvSIdeal.Block.resultU, ix2_0, ix2_1, e0, e2]

end Cert.Proof.ConvSClaims

end
-- ==== Proof.QkvSMath.lean ====
module

public import proofs.«01_k».proof.Proof.QkvMath
public import Idealize.ShloMosaic.Lib.Pointwise

@[expose] public section

noncomputable section

open Idealize.ShloMosaic Cert.QkvMath

namespace Cert.QkvSMath

/-- The angle of position 8192 at frequency `e`: the position over the rotary base to the power `2 e / 16`. -/
def angS (e : Fin 8) : EReal :=
  FloatOps.sitofp (F := Ideal) .f32 (IntOp.addi 8192#32 0#32) * Ideal.div 1 (Ideal.pow (Ideal.ofBits .f32 1223959552#32)
    (Ideal.div (Ideal.ofBits .f32 1073741824#32 * FloatOps.sitofp (F := Ideal) .f32 (BitVec.ofNat 32 e.val)) (Ideal.ofBits .f32 1098907648#32)))

/-- The partial rotary embedding of a row of 16 heads of 64 lanes at position 8192. -/
def ropeS (y : Fin 1024 → EReal) (l : Fin 1024) : EReal :=
  if h : l.val % 64 < 8 then y l * Ideal.cos (angS ⟨l.val % 64, h⟩) - y ⟨l.val + 8, by omega⟩ * Ideal.sin (angS ⟨l.val % 64, h⟩)
  else if h' : l.val % 64 < 16 then y l * Ideal.cos (angS ⟨l.val % 64 - 8, by omega⟩) + y ⟨l.val - 8, by omega⟩ * Ideal.sin (angS ⟨l.val % 64 - 8, by omega⟩)
  else y l

end Cert.QkvSMath

end
-- ==== Proof.QkvSTables.lean ====
module

public import proofs.«01_k».proof.Proof.Gen.QkvSIdeal.Value
public import proofs.«01_k».proof.Proof.QkvSMath
public import Idealize.ShloMosaic.Lib.StableHlo.RunRead
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.QkvSIdeal.Block

open Cert.QkvSIdeal Cert.QkvSIdeal.Gen Cert.QkvMath Cert.QkvSMath

variable {F : FTy → Type} [FloatOps F]

/-- Three tables side by side: 8, 8 and 48 lanes. -/
def cat3 (u0 u1 : (⟨S1x8, .f32⟩ : BufTy).Contents (Elt F)) (u2 : (⟨S1x48, .f32⟩ : BufTy).Contents (Elt F)) : (⟨S1x64, .f32⟩ : BufTy).Contents (Elt F) :=
  concatenate S1x64 1 [⟨S1x8, u0⟩, ⟨S1x8, u1⟩, ⟨S1x48, u2⟩] concatenates_S1x8_S1x8_S1x48_S1x64_d1

/-- The host operations before the region, the concatenations by name. -/
abbrev line : List (HloOp τ sig (Elt F)) :=
  ( StableHlo.nullary main_v0 (iotaInDim S1 32 0)
  :: StableHlo.nullary main_c (constantI S_ 32 8192#32)
  :: StableHlo.unary main_c main_v1 (broadcastInDim S1 ![] bcast_S_S1 : (⟨S_, .i32⟩ : BufTy).Contents (Elt F) → (⟨S1, .i32⟩ : BufTy).Contents (Elt F))
  :: StableHlo.binary main_v1 main_v0 main_v2 (addi : (⟨S1, .i32⟩ : BufTy).Contents (Elt F) → (⟨S1, .i32⟩ : BufTy).Contents (Elt F) → (⟨S1, .i32⟩ : BufTy).Contents (Elt F))
  :: StableHlo.unary main_arg1 main_v3 ((truncf .bf16 · bitsLt_bf16_f32) : (⟨S1024x3072, .f32⟩ : BufTy).Contents (Elt F) → (⟨S1024x3072, .bf16⟩ : BufTy).Contents (Elt F))
  :: StableHlo.nullary main_v4 (sitofp .f32 (iotaInDim S8 32 0))
  :: StableHlo.nullary main_cst (constant S_ .f32 0x40000000#32)
  :: StableHlo.unary main_cst main_v5 (broadcastInDim S8 ![] bcast_S_S8 : (⟨S_, .f32⟩ : BufTy).Contents (Elt F) → (⟨S8, .f32⟩ : BufTy).Contents (Elt F))
  :: StableHlo.binary main_v5 main_v4 main_v6 (mulf : (⟨S8, .f32⟩ : BufTy).Contents (Elt F) → (⟨S8, .f32⟩ : BufTy).Contents (Elt F) → (⟨S8, .f32⟩ : BufTy).Contents (Elt F))
  :: StableHlo.nullary main_cst_0 (constant S_ .f32 0x00000000#32)
  :: StableHlo.unary main_cst_0 main_v7 (broadcastInDim S8 ![] bcast_S_S8 : (⟨S_, .f32⟩ : BufTy).Contents (Elt F) → (⟨S8, .f32⟩ : BufTy).Contents (Elt F))
  :: StableHlo.binary main_v7 main_v6 main_v8 (addf : (⟨S8, .f32⟩ : BufTy).Contents (Elt F) → (⟨S8, .f32⟩ : BufTy).Contents (Elt F) → (⟨S8, .f32⟩ : BufTy).Contents (Elt F))
  :: StableHlo.nullary main_cst_1 (constant S_ .f32 0x41800000#32)
  :: StableHlo.unary main_cst_1 main_v9 (broadcastInDim S8 ![] bcast_S_S8 : (⟨S_, .f32⟩ : BufTy).Contents (Elt F) → (⟨S8, .f32⟩ : BufTy).Contents (Elt F))
  :: StableHlo.binary main_v8 main_v9 main_v10 (Host.divf : (⟨S8, .f32⟩ : BufTy).Contents (Elt F) → (⟨S8, .f32⟩ : BufTy).Contents (Elt F) → (⟨S8, .f32⟩ : BufTy).Contents (Elt F))
  :: StableHlo.nullary main_cst_2 (constant S_ .f32 0x48F42400#32)
  :: StableHlo.unary main_cst_2 main_v11 (broadcastInDim S8 ![] bcast_S_S8 : (⟨S_, .f32⟩ : BufTy).Contents (Elt F) → (⟨S8, .f32⟩ : BufTy).Contents (Elt F))
  :: StableHlo.binary main_v11 main_v10 main_v12 (Host.powf : (⟨S8, .f32⟩ : BufTy).Contents (Elt F) → (⟨S8, .f32⟩ : BufTy).Contents (Elt F) → (⟨S8, .f32⟩ : BufTy).Contents (Elt F))
  :: StableHlo.nullary main_cst_3 (constant S_ .f32 0x3F800000#32)
  :: StableHlo.unary main_cst_3 main_v13 (broadcastInDim S8 ![] bcast_S_S8 : (⟨S_, .f32⟩ : BufTy).Contents (Elt F) → (⟨S8, .f32⟩ : BufTy).Contents (Elt F))
  :: StableHlo.binary main_v13 main_v12 main_v14 (Host.divf : (⟨S8, .f32⟩ : BufTy).Contents (Elt F) → (⟨S8, .f32⟩ : BufTy).Contents (Elt F) → (⟨S8, .f32⟩ : BufTy).Contents (Elt F))
  :: StableHlo.unary main_v2 main_v15 (sitofp .f32 : (⟨S1, .i32⟩ : BufTy).Contents (Elt F) → (⟨S1, .f32⟩ : BufTy).Contents (Elt F))
  :: StableHlo.unary main_v15 main_v16 (broadcastInDim S1x1 ![0] bcast_S1_S1x1_0 : (⟨S1, .f32⟩ : BufTy).Contents (Elt F) → (⟨S1x1, .f32⟩ : BufTy).Contents (Elt F))
  :: StableHlo.unary main_v14 main_v17 (broadcastInDim S1x8 ![1] bcast_S8_S1x8_1 : (⟨S8, .f32⟩ : BufTy).Contents (Elt F) → (⟨S1x8, .f32⟩ : BufTy).Contents (Elt F))
  :: StableHlo.unary main_v16 main_v18 (broadcastInDim S1x8 ![0, 1] bcast_S1x1_S1x8_0_1 : (⟨S1x1, .f32⟩ : BufTy).Contents (Elt F) → (⟨S1x8, .f32⟩ : BufTy).Contents (Elt F))
  :: StableHlo.binary main_v18 main_v17 main_v19 (mulf : (⟨S1x8, .f32⟩ : BufTy).Contents (Elt F) → (⟨S1x8, .f32⟩ : BufTy).Contents (Elt F) → (⟨S1x8, .f32⟩ : BufTy).Contents (Elt F))
  :: StableHlo.unary main_v19 main_v20 (Host.cos : (⟨S1x8, .f32⟩ : BufTy).Contents (Elt F) → (⟨S1x8, .f32⟩ : BufTy).Contents (Elt F))
  :: StableHlo.unary main_v19 main_v21 (Host.sin : (⟨S1x8, .f32⟩ : BufTy).Contents (Elt F) → (⟨S1x8, .f32⟩ : BufTy).Contents (Elt F))
  :: StableHlo.nullary main_cst_4 (constant S_ .f32 0x3F800000#32)
  :: StableHlo.unary main_cst_4 main_v22 (broadcastInDim S1x48 ![] bcast_S_S1x48 : (⟨S_, .f32⟩ : BufTy).Contents (Elt F) → (⟨S1x48, .f32⟩ : BufTy).Contents (Elt F))
  :: StableHlo.nullary main_cst_5 (constant S_ .f32 0x00000000#32)
  :: StableHlo.unary main_cst_5 main_v23 (broadcastInDim S1x8 ![] bcast_S_S1x8 : (⟨S_, .f32⟩ : BufTy).Contents (Elt F) → (⟨S1x8, .f32⟩ : BufTy).Contents (Elt F))
  :: StableHlo.nullary main_cst_6 (constant S_ .f32 0x00000000#32)
  :: StableHlo.unary main_cst_6 main_v24 (broadcastInDim S1x48 ![] bcast_S_S1x48 : (⟨S_, .f32⟩ : BufTy).Contents (Elt F) → (⟨S1x48, .f32⟩ : BufTy).Contents (Elt F))
  :: StableHlo.nary ![main_v20, main_v20, main_v22] main_v25 (fun u => cat3 (F := F) (u 0) (u 1) (u 2))
  :: StableHlo.unary main_v21 main_v26 (Host.negf : (⟨S1x8, .f32⟩ : BufTy).Contents (Elt F) → (⟨S1x8, .f32⟩ : BufTy).Contents (Elt F))
  :: StableHlo.nary ![main_v26, main_v23, main_v24] main_v27 (fun u => cat3 (F := F) (u 0) (u 1) (u 2))
  :: StableHlo.nary ![main_v23, main_v21, main_v24] main_v28 (fun u => cat3 (F := F) (u 0) (u 1) (u 2))
  :: StableHlo.reshape main_v25 main_v29 (rfl : (.f32 : EltTy) = .f32) shapeCasts_S1x64_S1x1x1x64
  :: StableHlo.unary main_v29 main_v30 (broadcastInDim S1x1x2x64 ![0, 1, 2, 3] bcast_S1x1x1x64_S1x1x2x64_0_1_2_3 : (⟨S1x1x1x64, .f32⟩ : BufTy).Contents (Elt F) → (⟨S1x1x2x64, .f32⟩ : BufTy).Contents (Elt F))
  :: StableHlo.reshape main_v30 main_v31 (rfl : (.f32 : EltTy) = .f32) shapeCasts_S1x1x2x64_S1x128
  :: StableHlo.reshape main_v27 main_v32 (rfl : (.f32 : EltTy) = .f32) shapeCasts_S1x64_S1x1x1x64
  :: StableHlo.unary main_v32 main_v33 (broadcastInDim S1x1x2x64 ![0, 1, 2, 3] bcast_S1x1x1x64_S1x1x2x64_0_1_2_3 : (⟨S1x1x1x64, .f32⟩ : BufTy).Contents (Elt F) → (⟨S1x1x2x64, .f32⟩ : BufTy).Contents (Elt F))
  :: StableHlo.reshape main_v33 main_v34 (rfl : (.f32 : EltTy) = .f32) shapeCasts_S1x1x2x64_S1x128
  :: StableHlo.reshape main_v28 main_v35 (rfl : (.f32 : EltTy) = .f32) shapeCasts_S1x64_S1x1x1x64
  :: StableHlo.unary main_v35 main_v36 (broadcastInDim S1x1x2x64 ![0, 1, 2, 3] bcast_S1x1x1x64_S1x1x2x64_0_1_2_3 : (⟨S1x1x1x64, .f32⟩ : BufTy).Contents (Elt F) → (⟨S1x1x2x64, .f32⟩ : BufTy).Contents (Elt F))
  :: StableHlo.reshape main_v36 main_v37 (rfl : (.f32 : EltTy) = .f32) shapeCasts_S1x1x2x64_S1x128
  :: [] )

variable (m : (ℓ : Loc nD τ sig) → Buf (Elt Ideal) ℓ)

/-- The region's arrays, read off the named list: it is the program's own. -/
theorem V_line (c : Dev nD) (b : Ref sig .tc) : V m c b = StableHlo.after line (fun b => m (c, b)) b := rfl

/-- The angles of the one position, by frequency. -/
def angT : FVec Ideal S1x8 .f32 :=
  mulf (broadcastInDim S1x8 ![0, 1] bcast_S1x1_S1x8_0_1 (broadcastInDim S1x1 ![0] bcast_S1_S1x1_0 (sitofp .f32 (addi (broadcastInDim S1 ![] bcast_S_S1 (constantI S_ 32 8192#32)) (iotaInDim S1 32 0)))))
    (broadcastInDim S1x8 ![1] bcast_S8_S1x8_1 (Host.divf (broadcastInDim S8 ![] bcast_S_S8 (constant S_ .f32 0x3F800000#32))
      (Host.powf (broadcastInDim S8 ![] bcast_S_S8 (constant S_ .f32 0x48F42400#32)) (Host.divf (addf (broadcastInDim S8 ![] bcast_S_S8 (constant S_ .f32 0x00000000#32))
        (mulf (broadcastInDim S8 ![] bcast_S_S8 (constant S_ .f32 0x40000000#32)) (sitofp .f32 (iotaInDim S8 32 0)))) (broadcastInDim S8 ![] bcast_S_S8 (constant S_ .f32 0x41800000#32))))))

/-- The angle table at an index. -/
theorem angT_apply (p : Fin 1) (e : Fin 8) : angT (ix2 p e) = angS e := by
  pointwise [angT, angS]

/-- A table of 64 lanes, written twice side by side. -/
def twice (t : FVec Ideal S1x64 .f32) : FVec Ideal S1x128 .f32 :=
  shapeCast _ (broadcastInDim S1x1x2x64 ![0, 1, 2, 3] bcast_S1x1x1x64_S1x1x2x64_0_1_2_3 (shapeCast _ t shapeCasts_S1x64_S1x1x1x64)) shapeCasts_S1x1x2x64_S1x128

/-- The doubled table at an index. -/
theorem twice_apply (t : FVec Ideal S1x64 .f32) (p : Fin 1) (l : Fin 128) : twice t (ix2 p l) = t (ix2 p ⟨l.val % 64, by omega⟩) := by
  obtain rfl : p = 0 := Subsingleton.elim _ _
  pointwise [twice]

/-- Three tables side by side, at an index. -/
theorem cat3_apply (u0 u1 : FVec Ideal S1x8 .f32) (u2 : FVec Ideal S1x48 .f32) (p : Fin 1) (e : Fin 64) :
    (cat3 (F := Ideal) u0 u1 u2 : FVec Ideal S1x64 .f32) (ix2 p e) = if h : e.val < 8 then u0 (ix2 p ⟨e.val, h⟩) else if h' : e.val < 16 then u1 (ix2 p ⟨e.val - 8, by omega⟩) else u2 (ix2 p ⟨e.val - 16, by omega⟩) := by
  obtain rfl : p = 0 := Subsingleton.elim _ _
  pointwise [cat3]
  by_cases h : e.val < 8
  · simp only [dif_pos h]
  by_cases h' : e.val < 16
  · simp only [dif_neg h, dif_pos h', dif_pos (show e.val - 8 < 8 by omega)]
  · simp only [dif_neg h, dif_neg h', dif_neg (show ¬ e.val - 8 < 8 by omega), Nat.sub_sub, Nat.reduceAdd]

/-- Eight lanes of zeros. -/
def zero8 : FVec Ideal S1x8 .f32 := broadcastInDim S1x8 ![] bcast_S_S1x8 (constant S_ .f32 0x00000000#32)

/-- A constant on 48 lanes. -/
def fill48 (b : BitVec 32) : FVec Ideal S1x48 .f32 := broadcastInDim S1x48 ![] bcast_S_S1x48 (constant S_ .f32 b)

set_option maxHeartbeats 1600000 in
/-- The region finds the table of cosines. -/
theorem V_c (c : Dev nD) : (V m c main_v31 : Vec Ideal S1x128 .f32) = twice (cat3 (Host.cos angT) (Host.cos angT) (fill48 0x3F800000#32)) := by
  rw [V_line]
  after_reads_simp
  dsimp only [Matrix.cons_val]
  after_reads_simp
  rfl

set_option maxHeartbeats 1600000 in
/-- The region finds the table of negated sines. -/
theorem V_lo (c : Dev nD) : (V m c main_v34 : Vec Ideal S1x128 .f32) = twice (cat3 (Host.negf (Host.sin angT)) zero8 (fill48 0x00000000#32)) := by
  rw [V_line]
  after_reads_simp
  dsimp only [Matrix.cons_val]
  after_reads_simp
  rfl

set_option maxHeartbeats 1600000 in
/-- The region finds the table of sines. -/
theorem V_hi (c : Dev nD) : (V m c main_v37 : Vec Ideal S1x128 .f32) = twice (cat3 zero8 (Host.sin angT) (fill48 0x00000000#32)) := by
  rw [V_line]
  after_reads_simp
  dsimp only [Matrix.cons_val]
  after_reads_simp
  rfl

set_option maxHeartbeats 1600000 in
/-- The region finds the weight rounded. -/
theorem V_w (c : Dev nD) : (V m c main_v3 : Vec Ideal S1024x3072 .bf16) = (truncf .bf16 (m ((c.tc : Thread nD τ).loc main_arg1) : FVec Ideal S1024x3072 .f32) bitsLt_bf16_f32 : FVec Ideal S1024x3072 .bf16) := by
  rw [V_line]
  after_reads_simp

/-- The cosine table at an index. -/
def tabC (l : Fin 128) : EReal :=
  if h : l.val % 64 < 8 then Ideal.cos (angS ⟨l.val % 64, h⟩) else if h' : l.val % 64 < 16 then Ideal.cos (angS ⟨l.val % 64 - 8, by omega⟩) else 1

/-- The negated sine table at an index: nonzero on the first eight lanes of a head. -/
def tabLo (l : Fin 128) : EReal := if h : l.val % 64 < 8 then -Ideal.sin (angS ⟨l.val % 64, h⟩) else 0

/-- The sine table at an index: nonzero on the second eight lanes of a head. -/
def tabHi (l : Fin 128) : EReal := if h : l.val % 64 < 8 then 0 else if h' : l.val % 64 < 16 then Ideal.sin (angS ⟨l.val % 64 - 8, by omega⟩) else 0

/-- The table of cosines the region finds, at an index. -/
theorem V_c_apply (c : Dev nD) (p : Fin 1) (l : Fin 128) : (V m c main_v31 : Vec Ideal S1x128 .f32) (ix2 p l) = tabC l := by
  refine (congrFun (V_c m c) _).trans ((twice_apply _ p l).trans ((cat3_apply _ _ _ p _).trans ?_))
  unfold tabC
  split <;> rename_i h
  · pointwise [angT_apply]
  split <;> rename_i h'
  · pointwise [angT_apply]
  · pointwise [fill48]

/-- The table of negated sines the region finds, at an index. -/
theorem V_lo_apply (c : Dev nD) (p : Fin 1) (l : Fin 128) : (V m c main_v34 : Vec Ideal S1x128 .f32) (ix2 p l) = tabLo l := by
  refine (congrFun (V_lo m c) _).trans ((twice_apply _ p l).trans ((cat3_apply _ _ _ p _).trans ?_))
  unfold tabLo
  split <;> rename_i h
  · pointwise [angT_apply]
  split <;> rename_i h'
  · pointwise [zero8]
  · pointwise [fill48]

/-- The table of sines the region finds, at an index. -/
theorem V_hi_apply (c : Dev nD) (p : Fin 1) (l : Fin 128) : (V m c main_v37 : Vec Ideal S1x128 .f32) (ix2 p l) = tabHi l := by
  refine (congrFun (V_hi m c) _).trans ((twice_apply _ p l).trans ((cat3_apply _ _ _ p _).trans ?_))
  unfold tabHi
  split <;> rename_i h
  · pointwise [zero8]
  split <;> rename_i h'
  · pointwise [angT_apply]
  · pointwise [fill48]

end Cert.QkvSIdeal.Block

end
-- ==== Proof.QkvSBlock.lean ====
module

public import proofs.«01_k».proof.Proof.Gen.QkvSIdeal.Value
public import proofs.«01_k».proof.Proof.QkvSMath
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.QkvSIdeal.Block

open Cert.QkvSIdeal Cert.QkvSIdeal.Gen Cert.QkvMath Cert.QkvSMath

/-- The kernel's rotary embedding of two heads: the product with 128 columns of the weight, and its lanes turned by 120 and by 8, against the three tables. -/
def chunk (x : FVec Ideal S32x1024 .bf16) (c lo hi : FVec Ideal S1x128 .f32) (w : Vec Ideal S1024x128 .bf16) : FVec Ideal S32x128 .f32 :=
  addf (addf (mulf (matmul (φ₂ := .bf16) dot_S32x1024_S1024x128_S32x128_1_0_0_1_n_n none x w (constant S32x128 .f32 0x00000000#32)) (broadcastTo S32x128 c broadcasts_S1x128_S32x128))
    (mulf (dynamicRotate 1 120#32 none (matmul (φ₂ := .bf16) dot_S32x1024_S1024x128_S32x128_1_0_0_1_n_n none x w (constant S32x128 .f32 0x00000000#32)) rotates_S32x128_d1) (broadcastTo S32x128 lo broadcasts_S1x128_S32x128)))
    (mulf (dynamicRotate 1 8#32 none (matmul (φ₂ := .bf16) dot_S32x1024_S1024x128_S32x128_1_0_0_1_n_n none x w (constant S32x128 .f32 0x00000000#32)) rotates_S32x128_d1) (broadcastTo S32x128 hi broadcasts_S1x128_S32x128))

/-- One lane of the kernel's rotary embedding of a row `y`, from the tables' rows. -/
def ropeLane (y : Fin 1024 → EReal) (c lo hi : Fin 128 → EReal) (l : Fin 1024) : EReal :=
  y l * c ⟨l.val % 128, by omega⟩ + y ⟨128 * (l.val / 128) + (l.val % 128 + 8) % 128, by omega⟩ * lo ⟨l.val % 128, by omega⟩
    + y ⟨128 * (l.val / 128) + (l.val % 128 + 120) % 128, by omega⟩ * hi ⟨l.val % 128, by omega⟩

/-- The block of rotated columns starting at column `off` of the weight. -/
def ropeBlk (x : Vec Ideal S32x1024 .f32) (w : Vec Ideal S1024x3072 .bf16) (c lo hi : Vec Ideal S1x128 .f32) (off : Fin 2049) : Vec Ideal S32x1024 .f32 := fun j =>
  ropeLane (projRow (fun k => x (ix2 (j 0) k)) (fun k l => w (ix2 k l)) off) (fun k => c (ix2 (0 : Fin 1) k)) (fun k => lo (ix2 (0 : Fin 1) k)) (fun k => hi (ix2 (0 : Fin 1) k)) (j 1)

/-- The rotated block scaled by an eighth. -/
def qBlk (x : Vec Ideal S32x1024 .f32) (w : Vec Ideal S1024x3072 .bf16) (c lo hi : Vec Ideal S1x128 .f32) : Vec Ideal S32x1024 .f32 := fun j =>
  ropeBlk x w c lo hi 0 j * Ideal.ofBits .f32 0x3E000000#32

/-- The kernel's two heads at an index of the chunk. -/
theorem chunk_apply (x : FVec Ideal S32x1024 .bf16) (c lo hi : FVec Ideal S1x128 .f32) (w : Vec Ideal S1024x128 .bf16) (r : Fin 32) (l : Fin 128) :
    chunk x c lo hi w (ix2 r l) = (∑ k : Fin 1024, x (ix2 r k) * w (ix2 k l)) * c (ix2 (0 : Fin 1) l)
      + (∑ k : Fin 1024, x (ix2 r k) * w (ix2 k ⟨(l.val + 8) % 128, by omega⟩)) * lo (ix2 (0 : Fin 1) l)
      + (∑ k : Fin 1024, x (ix2 r k) * w (ix2 k ⟨(l.val + 120) % 128, by omega⟩)) * hi (ix2 (0 : Fin 1) l) := by
  pointwise [chunk]
  simp only [show ∀ n : ℕ, n + 128 - 120 = n + 8 from fun n => by omega, show ∀ n : ℕ, n + 128 - 8 = n + 120 from fun n => by omega]

/-- A chunk of the weight's columns `off + o …`, for `o` a multiple of 128, is the rotated block at columns `o …`. -/
theorem chunk_block (x : Vec Ideal S32x1024 .f32) (w : Vec Ideal S1024x3072 .bf16) (c lo hi : Vec Ideal S1x128 .f32) (off : Fin 2049) (o o' : ℕ) (ho : o % 128 = 0) (ho' : o' = off.val + o)
    (ha : ∀ a, (![0, o'] : Fin 2 → ℕ) a + (![1024, 128] : Fin 2 → ℕ) a ≤ S1024x3072.size a)
    (hs : ∀ a, (![0, o] : Fin 2 → ℕ) a + (![32, 128] : Fin 2 → ℕ) a ≤ S32x1024.size a)
    (j : (Rect.unit (s := S32x1024) ![0, o] ![32, 128] hs).shape.Idx) :
    chunk (truncf .bf16 (x : FVec Ideal S32x1024 .f32) bitsLt_bf16_f32) c lo hi (View.ld w (Rect.unit (s := S1024x3072) ![0, o'] ![1024, 128] ha)) j
      = ropeBlk x w c lo hi off ((Rect.unit (s := S32x1024) ![0, o] ![32, 128] hs).emb j) := by
  subst ho'
  obtain ⟨q, rfl⟩ : ∃ q, o = 128 * q := ⟨o / 128, by omega⟩
  obtain ⟨r, l, rfl⟩ : ∃ (r : Fin 32) (l : Fin 128), j = (ix2 r l : (⟨2, ![32, 128]⟩ : Shape).Idx) := ⟨j 0, j 1, eq_ix2 (n0 := 32) (n1 := 128) j⟩
  have hol : 128 * q + 128 ≤ 1024 := hs 1
  have he : (Rect.unit (s := S32x1024) ![0, 128 * q] ![32, 128] hs).emb (ix2 r l : (⟨2, ![32, 128]⟩ : Shape).Idx)
      = (ix2 r ⟨128 * q + l.val, by omega⟩ : (⟨2, ![32, 1024]⟩ : Shape).Idx) := by
    funext a
    apply Fin.ext
    fin_cases a <;> simp [Rect.emb, Rect.unit, ix2]
  rw [he]
  refine (chunk_apply _ _ _ _ _ r l).trans ?_
  have h1 : (128 * q + l.val) % 128 = l.val := by omega
  have h2 : (128 * q + l.val) / 128 = q := by omega
  pointwise [ropeBlk, ropeLane, projRow]
  simp only [h1, h2, Nat.add_assoc]

/-- A whole load of the rows' block. -/
theorem ld_x (x : Vec Ideal S32x1024 .f32) : View.ld x r0_0 = x := View.ld_unit_zero (funext fun a => by fin_cases a <;> rfl) _ x

/-- A whole load of a table's block. -/
theorem ld_t (x : Vec Ideal S1x128 .f32) : View.ld x r0_1 = x := View.ld_unit_zero (funext fun a => by fin_cases a <;> rfl) _ x

/-- The block of keys. -/
theorem out_k (x0 : Vec Ideal S32x1024 .f32) (x1 : Vec Ideal S1024x3072 .bf16) (x2 x3 x4 : Vec Ideal S1x128 .f32) :
    out0_6 x0 x1 x2 x3 x4 = ropeBlk x0 x1 x2 x3 x4 1024 := by
  unfold_out out0_6
  simp only [k0_pay1, k0_pay2, k0_pay3, k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, shapeCast_self]
  simp only [ld_x, ld_t]
  funext y
  refine View.canon_append_of_piecesOf (ropeBlk x0 x1 x2 x3 x4 1024) [] [_, _, _, _, _, _, _, _] ⟨?_, ?_, ?_, ?_, ?_, ?_, ?_, ?_, trivial⟩ y
    (View.cover_of_tiledL _ ![32, 128] (by sl_kernel_rfl) y)
  all_goals
    dsimp only
    intro x
    refine chunk_block x0 x1 x2 x3 x4 1024 _ _ ?_ ?_ _ _ x <;> rfl

/-- A scaled chunk is the scaled block at its columns. -/
theorem q_block (x : Vec Ideal S32x1024 .f32) (w : Vec Ideal S1024x3072 .bf16) (c lo hi : Vec Ideal S1x128 .f32) (o o' : ℕ) (ho : o % 128 = 0) (ho' : o' = (0 : Fin 2049).val + o)
    (ha : ∀ a, (![0, o'] : Fin 2 → ℕ) a + (![1024, 128] : Fin 2 → ℕ) a ≤ S1024x3072.size a)
    (hs : ∀ a, (![0, o] : Fin 2 → ℕ) a + (![32, 128] : Fin 2 → ℕ) a ≤ S32x1024.size a)
    (j : (Rect.unit (s := S32x1024) ![0, o] ![32, 128] hs).shape.Idx) :
    (mulf (chunk (truncf .bf16 (x : FVec Ideal S32x1024 .f32) bitsLt_bf16_f32) c lo hi (View.ld w (Rect.unit (s := S1024x3072) ![0, o'] ![1024, 128] ha)))
        (broadcast S32x128 (Scalar.ofBits .f32 0x3E000000#32)) : FVec Ideal S32x128 .f32) j
      = qBlk x w c lo hi ((Rect.unit (s := S32x1024) ![0, o] ![32, 128] hs).emb j) :=
  congrArg (fun z : EReal => z * Ideal.ofBits .f32 0x3E000000#32) (chunk_block x w c lo hi 0 o o' ho ho' ha hs j)

/-- The block of scaled queries. -/
theorem out_q (x0 : Vec Ideal S32x1024 .f32) (x1 : Vec Ideal S1024x3072 .bf16) (x2 x3 x4 : Vec Ideal S1x128 .f32) :
    out0_5 x0 x1 x2 x3 x4 = qBlk x0 x1 x2 x3 x4 := by
  unfold_out out0_5
  simp only [k0_pay1, k0_pay2, k0_pay3, k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, shapeCast_self]
  simp only [ld_x, ld_t]
  funext y
  refine View.canon_append_of_piecesOf (qBlk x0 x1 x2 x3 x4) [] [_, _, _, _, _, _, _, _] ⟨?_, ?_, ?_, ?_, ?_, ?_, ?_, ?_, trivial⟩ y
    (View.cover_of_tiledL _ ![32, 128] (by sl_kernel_rfl) y)
  all_goals
    dsimp only
    intro x
    refine q_block x0 x1 x2 x3 x4 _ _ ?_ ?_ _ _ x <;> rfl

/-- The block of values at an index. -/
theorem out_v (x0 : Vec Ideal S32x1024 .f32) (x1 : Vec Ideal S1024x3072 .bf16) (x2 x3 x4 : Vec Ideal S1x128 .f32) (r : Fin 32) (l : Fin 1024) :
    out0_7 x0 x1 x2 x3 x4 (ix2 r l) = projRow (fun k => x0 (ix2 r k)) (fun k l => x1 (ix2 k l)) 2048 l := by
  have he : out0_7 x0 x1 x2 x3 x4 = k0_pay7 x0 (View.ld x1 r0_2) := by
    frame_out
  rw [he]
  pointwise [k0_pay7, k0_pay3, projRow]

end Cert.QkvSIdeal.Block

end
-- ==== Proof.QkvSValue.lean ====
module

public import proofs.«01_k».proof.Proof.QkvSTables
public import proofs.«01_k».proof.Proof.QkvSBlock
public import proofs.«01_k».proof.Defs

@[expose] public section

set_option maxRecDepth 16384

noncomputable section

open Idealize.ShloMosaic Idealize.ShloMosaic.TcCoe Idealize.SL.Sem

namespace Cert.QkvSIdeal.Block

open Cert.QkvSIdeal Cert.QkvSIdeal.Gen Cert.QkvMath Cert.QkvSMath

variable (m : (ℓ : Loc nD τ sig) → Buf (Elt Ideal) ℓ)

/-- The tables' form of the rotary embedding is the embedding: a lane the tables leave alone meets ones and zeros, and adding a product with a negated sine subtracts. -/
theorem ropeLane_eq (y : Fin 1024 → EReal) (l : Fin 1024) : ropeLane y tabC tabLo tabHi l = ropeS y l := by
  have hm : l.val % 128 % 64 = l.val % 64 := by omega
  unfold ropeLane ropeS tabC tabLo tabHi
  simp only [hm]
  by_cases h0 : l.val % 64 < 8
  · simp only [dif_pos h0, mul_zero, add_zero]
    have hl : (⟨128 * (l.val / 128) + (l.val % 128 + 8) % 128, by omega⟩ : Fin 1024) = ⟨l.val + 8, by omega⟩ := Fin.ext (by show 128 * (l.val / 128) + (l.val % 128 + 8) % 128 = l.val + 8; omega)
    rw [hl, mul_neg, sub_eq_add_neg]
  by_cases h1 : l.val % 64 < 16
  · simp only [dif_neg h0, dif_pos h1, mul_zero, add_zero]
    have hl : (⟨128 * (l.val / 128) + (l.val % 128 + 120) % 128, by omega⟩ : Fin 1024) = ⟨l.val - 8, by omega⟩ := Fin.ext (by show 128 * (l.val / 128) + (l.val % 128 + 120) % 128 = l.val - 8; omega)
    rw [hl]
  · simp only [dif_neg h0, dif_neg h1, mul_zero, add_zero, mul_one]

/-- A row of the kernel's input. -/
def xRow (c : Dev nD) (i : Fin 32) (k : Fin 1024) : EReal := (m ((c.tc : Thread nD τ).loc main_arg0) : Vec Ideal S32x1024 .f32) (ix2 i k)

/-- The weight. -/
def wMat (c : Dev nD) (k : Fin 1024) (l : Fin 3072) : EReal := (m ((c.tc : Thread nD τ).loc main_arg1) : Vec Ideal S1024x3072 .f32) (ix2 k l)

/-- The keys: every row's projection at columns 1024 on, rotated by its position. -/
def resK (c : Dev nD) : Vec Ideal S32x1024 .f32 := fun i => ropeS (projRow (xRow m c (i 0)) (wMat m c) 1024) (i 1)

/-- The values: every row's projection at columns 2048 on. -/
def resV (c : Dev nD) : Vec Ideal S32x1024 .f32 := fun i => projRow (xRow m c (i 0)) (wMat m c) 2048 (i 1)

/-- The queries: every row's projection at the first 1024 columns, rotated by its position and scaled by an eighth. -/
def resQ (c : Dev nD) : Vec Ideal S32x1024 .f32 := fun i => ropeS (projRow (xRow m c (i 0)) (wMat m c) 0) (i 1) * Ideal.ofBits .f32 0x3E000000#32

/-- The windows' block indices at the one grid point. -/
theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0])

/-- Block `t` of the rows, row `r`. -/
theorem iblk_0 (c : Dev nD) (t : Fin cfg0.N) (r : Fin 32) (k : Fin 1024) :
    (iblk m c 0 t : Vec Ideal S32x1024 .f32) (ix2 r k) = xRow m c r k := by
  unfold xRow
  blk_ext [iblk, V_main_arg0, idx0 t]

/-- Window 1 reads its array at the block's placement, whatever the array holds. -/
theorem read_1 (c : Dev nD) (W : (b : Ref sig .tc) → Buf (Elt Ideal) ((c : Thread nD τ).loc b)) (t : Fin cfg0.N) (y : S1024x3072.Idx) :
    ((cfg0.win 1).blk t).view.read (Elt Ideal) (W (Pipeline.arrRef spec0 1)) y = (W main_v3 : Vec Ideal S1024x3072 .bf16) ((win0_1.blk t).view.emb y) := rfl

/-- The weight's block: the whole of it, at every point. -/
theorem iblk_1 (c : Dev nD) (t : Fin cfg0.N) (r : Fin 1024) (k : Fin 3072) :
    (iblk m c 1 t : Vec Ideal S1024x3072 .bf16) (ix2 r k) = wMat m c r k := by
  have he : ((win0_1.blk t).view.emb (ix2 r k : S1024x3072.Idx) : S1024x3072.Idx) = ix2 r k := by
    blk_ext [idx0 t]
  unfold iblk
  exact (read_1 c (V m c) t _).trans ((congrArg _ he).trans (congrFun (V_w m c) _))

/-- Window 2 reads its array at the block's placement, whatever the array holds. -/
theorem read_2 (c : Dev nD) (W : (b : Ref sig .tc) → Buf (Elt Ideal) ((c : Thread nD τ).loc b)) (t : Fin cfg0.N) (y : S1x128.Idx) :
    ((cfg0.win 2).blk t).view.read (Elt Ideal) (W (Pipeline.arrRef spec0 2)) y = (W main_v31 : Vec Ideal S1x128 .f32) ((win0_2.blk t).view.emb y) := rfl

/-- The block of cosines. -/
theorem iblk_2 (c : Dev nD) (t : Fin cfg0.N) (r : Fin 1) (k : Fin 128) :
    (iblk m c 2 t : Vec Ideal S1x128 .f32) (ix2 r k) = tabC k := by
  have he : ((win0_2.blk t).view.emb (ix2 r k : S1x128.Idx) : S1x128.Idx) = ix2 r k := by
    blk_ext [idx0 t]
  unfold iblk
  exact (read_2 c (V m c) t _).trans ((congrArg _ he).trans (V_c_apply m c _ _))

/-- Window 3 reads its array at the block's placement, whatever the array holds. -/
theorem read_3 (c : Dev nD) (W : (b : Ref sig .tc) → Buf (Elt Ideal) ((c : Thread nD τ).loc b)) (t : Fin cfg0.N) (y : S1x128.Idx) :
    ((cfg0.win 3).blk t).view.read (Elt Ideal) (W (Pipeline.arrRef spec0 3)) y = (W main_v34 : Vec Ideal S1x128 .f32) ((win0_3.blk t).view.emb y) := rfl

/-- The block of negated sines. -/
theorem iblk_3 (c : Dev nD) (t : Fin cfg0.N) (r : Fin 1) (k : Fin 128) :
    (iblk m c 3 t : Vec Ideal S1x128 .f32) (ix2 r k) = tabLo k := by
  have he : ((win0_3.blk t).view.emb (ix2 r k : S1x128.Idx) : S1x128.Idx) = ix2 r k := by
    blk_ext [idx0 t]
  unfold iblk
  exact (read_3 c (V m c) t _).trans ((congrArg _ he).trans (V_lo_apply m c _ _))

/-- Window 4 reads its array at the block's placement, whatever the array holds. -/
theorem read_4 (c : Dev nD) (W : (b : Ref sig .tc) → Buf (Elt Ideal) ((c : Thread nD τ).loc b)) (t : Fin cfg0.N) (y : S1x128.Idx) :
    ((cfg0.win 4).blk t).view.read (Elt Ideal) (W (Pipeline.arrRef spec0 4)) y = (W main_v37 : Vec Ideal S1x128 .f32) ((win0_4.blk t).view.emb y) := rfl

/-- The block of sines. -/
theorem iblk_4 (c : Dev nD) (t : Fin cfg0.N) (r : Fin 1) (k : Fin 128) :
    (iblk m c 4 t : Vec Ideal S1x128 .f32) (ix2 r k) = tabHi k := by
  have he : ((win0_4.blk t).view.emb (ix2 r k : S1x128.Idx) : S1x128.Idx) = ix2 r k := by
    blk_ext [idx0 t]
  unfold iblk
  exact (read_4 c (V m c) t _).trans ((congrArg _ he).trans (V_hi_apply m c _ _))

/-- The rotated block at a grid point, a row of it: the rotary embedding of the row's projection. -/
theorem point_rope (c : Dev nD) (t : Fin cfg0.N) (off : Fin 2049) (r : Fin 32) (l : Fin 1024) :
    ropeBlk (iblk m c 0 t) (iblk m c 1 t) (iblk m c 2 t) (iblk m c 3 t) (iblk m c 4 t) off (ix2 r l)
      = ropeS (projRow (xRow m c r) (wMat m c) off) l := by
  unfold ropeBlk
  have h0 : ∀ k : Fin 1024, (iblk m c 0 t : Vec Ideal S32x1024 .f32) (ix2 r k) = _ := fun k => iblk_0 m c t r k
  have h2 : ∀ k : Fin 128, (iblk m c 2 t : Vec Ideal S1x128 .f32) (ix2 (0 : Fin 1) k) = _ := fun k => iblk_2 m c t 0 k
  have h3 : ∀ k : Fin 128, (iblk m c 3 t : Vec Ideal S1x128 .f32) (ix2 (0 : Fin 1) k) = _ := fun k => iblk_3 m c t 0 k
  have h4 : ∀ k : Fin 128, (iblk m c 4 t : Vec Ideal S1x128 .f32) (ix2 (0 : Fin 1) k) = _ := fun k => iblk_4 m c t 0 k
  simp only [ix2_0, ix2_1, h0, h2, h3, h4, iblk_1]
  exact ropeLane_eq _ _

/-- The projected block at a grid point. -/
theorem point_proj (c : Dev nD) (t : Fin cfg0.N) (off : Fin 2049) (r : Fin 32) (l : Fin 1024) :
    projRow (fun k => (iblk m c 0 t : Vec Ideal S32x1024 .f32) (ix2 r k)) (fun k l => (iblk m c 1 t : Vec Ideal S1024x3072 .bf16) (ix2 k l)) off l
      = projRow (xRow m c r) (wMat m c) off l := by
  have h0 : ∀ k : Fin 1024, (iblk m c 0 t : Vec Ideal S32x1024 .f32) (ix2 r k) = _ := fun k => iblk_0 m c t r k
  simp only [h0, iblk_1]

/-- The array of keys the pipeline leaves. -/
theorem finalK (c : Dev nD) : (dats m 0 c).arrAt 6 cfg0.N = resK m c := by
  refine (dats m 0 c).arrAt_eq_of_covers 6 _ (by decide +kernel) fun t hf y => ?_
  blk_simp
  rw [after0_6]
  obtain ⟨r, l, rfl⟩ : ∃ (r : Fin 32) (l : Fin 1024), y = (ix2 r l : (⟨2, ![32, 1024]⟩ : Shape).Idx) := ⟨y 0, y 1, eq_ix2 (n0 := 32) (n1 := 1024) y⟩
  have he : (win0_6.blk t).view.emb (ix2 r l : (⟨2, ![32, 1024]⟩ : Shape).Idx)
      = (ix2 r l : (⟨2, ![32, 1024]⟩ : Shape).Idx) := by
    blk_ext [idx0 t]
  rw [he]
  refine (congrFun (out_k _ _ _ _ _) _).trans ((point_rope m c t 1024 r l).trans ?_)
  rfl

/-- The array of values the pipeline leaves. -/
theorem finalV (c : Dev nD) : (dats m 0 c).arrAt 7 cfg0.N = resV m c := by
  refine (dats m 0 c).arrAt_eq_of_covers 7 _ (by decide +kernel) fun t hf y => ?_
  blk_simp
  rw [after0_7]
  obtain ⟨r, l, rfl⟩ : ∃ (r : Fin 32) (l : Fin 1024), y = (ix2 r l : (⟨2, ![32, 1024]⟩ : Shape).Idx) := ⟨y 0, y 1, eq_ix2 (n0 := 32) (n1 := 1024) y⟩
  have he : (win0_7.blk t).view.emb (ix2 r l : (⟨2, ![32, 1024]⟩ : Shape).Idx)
      = (ix2 r l : (⟨2, ![32, 1024]⟩ : Shape).Idx) := by
    blk_ext [idx0 t]
  rw [he]
  refine (out_v _ _ _ _ _ r l).trans ((point_proj m c t 2048 r l).trans ?_)
  rfl

/-- The array of queries the pipeline leaves. -/
theorem finalQ (c : Dev nD) : (dats m 0 c).arrAt 5 cfg0.N = resQ m c := by
  refine (dats m 0 c).arrAt_eq_of_covers 5 _ (by decide +kernel) fun t hf y => ?_
  blk_simp
  rw [after0_5]
  obtain ⟨r, l, rfl⟩ : ∃ (r : Fin 32) (l : Fin 1024), y = (ix2 r l : (⟨2, ![32, 1024]⟩ : Shape).Idx) := ⟨y 0, y 1, eq_ix2 (n0 := 32) (n1 := 1024) y⟩
  have he : (win0_5.blk t).view.emb (ix2 r l : (⟨2, ![32, 1024]⟩ : Shape).Idx)
      = (ix2 r l : (⟨2, ![32, 1024]⟩ : Shape).Idx) := by
    blk_ext [idx0 t]
  rw [he]
  refine (congrFun (out_q _ _ _ _ _) _).trans ((congrArg (fun z : EReal => z * Ideal.ofBits .f32 0x3E000000#32) (point_rope m c t 0 r l)).trans ?_)
  rfl

end Cert.QkvSIdeal.Block

end
-- ==== Proof.QkvSRef.lean ====
module

public import proofs.«01_k».proof.Proof.Gen.QkvSRefIdeal.Run
public import proofs.«01_k».proof.Proof.QkvSMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.QkvSRefIdeal.Row

open Cert.QkvSRefIdeal Cert.QkvSRefIdeal.Gen Cert.QkvMath Cert.QkvSMath

variable (m : (ℓ : Loc nD τ sig) → Buf (Elt Ideal) ℓ)

/-- The angles of the one position, by frequency. -/
def angT : FVec Ideal S1x8 .f32 :=
  mulf (broadcastInDim S1x8 ![0, 1] bcast_S1x1_S1x8_0_1 (broadcastInDim S1x1 ![0] bcast_S1_S1x1_0 (sitofp .f32 (addi (broadcastInDim S1 ![] bcast_S_S1 (constantI S_ 32 8192#32)) (iotaInDim S1 32 0)))))
    (broadcastInDim S1x8 ![1] bcast_S8_S1x8_1 (Host.divf (broadcastInDim S8 ![] bcast_S_S8 (constant S_ .f32 0x3F800000#32))
      (Host.powf (broadcastInDim S8 ![] bcast_S_S8 (constant S_ .f32 0x48F42400#32)) (Host.divf (addf (broadcastInDim S8 ![] bcast_S_S8 (constant S_ .f32 0x00000000#32))
        (mulf (broadcastInDim S8 ![] bcast_S_S8 (constant S_ .f32 0x40000000#32)) (sitofp .f32 (iotaInDim S8 32 0)))) (broadcastInDim S8 ![] bcast_S_S8 (constant S_ .f32 0x41800000#32))))))

/-- The angle table at an index. -/
theorem angT_apply (p : Fin 1) (e : Fin 8) : angT (ix2 p e) = angS e := by
  pointwise [angT, angS]

/-- A table of positions by frequencies, over batches and heads. -/
def tab (t : FVec Ideal S1x8 .f32) : FVec Ideal S32x1x16x8 .f32 :=
  broadcastInDim S32x1x16x8 ![0, 1, 2, 3] bcast_S1x1x1x8_S32x1x16x8_0_1_2_3 (broadcastInDim S1x1x1x8 ![1, 3] bcast_S1x8_S1x1x1x8_1_3 t)

/-- The rows as batches, positions, heads and lanes. -/
def heads (y : FVec Ideal S32x1024 .f32) : FVec Ideal S32x1x16x64 .f32 := shapeCast _ y shapeCasts_S32x1024_S32x1x16x64

/-- The rotary embedding of all heads, as the reference writes it. -/
def rotT (y : FVec Ideal S32x1x16x64 .f32) (co si : FVec Ideal S32x1x16x8 .f32) : FVec Ideal S32x1x16x64 .f32 :=
  concatenate S32x1x16x64 3 [⟨S32x1x16x8, subf (mulf (extractStridedSlice S32x1x16x8 ![0, 0, 0, 0] y slices_S32x1x16x64_S32x1x16x8_0_0_0_0) co)
      (mulf (extractStridedSlice S32x1x16x8 ![0, 0, 0, 8] y slices_S32x1x16x64_S32x1x16x8_0_0_0_8) si)⟩,
    ⟨S32x1x16x8, addf (mulf (extractStridedSlice S32x1x16x8 ![0, 0, 0, 8] y slices_S32x1x16x64_S32x1x16x8_0_0_0_8) co)
      (mulf (extractStridedSlice S32x1x16x8 ![0, 0, 0, 0] y slices_S32x1x16x64_S32x1x16x8_0_0_0_0) si)⟩,
    ⟨S32x1x16x48, extractStridedSlice S32x1x16x48 ![0, 0, 0, 16] y slices_S32x1x16x64_S32x1x16x48_0_0_0_16⟩]
    concatenates_S32x1x16x8_S32x1x16x8_S32x1x16x48_S32x1x16x64_d3

/-- The rotary embedding of rows. -/
def rotRows (y : FVec Ideal S32x1024 .f32) : FVec Ideal S32x1024 .f32 :=
  shapeCast _ (rotT (heads y) (tab (Host.cos angT)) (tab (Host.sin angT))) shapeCasts_S32x1x16x64_S32x1024

/-- The projection of every row, all 3072 columns. -/
def proj (x : FVec Ideal S32x1024 .f32) (w : FVec Ideal S1024x3072 .f32) : FVec Ideal S32x3072 .f32 :=
  Host.dotGeneral dot_S32x1024_S1024x3072_S32x3072_1_0_0_1_n_n none x w

/-- The scaled queries the reference returns, by name. -/
theorem res0_eq (c : Dev nD) : Value.res_out0 m c = mulf (rotRows (extractStridedSlice S32x1024 ![0, 0] (proj (m ((c.tc : Thread nD τ).loc main_arg0)) (m ((c.tc : Thread nD τ).loc main_arg1))) slices_S32x3072_S32x1024_0_0))
    (broadcastInDim S32x1024 ![] bcast_S_S32x1024 (constant S_ .f32 0x3E000000#32)) := rfl

/-- The keys the reference returns, by name. -/
theorem res1_eq (c : Dev nD) : Value.res_out1 m c = rotRows (extractStridedSlice S32x1024 ![0, 1024] (proj (m ((c.tc : Thread nD τ).loc main_arg0)) (m ((c.tc : Thread nD τ).loc main_arg1))) slices_S32x3072_S32x1024_0_1024) := rfl

/-- The projection at an index. -/
theorem proj_apply (x : FVec Ideal S32x1024 .f32) (w : FVec Ideal S1024x3072 .f32) (i : Fin 32) (l : Fin 3072) :
    proj x w (ix2 i l) = ∑ k : Fin 1024, x (ix2 i k) * w (ix2 k l) := by
  pointwise [proj]

/-- The rotary embedding of all heads at an index, by the lane. -/
theorem rotT_apply (y : FVec Ideal S32x1x16x64 .f32) (co si : FVec Ideal S32x1x16x8 .f32) (b : Fin 32) (n : Fin 1) (h : Fin 16) (e : Fin 64) :
    rotT y co si (ix4 b n h e) = if h0 : e.val < 8 then y (ix4 b n h e) * co (ix4 b n h ⟨e.val, h0⟩) - y (ix4 b n h ⟨e.val + 8, by omega⟩) * si (ix4 b n h ⟨e.val, h0⟩)
      else if h1 : e.val < 16 then y (ix4 b n h e) * co (ix4 b n h ⟨e.val - 8, by omega⟩) + y (ix4 b n h ⟨e.val - 8, by omega⟩) * si (ix4 b n h ⟨e.val - 8, by omega⟩)
      else y (ix4 b n h e) := by
  obtain rfl : n = 0 := Subsingleton.elim _ _
  pointwise [rotT]
  by_cases h0 : e.val < 8
  · simp only [dif_pos h0, Nat.add_comm 8]
  by_cases h1 : e.val < 16
  · simp only [dif_neg h0, dif_pos h1, dif_pos (show e.val - 8 < 8 by omega)]
    have he : (⟨8 + (e.val - 8), by omega⟩ : Fin 64) = e := Fin.ext (by show 8 + (e.val - 8) = e.val; omega)
    rw [he]
  · simp only [dif_neg h0, dif_neg h1, dif_neg (show ¬ e.val - 8 < 8 by omega)]
    have he : (⟨16 + (e.val - 8 - 8), by omega⟩ : Fin 64) = e := Fin.ext (by show 16 + (e.val - 8 - 8) = e.val; omega)
    rw [he]

/-- A head's lane of a row. -/
theorem heads_apply (y : FVec Ideal S32x1024 .f32) (b : Fin 32) (n : Fin 1) (h : Fin 16) (e : Fin 64) :
    heads y (ix4 b n h e) = y (ix2 b ⟨64 * h.val + e.val, by omega⟩) := by
  obtain rfl : n = 0 := Subsingleton.elim _ _
  pointwise [heads]
  simp only [Nat.mul_comm]

/-- A spread table at an index. -/
theorem tab_apply (t : FVec Ideal S1x8 .f32) (b : Fin 32) (n : Fin 1) (h : Fin 16) (e : Fin 8) : tab t (ix4 b n h e) = t (ix2 n e) := by
  obtain rfl : n = 0 := Subsingleton.elim _ _
  pointwise [tab]

/-- The rotary embedding of rows at an index. -/
theorem rotRows_apply (y : FVec Ideal S32x1024 .f32) (i : Fin 32) (l : Fin 1024) :
    rotRows y (ix2 i l) = ropeS (fun k => y (ix2 i k)) l := by
  pointwise [rotRows]
  refine (rotT_apply _ _ _ _ _ _ _).trans ?_
  have hl : ∀ a : ℕ, ∀ h : 64 * (l.val / 64) + (l.val % 64 + a) < 1024, ∀ h' : l.val + a < 1024, (⟨64 * (l.val / 64) + (l.val % 64 + a), h⟩ : Fin 1024) = ⟨l.val + a, h'⟩ := fun a h h' => Fin.ext (by show 64 * (l.val / 64) + (l.val % 64 + a) = l.val + a; omega)
  have hl0 : (⟨64 * (l.val / 64) + l.val % 64, by omega⟩ : Fin 1024) = l := Fin.ext (by show 64 * (l.val / 64) + l.val % 64 = l.val; omega)
  unfold ropeS
  split <;> rename_i h0
  · replace h0 : l.val % 64 < 8 := h0
    simp only [heads_apply, tab_apply, hl0]
    rw [hl 8 (by omega) (by omega)]
    pointwise [angT_apply]
  replace h0 : ¬ l.val % 64 < 8 := h0
  split <;> rename_i h1
  · replace h1 : l.val % 64 < 16 := h1
    simp only [heads_apply, tab_apply, hl0]
    have hm : (⟨64 * (l.val / 64) + (l.val % 64 - 8), by omega⟩ : Fin 1024) = ⟨l.val - 8, by omega⟩ := Fin.ext (by show 64 * (l.val / 64) + (l.val % 64 - 8) = l.val - 8; omega)
    rw [hm]
    pointwise [angT_apply]
  · simp only [heads_apply, hl0]

/-- A row of the projection, 1024 columns from an offset on. -/
theorem slice_apply (x : FVec Ideal S32x1024 .f32) (w : FVec Ideal S1024x3072 .f32) (off : Fin 2049) (h : S32x3072.Slices ![0, off.val] S32x1024) (i : Fin 32) (l : Fin 1024) :
    extractStridedSlice S32x1024 ![0, off.val] (proj x w) h (ix2 i l) = projRow (fun k => x (ix2 i k)) (fun k l => w (ix2 k l)) off l := by
  refine Eq.trans ?_ (proj_apply x w i ⟨off.val + l.val, by omega⟩)
  pointwise

/-- A rotated row of the projection. -/
theorem rot_apply (x : FVec Ideal S32x1024 .f32) (w : FVec Ideal S1024x3072 .f32) (off : Fin 2049) (h : S32x3072.Slices ![0, off.val] S32x1024) (i : Fin 32) (l : Fin 1024) :
    rotRows (extractStridedSlice S32x1024 ![0, off.val] (proj x w) h) (ix2 i l)
      = ropeS (projRow (fun k => x (ix2 i k)) (fun k l => w (ix2 k l)) off) l := by
  refine (rotRows_apply _ i l).trans ?_
  exact congrArg (fun y => ropeS y l) (funext fun k => slice_apply x w off h i k)

/-- The reference's rows. -/
def xRow (c : Dev nD) (i : Fin 32) (k : Fin 1024) : EReal := (m ((c.tc : Thread nD τ).loc main_arg0) : Vec Ideal S32x1024 .f32) (ix2 i k)

/-- The reference's weight. -/
def wMat (c : Dev nD) (k : Fin 1024) (l : Fin 3072) : EReal := (m ((c.tc : Thread nD τ).loc main_arg1) : Vec Ideal S1024x3072 .f32) (ix2 k l)

/-- The scaled queries at an index. -/
theorem res0_apply (c : Dev nD) (i : Fin 32) (l : Fin 1024) :
    (Value.res_out0 m c : Vec Ideal S32x1024 .f32) (ix2 i l) = ropeS (projRow (xRow m c i) (wMat m c) 0) l * Ideal.ofBits .f32 0x3E000000#32 :=
  (congrFun (res0_eq m c) _).trans (congrArg (fun z : EReal => z * Ideal.ofBits .f32 0x3E000000#32) (rot_apply _ _ 0 _ i l))

/-- The keys at an index. -/
theorem res1_apply (c : Dev nD) (i : Fin 32) (l : Fin 1024) :
    (Value.res_out1 m c : Vec Ideal S32x1024 .f32) (ix2 i l) = ropeS (projRow (xRow m c i) (wMat m c) 1024) l :=
  (congrFun (res1_eq m c) _).trans (rot_apply _ _ 1024 _ i l)

end Cert.QkvSRefIdeal.Row

end
-- ==== Proof.QkvSClaims.lean ====
module

public import proofs.«01_k».proof.Proof.QkvSValue
public import proofs.«01_k».proof.Proof.QkvSRef
public import proofs.«01_k».proof.Proof.Gen.QkvS.Frame
public import Idealize.ShloMosaic.Lib.Quiescent

@[expose] public section

set_option maxRecDepth 16384

noncomputable section

open Idealize.ShloMosaic Idealize.ShloMosaic.TcCoe Idealize.SL.Sem

namespace Cert.Proof.QkvSClaims

/-- The kernel runs, keeps its arguments and leaves every semaphore at zero. -/
theorem frame_k : Cert.quiescent_QkvS := fun m ρ _ => Cert.QkvS.Gen.frame m ρ

/-- The same of the kernel at the extended reals. -/
theorem frame_ki : Cert.quiescent_QkvSIdeal := fun m ρ _ => Cert.QkvSIdeal.Gen.frame m ρ

/-- The reference at the extended reals runs and keeps its arguments; it has no semaphore. -/
theorem frame_ri : Cert.quiescent_QkvSRefIdeal := fun m ρ _ =>
  (θ_run Cert.QkvSRefIdeal.defs _ _).mono (fun r h => ⟨fun c => (h c).2.2.2, sem_eq_zero_of_no_sems (by decide) r.2⟩)
    (Cert.QkvSRefIdeal.Value.run (F := Ideal) m ρ)

/-- Kernel and reference that agree on the rows have the same rows. -/
theorem x_eq (m : (ℓ : Loc Cert.QkvSIdeal.nD Cert.QkvSIdeal.τ Cert.QkvSIdeal.sig) → Buf (Elt Ideal) ℓ) (m' : (ℓ : Loc Cert.QkvSRefIdeal.nD Cert.QkvSRefIdeal.τ Cert.QkvSRefIdeal.sig) → Buf (Elt Ideal) ℓ) (c : Dev Cert.QkvSIdeal.nD)
    (h : m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)) :
    Cert.QkvSRefIdeal.Row.xRow m' c = Cert.QkvSIdeal.Block.xRow m c := by
  funext i k
  exact congrFun h (ix2 i k)

/-- Kernel and reference that agree on the weight have the same weight. -/
theorem w_eq (m : (ℓ : Loc Cert.QkvSIdeal.nD Cert.QkvSIdeal.τ Cert.QkvSIdeal.sig) → Buf (Elt Ideal) ℓ) (m' : (ℓ : Loc Cert.QkvSRefIdeal.nD Cert.QkvSRefIdeal.τ Cert.QkvSRefIdeal.sig) → Buf (Elt Ideal) ℓ) (c : Dev Cert.QkvSIdeal.nD)
    (h : m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)) :
    Cert.QkvSRefIdeal.Row.wMat m' c = Cert.QkvSIdeal.Block.wMat m c := by
  funext k l
  exact congrFun h (ix2 k l)

/-- The kernel and the reference leave the same three arrays: the rotated and scaled queries, the rotated keys, and the values. -/
theorem algebraic : Cert.algebraic_QkvSIdeal_QkvSRefIdeal := by
  intro m ρ m' ρ' _ hagree
  refine ⟨Cert.QkvSIdeal.Block.resQ m, Cert.QkvSIdeal.Block.resK m, Cert.QkvSIdeal.Block.resV m,
    (θ_run Cert.QkvSIdeal.defs _ _).mono (fun _ h c => ?_) (Cert.QkvSIdeal.Value.run_blocks (F := Ideal) m ρ),
    (θ_run Cert.QkvSRefIdeal.defs _ _).mono (fun _ h c => ?_) (Cert.QkvSRefIdeal.Value.run (F := Ideal) m' ρ')⟩
  · obtain ⟨h5, h6, h7, ha⟩ := h c
    exact ⟨h5.trans (Cert.QkvSIdeal.Block.finalQ m c), h6.trans (Cert.QkvSIdeal.Block.finalK m c), h7.trans (Cert.QkvSIdeal.Block.finalV m c), ha⟩
  · obtain ⟨h0, h1, h2, ha⟩ := h c
    refine ⟨h0.trans ?_, h1.trans ?_, h2.trans ?_, ha⟩
    all_goals
      funext i
      obtain ⟨r, l, rfl⟩ : ∃ (r : Fin 32) (l : Fin 1024), i = (ix2 r l : (⟨2, ![32, 1024]⟩ : Shape).Idx) := ⟨i 0, i 1, eq_ix2 (n0 := 32) (n1 := 1024) i⟩
    · refine (Cert.QkvSRefIdeal.Row.res0_apply m' c r l).trans ?_
      rw [x_eq m m' c (hagree c).1, w_eq m m' c (hagree c).2]
      rfl
    · refine (Cert.QkvSRefIdeal.Row.res1_apply m' c r l).trans ?_
      rw [x_eq m m' c (hagree c).1, w_eq m m' c (hagree c).2]
      rfl
    · refine (Cert.QkvSRefIdeal.Row.slice_apply _ _ 2048 Cert.QkvSRefIdeal.Gen.slices_S32x3072_S32x1024_0_2048 r l).trans ?_
      refine Eq.trans (b := Cert.QkvMath.projRow (Cert.QkvSRefIdeal.Row.xRow m' c r) (Cert.QkvSRefIdeal.Row.wMat m' c) 2048 l) rfl ?_
      rw [x_eq m m' c (hagree c).1, w_eq m m' c (hagree c).2]
      rfl

end Cert.Proof.QkvSClaims

end
-- ==== Proof.HgMath.lean ====
module

public import proofs.«01_k».proof.Proof.FfnMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.HgMath

/-- One entry of the state after the step: the old entry times the decay, plus the product of key and value. -/
def step (lf s k v : EReal) : EReal := Ideal.exp lf * s + k * v

/-- The state of head `h` after the step, at its row `d` and column `e`, from one sequence's rows. -/
def stAt (lf k : Fin 1024 → EReal) (v : Fin 1024 → EReal) (s : Fin 8 → Fin 128 → Fin 128 → EReal) (h : Fin 8) (d : Fin 128) (e : Fin 128) : EReal :=
  step (lf ⟨h.val * 128 + d.val, by omega⟩) (s h d e) (k ⟨h.val * 128 + d.val, by omega⟩) (v ⟨h.val * 128 + e.val, by omega⟩)

/-- The root-mean-square norm of a row of 128 entries, with its gain. -/
def normOut (o g : Fin 128 → EReal) (e : Fin 128) : EReal :=
  o e * Ideal.rsqrt (Ideal.div (∑ k, o k * o k) (Ideal.ofBits .f32 0x43000000#32) + Ideal.ofBits .f32 0x358637BD#32) * g e

/-- The output of a head before its norm: the query's product with the head's new state. -/
def rawAt (q lf k : Fin 1024 → EReal) (v : Fin 1024 → EReal) (s : Fin 8 → Fin 128 → Fin 128 → EReal) (h : Fin 8) (e : Fin 128) : EReal :=
  ∑ d : Fin 128, q ⟨h.val * 128 + d.val, by omega⟩ * stAt lf k v s h d e

/-- The normed output of the step, at a lane of the heads laid side by side. -/
def oAt (q lf k : Fin 1024 → EReal) (v : Fin 1024 → EReal) (s : Fin 8 → Fin 128 → Fin 128 → EReal) (g : Fin 128 → EReal) (l : Fin 1024) : EReal :=
  normOut (rawAt q lf k v s ⟨l.val / 128, by omega⟩) g ⟨l.val % 128, by omega⟩

end Cert.HgMath

end
-- ==== Proof.HgBlock.lean ====
module

public import proofs.«01_k».proof.Proof.Gen.HgIdeal.Value
public import proofs.«01_k».proof.Proof.HgMath
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.HgIdeal.Block

open Cert.HgIdeal Cert.HgIdeal.Gen Cert.HgMath

/-- The kernel's turning of a row into a column: the diagonal of the row repeated down, summed along the lanes. -/
def col (v : FVec Ideal S1x128 .f32) : FVec Ideal S128x1 .f32 :=
  shapeCast S128x1 (multiReduction .add [1] S128 (select k0_pay2 (broadcastTo S128x128 v broadcasts_S1x128_S128x128) (broadcast S128x128 (Scalar.ofBits .f32 0x00000000#32))) 0x00000000#32 reduces_S128x128_S128 (.inl rfl) rfl) shapeCasts_S128_S128x1

/-- One head's new state in the kernel. -/
def stHead (lf : Vec Ideal S1x1x128 .f32) (s : Vec Ideal S1x1x128x128 .f32) (k : Vec Ideal S1x1x128 .f32) (v : Vec Ideal S1x1x128 .f32) : FVec Ideal S128x128 .f32 :=
  addf (mulf (broadcastTo S128x128 (col (exp (shapeCast S1x128 lf shapeCasts_S1x1x128_S1x128))) broadcasts_S128x1_S128x128) (shapeCast S128x128 s shapeCasts_S1x1x128x128_S128x128))
    (mulf (broadcastTo S128x128 (col (shapeCast S1x128 k shapeCasts_S1x1x128_S1x128)) broadcasts_S128x1_S128x128) (broadcastTo S128x128 (shapeCast S1x128 v shapeCasts_S1x1x128_S1x128) broadcasts_S1x128_S128x128))

/-- One head's product of the query and the new state in the kernel. -/
def oRow (st : FVec Ideal S128x128 .f32) (q : Vec Ideal S1x1x128 .f32) : FVec Ideal S1x128 .f32 :=
  shapeCast S1x128 (multiReduction .add [0] S128 (mulf (broadcastTo S128x128 (col (shapeCast S1x128 q shapeCasts_S1x1x128_S1x128)) broadcasts_S128x1_S128x128) st) 0x00000000#32 reduces_S128x128_S128_2 (.inl rfl) rfl) shapeCasts_S128_S1x128

/-- One head's normed output in the kernel. -/
def normRow (o g : FVec Ideal S1x128 .f32) : FVec Ideal S1x1x128 .bf16 :=
  shapeCast S1x1x128 (truncf .bf16 (mulf (mulf o (broadcastTo S1x128 (rsqrt (addf (divf (shapeCast S1x1 (multiReduction .add [1] S1 (mulf o o) 0x00000000#32 reduces_S1x128_S1 (.inl rfl) rfl) shapeCasts_S1_S1x1) (broadcast S1x1 (Scalar.ofBits .f32 0x43000000#32))) (broadcast S1x1 (Scalar.ofBits .f32 0x358637BD#32)))) broadcasts_S1x1_S1x128)) g) bitsLt_bf16_f32) shapeCasts_S1x128_S1x1x128

/-- The choice by the equality of two lanes' numbers is the choice by the equality of the lanes. -/
theorem select_lane (d x : Fin 128) (a b : EReal) : Scalar.select (IntOp.cmpi .eq (BitVec.ofNat 32 d.val) (BitVec.ofNat 32 x.val)) a b = if d = x then a else b := by
  have h : (BitVec.ofNat 32 d.val = BitVec.ofNat 32 x.val) ↔ d = x := by
    constructor
    · intro e
      have e' := congrArg BitVec.toNat e
      simp only [BitVec.toNat_ofNat] at e'
      exact Fin.ext (by omega)
    · rintro rfl
      rfl
  rw [Idealize.ShloMosaic.WordCmp.cmpi_eq_eq, Scalar.select]
  by_cases e : d = x
  · simp [e]
  · simp [e, h]

/-- The column holds the row's entries. -/
theorem col_apply (v : FVec Ideal S1x128 .f32) (d : Fin 128) : col v (ix2 d 0) = v (ix2 0 d) := by
  pointwise [col, k0_pay2]
  simp only [select_lane, Finset.sum_ite_eq, Finset.mem_univ, if_true]

/-- A head's new state at an index. -/
theorem stHead_apply (lf : Vec Ideal S1x1x128 .f32) (s : Vec Ideal S1x1x128x128 .f32) (k : Vec Ideal S1x1x128 .f32) (v : Vec Ideal S1x1x128 .f32) (d : Fin 128) (e : Fin 128) :
    stHead lf s k v (ix2 d e) = step (lf (ix3 0 0 d)) (s (ix4 0 0 d e)) (k (ix3 0 0 d)) (v (ix3 0 0 e)) := by
  pointwise [stHead, step, col_apply]

/-- A head's product with its query at an index. -/
theorem oRow_apply (st : FVec Ideal S128x128 .f32) (q : Vec Ideal S1x1x128 .f32) (e : Fin 128) :
    oRow st q (ix2 0 e) = ∑ d : Fin 128, q (ix3 0 0 d) * st (ix2 d e) := by
  pointwise [oRow, col_apply]

/-- A head's normed output at an index. -/
theorem normRow_apply (o g : FVec Ideal S1x128 .f32) (e : Fin 128) :
    normRow o g (ix3 0 0 e) = normOut (fun e => o (ix2 0 e)) (fun e => g (ix2 0 e)) e := by
  pointwise [normRow, normOut]

/-- The kernel's block of new states, from its blocks of keys, values, decays and old states. -/
def stBlk (x1 : Vec Ideal S1x1x1024 .f32) (x2 : Vec Ideal S1x1x1024 .f32) (x3 : Vec Ideal S1x1x1024 .f32) (x4 : Vec Ideal S1x8x128x128 .f32) : Vec Ideal S1x8x128x128 .f32 := fun j =>
  stAt (fun k => x3 (ix3 0 0 k)) (fun k => x1 (ix3 0 0 k)) (fun k => x2 (ix3 0 0 k)) (fun h d e => x4 (ix4 0 h d e)) (j 1) (j 2) (j 3)

/-- The kernel's block of normed outputs. -/
def oBlk (x0 x1 : Vec Ideal S1x1x1024 .f32) (x2 : Vec Ideal S1x1x1024 .f32) (x3 : Vec Ideal S1x1x1024 .f32) (x4 : Vec Ideal S1x8x128x128 .f32) (x5 : Vec Ideal S1x128 .f32) : Vec Ideal S1x1x1024 .bf16 := fun j =>
  oAt (fun k => x0 (ix3 0 0 k)) (fun k => x3 (ix3 0 0 k)) (fun k => x1 (ix3 0 0 k)) (fun k => x2 (ix3 0 0 k)) (fun h d e => x4 (ix4 0 h d e)) (fun e => x5 (ix2 0 e)) (j 2)

/-- Head `h` of the kernel's loads makes the new state of head `h`. -/
theorem head_apply (x1 : Vec Ideal S1x1x1024 .f32) (x2 : Vec Ideal S1x1x1024 .f32) (x3 : Vec Ideal S1x1x1024 .f32) (x4 : Vec Ideal S1x8x128x128 .f32) (h : ℕ) (hh : h < 8)
    (ha : ∀ a, (![0, 0, h * 128] : Fin 3 → ℕ) a + (![1, 1, 128] : Fin 3 → ℕ) a ≤ S1x1x1024.size a)
    (hv : ∀ a, (![0, 0, h * 128] : Fin 3 → ℕ) a + (![1, 1, 128] : Fin 3 → ℕ) a ≤ S1x1x1024.size a)
    (hs : ∀ a, (![0, h, 0, 0] : Fin 4 → ℕ) a + (![1, 1, 128, 128] : Fin 4 → ℕ) a ≤ S1x8x128x128.size a) (d : Fin 128) (e : Fin 128) :
    stHead (View.ld x3 (Rect.unit (s := S1x1x1024) ![0, 0, h * 128] ![1, 1, 128] ha)) (View.ld x4 (Rect.unit (s := S1x8x128x128) ![0, h, 0, 0] ![1, 1, 128, 128] hs))
        (View.ld x1 (Rect.unit (s := S1x1x1024) ![0, 0, h * 128] ![1, 1, 128] ha)) (View.ld x2 (Rect.unit (s := S1x1x1024) ![0, 0, h * 128] ![1, 1, 128] hv)) (ix2 d e)
      = stAt (fun k => x3 (ix3 0 0 k)) (fun k => x1 (ix3 0 0 k)) (fun k => x2 (ix3 0 0 k)) (fun h d e => x4 (ix4 0 h d e)) ⟨h, hh⟩ d e := by
  refine (stHead_apply _ _ _ _ d e).trans ?_
  pointwise [stAt]

/-- The stored state of head `h` is the block's at that head. -/
theorem st_block (x1 : Vec Ideal S1x1x1024 .f32) (x2 : Vec Ideal S1x1x1024 .f32) (x3 : Vec Ideal S1x1x1024 .f32) (x4 : Vec Ideal S1x8x128x128 .f32) (h o o2 : ℕ) (ho : o = h * 128) (ho2 : o2 = h * 128)
    (ha : ∀ a, (![0, 0, o] : Fin 3 → ℕ) a + (![1, 1, 128] : Fin 3 → ℕ) a ≤ S1x1x1024.size a)
    (hv : ∀ a, (![0, 0, o2] : Fin 3 → ℕ) a + (![1, 1, 128] : Fin 3 → ℕ) a ≤ S1x1x1024.size a)
    (hs : ∀ a, (![0, h, 0, 0] : Fin 4 → ℕ) a + (![1, 1, 128, 128] : Fin 4 → ℕ) a ≤ S1x8x128x128.size a)
    (j : (Rect.unit (s := S1x8x128x128) ![0, h, 0, 0] ![1, 1, 128, 128] hs).shape.Idx) :
    (shapeCast S1x1x128x128 (stHead (View.ld x3 (Rect.unit (s := S1x1x1024) ![0, 0, o] ![1, 1, 128] ha)) (View.ld x4 (Rect.unit (s := S1x8x128x128) ![0, h, 0, 0] ![1, 1, 128, 128] hs))
        (View.ld x1 (Rect.unit (s := S1x1x1024) ![0, 0, o] ![1, 1, 128] ha)) (View.ld x2 (Rect.unit (s := S1x1x1024) ![0, 0, o2] ![1, 1, 128] hv))) shapeCasts_S128x128_S1x1x128x128 : FVec Ideal S1x1x128x128 .f32) j
      = stBlk x1 x2 x3 x4 ((Rect.unit (s := S1x8x128x128) ![0, h, 0, 0] ![1, 1, 128, 128] hs).emb j) := by
  subst ho ho2
  have hh : h < 8 := hs 1
  obtain ⟨d, e, rfl⟩ : ∃ (d : Fin 128) (e : Fin 128), j = (ix4 0 0 d e : (⟨4, ![1, 1, 128, 128]⟩ : Shape).Idx) :=
    ⟨j 2, j 3, (eq_ix4 (n0 := 1) (n1 := 1) (n2 := 128) (n3 := 128) j).trans (congrArg₂ (fun a b : Fin 1 => (ix4 a b (j 2) (j 3) : (⟨4, ![1, 1, 128, 128]⟩ : Shape).Idx)) (Subsingleton.elim (α := Fin 1) _ _) (Subsingleton.elim (α := Fin 1) _ _))⟩
  have he : (Rect.unit (s := S1x8x128x128) ![0, h, 0, 0] ![1, 1, 128, 128] hs).emb (ix4 0 0 d e : (⟨4, ![1, 1, 128, 128]⟩ : Shape).Idx)
      = (ix4 0 ⟨h, hh⟩ d e : (⟨4, ![1, 8, 128, 128]⟩ : Shape).Idx) := by
    funext a
    apply Fin.ext
    fin_cases a <;> simp [Rect.emb, Rect.unit, ix4]
  rw [he]
  refine Eq.trans ?_ (head_apply x1 x2 x3 x4 h hh ha hv hs d e)
  pointwise

/-- The stored output of head `h` is the block's at that head's lanes. -/
theorem o_block (x0 x1 : Vec Ideal S1x1x1024 .f32) (x2 : Vec Ideal S1x1x1024 .f32) (x3 : Vec Ideal S1x1x1024 .f32) (x4 : Vec Ideal S1x8x128x128 .f32) (x5 : Vec Ideal S1x128 .f32) (h o o2 : ℕ) (ho : o = h * 128) (ho2 : o2 = h * 128)
    (ha : ∀ a, (![0, 0, o] : Fin 3 → ℕ) a + (![1, 1, 128] : Fin 3 → ℕ) a ≤ S1x1x1024.size a)
    (hv : ∀ a, (![0, 0, o2] : Fin 3 → ℕ) a + (![1, 1, 128] : Fin 3 → ℕ) a ≤ S1x1x1024.size a)
    (hs : ∀ a, (![0, h, 0, 0] : Fin 4 → ℕ) a + (![1, 1, 128, 128] : Fin 4 → ℕ) a ≤ S1x8x128x128.size a)
    (j : (Rect.unit (s := S1x1x1024) ![0, 0, o2] ![1, 1, 128] hv).shape.Idx) :
    normRow (oRow (stHead (View.ld x3 (Rect.unit (s := S1x1x1024) ![0, 0, o] ![1, 1, 128] ha)) (View.ld x4 (Rect.unit (s := S1x8x128x128) ![0, h, 0, 0] ![1, 1, 128, 128] hs))
        (View.ld x1 (Rect.unit (s := S1x1x1024) ![0, 0, o] ![1, 1, 128] ha)) (View.ld x2 (Rect.unit (s := S1x1x1024) ![0, 0, o2] ![1, 1, 128] hv)))
        (View.ld x0 (Rect.unit (s := S1x1x1024) ![0, 0, o] ![1, 1, 128] ha))) x5 j
      = oBlk x0 x1 x2 x3 x4 x5 ((Rect.unit (s := S1x1x1024) ![0, 0, o2] ![1, 1, 128] hv).emb j) := by
  subst ho ho2
  have hh : h < 8 := hs 1
  obtain ⟨e, rfl⟩ : ∃ (e : Fin 128), j = (ix3 0 0 e : (⟨3, ![1, 1, 128]⟩ : Shape).Idx) :=
    ⟨j 2, (eq_ix3 (n0 := 1) (n1 := 1) (n2 := 128) j).trans (congrArg₂ (fun a b : Fin 1 => (ix3 a b (j 2) : (⟨3, ![1, 1, 128]⟩ : Shape).Idx)) (Subsingleton.elim (α := Fin 1) _ _) (Subsingleton.elim (α := Fin 1) _ _))⟩
  have he : (Rect.unit (s := S1x1x1024) ![0, 0, h * 128] ![1, 1, 128] hv).emb (ix3 0 0 e : (⟨3, ![1, 1, 128]⟩ : Shape).Idx)
      = (ix3 0 0 ⟨h * 128 + e.val, by omega⟩ : (⟨3, ![1, 1, 1024]⟩ : Shape).Idx) := by
    funext a
    apply Fin.ext
    fin_cases a <;> simp [Rect.emb, Rect.unit, ix3]
  rw [he]
  refine (normRow_apply _ _ e).trans ?_
  have h1 : (h * 128 + e.val) / 128 = h := by omega
  have h2 : (h * 128 + e.val) % 128 = e.val := by omega
  have h3 : ∀ d : Fin 128, View.ld x0 (Rect.unit (s := S1x1x1024) ![0, 0, h * 128] ![1, 1, 128] ha) (ix3 0 0 d) = x0 (ix3 0 0 ⟨h * 128 + d.val, by omega⟩) := fun d => by pointwise
  simp only [oRow_apply, head_apply x1 x2 x3 x4 h hh ha hv hs, h3]
  simp only [oBlk, oAt, ix3_2, h1, h2]
  rfl

/-- A whole load of the gain's block. -/
theorem ld_g (x : Vec Ideal S1x128 .f32) : View.ld x r0_0 = x := View.ld_unit_zero (funext fun a => by fin_cases a <;> rfl) _ x

/-- The block of new states. -/
theorem out_st (x0 x1 : Vec Ideal S1x1x1024 .f32) (x2 : Vec Ideal S1x1x1024 .f32) (x3 : Vec Ideal S1x1x1024 .f32) (x4 : Vec Ideal S1x8x128x128 .f32) (x5 : Vec Ideal S1x128 .f32) :
    out0_7 x0 x1 x2 x3 x4 x5 = stBlk x1 x2 x3 x4 := by
  unfold_out out0_7
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, shapeCast_self]
  funext y
  refine View.canon_append_of_piecesOf (stBlk x1 x2 x3 x4) [] [_, _, _, _, _, _, _, _] ⟨?_, ?_, ?_, ?_, ?_, ?_, ?_, ?_, trivial⟩ y
    (View.cover_of_tiledL _ ![1, 1, 128, 128] (by sl_kernel_rfl) y)
  all_goals
    dsimp only
    intro x
    refine st_block x1 x2 x3 x4 _ _ _ ?_ ?_ _ _ _ x <;> rfl

/-- The block of normed outputs. -/
theorem out_o (x0 x1 : Vec Ideal S1x1x1024 .f32) (x2 : Vec Ideal S1x1x1024 .f32) (x3 : Vec Ideal S1x1x1024 .f32) (x4 : Vec Ideal S1x8x128x128 .f32) (x5 : Vec Ideal S1x128 .f32) :
    out0_6 x0 x1 x2 x3 x4 x5 = oBlk x0 x1 x2 x3 x4 x5 := by
  unfold_out out0_6
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, shapeCast_self]
  simp only [ld_g]
  funext y
  refine View.canon_append_of_piecesOf (oBlk x0 x1 x2 x3 x4 x5) [] [_, _, _, _, _, _, _, _] ⟨?_, ?_, ?_, ?_, ?_, ?_, ?_, ?_, trivial⟩ y
    (View.cover_of_tiledL _ ![1, 1, 128] (by sl_kernel_rfl) y)
  all_goals
    dsimp only
    intro x
    refine o_block x0 x1 x2 x3 x4 x5 _ _ _ ?_ ?_ ?_ ?_ ?_ x <;> first | rfl | assumption

end Cert.HgIdeal.Block

end
-- ==== Proof.HgValue.lean ====
module

public import proofs.«01_k».proof.Proof.HgBlock
public import proofs.«01_k».proof.Defs
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.HgIdeal.Block

open Cert.HgIdeal Cert.HgIdeal.Gen Cert.HgMath

variable (m : (ℓ : Loc nD τ sig) → Buf (Elt Ideal) ℓ)

/-- The kernel's first result: every sequence's normed output of the step. -/
def resultO (c : Dev nD) : Vec Ideal S32x1x1024 .bf16 := fun i =>
  oAt (fun k => (m ((c.tc : Thread nD τ).loc main_arg0) : Vec Ideal S32x1024 .f32) (ix2 (i 0) k)) (fun k => (m ((c.tc : Thread nD τ).loc main_arg3) : Vec Ideal S32x1024 .f32) (ix2 (i 0) k)) (fun k => (m ((c.tc : Thread nD τ).loc main_arg1) : Vec Ideal S32x1024 .f32) (ix2 (i 0) k)) (fun k => (m ((c.tc : Thread nD τ).loc main_arg2) : Vec Ideal S32x1024 .f32) (ix2 (i 0) k)) (fun h d e => (m ((c.tc : Thread nD τ).loc main_arg4) : Vec Ideal S32x8x128x128 .f32) (ix4 (i 0) h d e)) (fun e => (m ((c.tc : Thread nD τ).loc main_arg5) : Vec Ideal S128 .f32) (ix1 e)) (i 2)

/-- The kernel's second result: every sequence's new state. -/
def resultS (c : Dev nD) : Vec Ideal S32x8x128x128 .f32 := fun i =>
  stAt (fun k => (m ((c.tc : Thread nD τ).loc main_arg3) : Vec Ideal S32x1024 .f32) (ix2 (i 0) k)) (fun k => (m ((c.tc : Thread nD τ).loc main_arg1) : Vec Ideal S32x1024 .f32) (ix2 (i 0) k)) (fun k => (m ((c.tc : Thread nD τ).loc main_arg2) : Vec Ideal S32x1024 .f32) (ix2 (i 0) k)) (fun h d e => (m ((c.tc : Thread nD τ).loc main_arg4) : Vec Ideal S32x8x128x128 .f32) (ix4 (i 0) h d e)) (i 1) (i 2) (i 3)

/-- The windows' block indices at every grid point. -/
theorem idx0 : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0, 0] ∧ win0_5.index t = ![0, 0] ∧ win0_6.index t = ![t.val, 0, 0] ∧ win0_7.index t = ![t.val, 0, 0, 0] :=
  (by decide +kernel : ∀ t : Fin grid0.N, win0_0.index t = ![t.val, 0, 0] ∧ win0_1.index t = ![t.val, 0, 0] ∧ win0_2.index t = ![t.val, 0, 0] ∧ win0_3.index t = ![t.val, 0, 0] ∧ win0_4.index t = ![t.val, 0, 0, 0] ∧ win0_5.index t = ![0, 0] ∧ win0_6.index t = ![t.val, 0, 0] ∧ win0_7.index t = ![t.val, 0, 0, 0])

/-- The block of queries. -/
theorem iblk_0 (c : Dev nD) (t : Fin cfg0.N) (k : Fin 1024) (h : t.val < 32) :
    (iblk m c 0 t : Vec Ideal S1x1x1024 .f32) (ix3 0 0 k) = (m ((c.tc : Thread nD τ).loc main_arg0) : Vec Ideal S32x1024 .f32) (ix2 ⟨t.val, h⟩ k) := by
  blk_ext! [iblk, V, idx0 t]

/-- The block of keys. -/
theorem iblk_1 (c : Dev nD) (t : Fin cfg0.N) (k : Fin 1024) (h : t.val < 32) :
    (iblk m c 1 t : Vec Ideal S1x1x1024 .f32) (ix3 0 0 k) = (m ((c.tc : Thread nD τ).loc main_arg1) : Vec Ideal S32x1024 .f32) (ix2 ⟨t.val, h⟩ k) := by
  blk_ext! [iblk, V, idx0 t]

/-- The block of values. -/
theorem iblk_2 (c : Dev nD) (t : Fin cfg0.N) (k : Fin 1024) (h : t.val < 32) :
    (iblk m c 2 t : Vec Ideal S1x1x1024 .f32) (ix3 0 0 k) = (m ((c.tc : Thread nD τ).loc main_arg2) : Vec Ideal S32x1024 .f32) (ix2 ⟨t.val, h⟩ k) := by
  blk_ext! [iblk, V, idx0 t]

/-- The block of decays. -/
theorem iblk_3 (c : Dev nD) (t : Fin cfg0.N) (k : Fin 1024) (h : t.val < 32) :
    (iblk m c 3 t : Vec Ideal S1x1x1024 .f32) (ix3 0 0 k) = (m ((c.tc : Thread nD τ).loc main_arg3) : Vec Ideal S32x1024 .f32) (ix2 ⟨t.val, h⟩ k) := by
  blk_ext! [iblk, V, idx0 t]

/-- The block of old states. -/
theorem iblk_4 (c : Dev nD) (t : Fin cfg0.N) (g : Fin 8) (d : Fin 128) (e : Fin 128) (h : t.val < 32) :
    (iblk m c 4 t : Vec Ideal S1x8x128x128 .f32) (ix4 0 g d e) = (m ((c.tc : Thread nD τ).loc main_arg4) : Vec Ideal S32x8x128x128 .f32) (ix4 ⟨t.val, h⟩ g d e) := by
  blk_ext [iblk, V_main_arg4, idx0 t]

/-- The norm's gain as a row. -/
theorem iblk_5 (c : Dev nD) (t : Fin cfg0.N) (k : Fin 128) :
    (iblk m c 5 t : Vec Ideal S1x128 .f32) (ix2 0 k) = (m ((c.tc : Thread nD τ).loc main_arg5) : Vec Ideal S128 .f32) (ix1 k) := by
  blk_ext! [iblk, V, idx0 t]

/-- The array of outputs the pipeline leaves. -/
theorem finalO (c : Dev nD) : (dats m 0 c).arrAt 6 cfg0.N = resultO m c := by
  refine (dats m 0 c).arrAt_eq_of_covers 6 _ (by decide +kernel) fun t hf y => ?_
  blk_simp
  rw [after0_6]
  obtain ⟨l, rfl⟩ : ∃ (l : Fin 1024), y = (ix3 0 0 l : (⟨3, ![1, 1, 1024]⟩ : Shape).Idx) :=
    ⟨y 2, (eq_ix3 (n0 := 1) (n1 := 1) (n2 := 1024) y).trans (congrArg₂ (fun a b : Fin 1 => (ix3 a b (y 2) : (⟨3, ![1, 1, 1024]⟩ : Shape).Idx)) (Subsingleton.elim (α := Fin 1) _ _) (Subsingleton.elim (α := Fin 1) _ _))⟩
  have ht : t.val < 32 := t.isLt
  have he : (win0_6.blk t).view.emb (ix3 0 0 l : (⟨3, ![1, 1, 1024]⟩ : Shape).Idx) = (ix3 ⟨t.val, ht⟩ 0 l : (⟨3, ![32, 1, 1024]⟩ : Shape).Idx) := by
    blk_ext [idx0 t]
  rw [he]
  refine (congrFun (out_o _ _ _ _ _ _) _).trans ?_
  have h0 : ∀ k : Fin 1024, (iblk m c 0 t : Vec Ideal S1x1x1024 .f32) (ix3 0 0 k) = _ := fun k => iblk_0 m c t k ht
  have h1 : ∀ k : Fin 1024, (iblk m c 1 t : Vec Ideal S1x1x1024 .f32) (ix3 0 0 k) = _ := fun k => iblk_1 m c t k ht
  have h2 : ∀ k : Fin 1024, (iblk m c 2 t : Vec Ideal S1x1x1024 .f32) (ix3 0 0 k) = _ := fun k => iblk_2 m c t k ht
  have h3 : ∀ k : Fin 1024, (iblk m c 3 t : Vec Ideal S1x1x1024 .f32) (ix3 0 0 k) = _ := fun k => iblk_3 m c t k ht
  have h4 : ∀ (h : Fin 8) (d : Fin 128) (e : Fin 128), (iblk m c 4 t : Vec Ideal S1x8x128x128 .f32) (ix4 0 h d e) = _ := fun h d e => iblk_4 m c t h d e ht
  simp only [oBlk, h0, h1, h2, h3, h4, iblk_5]
  rfl

/-- The array of new states the pipeline leaves. -/
theorem finalS (c : Dev nD) : (dats m 0 c).arrAt 7 cfg0.N = resultS m c := by
  refine (dats m 0 c).arrAt_eq_of_covers 7 _ (by decide +kernel) fun t hf y => ?_
  blk_simp
  rw [after0_7]
  obtain ⟨g, d, e, rfl⟩ : ∃ (g : Fin 8) (d : Fin 128) (e : Fin 128), y = (ix4 0 g d e : (⟨4, ![1, 8, 128, 128]⟩ : Shape).Idx) :=
    ⟨y 1, y 2, y 3, (eq_ix4 (n0 := 1) (n1 := 8) (n2 := 128) (n3 := 128) y).trans (congrArg (fun a : Fin 1 => (ix4 a (y 1) (y 2) (y 3) : (⟨4, ![1, 8, 128, 128]⟩ : Shape).Idx)) (Subsingleton.elim (α := Fin 1) _ _))⟩
  have ht : t.val < 32 := t.isLt
  have he : (win0_7.blk t).view.emb (ix4 0 g d e : (⟨4, ![1, 8, 128, 128]⟩ : Shape).Idx) = (ix4 ⟨t.val, ht⟩ g d e : (⟨4, ![32, 8, 128, 128]⟩ : Shape).Idx) := by
    blk_ext [idx0 t]
  rw [he]
  refine (congrFun (out_st _ _ _ _ _ _) _).trans ?_
  have h0 : ∀ k : Fin 1024, (iblk m c 0 t : Vec Ideal S1x1x1024 .f32) (ix3 0 0 k) = _ := fun k => iblk_0 m c t k ht
  have h1 : ∀ k : Fin 1024, (iblk m c 1 t : Vec Ideal S1x1x1024 .f32) (ix3 0 0 k) = _ := fun k => iblk_1 m c t k ht
  have h2 : ∀ k : Fin 1024, (iblk m c 2 t : Vec Ideal S1x1x1024 .f32) (ix3 0 0 k) = _ := fun k => iblk_2 m c t k ht
  have h3 : ∀ k : Fin 1024, (iblk m c 3 t : Vec Ideal S1x1x1024 .f32) (ix3 0 0 k) = _ := fun k => iblk_3 m c t k ht
  have h4 : ∀ (h : Fin 8) (d : Fin 128) (e : Fin 128), (iblk m c 4 t : Vec Ideal S1x8x128x128 .f32) (ix4 0 h d e) = _ := fun h d e => iblk_4 m c t h d e ht
  simp only [stBlk, h1, h2, h3, h4]
  rfl

end Cert.HgIdeal.Block

end
-- ==== Proof.HgRef.lean ====
module

public import proofs.«01_k».proof.Proof.Gen.HgRefIdeal.Run
public import proofs.«01_k».proof.Proof.HgMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.HgRefIdeal.Row

open Cert.HgRefIdeal Cert.HgRefIdeal.Gen Cert.HgMath

/-- The reference's new state. -/
def stT (k lf : FVec Ideal S32x1024 .f32) (v : FVec Ideal S32x1024 .f32) (s : FVec Ideal S32x8x128x128 .f32) : FVec Ideal S32x8x128x128 .f32 :=
  addf (mulf (broadcastInDim S32x8x128x128 ![0, 1, 2, 3] bcast_S32x8x128x1_S32x8x128x128_0_1_2_3 (broadcastInDim S32x8x128x1 ![0, 1, 2] bcast_S32x8x128_S32x8x128x1_0_1_2 (Host.exp (shapeCast S32x8x128 lf shapeCasts_S32x1024_S32x8x128)))) s)
    (mulf (broadcastInDim S32x8x128x128 ![0, 1, 2, 3] bcast_S32x8x128x1_S32x8x128x128_0_1_2_3 (broadcastInDim S32x8x128x1 ![0, 1, 2] bcast_S32x8x128_S32x8x128x1_0_1_2 (shapeCast S32x8x128 k shapeCasts_S32x1024_S32x8x128)))
      (broadcastInDim S32x8x128x128 ![0, 1, 2, 3] bcast_S32x8x1x128_S32x8x128x128_0_1_2_3 (broadcastInDim S32x8x1x128 ![0, 1, 3] bcast_S32x8x128_S32x8x1x128_0_1_3 (shapeCast S32x8x128 v shapeCasts_S32x1024_S32x8x128))))

/-- The reference's product of the query and the new state. -/
def rawT (q : FVec Ideal S32x1024 .f32) (s : FVec Ideal S32x8x128x128 .f32) : FVec Ideal S32x8x128 .f32 :=
  Host.dotGeneral dot_S32x8x128_S32x8x128x128_S32x8x128_2_2_n_3_01_01 none (shapeCast S32x8x128 q shapeCasts_S32x1024_S32x8x128) s

/-- The reference's norm of every head's output, the heads laid side by side. -/
def outT (o : FVec Ideal S32x8x128 .f32) (g : FVec Ideal S128 .f32) : FVec Ideal S32x1x1024 .bf16 :=
  truncf .bf16 (shapeCast S32x1x1024 (mulf (mulf o (broadcastInDim S32x8x128 ![0, 1, 2] bcast_S32x8x1_S32x8x128_0_1_2 (Host.rsqrt (addf (Host.divf (broadcastInDim S32x8x1 ![0, 1] bcast_S32x8_S32x8x1_0_1 (Host.reduceAdd (mulf o o) (constant S_ .f32 0x00000000#32) reducesTo_S32x8x128_S32x8_d2 h_S_)) (broadcastInDim S32x8x1 ![] bcast_S_S32x8x1 (constant S_ .f32 0x43000000#32))) (broadcastInDim S32x8x1 ![] bcast_S_S32x8x1 (constant S_ .f32 0x358637BD#32))))))
    (broadcastInDim S32x8x128 ![0, 1, 2] bcast_S1x1x128_S32x8x128_0_1_2 (broadcastInDim S1x1x128 ![2] bcast_S128_S1x1x128_2 g))) shapeCasts_S32x8x128_S32x1x1024) bitsLt_bf16_f32

/-- The new state at an index. -/
theorem stT_apply (k lf : FVec Ideal S32x1024 .f32) (v : FVec Ideal S32x1024 .f32) (s : FVec Ideal S32x8x128x128 .f32) (b : Fin 32) (h : Fin 8) (d : Fin 128) (e : Fin 128) :
    stT k lf v s (ix4 b h d e) = stAt (fun i => lf (ix2 b i)) (fun i => k (ix2 b i)) (fun i => v (ix2 b i)) (fun h d e => s (ix4 b h d e)) h d e := by
  pointwise [stT, stAt, step]

/-- The query's product with the state at an index. -/
theorem rawT_apply (q : FVec Ideal S32x1024 .f32) (s : FVec Ideal S32x8x128x128 .f32) (b : Fin 32) (h : Fin 8) (e : Fin 128) :
    rawT q s (ix3 b h e) = ∑ d : Fin 128, q (ix2 b ⟨h.val * 128 + d.val, by omega⟩) * s (ix4 b h d e) := by
  pointwise [rawT]

/-- The normed output at an index. -/
theorem outT_apply (o : FVec Ideal S32x8x128 .f32) (g : FVec Ideal S128 .f32) (b : Fin 32) (l : Fin 1024) :
    outT o g (ix3 b 0 l) = normOut (fun e => o (ix3 b ⟨l.val / 128, by omega⟩ e)) (fun e => g (ix1 e)) ⟨l.val % 128, by omega⟩ := by
  pointwise [outT, normOut]

/-- The reference's first result at an index. -/
theorem res_apply (q k lf : FVec Ideal S32x1024 .f32) (v : FVec Ideal S32x1024 .f32) (s : FVec Ideal S32x8x128x128 .f32) (g : FVec Ideal S128 .f32) (b : Fin 32) (l : Fin 1024) :
    outT (rawT q (stT k lf v s)) g (ix3 b 0 l) = oAt (fun i => q (ix2 b i)) (fun i => lf (ix2 b i)) (fun i => k (ix2 b i)) (fun i => v (ix2 b i)) (fun h d e => s (ix4 b h d e)) (fun e => g (ix1 e)) l := by
  refine (outT_apply _ _ b l).trans ?_
  simp only [rawT_apply, stT_apply]
  rfl

end Cert.HgRefIdeal.Row

end
-- ==== Proof.HgClaims.lean ====
module

public import proofs.«01_k».proof.Proof.HgValue
public import proofs.«01_k».proof.Proof.HgRef
public import proofs.«01_k».proof.Proof.Gen.Hg.Frame
public import Idealize.ShloMosaic.Lib.Quiescent
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Proof.HgClaims

/-- The kernel runs, keeps its arguments and leaves every semaphore at zero. -/
theorem frame_k : Cert.quiescent_Hg := fun m ρ _ => Cert.Hg.Gen.frame m ρ

/-- The same of the kernel at the extended reals. -/
theorem frame_ki : Cert.quiescent_HgIdeal := fun m ρ _ => Cert.HgIdeal.Gen.frame m ρ

/-- The reference at the extended reals runs and keeps its arguments; it has no semaphore. -/
theorem frame_ri : Cert.quiescent_HgRefIdeal := fun m ρ _ =>
  (θ_run Cert.HgRefIdeal.defs _ _).mono (fun r h => ⟨fun c => (h c).2.2, sem_eq_zero_of_no_sems (by decide) r.2⟩)
    (Cert.HgRefIdeal.Value.run (F := Ideal) m ρ)

/-- The kernel and the reference leave the same two arrays: the normed outputs and the new states. -/
theorem algebraic : Cert.algebraic_HgIdeal_HgRefIdeal := by
  intro m ρ m' ρ' _ hagree
  refine ⟨Cert.HgIdeal.Block.resultO m, Cert.HgIdeal.Block.resultS m,
    (θ_run Cert.HgIdeal.defs _ _).mono (fun _ h c => ?_) (Cert.HgIdeal.Value.run_blocks (F := Ideal) m ρ),
    (θ_run Cert.HgRefIdeal.defs _ _).mono (fun _ h c => ?_) (Cert.HgRefIdeal.Value.run (F := Ideal) m' ρ')⟩
  · obtain ⟨h0, h1, ha⟩ := h c
    exact ⟨h0.trans (Cert.HgIdeal.Block.finalO m c), h1.trans (Cert.HgIdeal.Block.finalS m c), ha⟩
  · obtain ⟨h0, h1, ha⟩ := h c
    obtain ⟨e0, e1, e2, e3, e4, e5⟩ := hagree c
    refine ⟨h0.trans ?_, h1.trans ?_, ha⟩
    · funext i
      obtain ⟨b, l, rfl⟩ : ∃ (b : Fin 32) (l : Fin 1024), i = (ix3 b 0 l : (⟨3, ![32, 1, 1024]⟩ : Shape).Idx) :=
        ⟨i 0, i 2, (eq_ix3 (n0 := 32) (n1 := 1) (n2 := 1024) i).trans (congrArg (fun a : Fin 1 => (ix3 (i 0) a (i 2) : (⟨3, ![32, 1, 1024]⟩ : Shape).Idx)) (Subsingleton.elim (α := Fin 1) _ _))⟩
      refine (Cert.HgRefIdeal.Row.res_apply _ _ _ _ _ _ b l).trans ?_
      simp only [Cert.HgIdeal.Block.resultO, ix3_0, ix3_2, e0, e1, e2, e3, e4, e5]
    · funext i
      obtain ⟨b, g, d, e, rfl⟩ : ∃ (b : Fin 32) (g : Fin 8) (d : Fin 128) (e : Fin 128), i = (ix4 b g d e : (⟨4, ![32, 8, 128, 128]⟩ : Shape).Idx) :=
        ⟨i 0, i 1, i 2, i 3, eq_ix4 (n0 := 32) (n1 := 8) (n2 := 128) (n3 := 128) i⟩
      refine (Cert.HgRefIdeal.Row.stT_apply _ _ _ _ b g d e).trans ?_
      simp only [Cert.HgIdeal.Block.resultS, ix4_0, ix4_1, ix4_2, ix4_3, e1, e2, e3, e4]

end Cert.Proof.HgClaims

end
-- ==== Proof.GlaMath.lean ====
module

public import proofs.«01_k».proof.Proof.FfnMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GlaMath

/-- One entry of the state after the step: the old entry times the decay, plus the product of key and value. -/
def step (lf s k v : EReal) : EReal := Ideal.exp lf * s + k * v

/-- The state of head `h` after the step, at its row `d` and column `e`, from one sequence's rows. -/
def stAt (lf k : Fin 512 → EReal) (v : Fin 1024 → EReal) (s : Fin 4 → Fin 128 → Fin 256 → EReal) (h : Fin 4) (d : Fin 128) (e : Fin 256) : EReal :=
  step (lf ⟨h.val * 128 + d.val, by omega⟩) (s h d e) (k ⟨h.val * 128 + d.val, by omega⟩) (v ⟨h.val * 256 + e.val, by omega⟩)

/-- The root-mean-square norm of a row of 256 entries, with its gain. -/
def normOut (o g : Fin 256 → EReal) (e : Fin 256) : EReal :=
  o e * Ideal.rsqrt (Ideal.div (∑ k, o k * o k) (Ideal.ofBits .f32 0x43800000#32) + Ideal.ofBits .f32 0x358637BD#32) * g e

/-- The output of a head before its norm: the query's product with the head's new state. -/
def rawAt (q lf k : Fin 512 → EReal) (v : Fin 1024 → EReal) (s : Fin 4 → Fin 128 → Fin 256 → EReal) (h : Fin 4) (e : Fin 256) : EReal :=
  ∑ d : Fin 128, q ⟨h.val * 128 + d.val, by omega⟩ * stAt lf k v s h d e

/-- The normed output of the step, at a lane of the heads laid side by side. -/
def oAt (q lf k : Fin 512 → EReal) (v : Fin 1024 → EReal) (s : Fin 4 → Fin 128 → Fin 256 → EReal) (g : Fin 256 → EReal) (l : Fin 1024) : EReal :=
  normOut (rawAt q lf k v s ⟨l.val / 256, by omega⟩) g ⟨l.val % 256, by omega⟩

end Cert.GlaMath

end
-- ==== Proof.GlaBlock.lean ====
module

public import proofs.«01_k».proof.Proof.Gen.GlaIdeal.Value
public import proofs.«01_k».proof.Proof.GlaMath
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GlaIdeal.Block

open Cert.GlaIdeal Cert.GlaIdeal.Gen Cert.GlaMath

/-- The kernel's turning of a row into a column: the diagonal of the row repeated down, summed along the lanes. -/
def col (v : FVec Ideal S1x128 .f32) : FVec Ideal S128x1 .f32 :=
  shapeCast S128x1 (multiReduction .add [1] S128 (select k0_pay2 (broadcastTo S128x128 v broadcasts_S1x128_S128x128) (broadcast S128x128 (Scalar.ofBits .f32 0x00000000#32))) 0x00000000#32 reduces_S128x128_S128 (.inl rfl) rfl) shapeCasts_S128_S128x1

/-- One head's new state in the kernel. -/
def stHead (lf : Vec Ideal S1x1x128 .f32) (s : Vec Ideal S1x1x128x256 .f32) (k : Vec Ideal S1x1x128 .f32) (v : Vec Ideal S1x1x256 .f32) : FVec Ideal S128x256 .f32 :=
  addf (mulf (broadcastTo S128x256 (col (exp (shapeCast S1x128 lf shapeCasts_S1x1x128_S1x128))) broadcasts_S128x1_S128x256) (shapeCast S128x256 s shapeCasts_S1x1x128x256_S128x256))
    (mulf (broadcastTo S128x256 (col (shapeCast S1x128 k shapeCasts_S1x1x128_S1x128)) broadcasts_S128x1_S128x256) (broadcastTo S128x256 (shapeCast S1x256 v shapeCasts_S1x1x256_S1x256) broadcasts_S1x256_S128x256))

/-- One head's product of the query and the new state in the kernel. -/
def oRow (st : FVec Ideal S128x256 .f32) (q : Vec Ideal S1x1x128 .f32) : FVec Ideal S1x256 .f32 :=
  shapeCast S1x256 (multiReduction .add [0] S256 (mulf (broadcastTo S128x256 (col (shapeCast S1x128 q shapeCasts_S1x1x128_S1x128)) broadcasts_S128x1_S128x256) st) 0x00000000#32 reduces_S128x256_S256 (.inl rfl) rfl) shapeCasts_S256_S1x256

/-- One head's normed output in the kernel. -/
def normRow (o g : FVec Ideal S1x256 .f32) : FVec Ideal S1x1x256 .bf16 :=
  shapeCast S1x1x256 (truncf .bf16 (mulf (mulf o (broadcastTo S1x256 (rsqrt (addf (divf (shapeCast S1x1 (multiReduction .add [1] S1 (mulf o o) 0x00000000#32 reduces_S1x256_S1 (.inl rfl) rfl) shapeCasts_S1_S1x1) (broadcast S1x1 (Scalar.ofBits .f32 0x43800000#32))) (broadcast S1x1 (Scalar.ofBits .f32 0x358637BD#32)))) broadcasts_S1x1_S1x256)) g) bitsLt_bf16_f32) shapeCasts_S1x256_S1x1x256

/-- The choice by the equality of two lanes' numbers is the choice by the equality of the lanes. -/
theorem select_lane (d x : Fin 128) (a b : EReal) : Scalar.select (IntOp.cmpi .eq (BitVec.ofNat 32 d.val) (BitVec.ofNat 32 x.val)) a b = if d = x then a else b := by
  have h : (BitVec.ofNat 32 d.val = BitVec.ofNat 32 x.val) ↔ d = x := by
    constructor
    · intro e
      have e' := congrArg BitVec.toNat e
      simp only [BitVec.toNat_ofNat] at e'
      exact Fin.ext (by omega)
    · rintro rfl
      rfl
  rw [Idealize.ShloMosaic.WordCmp.cmpi_eq_eq, Scalar.select]
  by_cases e : d = x
  · simp [e]
  · simp [e, h]

/-- The column holds the row's entries. -/
theorem col_apply (v : FVec Ideal S1x128 .f32) (d : Fin 128) : col v (ix2 d 0) = v (ix2 0 d) := by
  pointwise [col, k0_pay2]
  simp only [select_lane, Finset.sum_ite_eq, Finset.mem_univ, if_true]

/-- A head's new state at an index. -/
theorem stHead_apply (lf : Vec Ideal S1x1x128 .f32) (s : Vec Ideal S1x1x128x256 .f32) (k : Vec Ideal S1x1x128 .f32) (v : Vec Ideal S1x1x256 .f32) (d : Fin 128) (e : Fin 256) :
    stHead lf s k v (ix2 d e) = step (lf (ix3 0 0 d)) (s (ix4 0 0 d e)) (k (ix3 0 0 d)) (v (ix3 0 0 e)) := by
  pointwise [stHead, step, col_apply]

/-- A head's product with its query at an index. -/
theorem oRow_apply (st : FVec Ideal S128x256 .f32) (q : Vec Ideal S1x1x128 .f32) (e : Fin 256) :
    oRow st q (ix2 0 e) = ∑ d : Fin 128, q (ix3 0 0 d) * st (ix2 d e) := by
  pointwise [oRow, col_apply]

/-- A head's normed output at an index. -/
theorem normRow_apply (o g : FVec Ideal S1x256 .f32) (e : Fin 256) :
    normRow o g (ix3 0 0 e) = normOut (fun e => o (ix2 0 e)) (fun e => g (ix2 0 e)) e := by
  pointwise [normRow, normOut]

/-- The kernel's block of new states, from its blocks of keys, values, decays and old states. -/
def stBlk (x1 : Vec Ideal S1x1x512 .f32) (x2 : Vec Ideal S1x1x1024 .f32) (x3 : Vec Ideal S1x1x512 .f32) (x4 : Vec Ideal S1x4x128x256 .f32) : Vec Ideal S1x4x128x256 .f32 := fun j =>
  stAt (fun k => x3 (ix3 0 0 k)) (fun k => x1 (ix3 0 0 k)) (fun k => x2 (ix3 0 0 k)) (fun h d e => x4 (ix4 0 h d e)) (j 1) (j 2) (j 3)

/-- The kernel's block of normed outputs. -/
def oBlk (x0 x1 : Vec Ideal S1x1x512 .f32) (x2 : Vec Ideal S1x1x1024 .f32) (x3 : Vec Ideal S1x1x512 .f32) (x4 : Vec Ideal S1x4x128x256 .f32) (x5 : Vec Ideal S1x256 .f32) : Vec Ideal S1x1x1024 .bf16 := fun j =>
  oAt (fun k => x0 (ix3 0 0 k)) (fun k => x3 (ix3 0 0 k)) (fun k => x1 (ix3 0 0 k)) (fun k => x2 (ix3 0 0 k)) (fun h d e => x4 (ix4 0 h d e)) (fun e => x5 (ix2 0 e)) (j 2)

/-- Head `h` of the kernel's loads makes the new state of head `h`. -/
theorem head_apply (x1 : Vec Ideal S1x1x512 .f32) (x2 : Vec Ideal S1x1x1024 .f32) (x3 : Vec Ideal S1x1x512 .f32) (x4 : Vec Ideal S1x4x128x256 .f32) (h : ℕ) (hh : h < 4)
    (ha : ∀ a, (![0, 0, h * 128] : Fin 3 → ℕ) a + (![1, 1, 128] : Fin 3 → ℕ) a ≤ S1x1x512.size a)
    (hv : ∀ a, (![0, 0, h * 256] : Fin 3 → ℕ) a + (![1, 1, 256] : Fin 3 → ℕ) a ≤ S1x1x1024.size a)
    (hs : ∀ a, (![0, h, 0, 0] : Fin 4 → ℕ) a + (![1, 1, 128, 256] : Fin 4 → ℕ) a ≤ S1x4x128x256.size a) (d : Fin 128) (e : Fin 256) :
    stHead (View.ld x3 (Rect.unit (s := S1x1x512) ![0, 0, h * 128] ![1, 1, 128] ha)) (View.ld x4 (Rect.unit (s := S1x4x128x256) ![0, h, 0, 0] ![1, 1, 128, 256] hs))
        (View.ld x1 (Rect.unit (s := S1x1x512) ![0, 0, h * 128] ![1, 1, 128] ha)) (View.ld x2 (Rect.unit (s := S1x1x1024) ![0, 0, h * 256] ![1, 1, 256] hv)) (ix2 d e)
      = stAt (fun k => x3 (ix3 0 0 k)) (fun k => x1 (ix3 0 0 k)) (fun k => x2 (ix3 0 0 k)) (fun h d e => x4 (ix4 0 h d e)) ⟨h, hh⟩ d e := by
  refine (stHead_apply _ _ _ _ d e).trans ?_
  pointwise [stAt]

/-- The stored state of head `h` is the block's at that head. -/
theorem st_block (x1 : Vec Ideal S1x1x512 .f32) (x2 : Vec Ideal S1x1x1024 .f32) (x3 : Vec Ideal S1x1x512 .f32) (x4 : Vec Ideal S1x4x128x256 .f32) (h o o2 : ℕ) (ho : o = h * 128) (ho2 : o2 = h * 256)
    (ha : ∀ a, (![0, 0, o] : Fin 3 → ℕ) a + (![1, 1, 128] : Fin 3 → ℕ) a ≤ S1x1x512.size a)
    (hv : ∀ a, (![0, 0, o2] : Fin 3 → ℕ) a + (![1, 1, 256] : Fin 3 → ℕ) a ≤ S1x1x1024.size a)
    (hs : ∀ a, (![0, h, 0, 0] : Fin 4 → ℕ) a + (![1, 1, 128, 256] : Fin 4 → ℕ) a ≤ S1x4x128x256.size a)
    (j : (Rect.unit (s := S1x4x128x256) ![0, h, 0, 0] ![1, 1, 128, 256] hs).shape.Idx) :
    (shapeCast S1x1x128x256 (stHead (View.ld x3 (Rect.unit (s := S1x1x512) ![0, 0, o] ![1, 1, 128] ha)) (View.ld x4 (Rect.unit (s := S1x4x128x256) ![0, h, 0, 0] ![1, 1, 128, 256] hs))
        (View.ld x1 (Rect.unit (s := S1x1x512) ![0, 0, o] ![1, 1, 128] ha)) (View.ld x2 (Rect.unit (s := S1x1x1024) ![0, 0, o2] ![1, 1, 256] hv))) shapeCasts_S128x256_S1x1x128x256 : FVec Ideal S1x1x128x256 .f32) j
      = stBlk x1 x2 x3 x4 ((Rect.unit (s := S1x4x128x256) ![0, h, 0, 0] ![1, 1, 128, 256] hs).emb j) := by
  subst ho ho2
  have hh : h < 4 := hs 1
  obtain ⟨d, e, rfl⟩ : ∃ (d : Fin 128) (e : Fin 256), j = (ix4 0 0 d e : (⟨4, ![1, 1, 128, 256]⟩ : Shape).Idx) :=
    ⟨j 2, j 3, (eq_ix4 (n0 := 1) (n1 := 1) (n2 := 128) (n3 := 256) j).trans (congrArg₂ (fun a b : Fin 1 => (ix4 a b (j 2) (j 3) : (⟨4, ![1, 1, 128, 256]⟩ : Shape).Idx)) (Subsingleton.elim (α := Fin 1) _ _) (Subsingleton.elim (α := Fin 1) _ _))⟩
  have he : (Rect.unit (s := S1x4x128x256) ![0, h, 0, 0] ![1, 1, 128, 256] hs).emb (ix4 0 0 d e : (⟨4, ![1, 1, 128, 256]⟩ : Shape).Idx)
      = (ix4 0 ⟨h, hh⟩ d e : (⟨4, ![1, 4, 128, 256]⟩ : Shape).Idx) := by
    funext a
    apply Fin.ext
    fin_cases a <;> simp [Rect.emb, Rect.unit, ix4]
  rw [he]
  refine Eq.trans ?_ (head_apply x1 x2 x3 x4 h hh ha hv hs d e)
  pointwise

/-- The stored output of head `h` is the block's at that head's lanes. -/
theorem o_block (x0 x1 : Vec Ideal S1x1x512 .f32) (x2 : Vec Ideal S1x1x1024 .f32) (x3 : Vec Ideal S1x1x512 .f32) (x4 : Vec Ideal S1x4x128x256 .f32) (x5 : Vec Ideal S1x256 .f32) (h o o2 : ℕ) (ho : o = h * 128) (ho2 : o2 = h * 256)
    (ha : ∀ a, (![0, 0, o] : Fin 3 → ℕ) a + (![1, 1, 128] : Fin 3 → ℕ) a ≤ S1x1x512.size a)
    (hv : ∀ a, (![0, 0, o2] : Fin 3 → ℕ) a + (![1, 1, 256] : Fin 3 → ℕ) a ≤ S1x1x1024.size a)
    (hs : ∀ a, (![0, h, 0, 0] : Fin 4 → ℕ) a + (![1, 1, 128, 256] : Fin 4 → ℕ) a ≤ S1x4x128x256.size a)
    (j : (Rect.unit (s := S1x1x1024) ![0, 0, o2] ![1, 1, 256] hv).shape.Idx) :
    normRow (oRow (stHead (View.ld x3 (Rect.unit (s := S1x1x512) ![0, 0, o] ![1, 1, 128] ha)) (View.ld x4 (Rect.unit (s := S1x4x128x256) ![0, h, 0, 0] ![1, 1, 128, 256] hs))
        (View.ld x1 (Rect.unit (s := S1x1x512) ![0, 0, o] ![1, 1, 128] ha)) (View.ld x2 (Rect.unit (s := S1x1x1024) ![0, 0, o2] ![1, 1, 256] hv)))
        (View.ld x0 (Rect.unit (s := S1x1x512) ![0, 0, o] ![1, 1, 128] ha))) x5 j
      = oBlk x0 x1 x2 x3 x4 x5 ((Rect.unit (s := S1x1x1024) ![0, 0, o2] ![1, 1, 256] hv).emb j) := by
  subst ho ho2
  have hh : h < 4 := hs 1
  obtain ⟨e, rfl⟩ : ∃ (e : Fin 256), j = (ix3 0 0 e : (⟨3, ![1, 1, 256]⟩ : Shape).Idx) :=
    ⟨j 2, (eq_ix3 (n0 := 1) (n1 := 1) (n2 := 256) j).trans (congrArg₂ (fun a b : Fin 1 => (ix3 a b (j 2) : (⟨3, ![1, 1, 256]⟩ : Shape).Idx)) (Subsingleton.elim (α := Fin 1) _ _) (Subsingleton.elim (α := Fin 1) _ _))⟩
  have he : (Rect.unit (s := S1x1x1024) ![0, 0, h * 256] ![1, 1, 256] hv).emb (ix3 0 0 e : (⟨3, ![1, 1, 256]⟩ : Shape).Idx)
      = (ix3 0 0 ⟨h * 256 + e.val, by omega⟩ : (⟨3, ![1, 1, 1024]⟩ : Shape).Idx) := by
    funext a
    apply Fin.ext
    fin_cases a <;> simp [Rect.emb, Rect.unit, ix3]
  rw [he]
  refine (normRow_apply _ _ e).trans ?_
  have h1 : (h * 256 + e.val) / 256 = h := by omega
  have h2 : (h * 256 + e.val) % 256 = e.val := by omega
  have h3 : ∀ d : Fin 128, View.ld x0 (Rect.unit (s := S1x1x512) ![0, 0, h * 128] ![1, 1, 128] ha) (ix3 0 0 d) = x0 (ix3 0 0 ⟨h * 128 + d.val, by omega⟩) := fun d => by pointwise
  simp only [oRow_apply, head_apply x1 x2 x3 x4 h hh ha hv hs, h3]
  simp only [oBlk, oAt, ix3_2, h1, h2]
  rfl

/-- A whole load of the gain's block. -/
theorem ld_g (x : Vec Ideal S1x256 .f32) : View.ld x r0_0 = x := View.ld_unit_zero (funext fun a => by fin_cases a <;> rfl) _ x

/-- The block of new states. -/
theorem out_st (x0 x1 : Vec Ideal S1x1x512 .f32) (x2 : Vec Ideal S1x1x1024 .f32) (x3 : Vec Ideal S1x1x512 .f32) (x4 : Vec Ideal S1x4x128x256 .f32) (x5 : Vec Ideal S1x256 .f32) :
    out0_7 x0 x1 x2 x3 x4 x5 = stBlk x1 x2 x3 x4 := by
  unfold_out out0_7
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, shapeCast_self]
  funext y
  refine View.canon_append_of_piecesOf (stBlk x1 x2 x3 x4) [] [_, _, _, _] ⟨?_, ?_, ?_, ?_, trivial⟩ y
    (View.cover_of_tiledL _ ![1, 1, 128, 256] (by sl_kernel_rfl) y)
  all_goals
    dsimp only
    intro x
    refine st_block x1 x2 x3 x4 _ _ _ ?_ ?_ _ _ _ x <;> rfl

/-- The block of normed outputs. -/
theorem out_o (x0 x1 : Vec Ideal S1x1x512 .f32) (x2 : Vec Ideal S1x1x1024 .f32) (x3 : Vec Ideal S1x1x512 .f32) (x4 : Vec Ideal S1x4x128x256 .f32) (x5 : Vec Ideal S1x256 .f32) :
    out0_6 x0 x1 x2 x3 x4 x5 = oBlk x0 x1 x2 x3 x4 x5 := by
  unfold_out out0_6
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, shapeCast_self]
  simp only [ld_g]
  funext y
  refine View.canon_append_of_piecesOf (oBlk x0 x1 x2 x3 x4 x5) [] [_, _, _, _] ⟨?_, ?_, ?_, ?_, trivial⟩ y
    (View.cover_of_tiledL _ ![1, 1, 256] (by sl_kernel_rfl) y)
  all_goals
    dsimp only
    intro x
    refine o_block x0 x1 x2 x3 x4 x5 _ _ _ ?_ ?_ ?_ ?_ ?_ x <;> first | rfl | assumption

end Cert.GlaIdeal.Block

end
-- ==== Proof.GlaValue.lean ====
module

public import proofs.«01_k».proof.Proof.GlaBlock
public import proofs.«01_k».proof.Defs
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GlaIdeal.Block

open Cert.GlaIdeal Cert.GlaIdeal.Gen Cert.GlaMath

variable (m : (ℓ : Loc nD τ sig) → Buf (Elt Ideal) ℓ)

/-- The kernel's first result: every sequence's normed output of the step. -/
def resultO (c : Dev nD) : Vec Ideal S32x1x1024 .bf16 := fun i =>
  oAt (fun k => (m ((c.tc : Thread nD τ).loc main_arg0) : Vec Ideal S32x512 .f32) (ix2 (i 0) k)) (fun k => (m ((c.tc : Thread nD τ).loc main_arg3) : Vec Ideal S32x512 .f32) (ix2 (i 0) k)) (fun k => (m ((c.tc : Thread nD τ).loc main_arg1) : Vec Ideal S32x512 .f32) (ix2 (i 0) k)) (fun k => (m ((c.tc : Thread nD τ).loc main_arg2) : Vec Ideal S32x1024 .f32) (ix2 (i 0) k)) (fun h d e => (m ((c.tc : Thread nD τ).loc main_arg4) : Vec Ideal S32x4x128x256 .f32) (ix4 (i 0) h d e)) (fun e => (m ((c.tc : Thread nD τ).loc main_arg5) : Vec Ideal S256 .f32) (ix1 e)) (i 2)

/-- The kernel's second result: every sequence's new state. -/
def resultS (c : Dev nD) : Vec Ideal S32x4x128x256 .f32 := fun i =>
  stAt (fun k => (m ((c.tc : Thread nD τ).loc main_arg3) : Vec Ideal S32x512 .f32) (ix2 (i 0) k)) (fun k => (m ((c.tc : Thread nD τ).loc main_arg1) : Vec Ideal S32x512 .f32) (ix2 (i 0) k)) (fun k => (m ((c.tc : Thread nD τ).loc main_arg2) : Vec Ideal S32x1024 .f32) (ix2 (i 0) k)) (fun h d e => (m ((c.tc : Thread nD τ).loc main_arg4) : Vec Ideal S32x4x128x256 .f32) (ix4 (i 0) h d e)) (i 1) (i 2) (i 3)

/-- The windows' block indices at every grid point. -/
theorem idx0 : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0, 0] ∧ win0_5.index t = ![0, 0] ∧ win0_6.index t = ![t.val, 0, 0] ∧ win0_7.index t = ![t.val, 0, 0, 0] :=
  (by decide +kernel : ∀ t : Fin grid0.N, win0_0.index t = ![t.val, 0, 0] ∧ win0_1.index t = ![t.val, 0, 0] ∧ win0_2.index t = ![t.val, 0, 0] ∧ win0_3.index t = ![t.val, 0, 0] ∧ win0_4.index t = ![t.val, 0, 0, 0] ∧ win0_5.index t = ![0, 0] ∧ win0_6.index t = ![t.val, 0, 0] ∧ win0_7.index t = ![t.val, 0, 0, 0])

/-- The block of queries. -/
theorem iblk_0 (c : Dev nD) (t : Fin cfg0.N) (k : Fin 512) (h : t.val < 32) :
    (iblk m c 0 t : Vec Ideal S1x1x512 .f32) (ix3 0 0 k) = (m ((c.tc : Thread nD τ).loc main_arg0) : Vec Ideal S32x512 .f32) (ix2 ⟨t.val, h⟩ k) := by
  blk_ext! [iblk, V, idx0 t]

/-- The block of keys. -/
theorem iblk_1 (c : Dev nD) (t : Fin cfg0.N) (k : Fin 512) (h : t.val < 32) :
    (iblk m c 1 t : Vec Ideal S1x1x512 .f32) (ix3 0 0 k) = (m ((c.tc : Thread nD τ).loc main_arg1) : Vec Ideal S32x512 .f32) (ix2 ⟨t.val, h⟩ k) := by
  blk_ext! [iblk, V, idx0 t]

/-- The block of values. -/
theorem iblk_2 (c : Dev nD) (t : Fin cfg0.N) (k : Fin 1024) (h : t.val < 32) :
    (iblk m c 2 t : Vec Ideal S1x1x1024 .f32) (ix3 0 0 k) = (m ((c.tc : Thread nD τ).loc main_arg2) : Vec Ideal S32x1024 .f32) (ix2 ⟨t.val, h⟩ k) := by
  blk_ext! [iblk, V, idx0 t]

/-- The block of decays. -/
theorem iblk_3 (c : Dev nD) (t : Fin cfg0.N) (k : Fin 512) (h : t.val < 32) :
    (iblk m c 3 t : Vec Ideal S1x1x512 .f32) (ix3 0 0 k) = (m ((c.tc : Thread nD τ).loc main_arg3) : Vec Ideal S32x512 .f32) (ix2 ⟨t.val, h⟩ k) := by
  blk_ext! [iblk, V, idx0 t]

/-- The block of old states. -/
theorem iblk_4 (c : Dev nD) (t : Fin cfg0.N) (g : Fin 4) (d : Fin 128) (e : Fin 256) (h : t.val < 32) :
    (iblk m c 4 t : Vec Ideal S1x4x128x256 .f32) (ix4 0 g d e) = (m ((c.tc : Thread nD τ).loc main_arg4) : Vec Ideal S32x4x128x256 .f32) (ix4 ⟨t.val, h⟩ g d e) := by
  blk_ext [iblk, V_main_arg4, idx0 t]

/-- The norm's gain as a row. -/
theorem iblk_5 (c : Dev nD) (t : Fin cfg0.N) (k : Fin 256) :
    (iblk m c 5 t : Vec Ideal S1x256 .f32) (ix2 0 k) = (m ((c.tc : Thread nD τ).loc main_arg5) : Vec Ideal S256 .f32) (ix1 k) := by
  blk_ext! [iblk, V, idx0 t]

/-- The array of outputs the pipeline leaves. -/
theorem finalO (c : Dev nD) : (dats m 0 c).arrAt 6 cfg0.N = resultO m c := by
  refine (dats m 0 c).arrAt_eq_of_covers 6 _ (by decide +kernel) fun t hf y => ?_
  blk_simp
  rw [after0_6]
  obtain ⟨l, rfl⟩ : ∃ (l : Fin 1024), y = (ix3 0 0 l : (⟨3, ![1, 1, 1024]⟩ : Shape).Idx) :=
    ⟨y 2, (eq_ix3 (n0 := 1) (n1 := 1) (n2 := 1024) y).trans (congrArg₂ (fun a b : Fin 1 => (ix3 a b (y 2) : (⟨3, ![1, 1, 1024]⟩ : Shape).Idx)) (Subsingleton.elim (α := Fin 1) _ _) (Subsingleton.elim (α := Fin 1) _ _))⟩
  have ht : t.val < 32 := t.isLt
  have he : (win0_6.blk t).view.emb (ix3 0 0 l : (⟨3, ![1, 1, 1024]⟩ : Shape).Idx) = (ix3 ⟨t.val, ht⟩ 0 l : (⟨3, ![32, 1, 1024]⟩ : Shape).Idx) := by
    blk_ext [idx0 t]
  rw [he]
  refine (congrFun (out_o _ _ _ _ _ _) _).trans ?_
  have h0 : ∀ k : Fin 512, (iblk m c 0 t : Vec Ideal S1x1x512 .f32) (ix3 0 0 k) = _ := fun k => iblk_0 m c t k ht
  have h1 : ∀ k : Fin 512, (iblk m c 1 t : Vec Ideal S1x1x512 .f32) (ix3 0 0 k) = _ := fun k => iblk_1 m c t k ht
  have h2 : ∀ k : Fin 1024, (iblk m c 2 t : Vec Ideal S1x1x1024 .f32) (ix3 0 0 k) = _ := fun k => iblk_2 m c t k ht
  have h3 : ∀ k : Fin 512, (iblk m c 3 t : Vec Ideal S1x1x512 .f32) (ix3 0 0 k) = _ := fun k => iblk_3 m c t k ht
  have h4 : ∀ (h : Fin 4) (d : Fin 128) (e : Fin 256), (iblk m c 4 t : Vec Ideal S1x4x128x256 .f32) (ix4 0 h d e) = _ := fun h d e => iblk_4 m c t h d e ht
  simp only [oBlk, h0, h1, h2, h3, h4, iblk_5]
  rfl

/-- The array of new states the pipeline leaves. -/
theorem finalS (c : Dev nD) : (dats m 0 c).arrAt 7 cfg0.N = resultS m c := by
  refine (dats m 0 c).arrAt_eq_of_covers 7 _ (by decide +kernel) fun t hf y => ?_
  blk_simp
  rw [after0_7]
  obtain ⟨g, d, e, rfl⟩ : ∃ (g : Fin 4) (d : Fin 128) (e : Fin 256), y = (ix4 0 g d e : (⟨4, ![1, 4, 128, 256]⟩ : Shape).Idx) :=
    ⟨y 1, y 2, y 3, (eq_ix4 (n0 := 1) (n1 := 4) (n2 := 128) (n3 := 256) y).trans (congrArg (fun a : Fin 1 => (ix4 a (y 1) (y 2) (y 3) : (⟨4, ![1, 4, 128, 256]⟩ : Shape).Idx)) (Subsingleton.elim (α := Fin 1) _ _))⟩
  have ht : t.val < 32 := t.isLt
  have he : (win0_7.blk t).view.emb (ix4 0 g d e : (⟨4, ![1, 4, 128, 256]⟩ : Shape).Idx) = (ix4 ⟨t.val, ht⟩ g d e : (⟨4, ![32, 4, 128, 256]⟩ : Shape).Idx) := by
    blk_ext [idx0 t]
  rw [he]
  refine (congrFun (out_st _ _ _ _ _ _) _).trans ?_
  have h0 : ∀ k : Fin 512, (iblk m c 0 t : Vec Ideal S1x1x512 .f32) (ix3 0 0 k) = _ := fun k => iblk_0 m c t k ht
  have h1 : ∀ k : Fin 512, (iblk m c 1 t : Vec Ideal S1x1x512 .f32) (ix3 0 0 k) = _ := fun k => iblk_1 m c t k ht
  have h2 : ∀ k : Fin 1024, (iblk m c 2 t : Vec Ideal S1x1x1024 .f32) (ix3 0 0 k) = _ := fun k => iblk_2 m c t k ht
  have h3 : ∀ k : Fin 512, (iblk m c 3 t : Vec Ideal S1x1x512 .f32) (ix3 0 0 k) = _ := fun k => iblk_3 m c t k ht
  have h4 : ∀ (h : Fin 4) (d : Fin 128) (e : Fin 256), (iblk m c 4 t : Vec Ideal S1x4x128x256 .f32) (ix4 0 h d e) = _ := fun h d e => iblk_4 m c t h d e ht
  simp only [stBlk, h1, h2, h3, h4]
  rfl

end Cert.GlaIdeal.Block

end
-- ==== Proof.GlaRef.lean ====
module

public import proofs.«01_k».proof.Proof.Gen.GlaRefIdeal.Run
public import proofs.«01_k».proof.Proof.GlaMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GlaRefIdeal.Row

open Cert.GlaRefIdeal Cert.GlaRefIdeal.Gen Cert.GlaMath

/-- The reference's new state. -/
def stT (k lf : FVec Ideal S32x512 .f32) (v : FVec Ideal S32x1024 .f32) (s : FVec Ideal S32x4x128x256 .f32) : FVec Ideal S32x4x128x256 .f32 :=
  addf (mulf (broadcastInDim S32x4x128x256 ![0, 1, 2, 3] bcast_S32x4x128x1_S32x4x128x256_0_1_2_3 (broadcastInDim S32x4x128x1 ![0, 1, 2] bcast_S32x4x128_S32x4x128x1_0_1_2 (Host.exp (shapeCast S32x4x128 lf shapeCasts_S32x512_S32x4x128)))) s)
    (mulf (broadcastInDim S32x4x128x256 ![0, 1, 2, 3] bcast_S32x4x128x1_S32x4x128x256_0_1_2_3 (broadcastInDim S32x4x128x1 ![0, 1, 2] bcast_S32x4x128_S32x4x128x1_0_1_2 (shapeCast S32x4x128 k shapeCasts_S32x512_S32x4x128)))
      (broadcastInDim S32x4x128x256 ![0, 1, 2, 3] bcast_S32x4x1x256_S32x4x128x256_0_1_2_3 (broadcastInDim S32x4x1x256 ![0, 1, 3] bcast_S32x4x256_S32x4x1x256_0_1_3 (shapeCast S32x4x256 v shapeCasts_S32x1024_S32x4x256))))

/-- The reference's product of the query and the new state. -/
def rawT (q : FVec Ideal S32x512 .f32) (s : FVec Ideal S32x4x128x256 .f32) : FVec Ideal S32x4x256 .f32 :=
  Host.dotGeneral dot_S32x4x128_S32x4x128x256_S32x4x256_2_2_n_3_01_01 none (shapeCast S32x4x128 q shapeCasts_S32x512_S32x4x128) s

/-- The reference's norm of every head's output, the heads laid side by side. -/
def outT (o : FVec Ideal S32x4x256 .f32) (g : FVec Ideal S256 .f32) : FVec Ideal S32x1x1024 .bf16 :=
  truncf .bf16 (shapeCast S32x1x1024 (mulf (mulf o (broadcastInDim S32x4x256 ![0, 1, 2] bcast_S32x4x1_S32x4x256_0_1_2 (Host.rsqrt (addf (Host.divf (broadcastInDim S32x4x1 ![0, 1] bcast_S32x4_S32x4x1_0_1 (Host.reduceAdd (mulf o o) (constant S_ .f32 0x00000000#32) reducesTo_S32x4x256_S32x4_d2 h_S_)) (broadcastInDim S32x4x1 ![] bcast_S_S32x4x1 (constant S_ .f32 0x43800000#32))) (broadcastInDim S32x4x1 ![] bcast_S_S32x4x1 (constant S_ .f32 0x358637BD#32))))))
    (broadcastInDim S32x4x256 ![0, 1, 2] bcast_S1x1x256_S32x4x256_0_1_2 (broadcastInDim S1x1x256 ![2] bcast_S256_S1x1x256_2 g))) shapeCasts_S32x4x256_S32x1x1024) bitsLt_bf16_f32

/-- The new state at an index. -/
theorem stT_apply (k lf : FVec Ideal S32x512 .f32) (v : FVec Ideal S32x1024 .f32) (s : FVec Ideal S32x4x128x256 .f32) (b : Fin 32) (h : Fin 4) (d : Fin 128) (e : Fin 256) :
    stT k lf v s (ix4 b h d e) = stAt (fun i => lf (ix2 b i)) (fun i => k (ix2 b i)) (fun i => v (ix2 b i)) (fun h d e => s (ix4 b h d e)) h d e := by
  pointwise [stT, stAt, step]

/-- The query's product with the state at an index. -/
theorem rawT_apply (q : FVec Ideal S32x512 .f32) (s : FVec Ideal S32x4x128x256 .f32) (b : Fin 32) (h : Fin 4) (e : Fin 256) :
    rawT q s (ix3 b h e) = ∑ d : Fin 128, q (ix2 b ⟨h.val * 128 + d.val, by omega⟩) * s (ix4 b h d e) := by
  pointwise [rawT]

/-- The normed output at an index. -/
theorem outT_apply (o : FVec Ideal S32x4x256 .f32) (g : FVec Ideal S256 .f32) (b : Fin 32) (l : Fin 1024) :
    outT o g (ix3 b 0 l) = normOut (fun e => o (ix3 b ⟨l.val / 256, by omega⟩ e)) (fun e => g (ix1 e)) ⟨l.val % 256, by omega⟩ := by
  pointwise [outT, normOut]

/-- The reference's first result at an index. -/
theorem res_apply (q k lf : FVec Ideal S32x512 .f32) (v : FVec Ideal S32x1024 .f32) (s : FVec Ideal S32x4x128x256 .f32) (g : FVec Ideal S256 .f32) (b : Fin 32) (l : Fin 1024) :
    outT (rawT q (stT k lf v s)) g (ix3 b 0 l) = oAt (fun i => q (ix2 b i)) (fun i => lf (ix2 b i)) (fun i => k (ix2 b i)) (fun i => v (ix2 b i)) (fun h d e => s (ix4 b h d e)) (fun e => g (ix1 e)) l := by
  refine (outT_apply _ _ b l).trans ?_
  simp only [rawT_apply, stT_apply]
  rfl

end Cert.GlaRefIdeal.Row

end
-- ==== Proof.GlaClaims.lean ====
module

public import proofs.«01_k».proof.Proof.GlaValue
public import proofs.«01_k».proof.Proof.GlaRef
public import proofs.«01_k».proof.Proof.Gen.Gla.Frame
public import Idealize.ShloMosaic.Lib.Quiescent
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Proof.GlaClaims

/-- The kernel runs, keeps its arguments and leaves every semaphore at zero. -/
theorem frame_k : Cert.quiescent_Gla := fun m ρ _ => Cert.Gla.Gen.frame m ρ

/-- The same of the kernel at the extended reals. -/
theorem frame_ki : Cert.quiescent_GlaIdeal := fun m ρ _ => Cert.GlaIdeal.Gen.frame m ρ

/-- The reference at the extended reals runs and keeps its arguments; it has no semaphore. -/
theorem frame_ri : Cert.quiescent_GlaRefIdeal := fun m ρ _ =>
  (θ_run Cert.GlaRefIdeal.defs _ _).mono (fun r h => ⟨fun c => (h c).2.2, sem_eq_zero_of_no_sems (by decide) r.2⟩)
    (Cert.GlaRefIdeal.Value.run (F := Ideal) m ρ)

/-- The kernel and the reference leave the same two arrays: the normed outputs and the new states. -/
theorem algebraic : Cert.algebraic_GlaIdeal_GlaRefIdeal := by
  intro m ρ m' ρ' _ hagree
  refine ⟨Cert.GlaIdeal.Block.resultO m, Cert.GlaIdeal.Block.resultS m,
    (θ_run Cert.GlaIdeal.defs _ _).mono (fun _ h c => ?_) (Cert.GlaIdeal.Value.run_blocks (F := Ideal) m ρ),
    (θ_run Cert.GlaRefIdeal.defs _ _).mono (fun _ h c => ?_) (Cert.GlaRefIdeal.Value.run (F := Ideal) m' ρ')⟩
  · obtain ⟨h0, h1, ha⟩ := h c
    exact ⟨h0.trans (Cert.GlaIdeal.Block.finalO m c), h1.trans (Cert.GlaIdeal.Block.finalS m c), ha⟩
  · obtain ⟨h0, h1, ha⟩ := h c
    obtain ⟨e0, e1, e2, e3, e4, e5⟩ := hagree c
    refine ⟨h0.trans ?_, h1.trans ?_, ha⟩
    · funext i
      obtain ⟨b, l, rfl⟩ : ∃ (b : Fin 32) (l : Fin 1024), i = (ix3 b 0 l : (⟨3, ![32, 1, 1024]⟩ : Shape).Idx) :=
        ⟨i 0, i 2, (eq_ix3 (n0 := 32) (n1 := 1) (n2 := 1024) i).trans (congrArg (fun a : Fin 1 => (ix3 (i 0) a (i 2) : (⟨3, ![32, 1, 1024]⟩ : Shape).Idx)) (Subsingleton.elim (α := Fin 1) _ _))⟩
      refine (Cert.GlaRefIdeal.Row.res_apply _ _ _ _ _ _ b l).trans ?_
      simp only [Cert.GlaIdeal.Block.resultO, ix3_0, ix3_2, e0, e1, e2, e3, e4, e5]
    · funext i
      obtain ⟨b, g, d, e, rfl⟩ : ∃ (b : Fin 32) (g : Fin 4) (d : Fin 128) (e : Fin 256), i = (ix4 b g d e : (⟨4, ![32, 4, 128, 256]⟩ : Shape).Idx) :=
        ⟨i 0, i 1, i 2, i 3, eq_ix4 (n0 := 32) (n1 := 4) (n2 := 128) (n3 := 256) i⟩
      refine (Cert.GlaRefIdeal.Row.stT_apply _ _ _ _ b g d e).trans ?_
      simp only [Cert.GlaIdeal.Block.resultS, ix4_0, ix4_1, ix4_2, ix4_3, e1, e2, e3, e4]

end Cert.Proof.GlaClaims

end
-- ==== Proof.HgPMath.lean ====
module

public import proofs.«01_k».proof.Proof.QkvMath

@[expose] public section

noncomputable section

open Idealize.ShloMosaic

namespace Cert.HgPMath

open Cert.QkvMath

/-- The activated query: the projection's first third times its logistic. -/
def qRow (x : Fin 1024 → EReal) (w : Fin 1024 → Fin 3072 → EReal) (l : Fin 1024) : EReal := projRow x w 0 l * Ideal.logistic (projRow x w 0 l)

/-- The forget gate: the lower bound plus what is left of one times the logistic of the projection's second third. -/
def forget (x : Fin 1024 → EReal) (w : Fin 1024 → Fin 3072 → EReal) (b : Fin 1024 → EReal) (l : Fin 1024) : EReal := b l + (1 - b l) * Ideal.logistic (projRow x w 1024 l)

end Cert.HgPMath

end
-- ==== Proof.HgPValue.lean ====
module

public import proofs.«01_k».proof.Proof.Gen.HgPIdeal.Value
public import proofs.«01_k».proof.Proof.HgPMath
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.HgPIdeal.Block

open Cert.HgPIdeal Cert.HgPIdeal.Gen Cert.QkvMath Cert.HgPMath

variable (m : (ℓ : Loc nD τ sig) → Buf (Elt Ideal) ℓ)

/-- The kernel's result array: the activated queries. -/
def resultQ (c : Dev nD) : Vec Ideal S32x1024 .f32 := fun i => qRow (fun k => (m ((c.tc : Thread nD τ).loc main_arg0) : Vec Ideal S32x1024 .f32) (ix2 (i 0) k)) (fun k l => (m ((c.tc : Thread nD τ).loc main_arg1) : Vec Ideal S1024x3072 .f32) (ix2 k l)) (i 1)

/-- The kernel's result array: the keys, one less the forget gate. -/
def resultK (c : Dev nD) : Vec Ideal S32x1024 .f32 := fun i => 1 - forget (fun k => (m ((c.tc : Thread nD τ).loc main_arg0) : Vec Ideal S32x1024 .f32) (ix2 (i 0) k)) (fun k l => (m ((c.tc : Thread nD τ).loc main_arg1) : Vec Ideal S1024x3072 .f32) (ix2 k l)) (fun k => (m ((c.tc : Thread nD τ).loc main_arg2) : Vec Ideal S1024 .f32) (ix1 k)) (i 1)

/-- The kernel's result array: the values. -/
def resultV (c : Dev nD) : Vec Ideal S32x1024 .f32 := fun i => projRow (fun k => (m ((c.tc : Thread nD τ).loc main_arg0) : Vec Ideal S32x1024 .f32) (ix2 (i 0) k)) (fun k l => (m ((c.tc : Thread nD τ).loc main_arg1) : Vec Ideal S1024x3072 .f32) (ix2 k l)) 2048 (i 1)

/-- The kernel's result array: the logarithms of the forget gate. -/
def resultF (c : Dev nD) : Vec Ideal S32x1024 .f32 := fun i => Ideal.log (forget (fun k => (m ((c.tc : Thread nD τ).loc main_arg0) : Vec Ideal S32x1024 .f32) (ix2 (i 0) k)) (fun k l => (m ((c.tc : Thread nD τ).loc main_arg1) : Vec Ideal S1024x3072 .f32) (ix2 k l)) (fun k => (m ((c.tc : Thread nD τ).loc main_arg2) : Vec Ideal S1024 .f32) (ix1 k)) (i 1))

/-- The body's block of the activated queries, row by row. -/
theorem out_Q (x0 : Vec Ideal S32x1024 .f32) (x1 : Vec Ideal S1024x3072 .bf16) (x2 : Vec Ideal S1x1024 .f32) (r : Fin 32) (l : Fin 1024) :
    out0_3 x0 x1 x2 (ix2 r l) = qRow (fun k => x0 (ix2 r k)) (fun k l => x1 (ix2 k l)) l := by
  have he : out0_3 x0 x1 x2 = k0_pay2 x0 (View.ld x1 r0_2) := by
    frame_out
  rw [he]
  pointwise [k0_pay1, k0_pay2, k0_pay3, k0_pay4, k0_pay5, k0_pay6, qRow, forget, projRow]

/-- The body's block of the keys, one less the forget gate, row by row. -/
theorem out_K (x0 : Vec Ideal S32x1024 .f32) (x1 : Vec Ideal S1024x3072 .bf16) (x2 : Vec Ideal S1x1024 .f32) (r : Fin 32) (l : Fin 1024) :
    out0_4 x0 x1 x2 (ix2 r l) = 1 - forget (fun k => x0 (ix2 r k)) (fun k l => x1 (ix2 k l)) (fun k => x2 (ix2 0 k)) l := by
  have he : out0_4 x0 x1 x2 = k0_pay5 x0 x2 (View.ld x1 r0_3) := by
    frame_out
  rw [he]
  pointwise [k0_pay1, k0_pay2, k0_pay3, k0_pay4, k0_pay5, k0_pay6, qRow, forget, projRow]

/-- The body's block of the values, row by row. -/
theorem out_V (x0 : Vec Ideal S32x1024 .f32) (x1 : Vec Ideal S1024x3072 .bf16) (x2 : Vec Ideal S1x1024 .f32) (r : Fin 32) (l : Fin 1024) :
    out0_5 x0 x1 x2 (ix2 r l) = projRow (fun k => x0 (ix2 r k)) (fun k l => x1 (ix2 k l)) 2048 l := by
  have he : out0_5 x0 x1 x2 = k0_pay4 x0 (View.ld x1 r0_4) := by
    frame_out
  rw [he]
  pointwise [k0_pay1, k0_pay2, k0_pay3, k0_pay4, k0_pay5, k0_pay6, qRow, forget, projRow]

/-- The body's block of the logarithms of the forget gate, row by row. -/
theorem out_F (x0 : Vec Ideal S32x1024 .f32) (x1 : Vec Ideal S1024x3072 .bf16) (x2 : Vec Ideal S1x1024 .f32) (r : Fin 32) (l : Fin 1024) :
    out0_6 x0 x1 x2 (ix2 r l) = Ideal.log (forget (fun k => x0 (ix2 r k)) (fun k l => x1 (ix2 k l)) (fun k => x2 (ix2 0 k)) l) := by
  have he : out0_6 x0 x1 x2 = k0_pay6 x0 x2 (View.ld x1 r0_3) := by
    frame_out
  rw [he]
  pointwise [k0_pay1, k0_pay2, k0_pay3, k0_pay4, k0_pay5, k0_pay6, qRow, forget, projRow]

/-- The windows' block indices at the one grid point. -/
theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0])

/-- The rows. -/
theorem iblk_0 (c : Dev nD) (t : Fin cfg0.N) (r : Fin 32) (k : Fin 1024) : (iblk m c 0 t : Vec Ideal S32x1024 .f32) (ix2 r k) = (m ((c.tc : Thread nD τ).loc main_arg0) : Vec Ideal S32x1024 .f32) (ix2 r k) := by
  blk_ext [iblk, V_main_arg0, idx0 t]

/-- The projection's weight. -/
theorem iblk_1 (c : Dev nD) (t : Fin cfg0.N) (r : Fin 1024) (k : Fin 3072) : (iblk m c 1 t : Vec Ideal S1024x3072 .bf16) (ix2 r k) = (m ((c.tc : Thread nD τ).loc main_arg1) : Vec Ideal S1024x3072 .f32) (ix2 r k) := by
  blk_ext [iblk, V, idx0 t]

/-- The lower bound as a row. -/
theorem iblk_2 (c : Dev nD) (t : Fin cfg0.N) (k : Fin 1024) : (iblk m c 2 t : Vec Ideal S1x1024 .f32) (ix2 0 k) = (m ((c.tc : Thread nD τ).loc main_arg2) : Vec Ideal S1024 .f32) (ix1 k) := by
  blk_ext! [iblk, V, idx0 t]

/-- The array the pipeline leaves: the activated queries. -/
theorem finalQ (c : Dev nD) : (dats m 0 c).arrAt 3 cfg0.N = resultQ m c := by
  refine (dats m 0 c).arrAt_eq_of_covers 3 _ (by decide +kernel) fun t hf y => ?_
  blk_simp
  rw [after0_3]
  obtain ⟨r, l, rfl⟩ : ∃ (r : Fin 32) (l : Fin 1024), y = (ix2 r l : (⟨2, ![32, 1024]⟩ : Shape).Idx) := ⟨y 0, y 1, eq_ix2 (n0 := 32) (n1 := 1024) y⟩
  have he : (win0_3.blk t).view.emb (ix2 r l : (⟨2, ![32, 1024]⟩ : Shape).Idx) = (ix2 r l : (⟨2, ![32, 1024]⟩ : Shape).Idx) := by
    blk_ext [idx0 t]
  rw [he]
  refine (out_Q _ _ _ r l).trans ?_
  simp only [iblk_0, iblk_1, iblk_2]
  rfl

/-- The array the pipeline leaves: the keys, one less the forget gate. -/
theorem finalK (c : Dev nD) : (dats m 0 c).arrAt 4 cfg0.N = resultK m c := by
  refine (dats m 0 c).arrAt_eq_of_covers 4 _ (by decide +kernel) fun t hf y => ?_
  blk_simp
  rw [after0_4]
  obtain ⟨r, l, rfl⟩ : ∃ (r : Fin 32) (l : Fin 1024), y = (ix2 r l : (⟨2, ![32, 1024]⟩ : Shape).Idx) := ⟨y 0, y 1, eq_ix2 (n0 := 32) (n1 := 1024) y⟩
  have he : (win0_4.blk t).view.emb (ix2 r l : (⟨2, ![32, 1024]⟩ : Shape).Idx) = (ix2 r l : (⟨2, ![32, 1024]⟩ : Shape).Idx) := by
    blk_ext [idx0 t]
  rw [he]
  refine (out_K _ _ _ r l).trans ?_
  simp only [iblk_0, iblk_1, iblk_2]
  rfl

/-- The array the pipeline leaves: the values. -/
theorem finalV (c : Dev nD) : (dats m 0 c).arrAt 5 cfg0.N = resultV m c := by
  refine (dats m 0 c).arrAt_eq_of_covers 5 _ (by decide +kernel) fun t hf y => ?_
  blk_simp
  rw [after0_5]
  obtain ⟨r, l, rfl⟩ : ∃ (r : Fin 32) (l : Fin 1024), y = (ix2 r l : (⟨2, ![32, 1024]⟩ : Shape).Idx) := ⟨y 0, y 1, eq_ix2 (n0 := 32) (n1 := 1024) y⟩
  have he : (win0_5.blk t).view.emb (ix2 r l : (⟨2, ![32, 1024]⟩ : Shape).Idx) = (ix2 r l : (⟨2, ![32, 1024]⟩ : Shape).Idx) := by
    blk_ext [idx0 t]
  rw [he]
  refine (out_V _ _ _ r l).trans ?_
  simp only [iblk_0, iblk_1, iblk_2]
  rfl

/-- The array the pipeline leaves: the logarithms of the forget gate. -/
theorem finalF (c : Dev nD) : (dats m 0 c).arrAt 6 cfg0.N = resultF m c := by
  refine (dats m 0 c).arrAt_eq_of_covers 6 _ (by decide +kernel) fun t hf y => ?_
  blk_simp
  rw [after0_6]
  obtain ⟨r, l, rfl⟩ : ∃ (r : Fin 32) (l : Fin 1024), y = (ix2 r l : (⟨2, ![32, 1024]⟩ : Shape).Idx) := ⟨y 0, y 1, eq_ix2 (n0 := 32) (n1 := 1024) y⟩
  have he : (win0_6.blk t).view.emb (ix2 r l : (⟨2, ![32, 1024]⟩ : Shape).Idx) = (ix2 r l : (⟨2, ![32, 1024]⟩ : Shape).Idx) := by
    blk_ext [idx0 t]
  rw [he]
  refine (out_F _ _ _ r l).trans ?_
  simp only [iblk_0, iblk_1, iblk_2]
  rfl

end Cert.HgPIdeal.Block

end
-- ==== Proof.HgPRef.lean ====
module

public import proofs.«01_k».proof.Proof.Gen.HgPRefIdeal.Run
public import proofs.«01_k».proof.Proof.HgPMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.HgPRefIdeal.Row

open Cert.HgPRefIdeal Cert.HgPRefIdeal.Gen Cert.QkvMath Cert.HgPMath

/-- What the reference returns, at an index: the activated queries. -/
theorem apply_Q (x : FVec Ideal S32x1024 .f32) (w : FVec Ideal S1024x3072 .f32) (b : FVec Ideal S1024 .f32) (i : Fin 32) (l : Fin 1024) :
    (mulf (extractStridedSlice S32x1024 ![0, 0] (Host.dotGeneral dot_S32x1024_S1024x3072_S32x3072_1_0_0_1_n_n none x w) slices_S32x3072_S32x1024_0_0) (Host.divf (broadcastInDim S32x1024 ![] bcast_S_S32x1024 (constant S_ .f32 0x3F800000#32)) (addf (broadcastInDim S32x1024 ![] bcast_S_S32x1024 (constant S_ .f32 0x3F800000#32)) (Host.exp (Host.negf (extractStridedSlice S32x1024 ![0, 0] (Host.dotGeneral dot_S32x1024_S1024x3072_S32x3072_1_0_0_1_n_n none x w) slices_S32x3072_S32x1024_0_0))))) : FVec Ideal S32x1024 .f32) (ix2 i l) = qRow (fun k => x (ix2 i k)) (fun k l => w (ix2 k l)) l := by
  pointwise [qRow, forget, projRow]
  simp only [Ideal.logistic]

/-- What the reference returns, at an index: the keys, one less the forget gate. -/
theorem apply_K (x : FVec Ideal S32x1024 .f32) (w : FVec Ideal S1024x3072 .f32) (b : FVec Ideal S1024 .f32) (i : Fin 32) (l : Fin 1024) :
    (subf (broadcastInDim S32x1024 ![] bcast_S_S32x1024 (constant S_ .f32 0x3F800000#32)) (addf (broadcastInDim S32x1024 ![0, 1] bcast_S1x1024_S32x1024_0_1 (broadcastInDim S1x1024 ![1] bcast_S1024_S1x1024_1 b)) (mulf (broadcastInDim S32x1024 ![0, 1] bcast_S1x1024_S32x1024_0_1 (broadcastInDim S1x1024 ![1] bcast_S1024_S1x1024_1 (subf (broadcastInDim S1024 ![] bcast_S_S1024 (constant S_ .f32 0x3F800000#32)) b))) (Host.divf (broadcastInDim S32x1024 ![] bcast_S_S32x1024 (constant S_ .f32 0x3F800000#32)) (addf (broadcastInDim S32x1024 ![] bcast_S_S32x1024 (constant S_ .f32 0x3F800000#32)) (Host.exp (Host.negf (extractStridedSlice S32x1024 ![0, 1024] (Host.dotGeneral dot_S32x1024_S1024x3072_S32x3072_1_0_0_1_n_n none x w) slices_S32x3072_S32x1024_0_1024))))))) : FVec Ideal S32x1024 .f32) (ix2 i l) = 1 - forget (fun k => x (ix2 i k)) (fun k l => w (ix2 k l)) (fun k => b (ix1 k)) l := by
  pointwise [qRow, forget, projRow]
  simp only [Ideal.logistic]

/-- What the reference returns, at an index: the values. -/
theorem apply_V (x : FVec Ideal S32x1024 .f32) (w : FVec Ideal S1024x3072 .f32) (b : FVec Ideal S1024 .f32) (i : Fin 32) (l : Fin 1024) :
    (extractStridedSlice S32x1024 ![0, 2048] (Host.dotGeneral dot_S32x1024_S1024x3072_S32x3072_1_0_0_1_n_n none x w) slices_S32x3072_S32x1024_0_2048 : FVec Ideal S32x1024 .f32) (ix2 i l) = projRow (fun k => x (ix2 i k)) (fun k l => w (ix2 k l)) 2048 l := by
  pointwise [qRow, forget, projRow]

/-- What the reference returns, at an index: the logarithms of the forget gate. -/
theorem apply_F (x : FVec Ideal S32x1024 .f32) (w : FVec Ideal S1024x3072 .f32) (b : FVec Ideal S1024 .f32) (i : Fin 32) (l : Fin 1024) :
    (Host.log (addf (broadcastInDim S32x1024 ![0, 1] bcast_S1x1024_S32x1024_0_1 (broadcastInDim S1x1024 ![1] bcast_S1024_S1x1024_1 b)) (mulf (broadcastInDim S32x1024 ![0, 1] bcast_S1x1024_S32x1024_0_1 (broadcastInDim S1x1024 ![1] bcast_S1024_S1x1024_1 (subf (broadcastInDim S1024 ![] bcast_S_S1024 (constant S_ .f32 0x3F800000#32)) b))) (Host.divf (broadcastInDim S32x1024 ![] bcast_S_S32x1024 (constant S_ .f32 0x3F800000#32)) (addf (broadcastInDim S32x1024 ![] bcast_S_S32x1024 (constant S_ .f32 0x3F800000#32)) (Host.exp (Host.negf (extractStridedSlice S32x1024 ![0, 1024] (Host.dotGeneral dot_S32x1024_S1024x3072_S32x3072_1_0_0_1_n_n none x w) slices_S32x3072_S32x1024_0_1024))))))) : FVec Ideal S32x1024 .f32) (ix2 i l) = Ideal.log (forget (fun k => x (ix2 i k)) (fun k l => w (ix2 k l)) (fun k => b (ix1 k)) l) := by
  pointwise [qRow, forget, projRow]
  simp only [Ideal.logistic]

end Cert.HgPRefIdeal.Row

end
-- ==== Proof.HgPClaims.lean ====
module

public import proofs.«01_k».proof.Proof.HgPValue
public import proofs.«01_k».proof.Proof.HgPRef
public import proofs.«01_k».proof.Proof.Gen.HgP.Frame
public import Idealize.ShloMosaic.Lib.Quiescent

@[expose] public section

set_option maxRecDepth 16384

noncomputable section

open Idealize.ShloMosaic Idealize.ShloMosaic.TcCoe Idealize.SL.Sem

namespace Cert.Proof.HgPClaims

/-- The kernel runs, keeps its arguments and leaves every semaphore at zero. -/
theorem frame_k : Cert.quiescent_HgP := fun m ρ _ => Cert.HgP.Gen.frame m ρ

/-- The same of the kernel at the extended reals. -/
theorem frame_ki : Cert.quiescent_HgPIdeal := fun m ρ _ => Cert.HgPIdeal.Gen.frame m ρ

/-- The reference at the extended reals runs and keeps its arguments; it has no semaphore. -/
theorem frame_ri : Cert.quiescent_HgPRefIdeal := fun m ρ _ =>
  (θ_run Cert.HgPRefIdeal.defs _ _).mono (fun r h => ⟨fun c => (h c).2.2.2.2, sem_eq_zero_of_no_sems (by decide) r.2⟩)
    (Cert.HgPRefIdeal.Value.run (F := Ideal) m ρ)

/-- The kernel and the reference leave the same four arrays: queries, keys, values and logarithms of the forget gate. -/
theorem algebraic : Cert.algebraic_HgPIdeal_HgPRefIdeal := by
  intro m ρ m' ρ' _ hagree
  refine ⟨Cert.HgPIdeal.Block.resultQ m, Cert.HgPIdeal.Block.resultK m, Cert.HgPIdeal.Block.resultV m, Cert.HgPIdeal.Block.resultF m,
    (θ_run Cert.HgPIdeal.defs _ _).mono (fun _ h c => ?_) (Cert.HgPIdeal.Value.run_blocks (F := Ideal) m ρ),
    (θ_run Cert.HgPRefIdeal.defs _ _).mono (fun _ h c => ?_) (Cert.HgPRefIdeal.Value.run (F := Ideal) m' ρ')⟩
  · obtain ⟨h0, h1, h2, h3, ha⟩ := h c
    exact ⟨h0.trans (Cert.HgPIdeal.Block.finalQ m c), h1.trans (Cert.HgPIdeal.Block.finalK m c), h2.trans (Cert.HgPIdeal.Block.finalV m c), h3.trans (Cert.HgPIdeal.Block.finalF m c), ha⟩
  · obtain ⟨h0, h1, h2, h3, ha⟩ := h c
    obtain ⟨e0, e1, e2⟩ := hagree c
    refine ⟨h0.trans ?_, h1.trans ?_, h2.trans ?_, h3.trans ?_, ha⟩
    · funext i
      obtain ⟨r, l, rfl⟩ : ∃ (r : Fin 32) (l : Fin 1024), i = (ix2 r l : (⟨2, ![32, 1024]⟩ : Shape).Idx) := ⟨i 0, i 1, eq_ix2 (n0 := 32) (n1 := 1024) i⟩
      refine (Cert.HgPRefIdeal.Row.apply_Q _ _ (m' ((c.tc : Thread Cert.HgPRefIdeal.nD Cert.HgPRefIdeal.τ).loc Cert.HgPRefIdeal.main_arg2)) r l).trans ?_
      simp only [Cert.HgPIdeal.Block.resultQ, ix2_0, ix2_1, e0, e1]
    · funext i
      obtain ⟨r, l, rfl⟩ : ∃ (r : Fin 32) (l : Fin 1024), i = (ix2 r l : (⟨2, ![32, 1024]⟩ : Shape).Idx) := ⟨i 0, i 1, eq_ix2 (n0 := 32) (n1 := 1024) i⟩
      refine (Cert.HgPRefIdeal.Row.apply_K _ _ _ r l).trans ?_
      simp only [Cert.HgPIdeal.Block.resultK, ix2_0, ix2_1, e0, e1, e2]
    · funext i
      obtain ⟨r, l, rfl⟩ : ∃ (r : Fin 32) (l : Fin 1024), i = (ix2 r l : (⟨2, ![32, 1024]⟩ : Shape).Idx) := ⟨i 0, i 1, eq_ix2 (n0 := 32) (n1 := 1024) i⟩
      refine (Cert.HgPRefIdeal.Row.apply_V _ _ (m' ((c.tc : Thread Cert.HgPRefIdeal.nD Cert.HgPRefIdeal.τ).loc Cert.HgPRefIdeal.main_arg2)) r l).trans ?_
      simp only [Cert.HgPIdeal.Block.resultV, ix2_0, ix2_1, e0, e1]
    · funext i
      obtain ⟨r, l, rfl⟩ : ∃ (r : Fin 32) (l : Fin 1024), i = (ix2 r l : (⟨2, ![32, 1024]⟩ : Shape).Idx) := ⟨i 0, i 1, eq_ix2 (n0 := 32) (n1 := 1024) i⟩
      refine (Cert.HgPRefIdeal.Row.apply_F _ _ _ r l).trans ?_
      simp only [Cert.HgPIdeal.Block.resultF, ix2_0, ix2_1, e0, e1, e2]

end Cert.Proof.HgPClaims

end
-- ==== Proof.GlaPMath.lean ====
module

public import Idealize.ShloMosaic.Lib.Pointwise

@[expose] public section

noncomputable section

open Idealize.ShloMosaic

namespace Cert.GlaPMath

/-- Column `j` of one row of a projection. -/
def col {N : ℕ} (x : Fin 1024 → EReal) (w : Fin 1024 → Fin N → EReal) (j : Fin N) : EReal := ∑ k, x k * w k j

/-- The scaled query: the projection's first 512 columns. -/
def qRow (x : Fin 1024 → EReal) (w : Fin 1024 → Fin 3088 → EReal) (l : Fin 512) : EReal := col x w ⟨l.val, by omega⟩ * Ideal.ofBits .f32 0x3DB504F3#32

/-- The key: the next 512 columns. -/
def kRow (x : Fin 1024 → EReal) (w : Fin 1024 → Fin 3088 → EReal) (l : Fin 512) : EReal := col x w ⟨512 + l.val, by omega⟩

/-- The value: the next 1024 columns. -/
def vRow (x : Fin 1024 → EReal) (w : Fin 1024 → Fin 3088 → EReal) (l : Fin 1024) : EReal := col x w ⟨1024 + l.val, by omega⟩

/-- The activated gate: the next 1024 columns, each times its logistic. -/
def gRow (x : Fin 1024 → EReal) (w : Fin 1024 → Fin 3088 → EReal) (l : Fin 1024) : EReal := col x w ⟨2048 + l.val, by omega⟩ * Ideal.logistic (col x w ⟨2048 + l.val, by omega⟩)

/-- The decay before its activation: the last 16 columns through the second weight, plus the bias. -/
def zRow (x : Fin 1024 → EReal) (w : Fin 1024 → Fin 3088 → EReal) (w2 : Fin 16 → Fin 512 → EReal) (b : Fin 512 → EReal) (l : Fin 512) : EReal :=
  (∑ j : Fin 16, col x w ⟨3072 + j.val, by omega⟩ * w2 j l) + b l

/-- The same through weights widened to 128 columns and rows. -/
def zPad (x : Fin 1024 → EReal) (w1 : Fin 1024 → Fin 128 → EReal) (w2 : Fin 128 → Fin 512 → EReal) (b : Fin 512 → EReal) (l : Fin 512) : EReal :=
  (∑ j : Fin 128, col x w1 j * w2 j l) + b l

/-- The widened product is the narrow one if the second weight is zero in the rows added. -/
theorem zPad_eq (x : Fin 1024 → EReal) (w1 : Fin 1024 → Fin 128 → EReal) (w2' : Fin 128 → Fin 512 → EReal) (b : Fin 512 → EReal) (l : Fin 512)
    (w : Fin 1024 → Fin 3088 → EReal) (w2 : Fin 16 → Fin 512 → EReal) (h1 : ∀ k (j : Fin 16), w1 k ⟨j.val, by omega⟩ = w k ⟨3072 + j.val, by omega⟩)
    (h2 : ∀ j : Fin 16, w2' ⟨j.val, by omega⟩ l = w2 j l) (h3 : ∀ j : Fin 112, w2' ⟨16 + j.val, by omega⟩ l = 0) : zPad x w1 w2' b l = zRow x w w2 b l := by
  unfold zPad zRow
  have hs : (∑ j : Fin 128, col x w1 j * w2' j l) = (∑ j : Fin 16, col x w1 ⟨j.val, by omega⟩ * w2' ⟨j.val, by omega⟩ l)
      + ∑ j : Fin 112, col x w1 ⟨16 + j.val, by omega⟩ * w2' ⟨16 + j.val, by omega⟩ l :=
    Fin.sum_univ_add (a := 16) (b := 112) (fun j : Fin (16 + 112) => col x w1 j * w2' j l)
  rw [hs]
  have hz : (∑ j : Fin 112, col x w1 ⟨16 + j.val, by omega⟩ * w2' ⟨16 + j.val, by omega⟩ l) = 0 :=
    Finset.sum_eq_zero fun j _ => by rw [h3 j, mul_zero]
  rw [hz, add_zero]
  congr 1
  refine Finset.sum_congr rfl fun j _ => ?_
  rw [h2 j]
  congr 1
  unfold col
  exact Finset.sum_congr rfl fun k _ => by rw [h1 k j]

/-- The logarithm of the logistic, by the smaller of `z` and zero. -/
def logSig (z : EReal) : EReal := min z 0 - Ideal.log (1 + Ideal.exp (0 - max z (-z)))

/-- The correction term is a real number. -/
theorem log_real (z : EReal) : ∃ r : ℝ, Ideal.log (1 + Ideal.exp (-(max z (-z)))) = (r : EReal) := by
  have hc : ∀ r : ℝ, ∃ s : ℝ, Ideal.log (1 + Ideal.exp (r : EReal)) = (s : EReal) := fun r => by
    refine ⟨Real.log (1 + Real.exp r), ?_⟩
    rw [Ideal.exp_coe, ← EReal.coe_one, ← EReal.coe_add, Ideal.log_coe, if_neg (not_le.mpr (by positivity))]
  have hb : ∃ s : ℝ, Ideal.log (1 + Ideal.exp (⊥ : EReal)) = (s : EReal) := by
    refine ⟨Real.log 1, ?_⟩
    rw [Ideal.exp_bot, add_zero, ← EReal.coe_one, Ideal.log_coe, if_neg (not_le.mpr one_pos)]
  induction z with
  | bot => simpa using hb
  | top => simpa using hb
  | coe r =>
    have he : -(max (r : EReal) (-(r : EReal))) = ((-(max r (-r)) : ℝ) : EReal) := by
      rw [EReal.coe_neg, EReal.coe_strictMono.monotone.map_max, EReal.coe_neg]
    rw [he]
    exact hc _

/-- Minus the softplus of minus `z` is the logarithm of the logistic of `z`. -/
theorem neg_softplus (z : EReal) : -(max (-z) 0 + Ideal.log1p (Ideal.exp (-(max (-z) (- -z))))) = logSig z := by
  obtain ⟨r, hr⟩ := log_real z
  unfold logSig Ideal.log1p
  rw [neg_neg, max_comm (-z) z, zero_sub, hr, EReal.neg_add (Or.inr (EReal.coe_ne_top r)) (Or.inr (EReal.coe_ne_bot r))]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

/-- The logarithm of the decay: the logarithm of the logistic over 16. -/
def fRow (z : EReal) : EReal := Ideal.div (logSig z) (Ideal.ofBits .f32 0x41800000#32)

end Cert.GlaPMath

end
-- ==== Proof.GlaPValue.lean ====
module

public import proofs.«01_k».proof.Proof.Gen.GlaPIdeal.Value
public import proofs.«01_k».proof.Proof.GlaPMath
public import proofs.«01_k».proof.Defs
public import Idealize.ShloMosaic.Lib.Pipeline.ValueKit
public import Idealize.ShloMosaic.Lib.Pipeline.ReadBack
public import Idealize.ShloMosaic.Lib.KernelVsHost
public import Idealize.ShloMosaic.Lib.StableHlo.RunRead
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GlaPIdeal.Block

open Cert.GlaPIdeal Cert.GlaPIdeal.Gen Cert.GlaPMath

variable (m : (ℓ : Loc nD τ sig) → Buf (Elt Ideal) ℓ)

/-- The kernel's result array: the scaled queries. -/
def resultQ (c : Dev nD) : Vec Ideal S32x512 .f32 := fun i => qRow (fun k => (m ((c.tc : Thread nD τ).loc main_arg0) : Vec Ideal S32x1024 .f32) (ix2 (i 0) k)) (fun k j => (m ((c.tc : Thread nD τ).loc main_arg1) : Vec Ideal S1024x3088 .f32) (ix2 k j)) (i 1)

/-- The kernel's result array: the keys. -/
def resultK (c : Dev nD) : Vec Ideal S32x512 .f32 := fun i => kRow (fun k => (m ((c.tc : Thread nD τ).loc main_arg0) : Vec Ideal S32x1024 .f32) (ix2 (i 0) k)) (fun k j => (m ((c.tc : Thread nD τ).loc main_arg1) : Vec Ideal S1024x3088 .f32) (ix2 k j)) (i 1)

/-- The kernel's result array: the values. -/
def resultV (c : Dev nD) : Vec Ideal S32x1024 .f32 := fun i => vRow (fun k => (m ((c.tc : Thread nD τ).loc main_arg0) : Vec Ideal S32x1024 .f32) (ix2 (i 0) k)) (fun k j => (m ((c.tc : Thread nD τ).loc main_arg1) : Vec Ideal S1024x3088 .f32) (ix2 k j)) (i 1)

/-- The kernel's result array: the activated gates. -/
def resultG (c : Dev nD) : Vec Ideal S32x1024 .bf16 := fun i => gRow (fun k => (m ((c.tc : Thread nD τ).loc main_arg0) : Vec Ideal S32x1024 .f32) (ix2 (i 0) k)) (fun k j => (m ((c.tc : Thread nD τ).loc main_arg1) : Vec Ideal S1024x3088 .f32) (ix2 k j)) (i 1)

/-- The kernel's result array: the logarithms of the decay. -/
def resultF (c : Dev nD) : Vec Ideal S32x512 .f32 := fun i => fRow (zRow (fun k => (m ((c.tc : Thread nD τ).loc main_arg0) : Vec Ideal S32x1024 .f32) (ix2 (i 0) k)) (fun k j => (m ((c.tc : Thread nD τ).loc main_arg1) : Vec Ideal S1024x3088 .f32) (ix2 k j)) (fun j l => (m ((c.tc : Thread nD τ).loc main_arg2) : Vec Ideal S16x512 .f32) (ix2 j l)) (fun l => (m ((c.tc : Thread nD τ).loc main_arg3) : Vec Ideal S512 .f32) (ix1 l)) (i 1))

/-- The body's block of the scaled queries, row by row. -/
theorem out_Q (x0 : Vec Ideal S32x1024 .f32) (x1 : Vec Ideal S1024x3072 .bf16) (x2 : Vec Ideal S1024x128 .bf16) (x3 : Vec Ideal S128x512 .bf16) (x4 : Vec Ideal S1x512 .f32) (r : Fin 32) (l : Fin 512) :
    out0_5 x0 x1 x2 x3 x4 (ix2 r l) = col (fun k => x0 (ix2 r k)) (fun k j => x1 (ix2 k j)) ⟨l.val, by omega⟩ * Ideal.ofBits .f32 0x3DB504F3#32 := by
  have he : out0_5 x0 x1 x2 x3 x4 = k0_pay4 x0 (View.ld x1 r0_1) := by
    frame_out
  rw [he]
  pointwise [k0_pay1, k0_pay2, k0_pay3, k0_pay4, k0_pay5, k0_pay6, k0_pay7, k0_pay8, k0_pay9, k0_pay10, fRow, logSig, zPad, col]

/-- The body's block of the keys, row by row. -/
theorem out_K (x0 : Vec Ideal S32x1024 .f32) (x1 : Vec Ideal S1024x3072 .bf16) (x2 : Vec Ideal S1024x128 .bf16) (x3 : Vec Ideal S128x512 .bf16) (x4 : Vec Ideal S1x512 .f32) (r : Fin 32) (l : Fin 512) :
    out0_6 x0 x1 x2 x3 x4 (ix2 r l) = col (fun k => x0 (ix2 r k)) (fun k j => x1 (ix2 k j)) ⟨512 + l.val, by omega⟩ := by
  have he : out0_6 x0 x1 x2 x3 x4 = k0_pay5 x0 (View.ld x1 r0_2) := by
    frame_out
  rw [he]
  pointwise [k0_pay1, k0_pay2, k0_pay3, k0_pay4, k0_pay5, k0_pay6, k0_pay7, k0_pay8, k0_pay9, k0_pay10, fRow, logSig, zPad, col]

/-- The body's block of the values, row by row. -/
theorem out_V (x0 : Vec Ideal S32x1024 .f32) (x1 : Vec Ideal S1024x3072 .bf16) (x2 : Vec Ideal S1024x128 .bf16) (x3 : Vec Ideal S128x512 .bf16) (x4 : Vec Ideal S1x512 .f32) (r : Fin 32) (l : Fin 1024) :
    out0_7 x0 x1 x2 x3 x4 (ix2 r l) = col (fun k => x0 (ix2 r k)) (fun k j => x1 (ix2 k j)) ⟨1024 + l.val, by omega⟩ := by
  have he : out0_7 x0 x1 x2 x3 x4 = k0_pay6 x0 (View.ld x1 r0_3) := by
    frame_out
  rw [he]
  pointwise [k0_pay1, k0_pay2, k0_pay3, k0_pay4, k0_pay5, k0_pay6, k0_pay7, k0_pay8, k0_pay9, k0_pay10, fRow, logSig, zPad, col]

/-- The body's block of the activated gates, row by row. -/
theorem out_G (x0 : Vec Ideal S32x1024 .f32) (x1 : Vec Ideal S1024x3072 .bf16) (x2 : Vec Ideal S1024x128 .bf16) (x3 : Vec Ideal S128x512 .bf16) (x4 : Vec Ideal S1x512 .f32) (r : Fin 32) (l : Fin 1024) :
    out0_8 x0 x1 x2 x3 x4 (ix2 r l) = col (fun k => x0 (ix2 r k)) (fun k j => x1 (ix2 k j)) ⟨2048 + l.val, by omega⟩ * Ideal.logistic (col (fun k => x0 (ix2 r k)) (fun k j => x1 (ix2 k j)) ⟨2048 + l.val, by omega⟩) := by
  have he : out0_8 x0 x1 x2 x3 x4 = k0_pay2 (k0_pay7 x0 (View.ld x1 r0_4)) := by
    frame_out
  rw [he]
  pointwise [k0_pay1, k0_pay2, k0_pay3, k0_pay4, k0_pay5, k0_pay6, k0_pay7, k0_pay8, k0_pay9, k0_pay10, fRow, logSig, zPad, col]

/-- The body's block of the logarithms of the decay, row by row. -/
theorem out_F (x0 : Vec Ideal S32x1024 .f32) (x1 : Vec Ideal S1024x3072 .bf16) (x2 : Vec Ideal S1024x128 .bf16) (x3 : Vec Ideal S128x512 .bf16) (x4 : Vec Ideal S1x512 .f32) (r : Fin 32) (l : Fin 512) :
    out0_9 x0 x1 x2 x3 x4 (ix2 r l) = fRow (zPad (fun k => x0 (ix2 r k)) (fun k j => x2 (ix2 k j)) (fun j l => x3 (ix2 j l)) (fun l => x4 (ix2 0 l)) l) := by
  have he : out0_9 x0 x1 x2 x3 x4 = k0_pay1 (k0_pay9 x0 x2 x3 x4) (k0_pay10 x0 x2 x3 x4) := by
    frame_out
  rw [he]
  pointwise [k0_pay1, k0_pay2, k0_pay3, k0_pay4, k0_pay5, k0_pay6, k0_pay7, k0_pay8, k0_pay9, k0_pay10, fRow, logSig, zPad, col]
  simp only [Ideal.absf_def]

/-- The windows' block indices at the one grid point. -/
theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0])

/-- The rows. -/
theorem iblk_0 (c : Dev nD) (t : Fin cfg0.N) (r : Fin 32) (k : Fin 1024) : (iblk m c 0 t : Vec Ideal S32x1024 .f32) (ix2 r k) = (m ((c.tc : Thread nD τ).loc main_arg0) : Vec Ideal S32x1024 .f32) (ix2 r k) := by
  blk_ext [iblk, V_main_arg0, idx0 t]

/-- The projection's weight as the kernel's call is handed it. -/
theorem host_v1 (c : Dev nD) : (V m c main_v1 : Vec Ideal S1024x3072 .bf16) = (truncf .bf16 (extractStridedSlice S1024x3072 ![0, 0] (m ((c.tc : Thread nD τ).loc main_arg1) : Vec Ideal S1024x3088 .f32) slices_S1024x3088_S1024x3072_0_0) bitsLt_bf16_f32 : FVec Ideal S1024x3072 .bf16) := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp

/-- The last 16 columns, widened. -/
theorem host_v4 (c : Dev nD) : (V m c main_v4 : Vec Ideal S1024x128 .bf16) = pad S1024x128 ![0, 0] ![0, 112] ![0, 0] (truncf .bf16 (extractStridedSlice S1024x16 ![0, 3072] (m ((c.tc : Thread nD τ).loc main_arg1) : Vec Ideal S1024x3088 .f32) slices_S1024x3088_S1024x16_0_3072) bitsLt_bf16_f32 : FVec Ideal S1024x16 .bf16) (sitofp .bf16 (constantI S_ 32 0#32) : FVec Ideal S_ .bf16) pads_S1024x16_S1024x128_000_01120 h_S_ := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp

/-- The second weight, widened. -/
theorem host_v6 (c : Dev nD) : (V m c main_v6 : Vec Ideal S128x512 .bf16) = pad S128x512 ![0, 0] ![112, 0] ![0, 0] (truncf .bf16 (m ((c.tc : Thread nD τ).loc main_arg2) : Vec Ideal S16x512 .f32) bitsLt_bf16_f32 : FVec Ideal S16x512 .bf16) (sitofp .bf16 (constantI S_ 32 0#32) : FVec Ideal S_ .bf16) pads_S16x512_S128x512_01120_000 h_S_ := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp

/-- The bias as a row. -/
theorem host_v7 (c : Dev nD) : (V m c main_v7 : Vec Ideal S1x512 .f32) = broadcastInDim S1x512 ![1] bcast_S512_S1x512_1 (m ((c.tc : Thread nD τ).loc main_arg3) : Vec Ideal S512 .f32) := by
  simp only [V, hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp

/-- The projection's weight without its last 16 columns. -/
theorem iblk_1 (c : Dev nD) (t : Fin cfg0.N) (r : Fin 1024) (k : Fin 3072) : (iblk m c 1 t : Vec Ideal S1024x3072 .bf16) (ix2 r k) = (m ((c.tc : Thread nD τ).loc main_arg1) : Vec Ideal S1024x3088 .f32) (ix2 r ⟨k.val, by omega⟩) := by
  have h : (iblk m c 1 t : Vec Ideal S1024x3072 .bf16) (ix2 r k) = (V m c main_v1 : Vec Ideal S1024x3072 .bf16) (ix2 r k) := by
    blk_ext [iblk, idx0 t]
  rw [h, host_v1]
  pointwise []

/-- The last 16 columns of the projection's weight. -/
theorem iblk_2 (c : Dev nD) (t : Fin cfg0.N) (r : Fin 1024) (j : Fin 16) : (iblk m c 2 t : Vec Ideal S1024x128 .bf16) (ix2 r ⟨j.val, by omega⟩) = (m ((c.tc : Thread nD τ).loc main_arg1) : Vec Ideal S1024x3088 .f32) (ix2 r ⟨3072 + j.val, by omega⟩) := by
  have h : (iblk m c 2 t : Vec Ideal S1024x128 .bf16) (ix2 r ⟨j.val, by omega⟩) = (V m c main_v4 : Vec Ideal S1024x128 .bf16) (ix2 r ⟨j.val, by omega⟩) := by
    blk_ext [iblk, idx0 t]
  rw [h, host_v4]
  refine (pad_apply_of_inside _ _ _ _ _ _ _ _ (ix2 r j) fun a => ?_).trans ?_
  · fin_cases a <;> simp [ix2]
  · pointwise []

/-- The second weight's rows. -/
theorem iblk_3 (c : Dev nD) (t : Fin cfg0.N) (j : Fin 16) (l : Fin 512) : (iblk m c 3 t : Vec Ideal S128x512 .bf16) (ix2 ⟨j.val, by omega⟩ l) = (m ((c.tc : Thread nD τ).loc main_arg2) : Vec Ideal S16x512 .f32) (ix2 j l) := by
  have h : (iblk m c 3 t : Vec Ideal S128x512 .bf16) (ix2 ⟨j.val, by omega⟩ l) = (V m c main_v6 : Vec Ideal S128x512 .bf16) (ix2 ⟨j.val, by omega⟩ l) := by
    blk_ext [iblk, idx0 t]
  rw [h, host_v6]
  refine (pad_apply_of_inside _ _ _ _ _ _ _ _ (ix2 j l) fun a => ?_).trans ?_
  · fin_cases a <;> simp [ix2]
  · pointwise []

/-- The rows added to the second weight are zero. -/
theorem iblk_3_zero (c : Dev nD) (t : Fin cfg0.N) (j : Fin 112) (l : Fin 512) : (iblk m c 3 t : Vec Ideal S128x512 .bf16) (ix2 ⟨16 + j.val, by omega⟩ l) = (0 : EReal) := by
  have h : (iblk m c 3 t : Vec Ideal S128x512 .bf16) (ix2 ⟨16 + j.val, by omega⟩ l) = (V m c main_v6 : Vec Ideal S128x512 .bf16) (ix2 ⟨16 + j.val, by omega⟩ l) := by
    blk_ext [iblk, idx0 t]
  rw [h, host_v6]
  refine (pad_apply_of_not_inside _ _ _ _ _ _ _ _ 0 ?_).trans ?_
  · simp [ix2]
  · pointwise []
    show (((0#32 : BitVec 32).toInt : ℝ) : EReal) = 0
    simp

/-- The bias as a row. -/
theorem iblk_4 (c : Dev nD) (t : Fin cfg0.N) (k : Fin 512) : (iblk m c 4 t : Vec Ideal S1x512 .f32) (ix2 0 k) = (m ((c.tc : Thread nD τ).loc main_arg3) : Vec Ideal S512 .f32) (ix1 k) := by
  have h : (iblk m c 4 t : Vec Ideal S1x512 .f32) (ix2 0 k) = (V m c main_v7 : Vec Ideal S1x512 .f32) (ix2 0 k) := by
    blk_ext [iblk, idx0 t]
  rw [h, host_v7]
  pointwise []

/-- The array the pipeline leaves: the scaled queries. -/
theorem finalQ (c : Dev nD) : (dats m 0 c).arrAt 5 cfg0.N = resultQ m c := by
  refine (dats m 0 c).arrAt_eq_of_covers 5 _ (by decide +kernel) fun t hf y => ?_
  blk_simp
  rw [after0_5]
  obtain ⟨r, l, rfl⟩ : ∃ (r : Fin 32) (l : Fin 512), y = (ix2 r l : (⟨2, ![32, 512]⟩ : Shape).Idx) := ⟨y 0, y 1, eq_ix2 (n0 := 32) (n1 := 512) y⟩
  have he : (win0_5.blk t).view.emb (ix2 r l : (⟨2, ![32, 512]⟩ : Shape).Idx) = (ix2 r l : (⟨2, ![32, 512]⟩ : Shape).Idx) := by
    blk_ext [idx0 t]
  rw [he]
  refine (out_Q _ _ _ _ _ r l).trans ?_
  simp only [iblk_0, iblk_1]
  rfl

/-- The array the pipeline leaves: the keys. -/
theorem finalK (c : Dev nD) : (dats m 0 c).arrAt 6 cfg0.N = resultK m c := by
  refine (dats m 0 c).arrAt_eq_of_covers 6 _ (by decide +kernel) fun t hf y => ?_
  blk_simp
  rw [after0_6]
  obtain ⟨r, l, rfl⟩ : ∃ (r : Fin 32) (l : Fin 512), y = (ix2 r l : (⟨2, ![32, 512]⟩ : Shape).Idx) := ⟨y 0, y 1, eq_ix2 (n0 := 32) (n1 := 512) y⟩
  have he : (win0_6.blk t).view.emb (ix2 r l : (⟨2, ![32, 512]⟩ : Shape).Idx) = (ix2 r l : (⟨2, ![32, 512]⟩ : Shape).Idx) := by
    blk_ext [idx0 t]
  rw [he]
  refine (out_K _ _ _ _ _ r l).trans ?_
  simp only [iblk_0, iblk_1]
  rfl

/-- The array the pipeline leaves: the values. -/
theorem finalV (c : Dev nD) : (dats m 0 c).arrAt 7 cfg0.N = resultV m c := by
  refine (dats m 0 c).arrAt_eq_of_covers 7 _ (by decide +kernel) fun t hf y => ?_
  blk_simp
  rw [after0_7]
  obtain ⟨r, l, rfl⟩ : ∃ (r : Fin 32) (l : Fin 1024), y = (ix2 r l : (⟨2, ![32, 1024]⟩ : Shape).Idx) := ⟨y 0, y 1, eq_ix2 (n0 := 32) (n1 := 1024) y⟩
  have he : (win0_7.blk t).view.emb (ix2 r l : (⟨2, ![32, 1024]⟩ : Shape).Idx) = (ix2 r l : (⟨2, ![32, 1024]⟩ : Shape).Idx) := by
    blk_ext [idx0 t]
  rw [he]
  refine (out_V _ _ _ _ _ r l).trans ?_
  simp only [iblk_0, iblk_1]
  rfl

/-- The array the pipeline leaves: the activated gates. -/
theorem finalG (c : Dev nD) : (dats m 0 c).arrAt 8 cfg0.N = resultG m c := by
  refine (dats m 0 c).arrAt_eq_of_covers 8 _ (by decide +kernel) fun t hf y => ?_
  blk_simp
  rw [after0_8]
  obtain ⟨r, l, rfl⟩ : ∃ (r : Fin 32) (l : Fin 1024), y = (ix2 r l : (⟨2, ![32, 1024]⟩ : Shape).Idx) := ⟨y 0, y 1, eq_ix2 (n0 := 32) (n1 := 1024) y⟩
  have he : (win0_8.blk t).view.emb (ix2 r l : (⟨2, ![32, 1024]⟩ : Shape).Idx) = (ix2 r l : (⟨2, ![32, 1024]⟩ : Shape).Idx) := by
    blk_ext [idx0 t]
  rw [he]
  refine (out_G _ _ _ _ _ r l).trans ?_
  simp only [iblk_0, iblk_1]
  rfl

/-- The array the pipeline leaves: the logarithms of the decay. -/
theorem finalF (c : Dev nD) : (dats m 0 c).arrAt 9 cfg0.N = resultF m c := by
  refine (dats m 0 c).arrAt_eq_of_covers 9 _ (by decide +kernel) fun t hf y => ?_
  blk_simp
  rw [after0_9]
  obtain ⟨r, l, rfl⟩ : ∃ (r : Fin 32) (l : Fin 512), y = (ix2 r l : (⟨2, ![32, 512]⟩ : Shape).Idx) := ⟨y 0, y 1, eq_ix2 (n0 := 32) (n1 := 512) y⟩
  have he : (win0_9.blk t).view.emb (ix2 r l : (⟨2, ![32, 512]⟩ : Shape).Idx) = (ix2 r l : (⟨2, ![32, 512]⟩ : Shape).Idx) := by
    blk_ext [idx0 t]
  rw [he]
  refine (out_F _ _ _ _ _ r l).trans ?_
  rw [zPad_eq _ _ _ _ l (fun k j => (m ((c.tc : Thread nD τ).loc main_arg1) : Vec Ideal S1024x3088 .f32) (ix2 k j)) (fun j l => (m ((c.tc : Thread nD τ).loc main_arg2) : Vec Ideal S16x512 .f32) (ix2 j l)) (fun k j => iblk_2 m c t k j) (fun j => iblk_3 m c t j l) (fun j => iblk_3_zero m c t j l)]
  simp only [iblk_0, iblk_4]
  rfl

end Cert.GlaPIdeal.Block

end
-- ==== Proof.GlaPRef.lean ====
module

public import proofs.«01_k».proof.Proof.Gen.GlaPRefIdeal.Run
public import proofs.«01_k».proof.Proof.GlaPMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GlaPRefIdeal.Row

open Cert.GlaPRefIdeal Cert.GlaPRefIdeal.Gen Cert.GlaPMath

/-- What the reference returns, at an index: the scaled queries. -/
theorem apply_Q (x : FVec Ideal S32x1024 .f32) (w : FVec Ideal S1024x3088 .f32) (w2 : FVec Ideal S16x512 .f32) (b : FVec Ideal S512 .f32) (i : Fin 32) (l : Fin 512) :
    (mulf (extractStridedSlice S32x512 ![0, 0] (Host.dotGeneral dot_S32x1024_S1024x3088_S32x3088_1_0_0_1_n_n none x w) slices_S32x3088_S32x512_0_0) (broadcastInDim S32x512 ![] bcast_S_S32x512 (constant S_ .f32 0x3DB504F3#32)) : FVec Ideal S32x512 .f32) (ix2 i l) = qRow (fun k => x (ix2 i k)) (fun k j => w (ix2 k j)) l := by
  pointwise [qRow, kRow, vRow, gRow, col]

/-- What the reference returns, at an index: the keys. -/
theorem apply_K (x : FVec Ideal S32x1024 .f32) (w : FVec Ideal S1024x3088 .f32) (w2 : FVec Ideal S16x512 .f32) (b : FVec Ideal S512 .f32) (i : Fin 32) (l : Fin 512) :
    (extractStridedSlice S32x512 ![0, 512] (Host.dotGeneral dot_S32x1024_S1024x3088_S32x3088_1_0_0_1_n_n none x w) slices_S32x3088_S32x512_0_512 : FVec Ideal S32x512 .f32) (ix2 i l) = kRow (fun k => x (ix2 i k)) (fun k j => w (ix2 k j)) l := by
  pointwise [qRow, kRow, vRow, gRow, col]

/-- What the reference returns, at an index: the values. -/
theorem apply_V (x : FVec Ideal S32x1024 .f32) (w : FVec Ideal S1024x3088 .f32) (w2 : FVec Ideal S16x512 .f32) (b : FVec Ideal S512 .f32) (i : Fin 32) (l : Fin 1024) :
    (extractStridedSlice S32x1024 ![0, 1024] (Host.dotGeneral dot_S32x1024_S1024x3088_S32x3088_1_0_0_1_n_n none x w) slices_S32x3088_S32x1024_0_1024 : FVec Ideal S32x1024 .f32) (ix2 i l) = vRow (fun k => x (ix2 i k)) (fun k j => w (ix2 k j)) l := by
  pointwise [qRow, kRow, vRow, gRow, col]

/-- What the reference returns, at an index: the activated gates. -/
theorem apply_G (x : FVec Ideal S32x1024 .f32) (w : FVec Ideal S1024x3088 .f32) (w2 : FVec Ideal S16x512 .f32) (b : FVec Ideal S512 .f32) (i : Fin 32) (l : Fin 1024) :
    (truncf .bf16 (mulf (extractStridedSlice S32x1024 ![0, 2048] (Host.dotGeneral dot_S32x1024_S1024x3088_S32x3088_1_0_0_1_n_n none x w) slices_S32x3088_S32x1024_0_2048) (Host.divf (broadcastInDim S32x1024 ![] bcast_S_S32x1024 (constant S_ .f32 0x3F800000#32)) (addf (broadcastInDim S32x1024 ![] bcast_S_S32x1024 (constant S_ .f32 0x3F800000#32)) (Host.exp (Host.negf (extractStridedSlice S32x1024 ![0, 2048] (Host.dotGeneral dot_S32x1024_S1024x3088_S32x3088_1_0_0_1_n_n none x w) slices_S32x3088_S32x1024_0_2048)))))) bitsLt_bf16_f32 : FVec Ideal S32x1024 .bf16) (ix2 i l) = gRow (fun k => x (ix2 i k)) (fun k j => w (ix2 k j)) l := by
  pointwise [qRow, kRow, vRow, gRow, col]
  simp only [Ideal.logistic]

/-- The decay before its activation, at an index. -/
theorem z_apply (x : FVec Ideal S32x1024 .f32) (w : FVec Ideal S1024x3088 .f32) (w2 : FVec Ideal S16x512 .f32) (b : FVec Ideal S512 .f32) (i : Fin 32) (l : Fin 512) :
    (addf (Host.dotGeneral dot_S32x16_S16x512_S32x512_1_0_0_1_n_n none (extractStridedSlice S32x16 ![0, 3072] (Host.dotGeneral dot_S32x1024_S1024x3088_S32x3088_1_0_0_1_n_n none x w) slices_S32x3088_S32x16_0_3072) w2) (broadcastInDim S32x512 ![0, 1] bcast_S1x512_S32x512_0_1 (broadcastInDim S1x512 ![1] bcast_S512_S1x512_1 b)) : FVec Ideal S32x512 .f32) (ix2 i l) = zRow (fun k => x (ix2 i k)) (fun k j => w (ix2 k j)) (fun j l => w2 (ix2 j l)) (fun l => b (ix1 l)) l := by
  pointwise [zRow, col]

/-- The reference's operations after it, at an index. -/
theorem f_apply (z : FVec Ideal S32x512 .f32) (i : Fin 32) (l : Fin 512) :
    (Host.divf (Host.negf (select (cmpf .une (subf (Host.negf z) (broadcastInDim S32x512 ![] bcast_S_S32x512 (constant S_ .f32 0x00000000#32))) (subf (Host.negf z) (broadcastInDim S32x512 ![] bcast_S_S32x512 (constant S_ .f32 0x00000000#32)))) (addf (Host.negf z) (broadcastInDim S32x512 ![] bcast_S_S32x512 (constant S_ .f32 0x00000000#32))) (addf (maximumf (Host.negf z) (broadcastInDim S32x512 ![] bcast_S_S32x512 (constant S_ .f32 0x00000000#32))) (Host.log1p (Host.exp (Host.negf (Host.absf (subf (Host.negf z) (broadcastInDim S32x512 ![] bcast_S_S32x512 (constant S_ .f32 0x00000000#32)))))))))) (broadcastInDim S32x512 ![] bcast_S_S32x512 (constant S_ .f32 0x41800000#32)) : FVec Ideal S32x512 .f32) (ix2 i l) = fRow (z (ix2 i l)) := by
  pointwise [fRow]
  rw [← neg_softplus]
  simp [Ideal.absf_def]

/-- What the reference returns, at an index: the logarithms of the decay. -/
theorem apply_F (x : FVec Ideal S32x1024 .f32) (w : FVec Ideal S1024x3088 .f32) (w2 : FVec Ideal S16x512 .f32) (b : FVec Ideal S512 .f32) (i : Fin 32) (l : Fin 512) :
    (Host.divf (Host.negf (select (cmpf .une (subf (Host.negf (addf (Host.dotGeneral dot_S32x16_S16x512_S32x512_1_0_0_1_n_n none (extractStridedSlice S32x16 ![0, 3072] (Host.dotGeneral dot_S32x1024_S1024x3088_S32x3088_1_0_0_1_n_n none x w) slices_S32x3088_S32x16_0_3072) w2) (broadcastInDim S32x512 ![0, 1] bcast_S1x512_S32x512_0_1 (broadcastInDim S1x512 ![1] bcast_S512_S1x512_1 b)))) (broadcastInDim S32x512 ![] bcast_S_S32x512 (constant S_ .f32 0x00000000#32))) (subf (Host.negf (addf (Host.dotGeneral dot_S32x16_S16x512_S32x512_1_0_0_1_n_n none (extractStridedSlice S32x16 ![0, 3072] (Host.dotGeneral dot_S32x1024_S1024x3088_S32x3088_1_0_0_1_n_n none x w) slices_S32x3088_S32x16_0_3072) w2) (broadcastInDim S32x512 ![0, 1] bcast_S1x512_S32x512_0_1 (broadcastInDim S1x512 ![1] bcast_S512_S1x512_1 b)))) (broadcastInDim S32x512 ![] bcast_S_S32x512 (constant S_ .f32 0x00000000#32)))) (addf (Host.negf (addf (Host.dotGeneral dot_S32x16_S16x512_S32x512_1_0_0_1_n_n none (extractStridedSlice S32x16 ![0, 3072] (Host.dotGeneral dot_S32x1024_S1024x3088_S32x3088_1_0_0_1_n_n none x w) slices_S32x3088_S32x16_0_3072) w2) (broadcastInDim S32x512 ![0, 1] bcast_S1x512_S32x512_0_1 (broadcastInDim S1x512 ![1] bcast_S512_S1x512_1 b)))) (broadcastInDim S32x512 ![] bcast_S_S32x512 (constant S_ .f32 0x00000000#32))) (addf (maximumf (Host.negf (addf (Host.dotGeneral dot_S32x16_S16x512_S32x512_1_0_0_1_n_n none (extractStridedSlice S32x16 ![0, 3072] (Host.dotGeneral dot_S32x1024_S1024x3088_S32x3088_1_0_0_1_n_n none x w) slices_S32x3088_S32x16_0_3072) w2) (broadcastInDim S32x512 ![0, 1] bcast_S1x512_S32x512_0_1 (broadcastInDim S1x512 ![1] bcast_S512_S1x512_1 b)))) (broadcastInDim S32x512 ![] bcast_S_S32x512 (constant S_ .f32 0x00000000#32))) (Host.log1p (Host.exp (Host.negf (Host.absf (subf (Host.negf (addf (Host.dotGeneral dot_S32x16_S16x512_S32x512_1_0_0_1_n_n none (extractStridedSlice S32x16 ![0, 3072] (Host.dotGeneral dot_S32x1024_S1024x3088_S32x3088_1_0_0_1_n_n none x w) slices_S32x3088_S32x16_0_3072) w2) (broadcastInDim S32x512 ![0, 1] bcast_S1x512_S32x512_0_1 (broadcastInDim S1x512 ![1] bcast_S512_S1x512_1 b)))) (broadcastInDim S32x512 ![] bcast_S_S32x512 (constant S_ .f32 0x00000000#32)))))))))) (broadcastInDim S32x512 ![] bcast_S_S32x512 (constant S_ .f32 0x41800000#32)) : FVec Ideal S32x512 .f32) (ix2 i l) = fRow (zRow (fun k => x (ix2 i k)) (fun k j => w (ix2 k j)) (fun j l => w2 (ix2 j l)) (fun l => b (ix1 l)) l) := by
  exact (f_apply _ i l).trans (congrArg fRow (z_apply x w w2 b i l))

end Cert.GlaPRefIdeal.Row

end
-- ==== Proof.GlaPClaims.lean ====
module

public import proofs.«01_k».proof.Proof.GlaPValue
public import proofs.«01_k».proof.Proof.GlaPRef
public import proofs.«01_k».proof.Proof.Gen.GlaP.Frame
public import Idealize.ShloMosaic.Lib.Quiescent

@[expose] public section

set_option maxRecDepth 16384

noncomputable section

open Idealize.ShloMosaic Idealize.ShloMosaic.TcCoe Idealize.SL.Sem

namespace Cert.Proof.GlaPClaims

/-- The kernel runs, keeps its arguments and leaves every semaphore at zero. -/
theorem frame_k : Cert.quiescent_GlaP := fun m ρ _ => Cert.GlaP.Gen.frame m ρ

/-- The same of the kernel at the extended reals. -/
theorem frame_ki : Cert.quiescent_GlaPIdeal := fun m ρ _ => Cert.GlaPIdeal.Gen.frame m ρ

/-- The reference at the extended reals runs and keeps its arguments; it has no semaphore. -/
theorem frame_ri : Cert.quiescent_GlaPRefIdeal := fun m ρ _ =>
  (θ_run Cert.GlaPRefIdeal.defs _ _).mono (fun r h => ⟨fun c => (h c).2.2.2.2.2, sem_eq_zero_of_no_sems (by decide) r.2⟩)
    (Cert.GlaPRefIdeal.Value.run (F := Ideal) m ρ)

/-- The kernel and the reference leave the same five arrays: queries, keys, values, gates and logarithms of the decay. -/
theorem algebraic : Cert.algebraic_GlaPIdeal_GlaPRefIdeal := by
  intro m ρ m' ρ' _ hagree
  refine ⟨Cert.GlaPIdeal.Block.resultQ m, Cert.GlaPIdeal.Block.resultK m, Cert.GlaPIdeal.Block.resultV m, Cert.GlaPIdeal.Block.resultG m, Cert.GlaPIdeal.Block.resultF m,
    (θ_run Cert.GlaPIdeal.defs _ _).mono (fun _ h c => ?_) (Cert.GlaPIdeal.Value.run_blocks (F := Ideal) m ρ),
    (θ_run Cert.GlaPRefIdeal.defs _ _).mono (fun _ h c => ?_) (Cert.GlaPRefIdeal.Value.run (F := Ideal) m' ρ')⟩
  · obtain ⟨h0, h1, h2, h3, h4, ha⟩ := h c
    exact ⟨h0.trans (Cert.GlaPIdeal.Block.finalQ m c), h1.trans (Cert.GlaPIdeal.Block.finalK m c), h2.trans (Cert.GlaPIdeal.Block.finalV m c), h3.trans (Cert.GlaPIdeal.Block.finalG m c), h4.trans (Cert.GlaPIdeal.Block.finalF m c), ha⟩
  · obtain ⟨h0, h1, h2, h3, h4, ha⟩ := h c
    obtain ⟨e0, e1, e2, e3⟩ := hagree c
    refine ⟨h0.trans ?_, h1.trans ?_, h2.trans ?_, h3.trans ?_, h4.trans ?_, ha⟩
    · funext i
      obtain ⟨r, l, rfl⟩ : ∃ (r : Fin 32) (l : Fin 512), i = (ix2 r l : (⟨2, ![32, 512]⟩ : Shape).Idx) := ⟨i 0, i 1, eq_ix2 (n0 := 32) (n1 := 512) i⟩
      refine (Cert.GlaPRefIdeal.Row.apply_Q (m' ((c.tc : Thread Cert.GlaPRefIdeal.nD Cert.GlaPRefIdeal.τ).loc Cert.GlaPRefIdeal.main_arg0)) (m' ((c.tc : Thread Cert.GlaPRefIdeal.nD Cert.GlaPRefIdeal.τ).loc Cert.GlaPRefIdeal.main_arg1)) (m' ((c.tc : Thread Cert.GlaPRefIdeal.nD Cert.GlaPRefIdeal.τ).loc Cert.GlaPRefIdeal.main_arg2)) (m' ((c.tc : Thread Cert.GlaPRefIdeal.nD Cert.GlaPRefIdeal.τ).loc Cert.GlaPRefIdeal.main_arg3)) r l).trans ?_
      simp only [Cert.GlaPIdeal.Block.resultQ, ix2_0, ix2_1, e0, e1]
    · funext i
      obtain ⟨r, l, rfl⟩ : ∃ (r : Fin 32) (l : Fin 512), i = (ix2 r l : (⟨2, ![32, 512]⟩ : Shape).Idx) := ⟨i 0, i 1, eq_ix2 (n0 := 32) (n1 := 512) i⟩
      refine (Cert.GlaPRefIdeal.Row.apply_K (m' ((c.tc : Thread Cert.GlaPRefIdeal.nD Cert.GlaPRefIdeal.τ).loc Cert.GlaPRefIdeal.main_arg0)) (m' ((c.tc : Thread Cert.GlaPRefIdeal.nD Cert.GlaPRefIdeal.τ).loc Cert.GlaPRefIdeal.main_arg1)) (m' ((c.tc : Thread Cert.GlaPRefIdeal.nD Cert.GlaPRefIdeal.τ).loc Cert.GlaPRefIdeal.main_arg2)) (m' ((c.tc : Thread Cert.GlaPRefIdeal.nD Cert.GlaPRefIdeal.τ).loc Cert.GlaPRefIdeal.main_arg3)) r l).trans ?_
      simp only [Cert.GlaPIdeal.Block.resultK, ix2_0, ix2_1, e0, e1]
    · funext i
      obtain ⟨r, l, rfl⟩ : ∃ (r : Fin 32) (l : Fin 1024), i = (ix2 r l : (⟨2, ![32, 1024]⟩ : Shape).Idx) := ⟨i 0, i 1, eq_ix2 (n0 := 32) (n1 := 1024) i⟩
      refine (Cert.GlaPRefIdeal.Row.apply_V (m' ((c.tc : Thread Cert.GlaPRefIdeal.nD Cert.GlaPRefIdeal.τ).loc Cert.GlaPRefIdeal.main_arg0)) (m' ((c.tc : Thread Cert.GlaPRefIdeal.nD Cert.GlaPRefIdeal.τ).loc Cert.GlaPRefIdeal.main_arg1)) (m' ((c.tc : Thread Cert.GlaPRefIdeal.nD Cert.GlaPRefIdeal.τ).loc Cert.GlaPRefIdeal.main_arg2)) (m' ((c.tc : Thread Cert.GlaPRefIdeal.nD Cert.GlaPRefIdeal.τ).loc Cert.GlaPRefIdeal.main_arg3)) r l).trans ?_
      simp only [Cert.GlaPIdeal.Block.resultV, ix2_0, ix2_1, e0, e1]
    · funext i
      obtain ⟨r, l, rfl⟩ : ∃ (r : Fin 32) (l : Fin 1024), i = (ix2 r l : (⟨2, ![32, 1024]⟩ : Shape).Idx) := ⟨i 0, i 1, eq_ix2 (n0 := 32) (n1 := 1024) i⟩
      refine (Cert.GlaPRefIdeal.Row.apply_G (m' ((c.tc : Thread Cert.GlaPRefIdeal.nD Cert.GlaPRefIdeal.τ).loc Cert.GlaPRefIdeal.main_arg0)) (m' ((c.tc : Thread Cert.GlaPRefIdeal.nD Cert.GlaPRefIdeal.τ).loc Cert.GlaPRefIdeal.main_arg1)) (m' ((c.tc : Thread Cert.GlaPRefIdeal.nD Cert.GlaPRefIdeal.τ).loc Cert.GlaPRefIdeal.main_arg2)) (m' ((c.tc : Thread Cert.GlaPRefIdeal.nD Cert.GlaPRefIdeal.τ).loc Cert.GlaPRefIdeal.main_arg3)) r l).trans ?_
      simp only [Cert.GlaPIdeal.Block.resultG, ix2_0, ix2_1, e0, e1]
    · funext i
      obtain ⟨r, l, rfl⟩ : ∃ (r : Fin 32) (l : Fin 512), i = (ix2 r l : (⟨2, ![32, 512]⟩ : Shape).Idx) := ⟨i 0, i 1, eq_ix2 (n0 := 32) (n1 := 512) i⟩
      refine (Cert.GlaPRefIdeal.Row.apply_F (m' ((c.tc : Thread Cert.GlaPRefIdeal.nD Cert.GlaPRefIdeal.τ).loc Cert.GlaPRefIdeal.main_arg0)) (m' ((c.tc : Thread Cert.GlaPRefIdeal.nD Cert.GlaPRefIdeal.τ).loc Cert.GlaPRefIdeal.main_arg1)) (m' ((c.tc : Thread Cert.GlaPRefIdeal.nD Cert.GlaPRefIdeal.τ).loc Cert.GlaPRefIdeal.main_arg2)) (m' ((c.tc : Thread Cert.GlaPRefIdeal.nD Cert.GlaPRefIdeal.τ).loc Cert.GlaPRefIdeal.main_arg3)) r l).trans ?_
      simp only [Cert.GlaPIdeal.Block.resultF, ix2_0, ix2_1, e0, e1, e2, e3]

end Cert.Proof.GlaPClaims

end
-- ==== Proof.lean ====
module

public import proofs.«01_k».proof.Defs
public import proofs.«01_k».proof.Proof.FfnClaims
public import proofs.«01_k».proof.Proof.AttnFrames
public import proofs.«01_k».proof.Proof.AttnClaims
public import proofs.«01_k».proof.Proof.OutClaims
public import proofs.«01_k».proof.Proof.GatedClaims
public import proofs.«01_k».proof.Proof.QkvClaims
public import proofs.«01_k».proof.Proof.ConvSClaims
public import proofs.«01_k».proof.Proof.QkvSClaims
public import proofs.«01_k».proof.Proof.HgClaims
public import proofs.«01_k».proof.Proof.GlaClaims
public import proofs.«01_k».proof.Proof.HgPClaims
public import proofs.«01_k».proof.Proof.GlaPClaims
public import proofs.«01_k».proof.Proof.Gen.Pre_finite

@[expose] public section

noncomputable section

namespace Cert.Proof

open Idealize.ShloMosaic Idealize.SL.Sem

/-- Every claim of the certificate. -/
theorem claim : Cert.Claim := ⟨Cert.Ffn.Gen.facts, Cert.FfnIdeal.Gen.facts, Cert.FfnRefIdeal.Gen.facts, Cert.Attn.Gen.facts, Cert.AttnIdeal.Gen.facts, Cert.AttnRefIdeal.Gen.facts, Cert.Out.Gen.facts, Cert.OutIdeal.Gen.facts, Cert.OutRefIdeal.Gen.facts, Cert.Gated.Gen.facts, Cert.GatedIdeal.Gen.facts, Cert.GatedRefIdeal.Gen.facts, Cert.Qkv.Gen.facts, Cert.QkvIdeal.Gen.facts, Cert.QkvRefIdeal.Gen.facts, Cert.ConvS.Gen.facts, Cert.ConvSIdeal.Gen.facts, Cert.ConvSRefIdeal.Gen.facts, Cert.QkvS.Gen.facts, Cert.QkvSIdeal.Gen.facts, Cert.QkvSRefIdeal.Gen.facts, Cert.Hg.Gen.facts, Cert.HgIdeal.Gen.facts, Cert.HgRefIdeal.Gen.facts, Cert.Gla.Gen.facts, Cert.GlaIdeal.Gen.facts, Cert.GlaRefIdeal.Gen.facts, Cert.HgP.Gen.facts, Cert.HgPIdeal.Gen.facts, Cert.HgPRefIdeal.Gen.facts, Cert.GlaP.Gen.facts, Cert.GlaPIdeal.Gen.facts, Cert.GlaPRefIdeal.Gen.facts, Cert.Pre_finite.Gen.facts,
  FfnClaims.frame_k, FfnClaims.frame_ki, FfnClaims.frame_ri, AttnClaims.frame_k, AttnClaims.frame_ki, AttnClaims.frame_ki_finite, AttnClaims.frame_ri, AttnClaims.frame_ri_finite,
  OutClaims.frame_k, OutClaims.frame_ki, OutClaims.frame_ri,
  GatedClaims.frame_k, GatedClaims.frame_ki, GatedClaims.frame_ri,
  QkvClaims.frame_k, QkvClaims.frame_ki, QkvClaims.frame_ri,
  ConvSClaims.frame_k, ConvSClaims.frame_ki, ConvSClaims.frame_ri,
  QkvSClaims.frame_k, QkvSClaims.frame_ki, QkvSClaims.frame_ri,
  HgClaims.frame_k, HgClaims.frame_ki, HgClaims.frame_ri,
  GlaClaims.frame_k, GlaClaims.frame_ki, GlaClaims.frame_ri,
  HgPClaims.frame_k, HgPClaims.frame_ki, HgPClaims.frame_ri,
  GlaPClaims.frame_k, GlaPClaims.frame_ki, GlaPClaims.frame_ri,
  trivial, FfnClaims.algebraic, AttnClaims.preserves, AttnClaims.algebraic, trivial, OutClaims.algebraic, trivial, GatedClaims.algebraic, trivial, QkvClaims.algebraic, trivial, ConvSClaims.algebraic, trivial, QkvSClaims.algebraic, trivial, HgClaims.algebraic, trivial, GlaClaims.algebraic, trivial, HgPClaims.algebraic, trivial, GlaPClaims.algebraic⟩

end Cert.Proof

end
